-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2 = (fun _ => 1#1)

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateReferenceIdeal (m : (ℓ : Loc Cert.GateReferenceIdeal.nD Cert.GateReferenceIdeal.τ Cert.GateReferenceIdeal.sig) → Buf (Elt Ideal) ℓ) : Prop :=
  True

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailReferenceIdeal (m : (ℓ : Loc Cert.TailReferenceIdeal.nD Cert.TailReferenceIdeal.τ Cert.TailReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_Split (m : (ℓ : Loc Cert.Split.nD Cert.Split.τ Cert.Split.sig) → Buf (Elt Bits) ℓ) : Prop :=
  True

def Pre_SplitIdeal (m : (ℓ : Loc Cert.SplitIdeal.nD Cert.SplitIdeal.τ Cert.SplitIdeal.sig) → Buf (Elt Ideal) ℓ) : Prop :=
  True

def Pre_SplitReferenceIdeal (m : (ℓ : Loc Cert.SplitReferenceIdeal.nD Cert.SplitReferenceIdeal.τ Cert.SplitReferenceIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_First (m : (ℓ : Loc Cert.First.nD Cert.First.τ Cert.First.sig) → Buf (Elt Bits) ℓ) : Prop :=
  True

def Pre_FirstIdeal (m : (ℓ : Loc Cert.FirstIdeal.nD Cert.FirstIdeal.τ Cert.FirstIdeal.sig) → Buf (Elt Ideal) ℓ) : Prop :=
  True

def Pre_FirstReferenceIdeal (m : (ℓ : Loc Cert.FirstReferenceIdeal.nD Cert.FirstReferenceIdeal.τ Cert.FirstReferenceIdeal.sig) → Buf (Elt Ideal) ℓ) : Prop :=
  True

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastReferenceIdeal (m : (ℓ : Loc Cert.LastReferenceIdeal.nD Cert.LastReferenceIdeal.τ Cert.LastReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2)
      ∧ r.2.mem ((c.tc : Thread Cert.GateReferenceIdeal.nD Cert.GateReferenceIdeal.τ).loc Cert.GateReferenceIdeal.main_arg3) = m ((c.tc : Thread Cert.GateReferenceIdeal.nD Cert.GateReferenceIdeal.τ).loc Cert.GateReferenceIdeal.main_arg3))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3))
      ∧ r.2.sem = fun _ => 0)

def quiescent_TailReferenceIdeal [hTailReferenceIdeal : Cert.TailReferenceIdeal.Facts] : Prop :=
  ∀ (m : (ℓ : Loc Cert.TailReferenceIdeal.nD Cert.TailReferenceIdeal.τ Cert.TailReferenceIdeal.sig) → Buf (Elt Ideal) ℓ) (g : Dev Cert.TailReferenceIdeal.nD → PrngReg), Pre_TailReferenceIdeal m →
    θ_run (Cert.TailReferenceIdeal.defs (F := Ideal)) (onTc (τ := Cert.TailReferenceIdeal.τ) (Cert.TailReferenceIdeal.main (F := Ideal))) ⟨m, fun _ => 0, g⟩ (fun r => (∀ c : Dev Cert.TailReferenceIdeal.nD,
      r.2.mem ((c.tc : Thread Cert.TailReferenceIdeal.nD Cert.TailReferenceIdeal.τ).loc Cert.TailReferenceIdeal.main_arg0) = m ((c.tc : Thread Cert.TailReferenceIdeal.nD Cert.TailReferenceIdeal.τ).loc Cert.TailReferenceIdeal.main_arg0)
      ∧ r.2.mem ((c.tc : Thread Cert.TailReferenceIdeal.nD Cert.TailReferenceIdeal.τ).loc Cert.TailReferenceIdeal.main_arg1) = m ((c.tc : Thread Cert.TailReferenceIdeal.nD Cert.TailReferenceIdeal.τ).loc Cert.TailReferenceIdeal.main_arg1)
      ∧ r.2.mem ((c.tc : Thread Cert.TailReferenceIdeal.nD Cert.TailReferenceIdeal.τ).loc Cert.TailReferenceIdeal.main_arg2) = m ((c.tc : Thread Cert.TailReferenceIdeal.nD Cert.TailReferenceIdeal.τ).loc Cert.TailReferenceIdeal.main_arg2)
      ∧ r.2.mem ((c.tc : Thread Cert.TailReferenceIdeal.nD Cert.TailReferenceIdeal.τ).loc Cert.TailReferenceIdeal.main_arg3) = m ((c.tc : Thread Cert.TailReferenceIdeal.nD Cert.TailReferenceIdeal.τ).loc Cert.TailReferenceIdeal.main_arg3))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2))
      ∧ r.2.sem = fun _ => 0)

def quiescent_Split [hSplit : Cert.Split.Facts] : Prop :=
  ∀ (m : (ℓ : Loc Cert.Split.nD Cert.Split.τ Cert.Split.sig) → Buf (Elt Bits) ℓ) (g : Dev Cert.Split.nD → PrngReg), Pre_Split m →
    θ_run (Cert.Split.defs (F := Bits)) (onTc (τ := Cert.Split.τ) (Cert.Split.main (F := Bits))) ⟨m, fun _ => 0, g⟩ (fun r => (∀ c : Dev Cert.Split.nD,
      r.2.mem ((c.tc : Thread Cert.Split.nD Cert.Split.τ).loc Cert.Split.main_arg0) = m ((c.tc : Thread Cert.Split.nD Cert.Split.τ).loc Cert.Split.main_arg0)
      ∧ r.2.mem ((c.tc : Thread Cert.Split.nD Cert.Split.τ).loc Cert.Split.main_arg1) = m ((c.tc : Thread Cert.Split.nD Cert.Split.τ).loc Cert.Split.main_arg1))
      ∧ r.2.sem = fun _ => 0)

def quiescent_SplitIdeal [hSplitIdeal : Cert.SplitIdeal.Facts] : Prop :=
  ∀ (m : (ℓ : Loc Cert.SplitIdeal.nD Cert.SplitIdeal.τ Cert.SplitIdeal.sig) → Buf (Elt Ideal) ℓ) (g : Dev Cert.SplitIdeal.nD → PrngReg), Pre_SplitIdeal m →
    θ_run (Cert.SplitIdeal.defs (F := Ideal)) (onTc (τ := Cert.SplitIdeal.τ) (Cert.SplitIdeal.main (F := Ideal))) ⟨m, fun _ => 0, g⟩ (fun r => (∀ c : Dev Cert.SplitIdeal.nD,
      r.2.mem ((c.tc : Thread Cert.SplitIdeal.nD Cert.SplitIdeal.τ).loc Cert.SplitIdeal.main_arg0) = m ((c.tc : Thread Cert.SplitIdeal.nD Cert.SplitIdeal.τ).loc Cert.SplitIdeal.main_arg0)
      ∧ r.2.mem ((c.tc : Thread Cert.SplitIdeal.nD Cert.SplitIdeal.τ).loc Cert.SplitIdeal.main_arg1) = m ((c.tc : Thread Cert.SplitIdeal.nD Cert.SplitIdeal.τ).loc Cert.SplitIdeal.main_arg1))
      ∧ r.2.sem = fun _ => 0)

def quiescent_SplitReferenceIdeal [hSplitReferenceIdeal : Cert.SplitReferenceIdeal.Facts] : Prop :=
  ∀ (m : (ℓ : Loc Cert.SplitReferenceIdeal.nD Cert.SplitReferenceIdeal.τ Cert.SplitReferenceIdeal.sig) → Buf (Elt Ideal) ℓ) (g : Dev Cert.SplitReferenceIdeal.nD → PrngReg), Pre_SplitReferenceIdeal m →
    θ_run (Cert.SplitReferenceIdeal.defs (F := Ideal)) (onTc (τ := Cert.SplitReferenceIdeal.τ) (Cert.SplitReferenceIdeal.main (F := Ideal))) ⟨m, fun _ => 0, g⟩ (fun r => (∀ c : Dev Cert.SplitReferenceIdeal.nD,
      r.2.mem ((c.tc : Thread Cert.SplitReferenceIdeal.nD Cert.SplitReferenceIdeal.τ).loc Cert.SplitReferenceIdeal.main_arg0) = m ((c.tc : Thread Cert.SplitReferenceIdeal.nD Cert.SplitReferenceIdeal.τ).loc Cert.SplitReferenceIdeal.main_arg0)
      ∧ r.2.mem ((c.tc : Thread Cert.SplitReferenceIdeal.nD Cert.SplitReferenceIdeal.τ).loc Cert.SplitReferenceIdeal.main_arg1) = m ((c.tc : Thread Cert.SplitReferenceIdeal.nD Cert.SplitReferenceIdeal.τ).loc Cert.SplitReferenceIdeal.main_arg1))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4))
      ∧ r.2.sem = fun _ => 0)

def quiescent_First [hFirst : Cert.First.Facts] : Prop :=
  ∀ (m : (ℓ : Loc Cert.First.nD Cert.First.τ Cert.First.sig) → Buf (Elt Bits) ℓ) (g : Dev Cert.First.nD → PrngReg), Pre_First m →
    θ_run (Cert.First.defs (F := Bits)) (onTc (τ := Cert.First.τ) (Cert.First.main (F := Bits))) ⟨m, fun _ => 0, g⟩ (fun r => (∀ c : Dev Cert.First.nD,
      r.2.mem ((c.tc : Thread Cert.First.nD Cert.First.τ).loc Cert.First.main_arg0) = m ((c.tc : Thread Cert.First.nD Cert.First.τ).loc Cert.First.main_arg0)
      ∧ r.2.mem ((c.tc : Thread Cert.First.nD Cert.First.τ).loc Cert.First.main_arg1) = m ((c.tc : Thread Cert.First.nD Cert.First.τ).loc Cert.First.main_arg1)
      ∧ r.2.mem ((c.tc : Thread Cert.First.nD Cert.First.τ).loc Cert.First.main_arg2) = m ((c.tc : Thread Cert.First.nD Cert.First.τ).loc Cert.First.main_arg2))
      ∧ r.2.sem = fun _ => 0)

def quiescent_FirstIdeal [hFirstIdeal : Cert.FirstIdeal.Facts] : Prop :=
  ∀ (m : (ℓ : Loc Cert.FirstIdeal.nD Cert.FirstIdeal.τ Cert.FirstIdeal.sig) → Buf (Elt Ideal) ℓ) (g : Dev Cert.FirstIdeal.nD → PrngReg), Pre_FirstIdeal m →
    θ_run (Cert.FirstIdeal.defs (F := Ideal)) (onTc (τ := Cert.FirstIdeal.τ) (Cert.FirstIdeal.main (F := Ideal))) ⟨m, fun _ => 0, g⟩ (fun r => (∀ c : Dev Cert.FirstIdeal.nD,
      r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
      ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
      ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2))
      ∧ r.2.sem = fun _ => 0)

def quiescent_FirstReferenceIdeal [hFirstReferenceIdeal : Cert.FirstReferenceIdeal.Facts] : Prop :=
  ∀ (m : (ℓ : Loc Cert.FirstReferenceIdeal.nD Cert.FirstReferenceIdeal.τ Cert.FirstReferenceIdeal.sig) → Buf (Elt Ideal) ℓ) (g : Dev Cert.FirstReferenceIdeal.nD → PrngReg), Pre_FirstReferenceIdeal m →
    θ_run (Cert.FirstReferenceIdeal.defs (F := Ideal)) (onTc (τ := Cert.FirstReferenceIdeal.τ) (Cert.FirstReferenceIdeal.main (F := Ideal))) ⟨m, fun _ => 0, g⟩ (fun r => (∀ c : Dev Cert.FirstReferenceIdeal.nD,
      r.2.mem ((c.tc : Thread Cert.FirstReferenceIdeal.nD Cert.FirstReferenceIdeal.τ).loc Cert.FirstReferenceIdeal.main_arg0) = m ((c.tc : Thread Cert.FirstReferenceIdeal.nD Cert.FirstReferenceIdeal.τ).loc Cert.FirstReferenceIdeal.main_arg0)
      ∧ r.2.mem ((c.tc : Thread Cert.FirstReferenceIdeal.nD Cert.FirstReferenceIdeal.τ).loc Cert.FirstReferenceIdeal.main_arg1) = m ((c.tc : Thread Cert.FirstReferenceIdeal.nD Cert.FirstReferenceIdeal.τ).loc Cert.FirstReferenceIdeal.main_arg1)
      ∧ r.2.mem ((c.tc : Thread Cert.FirstReferenceIdeal.nD Cert.FirstReferenceIdeal.τ).loc Cert.FirstReferenceIdeal.main_arg2) = m ((c.tc : Thread Cert.FirstReferenceIdeal.nD Cert.FirstReferenceIdeal.τ).loc Cert.FirstReferenceIdeal.main_arg2))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2))
      ∧ r.2.sem = fun _ => 0)

def quiescent_LastReferenceIdeal [hLastReferenceIdeal : Cert.LastReferenceIdeal.Facts] : Prop :=
  ∀ (m : (ℓ : Loc Cert.LastReferenceIdeal.nD Cert.LastReferenceIdeal.τ Cert.LastReferenceIdeal.sig) → Buf (Elt Ideal) ℓ) (g : Dev Cert.LastReferenceIdeal.nD → PrngReg), Pre_LastReferenceIdeal m →
    θ_run (Cert.LastReferenceIdeal.defs (F := Ideal)) (onTc (τ := Cert.LastReferenceIdeal.τ) (Cert.LastReferenceIdeal.main (F := Ideal))) ⟨m, fun _ => 0, g⟩ (fun r => (∀ c : Dev Cert.LastReferenceIdeal.nD,
      r.2.mem ((c.tc : Thread Cert.LastReferenceIdeal.nD Cert.LastReferenceIdeal.τ).loc Cert.LastReferenceIdeal.main_arg0) = m ((c.tc : Thread Cert.LastReferenceIdeal.nD Cert.LastReferenceIdeal.τ).loc Cert.LastReferenceIdeal.main_arg0)
      ∧ r.2.mem ((c.tc : Thread Cert.LastReferenceIdeal.nD Cert.LastReferenceIdeal.τ).loc Cert.LastReferenceIdeal.main_arg1) = m ((c.tc : Thread Cert.LastReferenceIdeal.nD Cert.LastReferenceIdeal.τ).loc Cert.LastReferenceIdeal.main_arg1)
      ∧ r.2.mem ((c.tc : Thread Cert.LastReferenceIdeal.nD Cert.LastReferenceIdeal.τ).loc Cert.LastReferenceIdeal.main_arg2) = m ((c.tc : Thread Cert.LastReferenceIdeal.nD Cert.LastReferenceIdeal.τ).loc Cert.LastReferenceIdeal.main_arg2))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Gate_GateIdeal : Prop :=
  True

def algebraic_GateIdeal_GateReferenceIdeal [hGateIdeal : Cert.GateIdeal.Facts] [hGateReferenceIdeal : Cert.GateReferenceIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateIdeal m →
    (∀ c : Dev Cert.GateIdeal.nD,
      m' ((c.tc : Thread Cert.GateReferenceIdeal.nD Cert.GateReferenceIdeal.τ).loc Cert.GateReferenceIdeal.main_arg0) = m ((c.tc : Thread Cert.GateIdeal.nD Cert.GateIdeal.τ).loc Cert.GateIdeal.main_arg0)
      ∧ m' ((c.tc : Thread Cert.GateReferenceIdeal.nD Cert.GateReferenceIdeal.τ).loc Cert.GateReferenceIdeal.main_arg1) = m ((c.tc : Thread Cert.GateIdeal.nD Cert.GateIdeal.τ).loc Cert.GateIdeal.main_arg1)
      ∧ m' ((c.tc : Thread Cert.GateReferenceIdeal.nD Cert.GateReferenceIdeal.τ).loc Cert.GateReferenceIdeal.main_arg2) = m ((c.tc : Thread Cert.GateIdeal.nD Cert.GateIdeal.τ).loc Cert.GateIdeal.main_arg2)
      ∧ m' ((c.tc : Thread Cert.GateReferenceIdeal.nD Cert.GateReferenceIdeal.τ).loc Cert.GateReferenceIdeal.main_arg3) = m ((c.tc : Thread Cert.GateIdeal.nD Cert.GateIdeal.τ).loc Cert.GateIdeal.main_arg3)) →
    ∃ (v0 : (c : Dev Cert.GateIdeal.nD) → Buf (Elt Ideal) ((c.tc : Thread Cert.GateIdeal.nD Cert.GateIdeal.τ).loc Cert.GateIdeal.main_v11)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v11) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v24) = v0 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1)
          ∧ r.2.mem ((c.tc : Thread Cert.GateReferenceIdeal.nD Cert.GateReferenceIdeal.τ).loc Cert.GateReferenceIdeal.main_arg2) = m' ((c.tc : Thread Cert.GateReferenceIdeal.nD Cert.GateReferenceIdeal.τ).loc Cert.GateReferenceIdeal.main_arg2)
          ∧ r.2.mem ((c.tc : Thread Cert.GateReferenceIdeal.nD Cert.GateReferenceIdeal.τ).loc Cert.GateReferenceIdeal.main_arg3) = m' ((c.tc : Thread Cert.GateReferenceIdeal.nD Cert.GateReferenceIdeal.τ).loc Cert.GateReferenceIdeal.main_arg3))

def preserves_Tail_TailIdeal : Prop :=
  True

def algebraic_TailIdeal_TailReferenceIdeal [hTailIdeal : Cert.TailIdeal.Facts] [hTailReferenceIdeal : Cert.TailReferenceIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailReferenceIdeal.nD Cert.TailReferenceIdeal.τ Cert.TailReferenceIdeal.sig) → Buf (Elt Ideal) ℓ) (g' : Dev Cert.TailReferenceIdeal.nD → PrngReg), Pre_TailIdeal m →
    (∀ c : Dev Cert.TailIdeal.nD,
      m' ((c.tc : Thread Cert.TailReferenceIdeal.nD Cert.TailReferenceIdeal.τ).loc Cert.TailReferenceIdeal.main_arg0) = m ((c.tc : Thread Cert.TailIdeal.nD Cert.TailIdeal.τ).loc Cert.TailIdeal.main_arg0)
      ∧ m' ((c.tc : Thread Cert.TailReferenceIdeal.nD Cert.TailReferenceIdeal.τ).loc Cert.TailReferenceIdeal.main_arg1) = m ((c.tc : Thread Cert.TailIdeal.nD Cert.TailIdeal.τ).loc Cert.TailIdeal.main_arg1)
      ∧ m' ((c.tc : Thread Cert.TailReferenceIdeal.nD Cert.TailReferenceIdeal.τ).loc Cert.TailReferenceIdeal.main_arg2) = m ((c.tc : Thread Cert.TailIdeal.nD Cert.TailIdeal.τ).loc Cert.TailIdeal.main_arg2)
      ∧ m' ((c.tc : Thread Cert.TailReferenceIdeal.nD Cert.TailReferenceIdeal.τ).loc Cert.TailReferenceIdeal.main_arg3) = m ((c.tc : Thread Cert.TailIdeal.nD Cert.TailIdeal.τ).loc Cert.TailIdeal.main_arg3)) →
    ∃ (v0 : (c : Dev Cert.TailIdeal.nD) → Buf (Elt Ideal) ((c.tc : Thread Cert.TailIdeal.nD Cert.TailIdeal.τ).loc Cert.TailIdeal.main_v11)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v11) = v0 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3))
      ∧ θ_run (Cert.TailReferenceIdeal.defs (F := Ideal)) (onTc (τ := Cert.TailReferenceIdeal.τ) (Cert.TailReferenceIdeal.main (F := Ideal))) ⟨m', fun _ => 0, g'⟩ (fun r => ∀ c : Dev Cert.TailReferenceIdeal.nD,
          r.2.mem ((c.tc : Thread Cert.TailReferenceIdeal.nD Cert.TailReferenceIdeal.τ).loc Cert.TailReferenceIdeal.main_v24) = v0 c
          ∧ r.2.mem ((c.tc : Thread Cert.TailReferenceIdeal.nD Cert.TailReferenceIdeal.τ).loc Cert.TailReferenceIdeal.main_arg0) = m' ((c.tc : Thread Cert.TailReferenceIdeal.nD Cert.TailReferenceIdeal.τ).loc Cert.TailReferenceIdeal.main_arg0)
          ∧ r.2.mem ((c.tc : Thread Cert.TailReferenceIdeal.nD Cert.TailReferenceIdeal.τ).loc Cert.TailReferenceIdeal.main_arg1) = m' ((c.tc : Thread Cert.TailReferenceIdeal.nD Cert.TailReferenceIdeal.τ).loc Cert.TailReferenceIdeal.main_arg1)
          ∧ r.2.mem ((c.tc : Thread Cert.TailReferenceIdeal.nD Cert.TailReferenceIdeal.τ).loc Cert.TailReferenceIdeal.main_arg2) = m' ((c.tc : Thread Cert.TailReferenceIdeal.nD Cert.TailReferenceIdeal.τ).loc Cert.TailReferenceIdeal.main_arg2)
          ∧ r.2.mem ((c.tc : Thread Cert.TailReferenceIdeal.nD Cert.TailReferenceIdeal.τ).loc Cert.TailReferenceIdeal.main_arg3) = m' ((c.tc : Thread Cert.TailReferenceIdeal.nD Cert.TailReferenceIdeal.τ).loc Cert.TailReferenceIdeal.main_arg3))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v6)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v6) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v2) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2))

def preserves_Split_SplitIdeal : Prop :=
  True

def algebraic_SplitIdeal_SplitReferenceIdeal [hSplitIdeal : Cert.SplitIdeal.Facts] [hSplitReferenceIdeal : Cert.SplitReferenceIdeal.Facts] : Prop :=
  ∀ (m : (ℓ : Loc Cert.SplitIdeal.nD Cert.SplitIdeal.τ Cert.SplitIdeal.sig) → Buf (Elt Ideal) ℓ) (g : Dev Cert.SplitIdeal.nD → PrngReg)
    (m' : (ℓ : Loc Cert.SplitReferenceIdeal.nD Cert.SplitReferenceIdeal.τ Cert.SplitReferenceIdeal.sig) → Buf (Elt Ideal) ℓ) (g' : Dev Cert.SplitReferenceIdeal.nD → PrngReg), Pre_SplitIdeal m →
    (∀ c : Dev Cert.SplitIdeal.nD,
      m' ((c.tc : Thread Cert.SplitReferenceIdeal.nD Cert.SplitReferenceIdeal.τ).loc Cert.SplitReferenceIdeal.main_arg0) = m ((c.tc : Thread Cert.SplitIdeal.nD Cert.SplitIdeal.τ).loc Cert.SplitIdeal.main_arg0)
      ∧ m' ((c.tc : Thread Cert.SplitReferenceIdeal.nD Cert.SplitReferenceIdeal.τ).loc Cert.SplitReferenceIdeal.main_arg1) = m ((c.tc : Thread Cert.SplitIdeal.nD Cert.SplitIdeal.τ).loc Cert.SplitIdeal.main_arg1)) →
    ∃ (v0 : (c : Dev Cert.SplitIdeal.nD) → Buf (Elt Ideal) ((c.tc : Thread Cert.SplitIdeal.nD Cert.SplitIdeal.τ).loc Cert.SplitIdeal.main_v1_0)) (v1 : (c : Dev Cert.SplitIdeal.nD) → Buf (Elt Ideal) ((c.tc : Thread Cert.SplitIdeal.nD Cert.SplitIdeal.τ).loc Cert.SplitIdeal.main_v1_1)),
      θ_run (Cert.SplitIdeal.defs (F := Ideal)) (onTc (τ := Cert.SplitIdeal.τ) (Cert.SplitIdeal.main (F := Ideal))) ⟨m, fun _ => 0, g⟩ (fun r => ∀ c : Dev Cert.SplitIdeal.nD,
          r.2.mem ((c.tc : Thread Cert.SplitIdeal.nD Cert.SplitIdeal.τ).loc Cert.SplitIdeal.main_v1_0) = v0 c
          ∧ r.2.mem ((c.tc : Thread Cert.SplitIdeal.nD Cert.SplitIdeal.τ).loc Cert.SplitIdeal.main_v1_1) = v1 c
          ∧ r.2.mem ((c.tc : Thread Cert.SplitIdeal.nD Cert.SplitIdeal.τ).loc Cert.SplitIdeal.main_arg0) = m ((c.tc : Thread Cert.SplitIdeal.nD Cert.SplitIdeal.τ).loc Cert.SplitIdeal.main_arg0)
          ∧ r.2.mem ((c.tc : Thread Cert.SplitIdeal.nD Cert.SplitIdeal.τ).loc Cert.SplitIdeal.main_arg1) = m ((c.tc : Thread Cert.SplitIdeal.nD Cert.SplitIdeal.τ).loc Cert.SplitIdeal.main_arg1))
      ∧ θ_run (Cert.SplitReferenceIdeal.defs (F := Ideal)) (onTc (τ := Cert.SplitReferenceIdeal.τ) (Cert.SplitReferenceIdeal.main (F := Ideal))) ⟨m', fun _ => 0, g'⟩ (fun r => ∀ c : Dev Cert.SplitReferenceIdeal.nD,
          r.2.mem ((c.tc : Thread Cert.SplitReferenceIdeal.nD Cert.SplitReferenceIdeal.τ).loc Cert.SplitReferenceIdeal.main_v13) = v0 c
          ∧ r.2.mem ((c.tc : Thread Cert.SplitReferenceIdeal.nD Cert.SplitReferenceIdeal.τ).loc Cert.SplitReferenceIdeal.main_v14) = v1 c
          ∧ r.2.mem ((c.tc : Thread Cert.SplitReferenceIdeal.nD Cert.SplitReferenceIdeal.τ).loc Cert.SplitReferenceIdeal.main_arg0) = m' ((c.tc : Thread Cert.SplitReferenceIdeal.nD Cert.SplitReferenceIdeal.τ).loc Cert.SplitReferenceIdeal.main_arg0)
          ∧ r.2.mem ((c.tc : Thread Cert.SplitReferenceIdeal.nD Cert.SplitReferenceIdeal.τ).loc Cert.SplitReferenceIdeal.main_arg1) = m' ((c.tc : Thread Cert.SplitReferenceIdeal.nD Cert.SplitReferenceIdeal.τ).loc Cert.SplitReferenceIdeal.main_arg1))

def preserves_Mix_MixIdeal : Prop :=
  True

def algebraic_MixIdeal_MixReferenceIdeal [hMixIdeal : Cert.MixIdeal.Facts] [hMixReferenceIdeal : Cert.MixReferenceIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)
      ∧ m' ((c.tc : Thread Cert.MixReferenceIdeal.nD Cert.MixReferenceIdeal.τ).loc Cert.MixReferenceIdeal.main_arg3) = m ((c.tc : Thread Cert.MixIdeal.nD Cert.MixIdeal.τ).loc Cert.MixIdeal.main_arg3)
      ∧ m' ((c.tc : Thread Cert.MixReferenceIdeal.nD Cert.MixReferenceIdeal.τ).loc Cert.MixReferenceIdeal.main_arg4) = m ((c.tc : Thread Cert.MixIdeal.nD Cert.MixIdeal.τ).loc Cert.MixIdeal.main_arg4)) →
    ∃ (v0 : (c : Dev Cert.MixIdeal.nD) → Buf (Elt Ideal) ((c.tc : Thread Cert.MixIdeal.nD Cert.MixIdeal.τ).loc Cert.MixIdeal.main_v2_0)) (v1 : (c : Dev Cert.MixIdeal.nD) → Buf (Elt Ideal) ((c.tc : Thread Cert.MixIdeal.nD Cert.MixIdeal.τ).loc Cert.MixIdeal.main_v2_1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v2_0) = v0 c
          ∧ r.2.mem ((c.tc : Thread Cert.MixIdeal.nD Cert.MixIdeal.τ).loc Cert.MixIdeal.main_v2_1) = v1 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v5) = v0 c
          ∧ r.2.mem ((c.tc : Thread Cert.MixReferenceIdeal.nD Cert.MixReferenceIdeal.τ).loc Cert.MixReferenceIdeal.main_v6) = v1 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4))

def preserves_First_FirstIdeal : Prop :=
  True

def algebraic_FirstIdeal_FirstReferenceIdeal [hFirstIdeal : Cert.FirstIdeal.Facts] [hFirstReferenceIdeal : Cert.FirstReferenceIdeal.Facts] : Prop :=
  ∀ (m : (ℓ : Loc Cert.FirstIdeal.nD Cert.FirstIdeal.τ Cert.FirstIdeal.sig) → Buf (Elt Ideal) ℓ) (g : Dev Cert.FirstIdeal.nD → PrngReg)
    (m' : (ℓ : Loc Cert.FirstReferenceIdeal.nD Cert.FirstReferenceIdeal.τ Cert.FirstReferenceIdeal.sig) → Buf (Elt Ideal) ℓ) (g' : Dev Cert.FirstReferenceIdeal.nD → PrngReg), Pre_FirstIdeal m →
    (∀ c : Dev Cert.FirstIdeal.nD,
      m' ((c.tc : Thread Cert.FirstReferenceIdeal.nD Cert.FirstReferenceIdeal.τ).loc Cert.FirstReferenceIdeal.main_arg0) = m ((c.tc : Thread Cert.FirstIdeal.nD Cert.FirstIdeal.τ).loc Cert.FirstIdeal.main_arg0)
      ∧ m' ((c.tc : Thread Cert.FirstReferenceIdeal.nD Cert.FirstReferenceIdeal.τ).loc Cert.FirstReferenceIdeal.main_arg1) = m ((c.tc : Thread Cert.FirstIdeal.nD Cert.FirstIdeal.τ).loc Cert.FirstIdeal.main_arg1)
      ∧ m' ((c.tc : Thread Cert.FirstReferenceIdeal.nD Cert.FirstReferenceIdeal.τ).loc Cert.FirstReferenceIdeal.main_arg2) = m ((c.tc : Thread Cert.FirstIdeal.nD Cert.FirstIdeal.τ).loc Cert.FirstIdeal.main_arg2)) →
    ∃ (v0 : (c : Dev Cert.FirstIdeal.nD) → Buf (Elt Ideal) ((c.tc : Thread Cert.FirstIdeal.nD Cert.FirstIdeal.τ).loc Cert.FirstIdeal.main_v4)),
      θ_run (Cert.FirstIdeal.defs (F := Ideal)) (onTc (τ := Cert.FirstIdeal.τ) (Cert.FirstIdeal.main (F := Ideal))) ⟨m, fun _ => 0, g⟩ (fun r => ∀ c : Dev Cert.FirstIdeal.nD,
          r.2.mem ((c.tc : Thread Cert.FirstIdeal.nD Cert.FirstIdeal.τ).loc Cert.FirstIdeal.main_v4) = v0 c
          ∧ r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
          ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
          ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2))
      ∧ θ_run (Cert.FirstReferenceIdeal.defs (F := Ideal)) (onTc (τ := Cert.FirstReferenceIdeal.τ) (Cert.FirstReferenceIdeal.main (F := Ideal))) ⟨m', fun _ => 0, g'⟩ (fun r => ∀ c : Dev Cert.FirstReferenceIdeal.nD,
          r.2.mem ((c.tc : Thread Cert.FirstReferenceIdeal.nD Cert.FirstReferenceIdeal.τ).loc Cert.FirstReferenceIdeal.main_v11) = v0 c
          ∧ r.2.mem ((c.tc : Thread Cert.FirstReferenceIdeal.nD Cert.FirstReferenceIdeal.τ).loc Cert.FirstReferenceIdeal.main_arg0) = m' ((c.tc : Thread Cert.FirstReferenceIdeal.nD Cert.FirstReferenceIdeal.τ).loc Cert.FirstReferenceIdeal.main_arg0)
          ∧ r.2.mem ((c.tc : Thread Cert.FirstReferenceIdeal.nD Cert.FirstReferenceIdeal.τ).loc Cert.FirstReferenceIdeal.main_arg1) = m' ((c.tc : Thread Cert.FirstReferenceIdeal.nD Cert.FirstReferenceIdeal.τ).loc Cert.FirstReferenceIdeal.main_arg1)
          ∧ r.2.mem ((c.tc : Thread Cert.FirstReferenceIdeal.nD Cert.FirstReferenceIdeal.τ).loc Cert.FirstReferenceIdeal.main_arg2) = m' ((c.tc : Thread Cert.FirstReferenceIdeal.nD Cert.FirstReferenceIdeal.τ).loc Cert.FirstReferenceIdeal.main_arg2))

def preserves_Last_LastIdeal : Prop :=
  True

def algebraic_LastIdeal_LastReferenceIdeal [hLastIdeal : Cert.LastIdeal.Facts] [hLastReferenceIdeal : Cert.LastReferenceIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastReferenceIdeal.nD Cert.LastReferenceIdeal.τ Cert.LastReferenceIdeal.sig) → Buf (Elt Ideal) ℓ) (g' : Dev Cert.LastReferenceIdeal.nD → PrngReg), Pre_LastIdeal m →
    (∀ c : Dev Cert.LastIdeal.nD,
      m' ((c.tc : Thread Cert.LastReferenceIdeal.nD Cert.LastReferenceIdeal.τ).loc Cert.LastReferenceIdeal.main_arg0) = m ((c.tc : Thread Cert.LastIdeal.nD Cert.LastIdeal.τ).loc Cert.LastIdeal.main_arg0)
      ∧ m' ((c.tc : Thread Cert.LastReferenceIdeal.nD Cert.LastReferenceIdeal.τ).loc Cert.LastReferenceIdeal.main_arg1) = m ((c.tc : Thread Cert.LastIdeal.nD Cert.LastIdeal.τ).loc Cert.LastIdeal.main_arg1)
      ∧ m' ((c.tc : Thread Cert.LastReferenceIdeal.nD Cert.LastReferenceIdeal.τ).loc Cert.LastReferenceIdeal.main_arg2) = m ((c.tc : Thread Cert.LastIdeal.nD Cert.LastIdeal.τ).loc Cert.LastIdeal.main_arg2)) →
    ∃ (v0 : (c : Dev Cert.LastIdeal.nD) → Buf (Elt Ideal) ((c.tc : Thread Cert.LastIdeal.nD Cert.LastIdeal.τ).loc Cert.LastIdeal.main_v4)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v4) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2))
      ∧ θ_run (Cert.LastReferenceIdeal.defs (F := Ideal)) (onTc (τ := Cert.LastReferenceIdeal.τ) (Cert.LastReferenceIdeal.main (F := Ideal))) ⟨m', fun _ => 0, g'⟩ (fun r => ∀ c : Dev Cert.LastReferenceIdeal.nD,
          r.2.mem ((c.tc : Thread Cert.LastReferenceIdeal.nD Cert.LastReferenceIdeal.τ).loc Cert.LastReferenceIdeal.main_v11) = v0 c
          ∧ r.2.mem ((c.tc : Thread Cert.LastReferenceIdeal.nD Cert.LastReferenceIdeal.τ).loc Cert.LastReferenceIdeal.main_arg0) = m' ((c.tc : Thread Cert.LastReferenceIdeal.nD Cert.LastReferenceIdeal.τ).loc Cert.LastReferenceIdeal.main_arg0)
          ∧ r.2.mem ((c.tc : Thread Cert.LastReferenceIdeal.nD Cert.LastReferenceIdeal.τ).loc Cert.LastReferenceIdeal.main_arg1) = m' ((c.tc : Thread Cert.LastReferenceIdeal.nD Cert.LastReferenceIdeal.τ).loc Cert.LastReferenceIdeal.main_arg1)
          ∧ r.2.mem ((c.tc : Thread Cert.LastReferenceIdeal.nD Cert.LastReferenceIdeal.τ).loc Cert.LastReferenceIdeal.main_arg2) = m' ((c.tc : Thread Cert.LastReferenceIdeal.nD Cert.LastReferenceIdeal.τ).loc Cert.LastReferenceIdeal.main_arg2))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v46)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v46) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v98) = v0 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2))

def Claim : Prop :=
  ∃ (hKernel : Cert.Kernel.Facts) (hKernelIdeal : Cert.KernelIdeal.Facts) (hReferenceIdeal : Cert.ReferenceIdeal.Facts) (hGate : Cert.Gate.Facts) (hGateIdeal : Cert.GateIdeal.Facts) (hGateReferenceIdeal : Cert.GateReferenceIdeal.Facts) (hTail : Cert.Tail.Facts) (hTailIdeal : Cert.TailIdeal.Facts) (hTailReferenceIdeal : Cert.TailReferenceIdeal.Facts) (hDown : Cert.Down.Facts) (hDownIdeal : Cert.DownIdeal.Facts) (hDownReferenceIdeal : Cert.DownReferenceIdeal.Facts) (hSplit : Cert.Split.Facts) (hSplitIdeal : Cert.SplitIdeal.Facts) (hSplitReferenceIdeal : Cert.SplitReferenceIdeal.Facts) (hMix : Cert.Mix.Facts) (hMixIdeal : Cert.MixIdeal.Facts) (hMixReferenceIdeal : Cert.MixReferenceIdeal.Facts) (hFirst : Cert.First.Facts) (hFirstIdeal : Cert.FirstIdeal.Facts) (hFirstReferenceIdeal : Cert.FirstReferenceIdeal.Facts) (hLast : Cert.Last.Facts) (hLastIdeal : Cert.LastIdeal.Facts) (hLastReferenceIdeal : Cert.LastReferenceIdeal.Facts) (hProj : Cert.Proj.Facts) (hProjIdeal : Cert.ProjIdeal.Facts) (hProjReferenceIdeal : Cert.ProjReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Gate (hGate := hGate)
    ∧ quiescent_GateIdeal (hGateIdeal := hGateIdeal)
    ∧ quiescent_GateReferenceIdeal (hGateReferenceIdeal := hGateReferenceIdeal)
    ∧ quiescent_Tail (hTail := hTail)
    ∧ quiescent_TailIdeal (hTailIdeal := hTailIdeal)
    ∧ quiescent_TailReferenceIdeal (hTailReferenceIdeal := hTailReferenceIdeal)
    ∧ quiescent_Down (hDown := hDown)
    ∧ quiescent_DownIdeal (hDownIdeal := hDownIdeal)
    ∧ quiescent_DownReferenceIdeal (hDownReferenceIdeal := hDownReferenceIdeal)
    ∧ quiescent_Split (hSplit := hSplit)
    ∧ quiescent_SplitIdeal (hSplitIdeal := hSplitIdeal)
    ∧ quiescent_SplitReferenceIdeal (hSplitReferenceIdeal := hSplitReferenceIdeal)
    ∧ quiescent_Mix (hMix := hMix)
    ∧ quiescent_MixIdeal (hMixIdeal := hMixIdeal)
    ∧ quiescent_MixReferenceIdeal (hMixReferenceIdeal := hMixReferenceIdeal)
    ∧ quiescent_First (hFirst := hFirst)
    ∧ quiescent_FirstIdeal (hFirstIdeal := hFirstIdeal)
    ∧ quiescent_FirstReferenceIdeal (hFirstReferenceIdeal := hFirstReferenceIdeal)
    ∧ quiescent_Last (hLast := hLast)
    ∧ quiescent_LastIdeal (hLastIdeal := hLastIdeal)
    ∧ quiescent_LastReferenceIdeal (hLastReferenceIdeal := hLastReferenceIdeal)
    ∧ quiescent_Proj (hProj := hProj)
    ∧ quiescent_ProjIdeal (hProjIdeal := hProjIdeal)
    ∧ quiescent_ProjReferenceIdeal (hProjReferenceIdeal := hProjReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Gate_GateIdeal
    ∧ algebraic_GateIdeal_GateReferenceIdeal (hGateIdeal := hGateIdeal) (hGateReferenceIdeal := hGateReferenceIdeal)
    ∧ preserves_Tail_TailIdeal
    ∧ algebraic_TailIdeal_TailReferenceIdeal (hTailIdeal := hTailIdeal) (hTailReferenceIdeal := hTailReferenceIdeal)
    ∧ preserves_Down_DownIdeal
    ∧ algebraic_DownIdeal_DownReferenceIdeal (hDownIdeal := hDownIdeal) (hDownReferenceIdeal := hDownReferenceIdeal)
    ∧ preserves_Split_SplitIdeal
    ∧ algebraic_SplitIdeal_SplitReferenceIdeal (hSplitIdeal := hSplitIdeal) (hSplitReferenceIdeal := hSplitReferenceIdeal)
    ∧ preserves_Mix_MixIdeal
    ∧ algebraic_MixIdeal_MixReferenceIdeal (hMixIdeal := hMixIdeal) (hMixReferenceIdeal := hMixReferenceIdeal)
    ∧ preserves_First_FirstIdeal
    ∧ algebraic_FirstIdeal_FirstReferenceIdeal (hFirstIdeal := hFirstIdeal) (hFirstReferenceIdeal := hFirstReferenceIdeal)
    ∧ preserves_Last_LastIdeal
    ∧ algebraic_LastIdeal_LastReferenceIdeal (hLastIdeal := hLastIdeal) (hLastReferenceIdeal := hLastReferenceIdeal)
    ∧ preserves_Proj_ProjIdeal
    ∧ algebraic_ProjIdeal_ProjReferenceIdeal (hProjIdeal := hProjIdeal) (hProjReferenceIdeal := hProjReferenceIdeal)
-- ==== Pre_finite.lean ====
abbrev S24576x12288 : Shape := ⟨2, ![24576, 12288]⟩
abbrev S16x12288 : Shape := ⟨2, ![16, 12288]⟩
abbrev S1x128 : Shape := ⟨2, ![1, 128]⟩
abbrev S1x256 : Shape := ⟨2, ![1, 256]⟩
abbrev S_ : Shape := ⟨0, ![]⟩

class Facts : Prop where
  bcast_S_S24576x12288 : S_.BroadcastsInDim S24576x12288 (![] : Fin 0 → Fin S24576x12288.rank)
  bcast_S_S16x12288 : S_.BroadcastsInDim S16x12288 (![] : Fin 0 → Fin S16x12288.rank)
  bcast_S_S1x128 : S_.BroadcastsInDim S1x128 (![] : Fin 0 → Fin S1x128.rank)

variable [Facts]

def fn {F : FTy → Type} [FloatOps F] (main_arg0 : FVec F S24576x12288 .f32) (main_arg1 : FVec F S16x12288 .f32) (main_arg2 : FVec F S1x128 .f32) (main_arg3 : FVec F S1x128 .f32) (main_arg4 : FVec F S1x128 .f32) (main_arg5 : FVec F S1x128 .f32) (main_arg6 : FVec F S1x256 .f32) : IVec S24576x12288 1 × IVec S16x12288 1 × IVec S1x128 1 × IVec S1x128 1 × IVec S1x128 1 × IVec S1x128 1 :=
  let main_v0 : FVec F S24576x12288 .f32 := Host.absf main_arg0
  let main_cst : FVec F S_ .f32 := constant S_ .f32 0x7F800000#32
  let main_v1 : FVec F S24576x12288 .f32 := broadcastInDim S24576x12288 ![] bcast_S_S24576x12288 main_cst
  let main_v2 : IVec S24576x12288 1 := cmpf .olt main_v0 main_v1
  let main_v3 : FVec F S16x12288 .f32 := Host.absf main_arg1
  let main_cst_0 : FVec F S_ .f32 := constant S_ .f32 0x7F800000#32
  let main_v4 : FVec F S16x12288 .f32 := broadcastInDim S16x12288 ![] bcast_S_S16x12288 main_cst_0
  let main_v5 : IVec S16x12288 1 := cmpf .olt main_v3 main_v4
  let main_v6 : FVec F S1x128 .f32 := Host.absf main_arg2
  let main_cst_1 : FVec F S_ .f32 := constant S_ .f32 0x7F800000#32
  let main_v7 : FVec F S1x128 .f32 := broadcastInDim S1x128 ![] bcast_S_S1x128 main_cst_1
  let main_v8 : IVec S1x128 1 := cmpf .olt main_v6 main_v7
  let main_v9 : FVec F S1x128 .f32 := Host.absf main_arg3
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_v12 : FVec F S1x128 .f32 := Host.absf main_arg4
  let main_cst_3 : FVec F S_ .f32 := constant S_ .f32 0x7F800000#32
  let main_v13 : FVec F S1x128 .f32 := broadcastInDim S1x128 ![] bcast_S_S1x128 main_cst_3
  let main_v14 : IVec S1x128 1 := cmpf .olt main_v12 main_v13
  let main_v15 : FVec F S1x128 .f32 := Host.absf main_arg5
  let main_cst_4 : FVec F S_ .f32 := constant S_ .f32 0x7F800000#32
  let main_v16 : FVec F S1x128 .f32 := broadcastInDim S1x128 ![] bcast_S_S1x128 main_cst_4
  let main_v17 : IVec S1x128 1 := cmpf .olt main_v15 main_v16
  (main_v2, main_v5, main_v8, main_v11, main_v14, main_v17)
-- ==== Kernel.lean ====
abbrev S24576x12288 : Shape := ⟨2, ![24576, 12288]⟩
abbrev S16x12288 : Shape := ⟨2, ![16, 12288]⟩
abbrev S1x128 : Shape := ⟨2, ![1, 128]⟩
abbrev S1x256 : Shape := ⟨2, ![1, 256]⟩
abbrev S12288 : Shape := ⟨1, ![12288]⟩
abbrev S_ : Shape := ⟨0, ![]⟩
abbrev S1x12288 : Shape := ⟨2, ![1, 12288]⟩
abbrev S128x12288 : Shape := ⟨2, ![128, 12288]⟩
abbrev S24576x96x128 : Shape := ⟨3, ![24576, 96, 128]⟩
abbrev S96x24576x128 : Shape := ⟨3, ![96, 24576, 128]⟩
abbrev S128x96x128 : Shape := ⟨3, ![128, 96, 128]⟩
abbrev S96x128x128 : Shape := ⟨3, ![96, 128, 128]⟩
abbrev S128 : Shape := ⟨1, ![128]⟩
abbrev S256 : Shape := ⟨1, ![256]⟩
abbrev S8192x2048 : Shape := ⟨2, ![8192, 2048]⟩
abbrev S2x256x128 : Shape := ⟨3, ![2, 256, 128]⟩
abbrev S2x8192x128 : Shape := ⟨3, ![2, 8192, 128]⟩
abbrev S2x128x128 : Shape := ⟨3, ![2, 128, 128]⟩
abbrev S256x256 : Shape := ⟨2, ![256, 256]⟩
abbrev S2x8x256x1024 : Shape := ⟨4, ![2, 8, 256, 1024]⟩
abbrev S512x256 : Shape := ⟨2, ![512, 256]⟩
abbrev S1x128x128 : Shape := ⟨3, ![1, 128, 128]⟩
abbrev S128x128 : Shape := ⟨2, ![128, 128]⟩
abbrev S1x1024x128 : Shape := ⟨3, ![1, 1024, 128]⟩
abbrev S1024x128 : Shape := ⟨2, ![1024, 128]⟩
abbrev S128x1024 : Shape := ⟨2, ![128, 1024]⟩
abbrev S1x1x128x1024 : Shape := ⟨4, ![1, 1, 128, 1024]⟩
abbrev S128x1 : Shape := ⟨2, ![128, 1]⟩
abbrev S1x256x128 : Shape := ⟨3, ![1, 256, 128]⟩
abbrev S256x128 : Shape := ⟨2, ![256, 128]⟩
abbrev S128x256 : Shape := ⟨2, ![128, 256]⟩
abbrev S512x128 : Shape := ⟨2, ![512, 128]⟩
abbrev S1024x256 : Shape := ⟨2, ![1024, 256]⟩
abbrev S1x1x256x128 : Shape := ⟨4, ![1, 1, 256, 128]⟩
abbrev S256x1024 : Shape := ⟨2, ![256, 1024]⟩
abbrev S512x1024 : Shape := ⟨2, ![512, 1024]⟩
abbrev S1 : Shape := ⟨1, ![1]⟩
abbrev S1x1 : Shape := ⟨2, ![1, 1]⟩
abbrev S256x1 : Shape := ⟨2, ![256, 1]⟩

abbrev nBuf : Space → Nat
  | .hbm => 57
  | .vmem => 22
  | .smem => 0
  | _ => 0

abbrev bufTy : (tb : Table) → Fin (tcTables nBuf tb) → BufTy
  | .hbm, ⟨0, _⟩ => ⟨S24576x12288, .f32⟩
  | .hbm, ⟨1, _⟩ => ⟨S16x12288, .f32⟩
  | .hbm, ⟨2, _⟩ => ⟨S1x128, .f32⟩
  | .hbm, ⟨3, _⟩ => ⟨S1x128, .f32⟩
  | .hbm, ⟨4, _⟩ => ⟨S1x128, .f32⟩
  | .hbm, ⟨5, _⟩ => ⟨S1x128, .f32⟩
  | .hbm, ⟨6, _⟩ => ⟨S1x256, .f32⟩
  | .hbm, ⟨7, _⟩ => ⟨S12288, .i32⟩
  | .hbm, ⟨8, _⟩ => ⟨S_, .i32⟩
  | .hbm, ⟨9, _⟩ => ⟨S12288, .i32⟩
  | .hbm, ⟨10, _⟩ => ⟨S12288, .i1⟩
  | .hbm, ⟨11, _⟩ => ⟨S_, .i32⟩
  | .hbm, ⟨12, _⟩ => ⟨S12288, .i32⟩
  | .hbm, ⟨13, _⟩ => ⟨S12288, .i1⟩
  | .hbm, ⟨14, _⟩ => ⟨S_, .i32⟩
  | .hbm, ⟨15, _⟩ => ⟨S12288, .i32⟩
  | .hbm, ⟨16, _⟩ => ⟨S12288, .i1⟩
  | .hbm, ⟨17, _⟩ => ⟨S12288, .i1⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S12288, .f32⟩
  | .hbm, ⟨26, _⟩ => ⟨S12288, .f32⟩
  | .hbm, ⟨27, _⟩ => ⟨S12288, .f32⟩
  | .hbm, ⟨28, _⟩ => ⟨S_, .f32⟩
  | .hbm, ⟨29, _⟩ => ⟨S_, .f32⟩
  | .hbm, ⟨30, _⟩ => ⟨S12288, .f32⟩
  | .hbm, ⟨31, _⟩ => ⟨S12288, .f32⟩
  | .hbm, ⟨32, _⟩ => ⟨S1x12288, .f32⟩
  | .hbm, ⟨33, _⟩ => ⟨S_, .i32⟩
  | .hbm, ⟨34, _⟩ => ⟨S_, .f32⟩
  | .hbm, ⟨35, _⟩ => ⟨S128x12288, .f32⟩
  | .hbm, ⟨36, _⟩ => ⟨S24576x12288, .f32⟩
  | .hbm, ⟨37, _⟩ => ⟨S24576x12288, .f32⟩
  | .hbm, ⟨38, _⟩ => ⟨S24576x96x128, .f32⟩
  | .hbm, ⟨39, _⟩ => ⟨S96x24576x128, .f32⟩
  | .hbm, ⟨40, _⟩ => ⟨S96x24576x128, .bf16⟩
  | .hbm, ⟨41, _⟩ => ⟨S128x12288, .f32⟩
  | .hbm, ⟨42, _⟩ => ⟨S128x12288, .f32⟩
  | .hbm, ⟨43, _⟩ => ⟨S128x96x128, .f32⟩
  | .hbm, ⟨44, _⟩ => ⟨S96x128x128, .f32⟩
  | .hbm, ⟨45, _⟩ => ⟨S96x128x128, .bf16⟩
  | .hbm, ⟨46, _⟩ => ⟨S128, .f32⟩
  | .hbm, ⟨47, _⟩ => ⟨S128, .f32⟩
  | .hbm, ⟨48, _⟩ => ⟨S128, .f32⟩
  | .hbm, ⟨49, _⟩ => ⟨S128, .f32⟩
  | .hbm, ⟨50, _⟩ => ⟨S256, .f32⟩
  | .hbm, ⟨51, _⟩ => ⟨S1x128, .f32⟩
  | .hbm, ⟨52, _⟩ => ⟨S1x128, .f32⟩
  | .hbm, ⟨53, _⟩ => ⟨S1x128, .f32⟩
  | .hbm, ⟨54, _⟩ => ⟨S1x128, .f32⟩
  | .hbm, ⟨55, _⟩ => ⟨S1x256, .f32⟩
  | .hbm, ⟨56, _⟩ => ⟨S8192x2048, .bf16⟩
  | .local _ .vmem, ⟨0, _⟩ => ⟨S1x128, .f32⟩
  | .local _ .vmem, ⟨1, _⟩ => ⟨S1x128, .f32⟩
  | .local _ .vmem, ⟨2, _⟩ => ⟨S1x128, .f32⟩
  | .local _ .vmem, ⟨3, _⟩ => ⟨S1x128, .f32⟩
  | .local _ .vmem, ⟨4, _⟩ => ⟨S1x256, .f32⟩
  | .local _ .vmem, ⟨5, _⟩ => ⟨S2x256x128, .bf16⟩
  | .local _ .vmem, ⟨6, _⟩ => ⟨S2x256x128, .bf16⟩
  | .local _ .vmem, ⟨7, _⟩ => ⟨S2x8192x128, .bf16⟩
  | .local _ .vmem, ⟨8, _⟩ => ⟨S2x8192x128, .bf16⟩
  | .local _ .vmem, ⟨9, _⟩ => ⟨S2x8192x128, .bf16⟩
  | .local _ .vmem, ⟨10, _⟩ => ⟨S2x8192x128, .bf16⟩
  | .local _ .vmem, ⟨11, _⟩ => ⟨S2x128x128, .bf16⟩
  | .local _ .vmem, ⟨12, _⟩ => ⟨S2x128x128, .bf16⟩
  | .local _ .vmem, ⟨13, _⟩ => ⟨S2x128x128, .bf16⟩
  | .local _ .vmem, ⟨14, _⟩ => ⟨S2x128x128, .bf16⟩
  | .local _ .vmem, ⟨15, _⟩ => ⟨S256x256, .bf16⟩
  | .local _ .vmem, ⟨16, _⟩ => ⟨S256x256, .bf16⟩
  | .local _ .vmem, ⟨17, _⟩ => ⟨S2x8x256x1024, .f32⟩
  | .local _ .vmem, ⟨18, _⟩ => ⟨S2x256x128, .f32⟩
  | .local _ .vmem, ⟨19, _⟩ => ⟨S2x256x128, .f32⟩
  | .local _ .vmem, ⟨20, _⟩ => ⟨S2x256x128, .f32⟩
  | .local _ .vmem, ⟨21, _⟩ => ⟨S512x256, .f32⟩
  | _, _ => ⟨S24576x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v11 : Ref sig .tc := ⟨.hbm, 27, rfl⟩
abbrev main_cst_4 : Ref sig .tc := ⟨.hbm, 28, rfl⟩
abbrev main_call1_v0 : Ref sig .tc := ⟨.hbm, 29, rfl⟩
abbrev main_call1_v1 : Ref sig .tc := ⟨.hbm, 30, rfl⟩
abbrev main_v12 : Ref sig .tc := ⟨.hbm, 31, rfl⟩
abbrev main_v13 : Ref sig .tc := ⟨.hbm, 32, rfl⟩
abbrev main_c_5 : Ref sig .tc := ⟨.hbm, 33, rfl⟩
abbrev main_call2_v0 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![8, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  let v1 : BitVec 32 := Scalar.addi c0_i32 arg1
  let c0_i32_0 : BitVec 32 := 0#32
  let c0_i32_1 : BitVec 32 := 0#32
  ![v0.toNat, v1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c32_i32_0 : BitVec 32 := 32#32
  let v1 : BitVec 32 := Scalar.divsi arg1 c32_i32_0
  let c0_i32 : BitVec 32 := 0#32
  let v2 : BitVec 1 := Scalar.cmpi .sgt arg1 c0_i32
  let v3 : BitVec 32 := Scalar.extui v2
  let c0_i32_1 : BitVec 32 := 0#32
  let v4 : BitVec 1 := Scalar.cmpi .slt arg1 c0_i32_1
  let v5 : BitVec 32 := Scalar.extui v4
  let v6 : BitVec 32 := Scalar.subi v3 v5
  let c0_i32_2 : BitVec 32 := 0#32
  let v7 : BitVec 1 := Scalar.cmpi .sgt c32_i32_0 c0_i32_2
  let v8 : BitVec 32 := Scalar.extui v7
  let c0_i32_3 : BitVec 32 := 0#32
  let v9 : BitVec 1 := Scalar.cmpi .slt c32_i32_0 c0_i32_3
  let v10 : BitVec 32 := Scalar.extui v9
  let v11 : BitVec 32 := Scalar.subi v8 v10
  let v12 : BitVec 1 := Scalar.cmpi .ne v6 v11
  let v13 : BitVec 32 := Scalar.remsi arg1 c32_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let v18 : BitVec 32 := Scalar.addi c0_i32_5 v17
  let c0_i32_6 : BitVec 32 := 0#32
  let c0_i32_7 : BitVec 32 := 0#32
  ![v0.toNat, v18.toNat, c0_i32_6.toNat]

def cc0_transform_7 (i : grid0.Coords) : Fin 3 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg0
  let c32_i32 : BitVec 32 := 32#32
  let v1 : BitVec 32 := Scalar.divsi arg1 c32_i32
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg1 c32_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let v18 : BitVec 32 := Scalar.addi c0_i32_4 v17
  let c0_i32_5 : BitVec 32 := 0#32
  let c0_i32_6 : BitVec 32 := 0#32
  ![v0.toNat, v18.toNat, c0_i32_5.toNat]

def cc0_transform_8 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  let c0_i32_1 : BitVec 32 := 0#32
  ![v0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg0
  let c0_i32 : BitVec 32 := 0#32
  let c0_i32_0 : BitVec 32 := 0#32
  let c0_i32_1 : BitVec 32 := 0#32
  ![v0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S2x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x8192x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2x8192x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2x128x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S2x128x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S256x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S24576x12288 : Shape := ⟨2, ![24576, 12288]⟩
abbrev S16x12288 : Shape := ⟨2, ![16, 12288]⟩
abbrev S1x128 : Shape := ⟨2, ![1, 128]⟩
abbrev S1x256 : Shape := ⟨2, ![1, 256]⟩
abbrev S1x16x12288 : Shape := ⟨3, ![1, 16, 12288]⟩
abbrev S8192x12288 : Shape := ⟨2, ![8192, 12288]⟩
abbrev S1x8192x12288 : Shape := ⟨3, ![1, 8192, 12288]⟩
abbrev S1x8208x12288 : Shape := ⟨3, ![1, 8208, 12288]⟩
abbrev S1x8208x2048 : Shape := ⟨3, ![1, 8208, 2048]⟩
abbrev S1x8208x8x2x128 : Shape := ⟨5, ![1, 8208, 8, 2, 128]⟩
abbrev S1x8208x8x256 : Shape := ⟨4, ![1, 8208, 8, 256]⟩
abbrev S128 : Shape := ⟨1, ![128]⟩
abbrev S_ : Shape := ⟨0, ![]⟩
abbrev S1x8192x8x2x128 : Shape := ⟨5, ![1, 8192, 8, 2, 128]⟩
abbrev S1x8x2x8192x8208 : Shape := ⟨5, ![1, 8, 2, 8192, 8208]⟩
abbrev S1x8x2x8192 : Shape := ⟨4, ![1, 8, 2, 8192]⟩
abbrev S1x8x2x8192x1 : Shape := ⟨5, ![1, 8, 2, 8192, 1]⟩
abbrev S1x8x1x8192x8208 : Shape := ⟨5, ![1, 8, 1, 8192, 8208]⟩
abbrev S1x8x8192x8208 : Shape := ⟨4, ![1, 8, 8192, 8208]⟩
abbrev S1x8x256x8192 : Shape := ⟨4, ![1, 8, 256, 8192]⟩
abbrev S1x8192x8x256 : Shape := ⟨4, ![1, 8192, 8, 256]⟩
abbrev S256 : Shape := ⟨1, ![256]⟩
abbrev S1x8192x8 : Shape := ⟨3, ![1, 8192, 8]⟩
abbrev S1x8192x8x1 : Shape := ⟨4, ![1, 8192, 8, 1]⟩
abbrev S1x1x1x256 : Shape := ⟨4, ![1, 1, 1, 256]⟩
abbrev S8192x2048 : Shape := ⟨2, ![8192, 2048]⟩

abbrev nBuf : Space → Nat
  | .hbm => 83
  | .vmem => 0
  | .smem => 0
  | _ => 0

abbrev bufTy : (tb : Table) → Fin (tcTables nBuf tb) → BufTy
  | .hbm, ⟨0, _⟩ => ⟨S24576x12288, .f32⟩
  | .hbm, ⟨1, _⟩ => ⟨S16x12288, .f32⟩
  | .hbm, ⟨2, _⟩ => ⟨S1x128, .f32⟩
  | .hbm, ⟨3, _⟩ => ⟨S1x128, .f32⟩
  | .hbm, ⟨4, _⟩ => ⟨S1x128, .f32⟩
  | .hbm, ⟨5, _⟩ => ⟨S1x128, .f32⟩
  | .hbm, ⟨6, _⟩ => ⟨S1x256, .f32⟩
  | .hbm, ⟨7, _⟩ => ⟨S1x16x12288, .f32⟩
  | .hbm, ⟨8, _⟩ => ⟨S8192x12288, .f32⟩
  | .hbm, ⟨9, _⟩ => ⟨S1x8192x12288, .f32⟩
  | .hbm, ⟨10, _⟩ => ⟨S1x8208x12288, .f32⟩
  | .hbm, ⟨11, _⟩ => ⟨S1x8208x2048, .f32⟩
  | .hbm, ⟨12, _⟩ => ⟨S1x8208x8x2x128, .f32⟩
  | .hbm, ⟨13, _⟩ => ⟨S1x8208x2048, .f32⟩
  | .hbm, ⟨14, _⟩ => ⟨S1x8208x8x2x128, .f32⟩
  | .hbm, ⟨15, _⟩ => ⟨S1x8208x2048, .f32⟩
  | .hbm, ⟨16, _⟩ => ⟨S1x8208x8x256, .f32⟩
  | .hbm, ⟨17, _⟩ => ⟨S128, .f32⟩
  | .hbm, ⟨18, _⟩ => ⟨S128, .f32⟩
  | .hbm, ⟨19, _⟩ => ⟨S128, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S128, .f32⟩
  | .hbm, ⟨24, _⟩ => ⟨S128, .f32⟩
  | .hbm, ⟨25, _⟩ => ⟨S128, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S1x8192x8x2x128, .f32⟩
  | .hbm, ⟨33, _⟩ => ⟨S1x8x2x8192x8208, .f32⟩
  | .hbm, ⟨34, _⟩ => ⟨S_, .f32⟩
  | .hbm, ⟨35, _⟩ => ⟨S_, .f32⟩
  | .hbm, ⟨36, _⟩ => ⟨S1x8x2x8192x8208, .f32⟩
  | .hbm, ⟨37, _⟩ => ⟨S1x8x2x8192x8208, .f32⟩
  | .hbm, ⟨38, _⟩ => ⟨S_, .f32⟩
  | .hbm, ⟨39, _⟩ => ⟨S1x8x2x8192, .f32⟩
  | .hbm, ⟨40, _⟩ => ⟨S_, .f32⟩
  | .hbm, ⟨41, _⟩ => ⟨S1x8x2x8192, .f32⟩
  | .hbm, ⟨42, _⟩ => ⟨S1x8x2x8192, .f32⟩
  | .hbm, ⟨43, _⟩ => ⟨S1x8x2x8192x1, .f32⟩
  | .hbm, ⟨44, _⟩ => ⟨S1x8x2x8192x8208, .f32⟩
  | .hbm, ⟨45, _⟩ => ⟨S1x8x2x8192x8208, .f32⟩
  | .hbm, ⟨46, _⟩ => ⟨S1x8x2x8192x8208, .f32⟩
  | .hbm, ⟨47, _⟩ => ⟨S_, .f32⟩
  | .hbm, ⟨48, _⟩ => ⟨S1x8x2x8192, .f32⟩
  | .hbm, ⟨49, _⟩ => ⟨S1x8x2x8192x1, .f32⟩
  | .hbm, ⟨50, _⟩ => ⟨S1x8x2x8192x8208, .f32⟩
  | .hbm, ⟨51, _⟩ => ⟨S1x8x2x8192x8208, .f32⟩
  | .hbm, ⟨52, _⟩ => ⟨S1x8x1x8192x8208, .f32⟩
  | .hbm, ⟨53, _⟩ => ⟨S1x8x8192x8208, .f32⟩
  | .hbm, ⟨54, _⟩ => ⟨S1x8x1x8192x8208, .f32⟩
  | .hbm, ⟨55, _⟩ => ⟨S1x8x8192x8208, .f32⟩
  | .hbm, ⟨56, _⟩ => ⟨S1x8x8192x8208, .f32⟩
  | .hbm, ⟨57, _⟩ => ⟨S1x8x8192x8208, .f32⟩
  | .hbm, ⟨58, _⟩ => ⟨S1x8x8192x8208, .f32⟩
  | .hbm, ⟨59, _⟩ => ⟨S1x8x256x8192, .f32⟩
  | .hbm, ⟨60, _⟩ => ⟨S1x8192x8x256, .f32⟩
  | .hbm, ⟨61, _⟩ => ⟨S256, .f32⟩
  | .hbm, ⟨62, _⟩ => ⟨S1x8192x8x256, .f32⟩
  | .hbm, ⟨63, _⟩ => ⟨S_, .f32⟩
  | .hbm, ⟨64, _⟩ => ⟨S1x8192x8, .f32⟩
  | .hbm, ⟨65, _⟩ => ⟨S1x8192x8x1, .f32⟩
  | .hbm, ⟨66, _⟩ => ⟨S_, .f32⟩
  | .hbm, ⟨67, _⟩ => ⟨S1x8192x8x1, .f32⟩
  | .hbm, ⟨68, _⟩ => ⟨S1x8192x8x1, .f32⟩
  | .hbm, ⟨69, _⟩ => ⟨S_, .f32⟩
  | .hbm, ⟨70, _⟩ => ⟨S1x8192x8x1, .f32⟩
  | .hbm, ⟨71, _⟩ => ⟨S1x8192x8x1, .f32⟩
  | .hbm, ⟨72, _⟩ => ⟨S1x8192x8x1, .f32⟩
  | .hbm, ⟨73, _⟩ => ⟨S1x8192x8x256, .f32⟩
  | .hbm, ⟨74, _⟩ => ⟨S1x8192x8x256, .f32⟩
  | .hbm, ⟨75, _⟩ => ⟨S1x1x1x256, .f32⟩
  | .hbm, ⟨76, _⟩ => ⟨S1x8192x8x256, .f32⟩
  | .hbm, ⟨77, _⟩ => ⟨S1x8192x8x256, .f32⟩
  | .hbm, ⟨78, _⟩ => ⟨S_, .f32⟩
  | .hbm, ⟨79, _⟩ => ⟨S1x8192x8x256, .f32⟩
  | .hbm, ⟨80, _⟩ => ⟨S1x8192x8x256, .f32⟩
  | .hbm, ⟨81, _⟩ => ⟨S8192x2048, .f32⟩
  | .hbm, ⟨82, _⟩ => ⟨S8192x2048, .bf16⟩
  | _, _ => ⟨S24576x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_6 : Ref sig .tc := ⟨.hbm, 63, rfl⟩
abbrev main_v49 : Ref sig .tc := ⟨.hbm, 64, rfl⟩
abbrev main_v50 : Ref sig .tc := ⟨.hbm, 65, rfl⟩
abbrev main_cst_7 : Ref sig .tc := ⟨.hbm, 66, rfl⟩
abbrev main_v51 : Ref sig .tc := ⟨.hbm, 67, rfl⟩
abbrev main_v52 : Ref sig .tc := ⟨.hbm, 68, rfl⟩
abbrev main_cst_8 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_9 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩

abbrev nD : Nat := 1
abbrev τ : Topo := Topo.v7x

variable {F : FTy → Type} [FloatOps F]
-- ==== Gate.lean ====
abbrev S24576x4096 : Shape := ⟨2, ![24576, 4096]⟩
abbrev S1x4096 : Shape := ⟨2, ![1, 4096]⟩
abbrev S1x4096x11008 : Shape := ⟨3, ![1, 4096, 11008]⟩
abbrev S4096 : Shape := ⟨1, ![4096]⟩
abbrev S4096x1 : Shape := ⟨2, ![4096, 1]⟩
abbrev S4096x11008 : Shape := ⟨2, ![4096, 11008]⟩
abbrev S24576x10752 : Shape := ⟨2, ![24576, 10752]⟩
abbrev S1024x4096 : Shape := ⟨2, ![1024, 4096]⟩
abbrev S4096x512 : Shape := ⟨2, ![4096, 512]⟩
abbrev S1024x512 : Shape := ⟨2, ![1024, 512]⟩
abbrev S1024x128 : Shape := ⟨2, ![1024, 128]⟩
abbrev S1024 : Shape := ⟨1, ![1024]⟩
abbrev S1024x1 : Shape := ⟨2, ![1024, 1]⟩

abbrev nBuf : Space → Nat
  | .hbm => 16
  | .vmem => 9
  | .smem => 0
  | _ => 0

abbrev bufTy : (tb : Table) → Fin (tcTables nBuf tb) → BufTy
  | .hbm, ⟨0, _⟩ => ⟨S24576x4096, .f32⟩
  | .hbm, ⟨1, _⟩ => ⟨S1x4096, .f32⟩
  | .hbm, ⟨2, _⟩ => ⟨S1x4096x11008, .f32⟩
  | .hbm, ⟨3, _⟩ => ⟨S1x4096x11008, .f32⟩
  | .hbm, ⟨4, _⟩ => ⟨S4096, .f32⟩
  | .hbm, ⟨5, _⟩ => ⟨S4096x1, .f32⟩
  | .hbm, ⟨6, _⟩ => ⟨S4096x11008, .f32⟩
  | .hbm, ⟨7, _⟩ => ⟨S4096x11008, .f32⟩
  | .hbm, ⟨8, _⟩ => ⟨S4096x11008, .f32⟩
  | .hbm, ⟨9, _⟩ => ⟨S4096x11008, .bf16⟩
  | .hbm, ⟨10, _⟩ => ⟨S4096x11008, .f32⟩
  | .hbm, ⟨11, _⟩ => ⟨S4096x11008, .f32⟩
  | .hbm, ⟨12, _⟩ => ⟨S4096x11008, .f32⟩
  | .hbm, ⟨13, _⟩ => ⟨S4096x11008, .bf16⟩
  | .hbm, ⟨14, _⟩ => ⟨S24576x4096, .bf16⟩
  | .hbm, ⟨15, _⟩ => ⟨S24576x10752, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S1024x512, .bf16⟩
  | .local _ .vmem, ⟨7, _⟩ => ⟨S1024x512, .bf16⟩
  | .local _ .vmem, ⟨8, _⟩ => ⟨S1024x128, .f32⟩
  | _, _ => ⟨S24576x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![24, 21], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GateReferenceIdeal.lean ====
abbrev S24576x4096 : Shape := ⟨2, ![24576, 4096]⟩
abbrev S1x4096 : Shape := ⟨2, ![1, 4096]⟩
abbrev S1x4096x11008 : Shape := ⟨3, ![1, 4096, 11008]⟩
abbrev S1x4096x10752 : Shape := ⟨3, ![1, 4096, 10752]⟩
abbrev S4096 : Shape := ⟨1, ![4096]⟩
abbrev S_ : Shape := ⟨0, ![]⟩
abbrev S24576 : Shape := ⟨1, ![24576]⟩
abbrev S24576x1 : Shape := ⟨2, ![24576, 1]⟩
abbrev S4096x10752 : Shape := ⟨2, ![4096, 10752]⟩
abbrev S24576x10752 : Shape := ⟨2, ![24576, 10752]⟩

abbrev nBuf : Space → Nat
  | .hbm => 41
  | .vmem => 0
  | .smem => 0
  | _ => 0

abbrev bufTy : (tb : Table) → Fin (tcTables nBuf tb) → BufTy
  | .hbm, ⟨0, _⟩ => ⟨S24576x4096, .f32⟩
  | .hbm, ⟨1, _⟩ => ⟨S1x4096, .f32⟩
  | .hbm, ⟨2, _⟩ => ⟨S1x4096x11008, .f32⟩
  | .hbm, ⟨3, _⟩ => ⟨S1x4096x11008, .f32⟩
  | .hbm, ⟨4, _⟩ => ⟨S1x4096x10752, .f32⟩
  | .hbm, ⟨5, _⟩ => ⟨S1x4096x10752, .f32⟩
  | .hbm, ⟨6, _⟩ => ⟨S4096, .f32⟩
  | .hbm, ⟨7, _⟩ => ⟨S24576x4096, .f32⟩
  | .hbm, ⟨8, _⟩ => ⟨S_, .f32⟩
  | .hbm, ⟨9, _⟩ => ⟨S24576, .f32⟩
  | .hbm, ⟨10, _⟩ => ⟨S24576x1, .f32⟩
  | .hbm, ⟨11, _⟩ => ⟨S_, .f32⟩
  | .hbm, ⟨12, _⟩ => ⟨S24576x1, .f32⟩
  | .hbm, ⟨13, _⟩ => ⟨S24576x1, .f32⟩
  | .hbm, ⟨14, _⟩ => ⟨S_, .f32⟩
  | .hbm, ⟨15, _⟩ => ⟨S24576x1, .f32⟩
  | .hbm, ⟨16, _⟩ => ⟨S24576x1, .f32⟩
  | .hbm, ⟨17, _⟩ => ⟨S24576x1, .f32⟩
  | .hbm, ⟨18, _⟩ => ⟨S24576x4096, .f32⟩
  | .hbm, ⟨19, _⟩ => ⟨S24576x4096, .f32⟩
  | .hbm, ⟨20, _⟩ => ⟨S1x4096, .f32⟩
  | .hbm, ⟨21, _⟩ => ⟨S24576x4096, .f32⟩
  | .hbm, ⟨22, _⟩ => ⟨S24576x4096, .f32⟩
  | .hbm, ⟨23, _⟩ => ⟨S4096x10752, .f32⟩
  | .hbm, ⟨24, _⟩ => ⟨S24576x10752, .f32⟩
  | .hbm, ⟨25, _⟩ => ⟨S24576x10752, .f32⟩
  | .hbm, ⟨26, _⟩ => ⟨S24576x10752, .f32⟩
  | .hbm, ⟨27, _⟩ => ⟨S_, .f32⟩
  | .hbm, ⟨28, _⟩ => ⟨S24576x10752, .f32⟩
  | .hbm, ⟨29, _⟩ => ⟨S24576x10752, .f32⟩
  | .hbm, ⟨30, _⟩ => ⟨S_, .f32⟩
  | .hbm, ⟨31, _⟩ => ⟨S24576x10752, .f32⟩
  | .hbm, ⟨32, _⟩ => ⟨S24576x10752, .f32⟩
  | .hbm, ⟨33, _⟩ => ⟨S24576x10752, .f32⟩
  | .hbm, ⟨34, _⟩ => ⟨S4096x10752, .f32⟩
  | .hbm, ⟨35, _⟩ => ⟨S24576x10752, .f32⟩
  | .hbm, ⟨36, _⟩ => ⟨S24576x10752, .f32⟩
  | .hbm, ⟨37, _⟩ => ⟨S_, .f32⟩
  | .hbm, ⟨38, _⟩ => ⟨S24576x10752, .f32⟩
  | .hbm, ⟨39, _⟩ => ⟨S24576x10752, .f32⟩
  | .hbm, ⟨40, _⟩ => ⟨S24576x10752, .bf16⟩
  | _, _ => ⟨S24576x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_2 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩

abbrev nD : Nat := 1
abbrev τ : Topo := Topo.v7x

variable {F : FTy → Type} [FloatOps F]
-- ==== Tail.lean ====
abbrev S24576x4096 : Shape := ⟨2, ![24576, 4096]⟩
abbrev S1x4096 : Shape := ⟨2, ![1, 4096]⟩
abbrev S1x4096x11008 : Shape := ⟨3, ![1, 4096, 11008]⟩
abbrev S4096 : Shape := ⟨1, ![4096]⟩
abbrev S4096x1 : Shape := ⟨2, ![4096, 1]⟩
abbrev S4096x11008 : Shape := ⟨2, ![4096, 11008]⟩
abbrev S24576x256 : Shape := ⟨2, ![24576, 256]⟩
abbrev S1024x4096 : Shape := ⟨2, ![1024, 4096]⟩
abbrev S4096x256 : Shape := ⟨2, ![4096, 256]⟩
abbrev S1024x256 : Shape := ⟨2, ![1024, 256]⟩
abbrev S1024x128 : Shape := ⟨2, ![1024, 128]⟩
abbrev S1024 : Shape := ⟨1, ![1024]⟩
abbrev S1024x1 : Shape := ⟨2, ![1024, 1]⟩

abbrev nBuf : Space → Nat
  | .hbm => 16
  | .vmem => 7
  | .smem => 0
  | _ => 0

abbrev bufTy : (tb : Table) → Fin (tcTables nBuf tb) → BufTy
  | .hbm, ⟨0, _⟩ => ⟨S24576x4096, .f32⟩
  | .hbm, ⟨1, _⟩ => ⟨S1x4096, .f32⟩
  | .hbm, ⟨2, _⟩ => ⟨S1x4096x11008, .f32⟩
  | .hbm, ⟨3, _⟩ => ⟨S1x4096x11008, .f32⟩
  | .hbm, ⟨4, _⟩ => ⟨S4096, .f32⟩
  | .hbm, ⟨5, _⟩ => ⟨S4096x1, .f32⟩
  | .hbm, ⟨6, _⟩ => ⟨S4096x11008, .f32⟩
  | .hbm, ⟨7, _⟩ => ⟨S4096x11008, .f32⟩
  | .hbm, ⟨8, _⟩ => ⟨S4096x11008, .f32⟩
  | .hbm, ⟨9, _⟩ => ⟨S4096x11008, .bf16⟩
  | .hbm, ⟨10, _⟩ => ⟨S4096x11008, .f32⟩
  | .hbm, ⟨11, _⟩ => ⟨S4096x11008, .f32⟩
  | .hbm, ⟨12, _⟩ => ⟨S4096x11008, .f32⟩
  | .hbm, ⟨13, _⟩ => ⟨S4096x11008, .bf16⟩
  | .hbm, ⟨14, _⟩ => ⟨S24576x4096, .bf16⟩
  | .hbm, ⟨15, _⟩ => ⟨S24576x256, .bf16⟩
  | .local _ .vmem, ⟨0, _⟩ => ⟨S1024x4096, .bf16⟩
  | .local _ .vmem, ⟨1, _⟩ => ⟨S1024x4096, .bf16⟩
  | .local _ .vmem, ⟨2, _⟩ => ⟨S4096x256, .bf16⟩
  | .local _ .vmem, ⟨3, _⟩ => ⟨S4096x256, .bf16⟩
  | .local _ .vmem, ⟨4, _⟩ => ⟨S1024x256, .bf16⟩
  | .local _ .vmem, ⟨5, _⟩ => ⟨S1024x256, .bf16⟩
  | .local _ .vmem, ⟨6, _⟩ => ⟨S1024x128, .f32⟩
  | _, _ => ⟨S24576x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![24, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c42_i32 : BitVec 32 := 42#32
  let v0 : BitVec 32 := Scalar.addi c42_i32 arg1
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c42_i32 : BitVec 32 := 42#32
  let v0 : BitVec 32 := Scalar.addi c42_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S4096x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== TailReferenceIdeal.lean ====
abbrev S24576x4096 : Shape := ⟨2, ![24576, 4096]⟩
abbrev S1x4096 : Shape := ⟨2, ![1, 4096]⟩
abbrev S1x4096x11008 : Shape := ⟨3, ![1, 4096, 11008]⟩
abbrev S1x4096x256 : Shape := ⟨3, ![1, 4096, 256]⟩
abbrev S4096 : Shape := ⟨1, ![4096]⟩
abbrev S_ : Shape := ⟨0, ![]⟩
abbrev S24576 : Shape := ⟨1, ![24576]⟩
abbrev S24576x1 : Shape := ⟨2, ![24576, 1]⟩
abbrev S4096x256 : Shape := ⟨2, ![4096, 256]⟩
abbrev S24576x256 : Shape := ⟨2, ![24576, 256]⟩

abbrev nBuf : Space → Nat
  | .hbm => 41
  | .vmem => 0
  | .smem => 0
  | _ => 0

abbrev bufTy : (tb : Table) → Fin (tcTables nBuf tb) → BufTy
  | .hbm, ⟨0, _⟩ => ⟨S24576x4096, .f32⟩
  | .hbm, ⟨1, _⟩ => ⟨S1x4096, .f32⟩
  | .hbm, ⟨2, _⟩ => ⟨S1x4096x11008, .f32⟩
  | .hbm, ⟨3, _⟩ => ⟨S1x4096x11008, .f32⟩
  | .hbm, ⟨4, _⟩ => ⟨S1x4096x256, .f32⟩
  | .hbm, ⟨5, _⟩ => ⟨S1x4096x256, .f32⟩
  | .hbm, ⟨6, _⟩ => ⟨S4096, .f32⟩
  | .hbm, ⟨7, _⟩ => ⟨S24576x4096, .f32⟩
  | .hbm, ⟨8, _⟩ => ⟨S_, .f32⟩
  | .hbm, ⟨9, _⟩ => ⟨S24576, .f32⟩
  | .hbm, ⟨10, _⟩ => ⟨S24576x1, .f32⟩
  | .hbm, ⟨11, _⟩ => ⟨S_, .f32⟩
  | .hbm, ⟨12, _⟩ => ⟨S24576x1, .f32⟩
  | .hbm, ⟨13, _⟩ => ⟨S24576x1, .f32⟩
  | .hbm, ⟨14, _⟩ => ⟨S_, .f32⟩
  | .hbm, ⟨15, _⟩ => ⟨S24576x1, .f32⟩
  | .hbm, ⟨16, _⟩ => ⟨S24576x1, .f32⟩
  | .hbm, ⟨17, _⟩ => ⟨S24576x1, .f32⟩
  | .hbm, ⟨18, _⟩ => ⟨S24576x4096, .f32⟩
  | .hbm, ⟨19, _⟩ => ⟨S24576x4096, .f32⟩
  | .hbm, ⟨20, _⟩ => ⟨S1x4096, .f32⟩
  | .hbm, ⟨21, _⟩ => ⟨S24576x4096, .f32⟩
  | .hbm, ⟨22, _⟩ => ⟨S24576x4096, .f32⟩
  | .hbm, ⟨23, _⟩ => ⟨S4096x256, .f32⟩
  | .hbm, ⟨24, _⟩ => ⟨S24576x256, .f32⟩
  | .hbm, ⟨25, _⟩ => ⟨S24576x256, .f32⟩
  | .hbm, ⟨26, _⟩ => ⟨S24576x256, .f32⟩
  | .hbm, ⟨27, _⟩ => ⟨S_, .f32⟩
  | .hbm, ⟨28, _⟩ => ⟨S24576x256, .f32⟩
  | .hbm, ⟨29, _⟩ => ⟨S24576x256, .f32⟩
  | .hbm, ⟨30, _⟩ => ⟨S_, .f32⟩
  | .hbm, ⟨31, _⟩ => ⟨S24576x256, .f32⟩
  | .hbm, ⟨32, _⟩ => ⟨S24576x256, .f32⟩
  | .hbm, ⟨33, _⟩ => ⟨S24576x256, .f32⟩
  | .hbm, ⟨34, _⟩ => ⟨S4096x256, .f32⟩
  | .hbm, ⟨35, _⟩ => ⟨S24576x256, .f32⟩
  | .hbm, ⟨36, _⟩ => ⟨S24576x256, .f32⟩
  | .hbm, ⟨37, _⟩ => ⟨S_, .f32⟩
  | .hbm, ⟨38, _⟩ => ⟨S24576x256, .f32⟩
  | .hbm, ⟨39, _⟩ => ⟨S24576x256, .f32⟩
  | .hbm, ⟨40, _⟩ => ⟨S24576x256, .bf16⟩
  | _, _ => ⟨S24576x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_2 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩

abbrev nD : Nat := 1
abbrev τ : Topo := Topo.v7x

variable {F : FTy → Type} [FloatOps F]
-- ==== Down.lean ====
abbrev S24576x4096 : Shape := ⟨2, ![24576, 4096]⟩
abbrev S24576x11008 : Shape := ⟨2, ![24576, 11008]⟩
abbrev S1x11008x4096 : Shape := ⟨3, ![1, 11008, 4096]⟩
abbrev S24576x10752 : Shape := ⟨2, ![24576, 10752]⟩
abbrev S24576x256 : Shape := ⟨2, ![24576, 256]⟩
abbrev S11008x4096 : Shape := ⟨2, ![11008, 4096]⟩
abbrev S512x10752 : Shape := ⟨2, ![512, 10752]⟩
abbrev S512x256 : Shape := ⟨2, ![512, 256]⟩
abbrev S11008x512 : Shape := ⟨2, ![11008, 512]⟩
abbrev S512x512 : Shape := ⟨2, ![512, 512]⟩
abbrev S10752x512 : Shape := ⟨2, ![10752, 512]⟩
abbrev S256x512 : Shape := ⟨2, ![256, 512]⟩

abbrev nBuf : Space → Nat
  | .hbm => 10
  | .vmem => 10
  | .smem => 0
  | _ => 0

abbrev bufTy : (tb : Table) → Fin (tcTables nBuf tb) → BufTy
  | .hbm, ⟨0, _⟩ => ⟨S24576x4096, .f32⟩
  | .hbm, ⟨1, _⟩ => ⟨S24576x11008, .f32⟩
  | .hbm, ⟨2, _⟩ => ⟨S1x11008x4096, .f32⟩
  | .hbm, ⟨3, _⟩ => ⟨S24576x10752, .f32⟩
  | .hbm, ⟨4, _⟩ => ⟨S24576x10752, .bf16⟩
  | .hbm, ⟨5, _⟩ => ⟨S24576x256, .f32⟩
  | .hbm, ⟨6, _⟩ => ⟨S24576x256, .bf16⟩
  | .hbm, ⟨7, _⟩ => ⟨S11008x4096, .f32⟩
  | .hbm, ⟨8, _⟩ => ⟨S11008x4096, .bf16⟩
  | .hbm, ⟨9, _⟩ => ⟨S24576x4096, .f32⟩
  | .local _ .vmem, ⟨0, _⟩ => ⟨S512x10752, .bf16⟩
  | .local _ .vmem, ⟨1, _⟩ => ⟨S512x10752, .bf16⟩
  | .local _ .vmem, ⟨2, _⟩ => ⟨S512x256, .bf16⟩
  | .local _ .vmem, ⟨3, _⟩ => ⟨S512x256, .bf16⟩
  | .local _ .vmem, ⟨4, _⟩ => ⟨S11008x512, .bf16⟩
  | .local _ .vmem, ⟨5, _⟩ => ⟨S11008x512, .bf16⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | _, _ => ⟨S24576x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![48, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x10752 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S11008x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== DownReferenceIdeal.lean ====
abbrev S24576x4096 : Shape := ⟨2, ![24576, 4096]⟩
abbrev S24576x11008 : Shape := ⟨2, ![24576, 11008]⟩
abbrev S1x11008x4096 : Shape := ⟨3, ![1, 11008, 4096]⟩
abbrev S11008x4096 : Shape := ⟨2, ![11008, 4096]⟩

abbrev nBuf : Space → Nat
  | .hbm => 6
  | .vmem => 0
  | .smem => 0
  | _ => 0

abbrev bufTy : (tb : Table) → Fin (tcTables nBuf tb) → BufTy
  | .hbm, ⟨0, _⟩ => ⟨S24576x4096, .f32⟩
  | .hbm, ⟨1, _⟩ => ⟨S24576x11008, .f32⟩
  | .hbm, ⟨2, _⟩ => ⟨S1x11008x4096, .f32⟩
  | .hbm, ⟨3, _⟩ => ⟨S11008x4096, .f32⟩
  | .hbm, ⟨4, _⟩ => ⟨S24576x4096, .f32⟩
  | .hbm, ⟨5, _⟩ => ⟨S24576x4096, .f32⟩
  | _, _ => ⟨S24576x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Split.lean ====
abbrev S24576x4096 : Shape := ⟨2, ![24576, 4096]⟩
abbrev S4096 : Shape := ⟨1, ![4096]⟩
abbrev S1x4096 : Shape := ⟨2, ![1, 4096]⟩
abbrev S8192x4096 : Shape := ⟨2, ![8192, 4096]⟩
abbrev S16384x4096 : Shape := ⟨2, ![16384, 4096]⟩
abbrev S256x4096 : Shape := ⟨2, ![256, 4096]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S24576x4096, .f32⟩
  | .hbm, ⟨1, _⟩ => ⟨S4096, .f32⟩
  | .hbm, ⟨2, _⟩ => ⟨S1x4096, .f32⟩
  | .hbm, ⟨3, _⟩ => ⟨S8192x4096, .f32⟩
  | .hbm, ⟨4, _⟩ => ⟨S16384x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S256x4096, .f32⟩
  | _, _ => ⟨S24576x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![96], ![false]⟩

def k0_cond1 (i : grid0.Coords) : BitVec 1 :=
  let arg0 : BitVec 32 := BitVec.ofNat 32 (i 0).val
  let c32_i32 : BitVec 32 := 32#32
  let v15 : BitVec 1 := Scalar.cmpi .slt arg0 c32_i32
  let v16 : BitVec 32 := Scalar.extui v15
  let c0_i32 : BitVec 32 := 0#32
  let v17 : BitVec 1 := Scalar.cmpi .ne v16 c0_i32
  v17

def k0_cond2 (i : grid0.Coords) : BitVec 1 :=
  let arg0 : BitVec 32 := BitVec.ofNat 32 (i 0).val
  let c32_i32_5 : BitVec 32 := 32#32
  let v18 : BitVec 1 := Scalar.cmpi .sge arg0 c32_i32_5
  let v19 : BitVec 32 := Scalar.extui v18
  let c0_i32_6 : BitVec 32 := 0#32
  let v20 : BitVec 1 := Scalar.cmpi .ne v19 c0_i32_6
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== SplitReferenceIdeal.lean ====
abbrev S24576x4096 : Shape := ⟨2, ![24576, 4096]⟩
abbrev S4096 : Shape := ⟨1, ![4096]⟩
abbrev S_ : Shape := ⟨0, ![]⟩
abbrev S24576 : Shape := ⟨1, ![24576]⟩
abbrev S24576x1 : Shape := ⟨2, ![24576, 1]⟩
abbrev S1x4096 : Shape := ⟨2, ![1, 4096]⟩
abbrev S8192x4096 : Shape := ⟨2, ![8192, 4096]⟩
abbrev S16384x4096 : Shape := ⟨2, ![16384, 4096]⟩

abbrev nBuf : Space → Nat
  | .hbm => 20
  | .vmem => 0
  | .smem => 0
  | _ => 0

abbrev bufTy : (tb : Table) → Fin (tcTables nBuf tb) → BufTy
  | .hbm, ⟨0, _⟩ => ⟨S24576x4096, .f32⟩
  | .hbm, ⟨1, _⟩ => ⟨S4096, .f32⟩
  | .hbm, ⟨2, _⟩ => ⟨S24576x4096, .f32⟩
  | .hbm, ⟨3, _⟩ => ⟨S_, .f32⟩
  | .hbm, ⟨4, _⟩ => ⟨S24576, .f32⟩
  | .hbm, ⟨5, _⟩ => ⟨S24576x1, .f32⟩
  | .hbm, ⟨6, _⟩ => ⟨S_, .f32⟩
  | .hbm, ⟨7, _⟩ => ⟨S24576x1, .f32⟩
  | .hbm, ⟨8, _⟩ => ⟨S24576x1, .f32⟩
  | .hbm, ⟨9, _⟩ => ⟨S_, .f32⟩
  | .hbm, ⟨10, _⟩ => ⟨S24576x1, .f32⟩
  | .hbm, ⟨11, _⟩ => ⟨S24576x1, .f32⟩
  | .hbm, ⟨12, _⟩ => ⟨S24576x1, .f32⟩
  | .hbm, ⟨13, _⟩ => ⟨S24576x4096, .f32⟩
  | .hbm, ⟨14, _⟩ => ⟨S24576x4096, .f32⟩
  | .hbm, ⟨15, _⟩ => ⟨S1x4096, .f32⟩
  | .hbm, ⟨16, _⟩ => ⟨S24576x4096, .f32⟩
  | .hbm, ⟨17, _⟩ => ⟨S24576x4096, .f32⟩
  | .hbm, ⟨18, _⟩ => ⟨S8192x4096, .f32⟩
  | .hbm, ⟨19, _⟩ => ⟨S16384x4096, .f32⟩
  | _, _ => ⟨S24576x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Mix.lean ====
abbrev S24576x2048 : Shape := ⟨2, ![24576, 2048]⟩
abbrev S8192x2048 : Shape := ⟨2, ![8192, 2048]⟩
abbrev S16384x2048 : Shape := ⟨2, ![16384, 2048]⟩
abbrev S1x4096x4096 : Shape := ⟨3, ![1, 4096, 4096]⟩
abbrev S24576x4096 : Shape := ⟨2, ![24576, 4096]⟩
abbrev S4096x4096 : Shape := ⟨2, ![4096, 4096]⟩
abbrev S1024x2048 : Shape := ⟨2, ![1024, 2048]⟩
abbrev S4096x512 : Shape := ⟨2, ![4096, 512]⟩
abbrev S1024x512 : Shape := ⟨2, ![1024, 512]⟩
abbrev S2048x512 : Shape := ⟨2, ![2048, 512]⟩

abbrev nBuf : Space → Nat
  | .hbm => 9
  | .vmem => 14
  | .smem => 0
  | _ => 0

abbrev bufTy : (tb : Table) → Fin (tcTables nBuf tb) → BufTy
  | .hbm, ⟨0, _⟩ => ⟨S24576x2048, .bf16⟩
  | .hbm, ⟨1, _⟩ => ⟨S8192x2048, .bf16⟩
  | .hbm, ⟨2, _⟩ => ⟨S16384x2048, .bf16⟩
  | .hbm, ⟨3, _⟩ => ⟨S1x4096x4096, .f32⟩
  | .hbm, ⟨4, _⟩ => ⟨S24576x4096, .f32⟩
  | .hbm, ⟨5, _⟩ => ⟨S4096x4096, .f32⟩
  | .hbm, ⟨6, _⟩ => ⟨S4096x4096, .bf16⟩
  | .hbm, ⟨7, _⟩ => ⟨S24576x4096, .f32⟩
  | .hbm, ⟨8, _⟩ => ⟨S24576x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S4096x512, .bf16⟩
  | .local _ .vmem, ⟨7, _⟩ => ⟨S4096x512, .bf16⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .bf16⟩
  | .local _ .vmem, ⟨13, _⟩ => ⟨S1024x512, .bf16⟩
  | _, _ => ⟨S24576x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![24, 8], ![false, false]⟩

def k0_cond1 (i : grid0.Coords) : BitVec 1 :=
  let arg0 : BitVec 32 := BitVec.ofNat 32 (i 0).val
  let c8_i32 : BitVec 32 := 8#32
  let v0 : BitVec 1 := Scalar.cmpi .slt arg0 c8_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c8_i32_0 : BitVec 32 := 8#32
  let v3 : BitVec 1 := Scalar.cmpi .sge arg0 c8_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MixReferenceIdeal.lean ====
abbrev S24576x2048 : Shape := ⟨2, ![24576, 2048]⟩
abbrev S8192x2048 : Shape := ⟨2, ![8192, 2048]⟩
abbrev S16384x2048 : Shape := ⟨2, ![16384, 2048]⟩
abbrev S1x4096x4096 : Shape := ⟨3, ![1, 4096, 4096]⟩
abbrev S24576x4096 : Shape := ⟨2, ![24576, 4096]⟩
abbrev S4096x4096 : Shape := ⟨2, ![4096, 4096]⟩

abbrev nBuf : Space → Nat
  | .hbm => 12
  | .vmem => 0
  | .smem => 0
  | _ => 0

abbrev bufTy : (tb : Table) → Fin (tcTables nBuf tb) → BufTy
  | .hbm, ⟨0, _⟩ => ⟨S24576x2048, .bf16⟩
  | .hbm, ⟨1, _⟩ => ⟨S8192x2048, .bf16⟩
  | .hbm, ⟨2, _⟩ => ⟨S16384x2048, .bf16⟩
  | .hbm, ⟨3, _⟩ => ⟨S1x4096x4096, .f32⟩
  | .hbm, ⟨4, _⟩ => ⟨S24576x4096, .f32⟩
  | .hbm, ⟨5, _⟩ => ⟨S24576x2048, .bf16⟩
  | .hbm, ⟨6, _⟩ => ⟨S24576x4096, .bf16⟩
  | .hbm, ⟨7, _⟩ => ⟨S24576x4096, .f32⟩
  | .hbm, ⟨8, _⟩ => ⟨S4096x4096, .f32⟩
  | .hbm, ⟨9, _⟩ => ⟨S24576x4096, .f32⟩
  | .hbm, ⟨10, _⟩ => ⟨S24576x4096, .f32⟩
  | .hbm, ⟨11, _⟩ => ⟨S24576x4096, .bf16⟩
  | _, _ => ⟨S24576x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== First.lean ====
abbrev S24576x4096 : Shape := ⟨2, ![24576, 4096]⟩
abbrev S1x4096x11008 : Shape := ⟨3, ![1, 4096, 11008]⟩
abbrev S4096x11008 : Shape := ⟨2, ![4096, 11008]⟩
abbrev S24576x10752 : Shape := ⟨2, ![24576, 10752]⟩
abbrev S1024x4096 : Shape := ⟨2, ![1024, 4096]⟩
abbrev S4096x512 : Shape := ⟨2, ![4096, 512]⟩
abbrev S1024x512 : Shape := ⟨2, ![1024, 512]⟩
abbrev S1024x128 : Shape := ⟨2, ![1024, 128]⟩

abbrev nBuf : Space → Nat
  | .hbm => 8
  | .vmem => 8
  | .smem => 0
  | _ => 0

abbrev bufTy : (tb : Table) → Fin (tcTables nBuf tb) → BufTy
  | .hbm, ⟨0, _⟩ => ⟨S24576x4096, .bf16⟩
  | .hbm, ⟨1, _⟩ => ⟨S1x4096x11008, .f32⟩
  | .hbm, ⟨2, _⟩ => ⟨S1x4096x11008, .f32⟩
  | .hbm, ⟨3, _⟩ => ⟨S4096x11008, .f32⟩
  | .hbm, ⟨4, _⟩ => ⟨S4096x11008, .bf16⟩
  | .hbm, ⟨5, _⟩ => ⟨S4096x11008, .f32⟩
  | .hbm, ⟨6, _⟩ => ⟨S4096x11008, .bf16⟩
  | .hbm, ⟨7, _⟩ => ⟨S24576x10752, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S1024x512, .bf16⟩
  | .local _ .vmem, ⟨7, _⟩ => ⟨S1024x512, .bf16⟩
  | _, _ => ⟨S24576x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![24, 21], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FirstReferenceIdeal.lean ====
abbrev S24576x4096 : Shape := ⟨2, ![24576, 4096]⟩
abbrev S1x4096x11008 : Shape := ⟨3, ![1, 4096, 11008]⟩
abbrev S1x4096x10752 : Shape := ⟨3, ![1, 4096, 10752]⟩
abbrev S4096x10752 : Shape := ⟨2, ![4096, 10752]⟩
abbrev S24576x10752 : Shape := ⟨2, ![24576, 10752]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S24576x4096, .bf16⟩
  | .hbm, ⟨1, _⟩ => ⟨S1x4096x11008, .f32⟩
  | .hbm, ⟨2, _⟩ => ⟨S1x4096x11008, .f32⟩
  | .hbm, ⟨3, _⟩ => ⟨S1x4096x10752, .f32⟩
  | .hbm, ⟨4, _⟩ => ⟨S1x4096x10752, .f32⟩
  | .hbm, ⟨5, _⟩ => ⟨S24576x4096, .f32⟩
  | .hbm, ⟨6, _⟩ => ⟨S4096x10752, .f32⟩
  | .hbm, ⟨7, _⟩ => ⟨S24576x10752, .f32⟩
  | .hbm, ⟨8, _⟩ => ⟨S24576x10752, .f32⟩
  | .hbm, ⟨9, _⟩ => ⟨S24576x10752, .f32⟩
  | .hbm, ⟨10, _⟩ => ⟨S_, .f32⟩
  | .hbm, ⟨11, _⟩ => ⟨S24576x10752, .f32⟩
  | .hbm, ⟨12, _⟩ => ⟨S24576x10752, .f32⟩
  | .hbm, ⟨13, _⟩ => ⟨S_, .f32⟩
  | .hbm, ⟨14, _⟩ => ⟨S24576x10752, .f32⟩
  | .hbm, ⟨15, _⟩ => ⟨S24576x10752, .f32⟩
  | .hbm, ⟨16, _⟩ => ⟨S24576x10752, .f32⟩
  | .hbm, ⟨17, _⟩ => ⟨S4096x10752, .f32⟩
  | .hbm, ⟨18, _⟩ => ⟨S24576x10752, .f32⟩
  | .hbm, ⟨19, _⟩ => ⟨S24576x10752, .f32⟩
  | .hbm, ⟨20, _⟩ => ⟨S_, .f32⟩
  | .hbm, ⟨21, _⟩ => ⟨S24576x10752, .f32⟩
  | .hbm, ⟨22, _⟩ => ⟨S24576x10752, .f32⟩
  | .hbm, ⟨23, _⟩ => ⟨S24576x10752, .bf16⟩
  | _, _ => ⟨S24576x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩

abbrev nD : Nat := 1
abbrev τ : Topo := Topo.v7x

variable {F : FTy → Type} [FloatOps F]
-- ==== Last.lean ====
abbrev S24576x4096 : Shape := ⟨2, ![24576, 4096]⟩
abbrev S1x4096x11008 : Shape := ⟨3, ![1, 4096, 11008]⟩
abbrev S4096x11008 : Shape := ⟨2, ![4096, 11008]⟩
abbrev S24576x256 : Shape := ⟨2, ![24576, 256]⟩
abbrev S1024x4096 : Shape := ⟨2, ![1024, 4096]⟩
abbrev S4096x256 : Shape := ⟨2, ![4096, 256]⟩
abbrev S1024x256 : Shape := ⟨2, ![1024, 256]⟩
abbrev S1024x128 : Shape := ⟨2, ![1024, 128]⟩

abbrev nBuf : Space → Nat
  | .hbm => 8
  | .vmem => 6
  | .smem => 0
  | _ => 0

abbrev bufTy : (tb : Table) → Fin (tcTables nBuf tb) → BufTy
  | .hbm, ⟨0, _⟩ => ⟨S24576x4096, .bf16⟩
  | .hbm, ⟨1, _⟩ => ⟨S1x4096x11008, .f32⟩
  | .hbm, ⟨2, _⟩ => ⟨S1x4096x11008, .f32⟩
  | .hbm, ⟨3, _⟩ => ⟨S4096x11008, .f32⟩
  | .hbm, ⟨4, _⟩ => ⟨S4096x11008, .bf16⟩
  | .hbm, ⟨5, _⟩ => ⟨S4096x11008, .f32⟩
  | .hbm, ⟨6, _⟩ => ⟨S4096x11008, .bf16⟩
  | .hbm, ⟨7, _⟩ => ⟨S24576x256, .bf16⟩
  | .local _ .vmem, ⟨0, _⟩ => ⟨S1024x4096, .bf16⟩
  | .local _ .vmem, ⟨1, _⟩ => ⟨S1024x4096, .bf16⟩
  | .local _ .vmem, ⟨2, _⟩ => ⟨S4096x256, .bf16⟩
  | .local _ .vmem, ⟨3, _⟩ => ⟨S4096x256, .bf16⟩
  | .local _ .vmem, ⟨4, _⟩ => ⟨S1024x256, .bf16⟩
  | .local _ .vmem, ⟨5, _⟩ => ⟨S1024x256, .bf16⟩
  | _, _ => ⟨S24576x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![24, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c42_i32 : BitVec 32 := 42#32
  let v0 : BitVec 32 := Scalar.addi c42_i32 arg1
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c42_i32 : BitVec 32 := 42#32
  let v0 : BitVec 32 := Scalar.addi c42_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S4096x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== LastReferenceIdeal.lean ====
abbrev S24576x4096 : Shape := ⟨2, ![24576, 4096]⟩
abbrev S1x4096x11008 : Shape := ⟨3, ![1, 4096, 11008]⟩
abbrev S1x4096x256 : Shape := ⟨3, ![1, 4096, 256]⟩
abbrev S4096x256 : Shape := ⟨2, ![4096, 256]⟩
abbrev S24576x256 : Shape := ⟨2, ![24576, 256]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S24576x4096, .bf16⟩
  | .hbm, ⟨1, _⟩ => ⟨S1x4096x11008, .f32⟩
  | .hbm, ⟨2, _⟩ => ⟨S1x4096x11008, .f32⟩
  | .hbm, ⟨3, _⟩ => ⟨S1x4096x256, .f32⟩
  | .hbm, ⟨4, _⟩ => ⟨S1x4096x256, .f32⟩
  | .hbm, ⟨5, _⟩ => ⟨S24576x4096, .f32⟩
  | .hbm, ⟨6, _⟩ => ⟨S4096x256, .f32⟩
  | .hbm, ⟨7, _⟩ => ⟨S24576x256, .f32⟩
  | .hbm, ⟨8, _⟩ => ⟨S24576x256, .f32⟩
  | .hbm, ⟨9, _⟩ => ⟨S24576x256, .f32⟩
  | .hbm, ⟨10, _⟩ => ⟨S_, .f32⟩
  | .hbm, ⟨11, _⟩ => ⟨S24576x256, .f32⟩
  | .hbm, ⟨12, _⟩ => ⟨S24576x256, .f32⟩
  | .hbm, ⟨13, _⟩ => ⟨S_, .f32⟩
  | .hbm, ⟨14, _⟩ => ⟨S24576x256, .f32⟩
  | .hbm, ⟨15, _⟩ => ⟨S24576x256, .f32⟩
  | .hbm, ⟨16, _⟩ => ⟨S24576x256, .f32⟩
  | .hbm, ⟨17, _⟩ => ⟨S4096x256, .f32⟩
  | .hbm, ⟨18, _⟩ => ⟨S24576x256, .f32⟩
  | .hbm, ⟨19, _⟩ => ⟨S24576x256, .f32⟩
  | .hbm, ⟨20, _⟩ => ⟨S_, .f32⟩
  | .hbm, ⟨21, _⟩ => ⟨S24576x256, .f32⟩
  | .hbm, ⟨22, _⟩ => ⟨S24576x256, .f32⟩
  | .hbm, ⟨23, _⟩ => ⟨S24576x256, .bf16⟩
  | _, _ => ⟨S24576x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩

abbrev nD : Nat := 1
abbrev τ : Topo := Topo.v7x

variable {F : FTy → Type} [FloatOps F]
-- ==== Proj.lean ====
abbrev S24576x4096 : Shape := ⟨2, ![24576, 4096]⟩
abbrev S1x4096 : Shape := ⟨2, ![1, 4096]⟩
abbrev S1x4096x12288 : Shape := ⟨3, ![1, 4096, 12288]⟩
abbrev S4096 : Shape := ⟨1, ![4096]⟩
abbrev S4096x1 : Shape := ⟨2, ![4096, 1]⟩
abbrev S4096x12288 : Shape := ⟨2, ![4096, 12288]⟩
abbrev S12288 : Shape := ⟨1, ![12288]⟩
abbrev S_ : Shape := ⟨0, ![]⟩
abbrev S1x12288 : Shape := ⟨2, ![1, 12288]⟩
abbrev S8192 : Shape := ⟨1, ![8192]⟩
abbrev S24576 : Shape := ⟨1, ![24576]⟩
abbrev S16 : Shape := ⟨1, ![16]⟩
abbrev S24576x1 : Shape := ⟨2, ![24576, 1]⟩
abbrev S1x16 : Shape := ⟨2, ![1, 16]⟩
abbrev S24576x16 : Shape := ⟨2, ![24576, 16]⟩
abbrev S24576x96 : Shape := ⟨2, ![24576, 96]⟩
abbrev S24576x128 : Shape := ⟨2, ![24576, 128]⟩
abbrev S96x24576x128 : Shape := ⟨3, ![96, 24576, 128]⟩
abbrev S1024x4096 : Shape := ⟨2, ![1024, 4096]⟩
abbrev S4096x1024 : Shape := ⟨2, ![4096, 1024]⟩
abbrev S1x1024 : Shape := ⟨2, ![1, 1024]⟩
abbrev S1024x128 : Shape := ⟨2, ![1024, 128]⟩
abbrev S8x1024x128 : Shape := ⟨3, ![8, 1024, 128]⟩
abbrev S1024 : Shape := ⟨1, ![1024]⟩
abbrev S1024x1 : Shape := ⟨2, ![1024, 1]⟩
abbrev S4096x256 : Shape := ⟨2, ![4096, 256]⟩
abbrev S1024x256 : Shape := ⟨2, ![1024, 256]⟩
abbrev S1x256 : Shape := ⟨2, ![1, 256]⟩
abbrev S1x1024x128 : Shape := ⟨3, ![1, 1024, 128]⟩

abbrev nBuf : Space → Nat
  | .hbm => 66
  | .vmem => 15
  | .smem => 0
  | _ => 0

abbrev bufTy : (tb : Table) → Fin (tcTables nBuf tb) → BufTy
  | .hbm, ⟨0, _⟩ => ⟨S24576x4096, .f32⟩
  | .hbm, ⟨1, _⟩ => ⟨S1x4096, .f32⟩
  | .hbm, ⟨2, _⟩ => ⟨S1x4096x12288, .f32⟩
  | .hbm, ⟨3, _⟩ => ⟨S4096, .f32⟩
  | .hbm, ⟨4, _⟩ => ⟨S4096x1, .f32⟩
  | .hbm, ⟨5, _⟩ => ⟨S4096x12288, .f32⟩
  | .hbm, ⟨6, _⟩ => ⟨S4096x12288, .f32⟩
  | .hbm, ⟨7, _⟩ => ⟨S4096x12288, .f32⟩
  | .hbm, ⟨8, _⟩ => ⟨S4096x12288, .bf16⟩
  | .hbm, ⟨9, _⟩ => ⟨S12288, .i32⟩
  | .hbm, ⟨10, _⟩ => ⟨S_, .i32⟩
  | .hbm, ⟨11, _⟩ => ⟨S12288, .i32⟩
  | .hbm, ⟨12, _⟩ => ⟨S12288, .i1⟩
  | .hbm, ⟨13, _⟩ => ⟨S_, .i32⟩
  | .hbm, ⟨14, _⟩ => ⟨S12288, .i32⟩
  | .hbm, ⟨15, _⟩ => ⟨S12288, .i1⟩
  | .hbm, ⟨16, _⟩ => ⟨S_, .i32⟩
  | .hbm, ⟨17, _⟩ => ⟨S12288, .i32⟩
  | .hbm, ⟨18, _⟩ => ⟨S12288, .i1⟩
  | .hbm, ⟨19, _⟩ => ⟨S12288, .i1⟩
  | .hbm, ⟨20, _⟩ => ⟨S_, .f32⟩
  | .hbm, ⟨21, _⟩ => ⟨S_, .f32⟩
  | .hbm, ⟨22, _⟩ => ⟨S12288, .f32⟩
  | .hbm, ⟨23, _⟩ => ⟨S12288, .f32⟩
  | .hbm, ⟨24, _⟩ => ⟨S12288, .f32⟩
  | .hbm, ⟨25, _⟩ => ⟨S_, .f32⟩
  | .hbm, ⟨26, _⟩ => ⟨S12288, .f32⟩
  | .hbm, ⟨27, _⟩ => ⟨S12288, .f32⟩
  | .hbm, ⟨28, _⟩ => ⟨S12288, .f32⟩
  | .hbm, ⟨29, _⟩ => ⟨S1x12288, .f32⟩
  | .hbm, ⟨30, _⟩ => ⟨S8192, .i32⟩
  | .hbm, ⟨31, _⟩ => ⟨S4096, .i32⟩
  | .hbm, ⟨32, _⟩ => ⟨S24576, .i32⟩
  | .hbm, ⟨33, _⟩ => ⟨S_, .i32⟩
  | .hbm, ⟨34, _⟩ => ⟨S24576, .i32⟩
  | .hbm, ⟨35, _⟩ => ⟨S24576, .i32⟩
  | .hbm, ⟨36, _⟩ => ⟨S24576x4096, .bf16⟩
  | .hbm, ⟨37, _⟩ => ⟨S16, .f32⟩
  | .hbm, ⟨38, _⟩ => ⟨S_, .f32⟩
  | .hbm, ⟨39, _⟩ => ⟨S16, .f32⟩
  | .hbm, ⟨40, _⟩ => ⟨S16, .f32⟩
  | .hbm, ⟨41, _⟩ => ⟨S_, .f32⟩
  | .hbm, ⟨42, _⟩ => ⟨S16, .f32⟩
  | .hbm, ⟨43, _⟩ => ⟨S16, .f32⟩
  | .hbm, ⟨44, _⟩ => ⟨S_, .f32⟩
  | .hbm, ⟨45, _⟩ => ⟨S16, .f32⟩
  | .hbm, ⟨46, _⟩ => ⟨S16, .f32⟩
  | .hbm, ⟨47, _⟩ => ⟨S24576, .f32⟩
  | .hbm, ⟨48, _⟩ => ⟨S24576x1, .f32⟩
  | .hbm, ⟨49, _⟩ => ⟨S1x16, .f32⟩
  | .hbm, ⟨50, _⟩ => ⟨S24576x16, .f32⟩
  | .hbm, ⟨51, _⟩ => ⟨S24576x16, .f32⟩
  | .hbm, ⟨52, _⟩ => ⟨S24576x16, .f32⟩
  | .hbm, ⟨53, _⟩ => ⟨S24576x16, .f32⟩
  | .hbm, ⟨54, _⟩ => ⟨S24576x16, .f32⟩
  | .hbm, ⟨55, _⟩ => ⟨S_, .f32⟩
  | .hbm, ⟨56, _⟩ => ⟨S24576x96, .f32⟩
  | .hbm, ⟨57, _⟩ => ⟨S_, .f32⟩
  | .hbm, ⟨58, _⟩ => ⟨S24576x16, .f32⟩
  | .hbm, ⟨59, _⟩ => ⟨S_, .f32⟩
  | .hbm, ⟨60, _⟩ => ⟨S24576x96, .f32⟩
  | .hbm, ⟨61, _⟩ => ⟨S24576x128, .f32⟩
  | .hbm, ⟨62, _⟩ => ⟨S24576x16, .f32⟩
  | .hbm, ⟨63, _⟩ => ⟨S24576x128, .f32⟩
  | .hbm, ⟨64, _⟩ => ⟨S24576x128, .f32⟩
  | .hbm, ⟨65, _⟩ => ⟨S96x24576x128, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024, .f32⟩
  | .local _ .vmem, ⟨5, _⟩ => ⟨S1x1024, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S8x1024x128, .bf16⟩
  | .local _ .vmem, ⟨13, _⟩ => ⟨S8x1024x128, .bf16⟩
  | .local _ .vmem, ⟨14, _⟩ => ⟨S1024x128, .f32⟩
  | _, _ => ⟨S24576x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_cst_3 : Ref sig .tc := ⟨.hbm, 25, rfl⟩
abbrev main_call1_v0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_v28 : Ref sig .tc := ⟨.hbm, 43, rfl⟩
abbrev main_cst_7 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_cst_9 : Ref sig .tc := ⟨.hbm, 57, rfl⟩
abbrev main_v40 : Ref sig .tc := ⟨.hbm, 58, rfl⟩
abbrev main_cst_10 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![24, 12], ![false, false]⟩

def k0_cond2 (i : grid0.Coords) : BitVec 1 :=
  let arg1 : BitVec 32 := BitVec.ofNat 32 (i 1).val
  let c6_i32 : BitVec 32 := 6#32
  let v0 : BitVec 1 := Scalar.cmpi .sge arg1 c6_i32
  let c10_i32 : BitVec 32 := 10#32
  let v1 : BitVec 1 := Scalar.cmpi .slt arg1 c10_i32
  let v2 : BitVec 1 := Scalar.andi v0 v1
  let v6 : BitVec 32 := Scalar.extui v2
  let c0_i32_1 : BitVec 32 := 0#32
  let v7 : BitVec 1 := Scalar.cmpi .ne v6 c0_i32_1
  v7

def k0_cond3 (i : grid0.Coords) : BitVec 1 :=
  let arg1 : BitVec 32 := BitVec.ofNat 32 (i 1).val
  let c6_i32 : BitVec 32 := 6#32
  let v0 : BitVec 1 := Scalar.cmpi .sge arg1 c6_i32
  let c10_i32 : BitVec 32 := 10#32
  let v1 : BitVec 1 := Scalar.cmpi .slt arg1 c10_i32
  let v2 : BitVec 1 := Scalar.andi v0 v1
  let v_true : BitVec 1 := 1#1
  let v8 : BitVec 1 := Scalar.xori v2 v_true
  let v9 : BitVec 32 := Scalar.extui v8
  let c0_i32_2 : BitVec 32 := 0#32
  let v10 : BitVec 1 := Scalar.cmpi .ne v9 c0_i32_2
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8x1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ProjReferenceIdeal.lean ====
abbrev S24576x4096 : Shape := ⟨2, ![24576, 4096]⟩
abbrev S1x4096 : Shape := ⟨2, ![1, 4096]⟩
abbrev S1x4096x12288 : Shape := ⟨3, ![1, 4096, 12288]⟩
abbrev S4096 : Shape := ⟨1, ![4096]⟩
abbrev S_ : Shape := ⟨0, ![]⟩
abbrev S24576 : Shape := ⟨1, ![24576]⟩
abbrev S24576x1 : Shape := ⟨2, ![24576, 1]⟩
abbrev S4096x12288 : Shape := ⟨2, ![4096, 12288]⟩
abbrev S24576x12288 : Shape := ⟨2, ![24576, 12288]⟩
abbrev S24576x96x128 : Shape := ⟨3, ![24576, 96, 128]⟩
abbrev S8192 : Shape := ⟨1, ![8192]⟩
abbrev S4x4096 : Shape := ⟨2, ![4, 4096]⟩
abbrev S16384 : Shape := ⟨1, ![16384]⟩
abbrev S24576x16x128 : Shape := ⟨3, ![24576, 16, 128]⟩
abbrev S16 : Shape := ⟨1, ![16]⟩
abbrev S1x16 : Shape := ⟨2, ![1, 16]⟩
abbrev S24576x16 : Shape := ⟨2, ![24576, 16]⟩
abbrev S24576x1x16 : Shape := ⟨3, ![24576, 1, 16]⟩
abbrev S24576x16x16 : Shape := ⟨3, ![24576, 16, 16]⟩
abbrev S24576x16x96 : Shape := ⟨3, ![24576, 16, 96]⟩
abbrev S24576x32x128 : Shape := ⟨3, ![24576, 32, 128]⟩
abbrev S96x24576x128 : Shape := ⟨3, ![96, 24576, 128]⟩

abbrev nBuf : Space → Nat
  | .hbm => 114
  | .vmem => 0
  | .smem => 0
  | _ => 0

abbrev bufTy : (tb : Table) → Fin (tcTables nBuf tb) → BufTy
  | .hbm, ⟨0, _⟩ => ⟨S24576x4096, .f32⟩
  | .hbm, ⟨1, _⟩ => ⟨S1x4096, .f32⟩
  | .hbm, ⟨2, _⟩ => ⟨S1x4096x12288, .f32⟩
  | .hbm, ⟨3, _⟩ => ⟨S4096, .f32⟩
  | .hbm, ⟨4, _⟩ => ⟨S24576x4096, .f32⟩
  | .hbm, ⟨5, _⟩ => ⟨S_, .f32⟩
  | .hbm, ⟨6, _⟩ => ⟨S24576, .f32⟩
  | .hbm, ⟨7, _⟩ => ⟨S24576x1, .f32⟩
  | .hbm, ⟨8, _⟩ => ⟨S_, .f32⟩
  | .hbm, ⟨9, _⟩ => ⟨S24576x1, .f32⟩
  | .hbm, ⟨10, _⟩ => ⟨S24576x1, .f32⟩
  | .hbm, ⟨11, _⟩ => ⟨S_, .f32⟩
  | .hbm, ⟨12, _⟩ => ⟨S24576x1, .f32⟩
  | .hbm, ⟨13, _⟩ => ⟨S24576x1, .f32⟩
  | .hbm, ⟨14, _⟩ => ⟨S24576x1, .f32⟩
  | .hbm, ⟨15, _⟩ => ⟨S24576x4096, .f32⟩
  | .hbm, ⟨16, _⟩ => ⟨S24576x4096, .f32⟩
  | .hbm, ⟨17, _⟩ => ⟨S1x4096, .f32⟩
  | .hbm, ⟨18, _⟩ => ⟨S24576x4096, .f32⟩
  | .hbm, ⟨19, _⟩ => ⟨S24576x4096, .f32⟩
  | .hbm, ⟨20, _⟩ => ⟨S4096x12288, .f32⟩
  | .hbm, ⟨21, _⟩ => ⟨S24576x12288, .f32⟩
  | .hbm, ⟨22, _⟩ => ⟨S24576x96x128, .f32⟩
  | .hbm, ⟨23, _⟩ => ⟨S8192, .i32⟩
  | .hbm, ⟨24, _⟩ => ⟨S4096, .i32⟩
  | .hbm, ⟨25, _⟩ => ⟨S1x4096, .i32⟩
  | .hbm, ⟨26, _⟩ => ⟨S4x4096, .i32⟩
  | .hbm, ⟨27, _⟩ => ⟨S16384, .i32⟩
  | .hbm, ⟨28, _⟩ => ⟨S24576, .i32⟩
  | .hbm, ⟨29, _⟩ => ⟨S_, .i32⟩
  | .hbm, ⟨30, _⟩ => ⟨S24576, .i32⟩
  | .hbm, ⟨31, _⟩ => ⟨S24576, .i32⟩
  | .hbm, ⟨32, _⟩ => ⟨S24576x16x128, .f32⟩
  | .hbm, ⟨33, _⟩ => ⟨S_, .f32⟩
  | .hbm, ⟨34, _⟩ => ⟨S24576x16x128, .f32⟩
  | .hbm, ⟨35, _⟩ => ⟨S24576x16x128, .f32⟩
  | .hbm, ⟨36, _⟩ => ⟨S24576x16x128, .f32⟩
  | .hbm, ⟨37, _⟩ => ⟨S16, .f32⟩
  | .hbm, ⟨38, _⟩ => ⟨S_, .f32⟩
  | .hbm, ⟨39, _⟩ => ⟨S16, .f32⟩
  | .hbm, ⟨40, _⟩ => ⟨S16, .f32⟩
  | .hbm, ⟨41, _⟩ => ⟨S_, .f32⟩
  | .hbm, ⟨42, _⟩ => ⟨S16, .f32⟩
  | .hbm, ⟨43, _⟩ => ⟨S16, .f32⟩
  | .hbm, ⟨44, _⟩ => ⟨S_, .f32⟩
  | .hbm, ⟨45, _⟩ => ⟨S16, .f32⟩
  | .hbm, ⟨46, _⟩ => ⟨S16, .f32⟩
  | .hbm, ⟨47, _⟩ => ⟨S24576, .f32⟩
  | .hbm, ⟨48, _⟩ => ⟨S24576x1, .f32⟩
  | .hbm, ⟨49, _⟩ => ⟨S1x16, .f32⟩
  | .hbm, ⟨50, _⟩ => ⟨S24576x16, .f32⟩
  | .hbm, ⟨51, _⟩ => ⟨S24576x16, .f32⟩
  | .hbm, ⟨52, _⟩ => ⟨S24576x16, .f32⟩
  | .hbm, ⟨53, _⟩ => ⟨S24576x16, .f32⟩
  | .hbm, ⟨54, _⟩ => ⟨S24576x1x16, .f32⟩
  | .hbm, ⟨55, _⟩ => ⟨S24576x16, .f32⟩
  | .hbm, ⟨56, _⟩ => ⟨S24576x1x16, .f32⟩
  | .hbm, ⟨57, _⟩ => ⟨S24576x16x16, .f32⟩
  | .hbm, ⟨58, _⟩ => ⟨S24576x16x16, .f32⟩
  | .hbm, ⟨59, _⟩ => ⟨S24576x16x16, .f32⟩
  | .hbm, ⟨60, _⟩ => ⟨S24576x16x16, .f32⟩
  | .hbm, ⟨61, _⟩ => ⟨S24576x16x16, .f32⟩
  | .hbm, ⟨62, _⟩ => ⟨S24576x16x16, .f32⟩
  | .hbm, ⟨63, _⟩ => ⟨S24576x16x16, .f32⟩
  | .hbm, ⟨64, _⟩ => ⟨S24576x16x16, .f32⟩
  | .hbm, ⟨65, _⟩ => ⟨S24576x16x16, .f32⟩
  | .hbm, ⟨66, _⟩ => ⟨S24576x16x16, .f32⟩
  | .hbm, ⟨67, _⟩ => ⟨S24576x16x16, .f32⟩
  | .hbm, ⟨68, _⟩ => ⟨S24576x16x16, .f32⟩
  | .hbm, ⟨69, _⟩ => ⟨S24576x16x96, .f32⟩
  | .hbm, ⟨70, _⟩ => ⟨S24576x16x128, .f32⟩
  | .hbm, ⟨71, _⟩ => ⟨S_, .f32⟩
  | .hbm, ⟨72, _⟩ => ⟨S24576x16x128, .f32⟩
  | .hbm, ⟨73, _⟩ => ⟨S24576x16x128, .f32⟩
  | .hbm, ⟨74, _⟩ => ⟨S24576x16x128, .f32⟩
  | .hbm, ⟨75, _⟩ => ⟨S16, .f32⟩
  | .hbm, ⟨76, _⟩ => ⟨S_, .f32⟩
  | .hbm, ⟨77, _⟩ => ⟨S16, .f32⟩
  | .hbm, ⟨78, _⟩ => ⟨S16, .f32⟩
  | .hbm, ⟨79, _⟩ => ⟨S_, .f32⟩
  | .hbm, ⟨80, _⟩ => ⟨S16, .f32⟩
  | .hbm, ⟨81, _⟩ => ⟨S16, .f32⟩
  | .hbm, ⟨82, _⟩ => ⟨S_, .f32⟩
  | .hbm, ⟨83, _⟩ => ⟨S16, .f32⟩
  | .hbm, ⟨84, _⟩ => ⟨S16, .f32⟩
  | .hbm, ⟨85, _⟩ => ⟨S24576, .f32⟩
  | .hbm, ⟨86, _⟩ => ⟨S24576x1, .f32⟩
  | .hbm, ⟨87, _⟩ => ⟨S1x16, .f32⟩
  | .hbm, ⟨88, _⟩ => ⟨S24576x16, .f32⟩
  | .hbm, ⟨89, _⟩ => ⟨S24576x16, .f32⟩
  | .hbm, ⟨90, _⟩ => ⟨S24576x16, .f32⟩
  | .hbm, ⟨91, _⟩ => ⟨S24576x16, .f32⟩
  | .hbm, ⟨92, _⟩ => ⟨S24576x1x16, .f32⟩
  | .hbm, ⟨93, _⟩ => ⟨S24576x16, .f32⟩
  | .hbm, ⟨94, _⟩ => ⟨S24576x1x16, .f32⟩
  | .hbm, ⟨95, _⟩ => ⟨S24576x16x16, .f32⟩
  | .hbm, ⟨96, _⟩ => ⟨S24576x16x16, .f32⟩
  | .hbm, ⟨97, _⟩ => ⟨S24576x16x16, .f32⟩
  | .hbm, ⟨98, _⟩ => ⟨S24576x16x16, .f32⟩
  | .hbm, ⟨99, _⟩ => ⟨S24576x16x16, .f32⟩
  | .hbm, ⟨100, _⟩ => ⟨S24576x16x16, .f32⟩
  | .hbm, ⟨101, _⟩ => ⟨S24576x16x16, .f32⟩
  | .hbm, ⟨102, _⟩ => ⟨S24576x16x16, .f32⟩
  | .hbm, ⟨103, _⟩ => ⟨S24576x16x16, .f32⟩
  | .hbm, ⟨104, _⟩ => ⟨S24576x16x16, .f32⟩
  | .hbm, ⟨105, _⟩ => ⟨S24576x16x16, .f32⟩
  | .hbm, ⟨106, _⟩ => ⟨S24576x16x16, .f32⟩
  | .hbm, ⟨107, _⟩ => ⟨S24576x16x96, .f32⟩
  | .hbm, ⟨108, _⟩ => ⟨S24576x16x128, .f32⟩
  | .hbm, ⟨109, _⟩ => ⟨S24576x32x128, .f32⟩
  | .hbm, ⟨110, _⟩ => ⟨S24576x16x128, .f32⟩
  | .hbm, ⟨111, _⟩ => ⟨S24576x96x128, .f32⟩
  | .hbm, ⟨112, _⟩ => ⟨S96x24576x128, .f32⟩
  | .hbm, ⟨113, _⟩ => ⟨S96x24576x128, .bf16⟩
  | _, _ => ⟨S24576x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_c : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_2 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_3 : Ref sig .tc := ⟨.hbm, 38, rfl⟩
abbrev main_v30 : Ref sig .tc := ⟨.hbm, 39, rfl⟩
abbrev main_v31 : Ref sig .tc := ⟨.hbm, 40, rfl⟩
abbrev main_cst_4 : Ref sig .tc := ⟨.hbm, 41, rfl⟩
abbrev main_v32 : Ref sig .tc := ⟨.hbm, 42, rfl⟩
abbrev main_v33 : Ref sig .tc := ⟨.hbm, 43, rfl⟩
abbrev main_cst_5 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_cst_6 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_cst_7 : Ref sig .tc := ⟨.hbm, 76, rfl⟩
abbrev main_v64 : Ref sig .tc := ⟨.hbm, 77, rfl⟩
abbrev main_v65 : Ref sig .tc := ⟨.hbm, 78, rfl⟩
abbrev main_cst_8 : Ref sig .tc := ⟨.hbm, 79, rfl⟩
abbrev main_v66 : Ref sig .tc := ⟨.hbm, 80, rfl⟩
abbrev main_v67 : Ref sig .tc := ⟨.hbm, 81, rfl⟩
abbrev main_cst_9 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩

abbrev nD : Nat := 1
abbrev τ : Topo := Topo.v7x

variable {F : FTy → Type} [FloatOps F]
-- ==== Proof.Scores.lean ====
/- The kernel's score products at an index: sums over the 128 columns of a head. -/
module

public import proofs.«01_k».proof.Proof.Gen.KernelIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof

open Cert.KernelIdeal Cert.KernelIdeal.Gen
open Idealize.ShloMosaic Idealize.ShloMosaic.TcCoe

/-- The scores of the streamed keys: half, chunk, query row, key of the chunk. -/
def score (x5 : Vec Ideal S2x256x128 .bf16) (x6 : Vec Ideal S2x8192x128 .bf16) : Vec Ideal S2x8x256x1024 .f32 := fun i =>
  ∑ d : Fin 128, (x5 (ix3 (i 0) (i 2) d) : EReal) * (x6 (ix3 (i 0) (⟨(i 1).val * 1024 + (i 3).val, by
    have h1 : (i 1).val < 8 := (i 1).isLt
    have h3 : (i 3).val < 1024 := (i 3).isLt
    omega⟩ : Fin 8192) d) : EReal)

/-- A block of scores: the product of a block of queries and a block of keys, summed over the head's channels. -/
theorem score_block (q : Vec Ideal S1x128x128 .bf16) (k : Vec Ideal S1x1024x128 .bf16) (x : S1x1x128x1024.Idx) :
    @Eq EReal (shapeCast S1x1x128x1024 (matmul (F := Ideal) (φ₁ := .bf16) (φ₂ := .bf16) dot_S128x128_S1024x128_S128x1024_1_1_0_0_n_n none (shapeCast S128x128 q shapeCasts_S1x128x128_S128x128)
      (shapeCast S1024x128 k shapeCasts_S1x1024x128_S1024x128) (constant S128x1024 FTy.f32 0#32)) shapeCasts_S128x1024_S1x1x128x1024 x)
      (∑ d : Fin 128, (q (ix3 0 (x 2) d) : EReal) * (k (ix3 0 (x 3) d) : EReal)) := by
  idx_vars x
  pointwise

theorem canon_score (c : Dev nD) (arg7 : Memref sig .tc .vmem S2x256x128 .bf16) (harg7 : arg7.IsWhole) (arg8 : Memref sig .tc .vmem S2x8192x128 .bf16) (harg8 : arg8.IsWhole)
    (x5 : Vec Ideal S2x256x128 .bf16) (x6 : Vec Ideal S2x8192x128 .bf16) (y : S2x8x256x1024.Idx) :
    View.canon (kernelRun0_A.sl.HS0_32 c arg7 harg7 arg8 harg8 x5 x6) y = score x5 x6 y := by
  unfold kernelRun0_A.sl.HS0_32
  sl_unfold_words
  canon_tiles x h
  all_goals
    refine (score_block _ _ x).trans ?_
    simp only [View.readAt_eq_ld, harg7.read_unread, harg8.read_unread]
    refine Finset.sum_congr rfl fun d _ => congrArg₂ (· * ·) (View.ld_unit_apply_of _ _ _ _ _ _ ?_) (View.ld_unit_apply_of _ _ _ _ _ _ ?_)
    · intro a
      match a with
      | ⟨0, _⟩ => show (y 0).val = _ + 0; simp; omega
      | ⟨1, _⟩ => show (y 2).val = _ + (x 2).val; simp; omega
      | ⟨2, _⟩ => show d.val = 0 + d.val; omega
    · intro a
      match a with
      | ⟨0, _⟩ => show (y 0).val = _ + 0; simp; omega
      | ⟨1, _⟩ => show (y 1).val * 1024 + (y 3).val = _ + (x 3).val; simp; omega
      | ⟨2, _⟩ => show d.val = 0 + d.val; omega

end Cert.Proof

end
-- ==== Proof.Rowmax.lean ====
/- The scores against the meta tokens' keys, masked past the meta tokens, and the row maxima that every exponent is taken
   against: of a maximum only that it is a real number is used, since it cancels. -/
module

public import proofs.«01_k».proof.Proof.Scores

@[expose] public section

set_option maxRecDepth 16384

noncomputable section

namespace Cert.Proof

open Cert.KernelIdeal Cert.KernelIdeal.Gen
open Idealize.ShloMosaic Idealize.ShloMosaic.TcCoe

/-- The mask added to the meta tokens' scores: nothing at the meta tokens, −∞ at the padding after them. -/
theorem mask_apply (j : S1x128.Idx) : @Eq EReal (k0_pay2 (F := Ideal) j) (if (j 1).val < 16 then 0 else ⊥) := by
  have hm : (Named.named (F := Ideal) κ "mask" (φ := .f32) 0xF149F2CA#32) = (⊥ : EReal) := rfl
  have h0 : (Scalar.ofBits .f32 0x00000000#32 : Ideal .f32) = (0 : EReal) := Ideal.ofBits_zero_f32
  unfold k0_pay2
  rw [hm, h0]
  have hw : ∀ b : Fin 128, IntOp.cmpi .slt (BitVec.ofNat 32 b.val) 16#32 = if b.val < 16 then 1#1 else 0#1 := by decide +kernel
  idx_vars j
  pointwise
  rw [hw j1]
  split
  next h => exact (if_pos h).symm
  next h => exact (if_neg h).symm

/-- The masked scores of the meta tokens' keys: half, query row, meta token. -/
def metaScore (x5 : Vec Ideal S2x256x128 .bf16) (x8 : Vec Ideal S2x128x128 .bf16) : Vec Ideal S2x256x128 .f32 := fun i =>
  (∑ d : Fin 128, (x5 (ix3 (i 0) (i 1) d) : EReal) * (x8 (ix3 (i 0) (i 2) d) : EReal)) + (if (i 2).val < 16 then 0 else ⊥)

/-- A block of masked meta scores. -/
theorem meta_block (q : Vec Ideal S1x128x128 .bf16) (k : Vec Ideal S1x128x128 .bf16) (x : S1x128x128.Idx) :
    @Eq EReal (shapeCast S1x128x128 (addf (matmul (F := Ideal) (φ₁ := .bf16) (φ₂ := .bf16) dot_S128x128_S128x128_S128x128_1_1_0_0_n_n none (shapeCast S128x128 q shapeCasts_S1x128x128_S128x128)
      (shapeCast S128x128 k shapeCasts_S1x128x128_S128x128) (constant S128x128 FTy.f32 0#32)) (broadcastTo S128x128 (k0_pay2 (F := Ideal)) broadcasts_S1x128_S128x128)) shapeCasts_S128x128_S1x128x128 x)
      ((∑ d : Fin 128, (q (ix3 0 (x 1) d) : EReal) * (k (ix3 0 (x 2) d) : EReal)) + (if (x 2).val < 16 then 0 else ⊥)) := by
  idx_vars x
  pointwise
  rw [mask_apply]
  rfl

theorem canon_meta (c : Dev nD) (arg7 : Memref sig .tc .vmem S2x256x128 .bf16) (harg7 : arg7.IsWhole) (arg10 : Memref sig .tc .vmem S2x128x128 .bf16) (harg10 : arg10.IsWhole)
    (x5 : Vec Ideal S2x256x128 .bf16) (x8 : Vec Ideal S2x128x128 .bf16) (y : S2x256x128.Idx) :
    View.canon (kernelRun0_A.sl.HS1_4 c arg7 harg7 arg10 harg10 x5 x8) y = metaScore x5 x8 y := by
  unfold kernelRun0_A.sl.HS1_4
  sl_unfold_words
  canon_tiles x h
  all_goals
    refine (meta_block _ _ x).trans ?_
    simp only [View.readAt_eq_ld, harg7.read_unread, harg10.read_unread]
    refine congrArg₂ (· + ·) (Finset.sum_congr rfl fun d _ => congrArg₂ (· * ·) (View.ld_unit_apply_of _ _ _ _ _ _ ?_) (View.ld_unit_apply_of _ _ _ _ _ _ ?_)) ?_
    · intro a
      match a with
      | ⟨0, _⟩ => show (y 0).val = _ + 0; simp; omega
      | ⟨1, _⟩ => show (y 1).val = _ + (x 1).val; simp; omega
      | ⟨2, _⟩ => show d.val = 0 + d.val; omega
    · intro a
      match a with
      | ⟨0, _⟩ => show (y 0).val = _ + 0; simp; omega
      | ⟨1, _⟩ => show (y 2).val = _ + (x 2).val; simp; omega
      | ⟨2, _⟩ => show d.val = 0 + d.val; omega
    · rw [show (x 2).val = (y 2).val by omega]

/-! ## Real numbers -/

/-- Every element is a real number. -/
def Reals {s : Shape} (v : s.Idx → EReal) : Prop := ∀ i, ∃ r : ℝ, v i = r

/-- Every element is a real number or −∞. -/
def RealsOrBot {s : Shape} (v : s.Idx → EReal) : Prop := ∀ i, (∃ r : ℝ, v i = r) ∨ v i = ⊥

theorem real_sum {ι : Type} (s : Finset ι) (f : ι → EReal) (h : ∀ i ∈ s, ∃ r : ℝ, f i = r) : ∃ r : ℝ, ∑ i ∈ s, f i = r := by
  classical
  induction s using Finset.induction_on with
  | empty => exact ⟨0, by simp⟩
  | insert a s ha ih =>
    obtain ⟨u, hu⟩ := h a (Finset.mem_insert_self a s)
    obtain ⟨v, hv⟩ := ih fun i hi => h i (Finset.mem_insert_of_mem hi)
    exact ⟨u + v, by rw [Finset.sum_insert ha, hu, hv, EReal.coe_add]⟩

theorem real_mul {a b : EReal} (ha : ∃ r : ℝ, a = r) (hb : ∃ r : ℝ, b = r) : ∃ r : ℝ, a * b = r := by
  obtain ⟨u, rfl⟩ := ha; obtain ⟨v, rfl⟩ := hb
  exact ⟨u * v, (EReal.coe_mul u v).symm⟩

theorem Reals.cast {s t : Shape} {v : s.Idx → EReal} (hv : Reals v) (h : s.ShapeCasts t) : Reals (shapeCast t v h) := fun i => hv _

theorem Reals.slice {s t : Shape} {v : s.Idx → EReal} {off : Fin s.rank → Nat} (hv : Reals v) (h) : Reals (extractStridedSlice t off v h) := fun i => hv _

theorem Reals.ld {s : Shape} {x : Vec Ideal s .bf16} (hx : Reals (fun i => (x i : EReal))) (r : Rect s) :
    Reals (fun j => (View.ld x r j : EReal)) := fun j => hx _

theorem Reals.max_right {s : Shape} {u v : s.Idx → EReal} (hu : RealsOrBot u) (hv : Reals v) : Reals (maximumf (F := Ideal) (φ := .f32) u v) := by
  intro i
  obtain ⟨b, hb⟩ := hv i
  show ∃ r : ℝ, max (u i) (v i) = r
  rcases hu i with ⟨a, ha⟩ | ha
  · rcases max_choice (u i) (v i) with h | h
    · exact ⟨a, h.trans ha⟩
    · exact ⟨b, h.trans hb⟩
  · exact ⟨b, by rw [ha, hb]; simp⟩

theorem Reals.orBot {s : Shape} {v : s.Idx → EReal} (hv : Reals v) : RealsOrBot v := fun i => Or.inl (hv i)

theorem Reals.matmul {sl sr so : Shape} (d : DotDims sl sr so) {l : FVec Ideal sl .bf16} {r : FVec Ideal sr .bf16}
    (hl : Reals (fun i => (l i : EReal))) (hr : Reals (fun i => (r i : EReal))) :
    Reals (matmul (F := Ideal) d none l r (constant so .f32 0#32)) := by
  intro i
  show ∃ u : ℝ, FloatOps.matmul d none l r (constant so .f32 0#32) i = u
  rw [Ideal.matmul_apply]
  have h0 : (constant (F := Ideal) so .f32 0#32 i : EReal) = 0 := Ideal.ofBits_zero_f32
  rw [h0, zero_add]
  exact real_sum _ _ fun k _ => real_mul (hl _) (hr _)

theorem RealsOrBot.mask {v : S128x128.Idx → EReal} (hv : Reals v) :
    RealsOrBot (addf (F := Ideal) (φ := .f32) v (broadcastTo S128x128 (k0_pay2 (F := Ideal)) broadcasts_S1x128_S128x128)) := by
  intro i
  obtain ⟨r, hr⟩ := hv i
  have hm : @Eq EReal (broadcastTo S128x128 (k0_pay2 (F := Ideal)) broadcasts_S1x128_S128x128 i) (if (i 1).val < 16 then 0 else ⊥) := mask_apply _
  show (∃ r : ℝ, (v i + broadcastTo S128x128 (k0_pay2 (F := Ideal)) broadcasts_S1x128_S128x128 i : EReal) = r) ∨ (v i + broadcastTo S128x128 (k0_pay2 (F := Ideal)) broadcasts_S1x128_S128x128 i : EReal) = ⊥
  rw [hm, hr]
  split
  · exact Or.inl ⟨r, add_zero _⟩
  · exact Or.inr (EReal.add_bot _)

/-- The maximum of a row of real numbers is a real number. -/
theorem real_rowmax {v : FVec Ideal S128x128 .f32} (hv : Reals (fun i => (v i : EReal))) (i : S128.Idx) :
    ∃ r : ℝ, (multiReduction (F := Ideal) (φ := .f32) .maximumf [1] S128 v 0xFF800000#32 reduces_S128x128_S128 (.inl rfl) rfl i : EReal) = r := by
  idx_vars i
  pointwise
  have hb : (Ideal.ofBits .f32 0xFF800000#32 : EReal) = ⊥ := by
    show Ideal.ieee 8 23 0xFF800000#32 = ⊥
    unfold Ideal.ieee
    simp
  rw [hb]
  have key : ∀ t : Finset (Fin 128), t.Nonempty → ∃ r : ℝ, Finset.fold max (⊥ : EReal) (fun x => v (ix2 i0 x)) t = r := by
    intro t ht
    induction ht using Finset.Nonempty.cons_induction with
    | singleton a =>
      obtain ⟨r, hr⟩ : ∃ r : ℝ, (v (ix2 i0 a) : EReal) = r := hv (ix2 i0 a)
      exact ⟨r, by rw [Finset.fold_singleton, hr]; simp⟩
    | cons a t ha _ ih =>
      obtain ⟨r, hr⟩ : ∃ r : ℝ, (v (ix2 i0 a) : EReal) = r := hv (ix2 i0 a)
      obtain ⟨q, hq⟩ := ih
      rw [Finset.fold_cons, hq]
      rcases max_choice (v (ix2 i0 a)) (q : EReal) with h | h
      · exact ⟨r, h.trans hr⟩
      · exact ⟨q, h⟩
  exact key _ Finset.univ_nonempty

theorem RealsOrBot.max {s : Shape} {u v : s.Idx → EReal} (hu : RealsOrBot u) (hv : RealsOrBot v) :
    RealsOrBot (maximumf (F := Ideal) (φ := .f32) u v) := by
  intro i
  show (∃ r : ℝ, Max.max (u i) (v i) = r) ∨ Max.max (u i) (v i) = ⊥
  rcases max_choice (u i) (v i) with h | h
  · rw [h]; exact hu i
  · rw [h]; exact hv i

theorem real_v192 (c : Dev nD) (arg7 : Memref sig .tc .vmem S2x256x128 .bf16) (harg7 : arg7.IsWhole) (arg8 : Memref sig .tc .vmem S2x8192x128 .bf16) (harg8 : arg8.IsWhole)
    (arg10 : Memref sig .tc .vmem S2x128x128 .bf16) (harg10 : arg10.IsWhole) (x5 : Vec Ideal S2x256x128 .bf16) (x6 : Vec Ideal S2x8192x128 .bf16) (x8 : Vec Ideal S2x128x128 .bf16)
    (h5 : Reals (fun i => (x5 i : EReal))) (h6 : Reals (fun i => (x6 i : EReal))) (h8 : Reals (fun i => (x8 i : EReal))) (i : S128.Idx) :
    ∃ r : ℝ, (kernelRun0_A.sl.v192 c arg7 harg7 arg8 harg8 arg10 harg10 x5 x6 x8 i : EReal) = r := by
  sl_unfold_words
  simp only [View.readAt_eq_ld, harg7.read_unread, harg8.read_unread, harg10.read_unread]
  apply real_rowmax
  unfold k0_pay4 k0_pay8 k0_pay9 k0_pay10 k0_pay6 k0_pay3
  try simp only []
  repeat' first
    | with_reducible exact h5 | with_reducible exact h6 | with_reducible exact h8
    | with_reducible apply RealsOrBot.mask
    | with_reducible apply RealsOrBot.max
    | with_reducible apply Reals.max_right
    | with_reducible apply Reals.slice
    | with_reducible apply Reals.matmul
    | with_reducible apply Reals.cast
    | with_reducible apply Reals.ld
    | with_reducible apply Reals.orBot

theorem real_v385 (c : Dev nD) (arg7 : Memref sig .tc .vmem S2x256x128 .bf16) (harg7 : arg7.IsWhole) (arg8 : Memref sig .tc .vmem S2x8192x128 .bf16) (harg8 : arg8.IsWhole)
    (arg10 : Memref sig .tc .vmem S2x128x128 .bf16) (harg10 : arg10.IsWhole) (x5 : Vec Ideal S2x256x128 .bf16) (x6 : Vec Ideal S2x8192x128 .bf16) (x8 : Vec Ideal S2x128x128 .bf16)
    (h5 : Reals (fun i => (x5 i : EReal))) (h6 : Reals (fun i => (x6 i : EReal))) (h8 : Reals (fun i => (x8 i : EReal))) (i : S128.Idx) :
    ∃ r : ℝ, (kernelRun0_A.sl.v385 c arg7 harg7 arg8 harg8 arg10 harg10 x5 x6 x8 i : EReal) = r := by
  sl_unfold_words
  simp only [View.readAt_eq_ld, harg7.read_unread, harg8.read_unread, harg10.read_unread]
  apply real_rowmax
  repeat' first
    | with_reducible exact h5 | with_reducible exact h6 | with_reducible exact h8
    | with_reducible apply RealsOrBot.mask
    | with_reducible apply RealsOrBot.max
    | with_reducible apply Reals.max_right
    | with_reducible apply Reals.slice
    | with_reducible apply Reals.matmul
    | with_reducible apply Reals.cast
    | with_reducible apply Reals.ld
    | with_reducible apply Reals.orBot

theorem real_v578 (c : Dev nD) (arg7 : Memref sig .tc .vmem S2x256x128 .bf16) (harg7 : arg7.IsWhole) (arg8 : Memref sig .tc .vmem S2x8192x128 .bf16) (harg8 : arg8.IsWhole)
    (arg10 : Memref sig .tc .vmem S2x128x128 .bf16) (harg10 : arg10.IsWhole) (x5 : Vec Ideal S2x256x128 .bf16) (x6 : Vec Ideal S2x8192x128 .bf16) (x8 : Vec Ideal S2x128x128 .bf16)
    (h5 : Reals (fun i => (x5 i : EReal))) (h6 : Reals (fun i => (x6 i : EReal))) (h8 : Reals (fun i => (x8 i : EReal))) (i : S128.Idx) :
    ∃ r : ℝ, (kernelRun0_A.sl.v578 c arg7 harg7 arg8 harg8 arg10 harg10 x5 x6 x8 i : EReal) = r := by
  sl_unfold_words
  simp only [View.readAt_eq_ld, harg7.read_unread, harg8.read_unread, harg10.read_unread]
  apply real_rowmax
  repeat' first
    | with_reducible exact h5 | with_reducible exact h6 | with_reducible exact h8
    | with_reducible apply RealsOrBot.mask
    | with_reducible apply RealsOrBot.max
    | with_reducible apply Reals.max_right
    | with_reducible apply Reals.slice
    | with_reducible apply Reals.matmul
    | with_reducible apply Reals.cast
    | with_reducible apply Reals.ld
    | with_reducible apply Reals.orBot

theorem real_v771 (c : Dev nD) (arg7 : Memref sig .tc .vmem S2x256x128 .bf16) (harg7 : arg7.IsWhole) (arg8 : Memref sig .tc .vmem S2x8192x128 .bf16) (harg8 : arg8.IsWhole)
    (arg10 : Memref sig .tc .vmem S2x128x128 .bf16) (harg10 : arg10.IsWhole) (x5 : Vec Ideal S2x256x128 .bf16) (x6 : Vec Ideal S2x8192x128 .bf16) (x8 : Vec Ideal S2x128x128 .bf16)
    (h5 : Reals (fun i => (x5 i : EReal))) (h6 : Reals (fun i => (x6 i : EReal))) (h8 : Reals (fun i => (x8 i : EReal))) (i : S128.Idx) :
    ∃ r : ℝ, (kernelRun0_A.sl.v771 c arg7 harg7 arg8 harg8 arg10 harg10 x5 x6 x8 i : EReal) = r := by
  sl_unfold_words
  simp only [View.readAt_eq_ld, harg7.read_unread, harg8.read_unread, harg10.read_unread]
  apply real_rowmax
  repeat' first
    | with_reducible exact h5 | with_reducible exact h6 | with_reducible exact h8
    | with_reducible apply RealsOrBot.mask
    | with_reducible apply RealsOrBot.max
    | with_reducible apply Reals.max_right
    | with_reducible apply Reals.slice
    | with_reducible apply Reals.matmul
    | with_reducible apply Reals.cast
    | with_reducible apply Reals.ld
    | with_reducible apply Reals.orBot

/-- The value every exponent of a row is taken against. -/
def mx (c : Dev nD) (arg7 : Memref sig .tc .vmem S2x256x128 .bf16) (harg7 : arg7.IsWhole) (arg8 : Memref sig .tc .vmem S2x8192x128 .bf16) (harg8 : arg8.IsWhole)
    (arg10 : Memref sig .tc .vmem S2x128x128 .bf16) (harg10 : arg10.IsWhole) (x5 : Vec Ideal S2x256x128 .bf16) (x6 : Vec Ideal S2x8192x128 .bf16) (x8 : Vec Ideal S2x128x128 .bf16) (p : Fin 2) (r : Fin 256) : EReal :=
  if p.val = 0 then
    if h : r.val < 128 then kernelRun0_A.sl.v192 c arg7 harg7 arg8 harg8 arg10 harg10 x5 x6 x8 (ix1 (⟨r.val, h⟩ : Fin 128)) else kernelRun0_A.sl.v385 c arg7 harg7 arg8 harg8 arg10 harg10 x5 x6 x8 (ix1 (⟨r.val - 128, by omega⟩ : Fin 128))
  else
    if h : r.val < 128 then kernelRun0_A.sl.v578 c arg7 harg7 arg8 harg8 arg10 harg10 x5 x6 x8 (ix1 (⟨r.val, h⟩ : Fin 128)) else kernelRun0_A.sl.v771 c arg7 harg7 arg8 harg8 arg10 harg10 x5 x6 x8 (ix1 (⟨r.val - 128, by omega⟩ : Fin 128))

theorem real_mx (c : Dev nD) (arg7 : Memref sig .tc .vmem S2x256x128 .bf16) (harg7 : arg7.IsWhole) (arg8 : Memref sig .tc .vmem S2x8192x128 .bf16) (harg8 : arg8.IsWhole)
    (arg10 : Memref sig .tc .vmem S2x128x128 .bf16) (harg10 : arg10.IsWhole) (x5 : Vec Ideal S2x256x128 .bf16) (x6 : Vec Ideal S2x8192x128 .bf16) (x8 : Vec Ideal S2x128x128 .bf16)
    (h5 : Reals (fun i => (x5 i : EReal))) (h6 : Reals (fun i => (x6 i : EReal))) (h8 : Reals (fun i => (x8 i : EReal))) (p : Fin 2) (r : Fin 256) :
    ∃ u : ℝ, mx c arg7 harg7 arg8 harg8 arg10 harg10 x5 x6 x8 p r = u := by
  unfold mx
  split <;> split
  · exact real_v192 c arg7 harg7 arg8 harg8 arg10 harg10 x5 x6 x8 h5 h6 h8 _
  · exact real_v385 c arg7 harg7 arg8 harg8 arg10 harg10 x5 x6 x8 h5 h6 h8 _
  · exact real_v578 c arg7 harg7 arg8 harg8 arg10 harg10 x5 x6 x8 h5 h6 h8 _
  · exact real_v771 c arg7 harg7 arg8 harg8 arg10 harg10 x5 x6 x8 h5 h6 h8 _

/-- A row's maximum, laid over the 128 lanes. -/
theorem lanes_block (v : FVec Ideal S128 .f32) (x : S1x128x128.Idx) :
    @Eq EReal (shapeCast S1x128x128 (broadcastTo S128x128 (shapeCast S128x1 (shapeCast S128x1 v shapeCasts_S128_S128x1) shapeCasts_S128x1_S128x1) broadcasts_S128x1_S128x128) shapeCasts_S128x128_S1x128x128 x)
      (v (ix1 (x 1))) := by
  idx_vars x
  pointwise

theorem canon_mx (c : Dev nD) (arg7 : Memref sig .tc .vmem S2x256x128 .bf16) (harg7 : arg7.IsWhole) (arg8 : Memref sig .tc .vmem S2x8192x128 .bf16) (harg8 : arg8.IsWhole)
    (arg10 : Memref sig .tc .vmem S2x128x128 .bf16) (harg10 : arg10.IsWhole) (x5 : Vec Ideal S2x256x128 .bf16) (x6 : Vec Ideal S2x8192x128 .bf16) (x8 : Vec Ideal S2x128x128 .bf16) (y : S2x256x128.Idx) :
    View.canon (kernelRun0_A.sl.HS2_4 c arg7 harg7 arg8 harg8 arg10 harg10 x5 x6 x8) y = mx c arg7 harg7 arg8 harg8 arg10 harg10 x5 x6 x8 (y 0) (y 1) := by
  unfold kernelRun0_A.sl.HS2_4
  canon_tiles x h
  all_goals
    refine (lanes_block _ x).trans ?_
    unfold mx
    first
    | rw [if_pos (by omega), dif_pos (by omega)]
    | rw [if_pos (by omega), dif_neg (by omega)]
    | rw [if_neg (by omega), dif_pos (by omega)]
    | rw [if_neg (by omega), dif_neg (by omega)]
    refine congrArg _ (congrArg ix1 (Fin.ext ?_))
    show (x 1).val = _
    simp only
    omega

end Cert.Proof

end
-- ==== Proof.Chunk.lean ====
/- One chunk of 1024 keys, as the kernel folds it into a row's sum of weights and into its weighted sum of values: the
   weights are laid in eight tiles of 128 lanes, side by side. -/
module

public import proofs.«01_k».proof.Proof.Rowmax

@[expose] public section

set_option maxRecDepth 16384

noncomputable section

namespace Cert.Proof

open Cert.KernelIdeal Cert.KernelIdeal.Gen
open Idealize.ShloMosaic Idealize.ShloMosaic.TcCoe

/-- The sum of a row's weights after a chunk, lane by lane. -/
theorem row_add (l m : FVec Ideal S256x128 .f32) (t0 t1 t2 t3 t4 t5 t6 t7 : Vec Ideal S1x1x256x128 .f32)
    (f : Fin 256 → Fin 1024 → EReal) (μ : Fin 256 → EReal) (hm : ∀ (r : Fin 256) (b : Fin 128), (m (ix2 r b) : EReal) = μ r)
    (h0 : ∀ (r : Fin 256) (b : Fin 128), (t0 (ix4 0 0 r b) : EReal) = f r ⟨0 + b.val, by omega⟩)
    (h1 : ∀ (r : Fin 256) (b : Fin 128), (t1 (ix4 0 0 r b) : EReal) = f r ⟨128 + b.val, by omega⟩)
    (h2 : ∀ (r : Fin 256) (b : Fin 128), (t2 (ix4 0 0 r b) : EReal) = f r ⟨256 + b.val, by omega⟩)
    (h3 : ∀ (r : Fin 256) (b : Fin 128), (t3 (ix4 0 0 r b) : EReal) = f r ⟨384 + b.val, by omega⟩)
    (h4 : ∀ (r : Fin 256) (b : Fin 128), (t4 (ix4 0 0 r b) : EReal) = f r ⟨512 + b.val, by omega⟩)
    (h5 : ∀ (r : Fin 256) (b : Fin 128), (t5 (ix4 0 0 r b) : EReal) = f r ⟨640 + b.val, by omega⟩)
    (h6 : ∀ (r : Fin 256) (b : Fin 128), (t6 (ix4 0 0 r b) : EReal) = f r ⟨768 + b.val, by omega⟩)
    (h7 : ∀ (r : Fin 256) (b : Fin 128), (t7 (ix4 0 0 r b) : EReal) = f r ⟨896 + b.val, by omega⟩)
    (i : S256x128.Idx) :
    @Eq EReal ((addf (F := Ideal) (φ := .f32) (addf (F := Ideal) (φ := .f32) (addf (F := Ideal) (φ := .f32) (addf (F := Ideal) (φ := .f32) (addf (F := Ideal) (φ := .f32) (addf (F := Ideal) (φ := .f32) (addf (F := Ideal) (φ := .f32) (addf (F := Ideal) (φ := .f32) l (exp2 (subf (shapeCast S256x128 t0 shapeCasts_S1x1x256x128_S256x128) m))) (exp2 (subf (shapeCast S256x128 t1 shapeCasts_S1x1x256x128_S256x128) m))) (exp2 (subf (shapeCast S256x128 t2 shapeCasts_S1x1x256x128_S256x128) m))) (exp2 (subf (shapeCast S256x128 t3 shapeCasts_S1x1x256x128_S256x128) m))) (exp2 (subf (shapeCast S256x128 t4 shapeCasts_S1x1x256x128_S256x128) m))) (exp2 (subf (shapeCast S256x128 t5 shapeCasts_S1x1x256x128_S256x128) m))) (exp2 (subf (shapeCast S256x128 t6 shapeCasts_S1x1x256x128_S256x128) m))) (exp2 (subf (shapeCast S256x128 t7 shapeCasts_S1x1x256x128_S256x128) m))) i)
      ((l i : EReal) + ∑ k : Fin 8, Ideal.exp2 (f (i 0) ⟨128 * k.val + (i 1).val, by have := (i 1).isLt; have : S256x128.size 1 = 128 := rfl; omega⟩ - μ (i 0))) := by
  idx_vars i
  pointwise
  rw [hm, h0, h1, h2, h3, h4, h5, h6, h7]
  simp only [Fin.sum_univ_eight, ← add_assoc]
  rfl

/-- The weights of a chunk, side by side. -/
theorem weights_block (m : FVec Ideal S256x128 .f32) (t0 t1 t2 t3 t4 t5 t6 t7 : Vec Ideal S1x1x256x128 .f32)
    (f : Fin 256 → Fin 1024 → EReal) (μ : Fin 256 → EReal) (hm : ∀ (r : Fin 256) (b : Fin 128), (m (ix2 r b) : EReal) = μ r)
    (h0 : ∀ (r : Fin 256) (b : Fin 128), (t0 (ix4 0 0 r b) : EReal) = f r ⟨0 + b.val, by omega⟩)
    (h1 : ∀ (r : Fin 256) (b : Fin 128), (t1 (ix4 0 0 r b) : EReal) = f r ⟨128 + b.val, by omega⟩)
    (h2 : ∀ (r : Fin 256) (b : Fin 128), (t2 (ix4 0 0 r b) : EReal) = f r ⟨256 + b.val, by omega⟩)
    (h3 : ∀ (r : Fin 256) (b : Fin 128), (t3 (ix4 0 0 r b) : EReal) = f r ⟨384 + b.val, by omega⟩)
    (h4 : ∀ (r : Fin 256) (b : Fin 128), (t4 (ix4 0 0 r b) : EReal) = f r ⟨512 + b.val, by omega⟩)
    (h5 : ∀ (r : Fin 256) (b : Fin 128), (t5 (ix4 0 0 r b) : EReal) = f r ⟨640 + b.val, by omega⟩)
    (h6 : ∀ (r : Fin 256) (b : Fin 128), (t6 (ix4 0 0 r b) : EReal) = f r ⟨768 + b.val, by omega⟩)
    (h7 : ∀ (r : Fin 256) (b : Fin 128), (t7 (ix4 0 0 r b) : EReal) = f r ⟨896 + b.val, by omega⟩)
    (i : S256x1024.Idx) :
    @Eq EReal (concatenate (α := Ideal .bf16) S256x1024 1 [⟨S256x128, (truncf (F := Ideal) .bf16 (exp2 (subf (φ := .f32) (shapeCast S256x128 t0 shapeCasts_S1x1x256x128_S256x128) m)) bitsLt_bf16_f32 : FVec Ideal S256x128 .bf16)⟩, ⟨S256x128, (truncf (F := Ideal) .bf16 (exp2 (subf (φ := .f32) (shapeCast S256x128 t1 shapeCasts_S1x1x256x128_S256x128) m)) bitsLt_bf16_f32 : FVec Ideal S256x128 .bf16)⟩, ⟨S256x128, (truncf (F := Ideal) .bf16 (exp2 (subf (φ := .f32) (shapeCast S256x128 t2 shapeCasts_S1x1x256x128_S256x128) m)) bitsLt_bf16_f32 : FVec Ideal S256x128 .bf16)⟩, ⟨S256x128, (truncf (F := Ideal) .bf16 (exp2 (subf (φ := .f32) (shapeCast S256x128 t3 shapeCasts_S1x1x256x128_S256x128) m)) bitsLt_bf16_f32 : FVec Ideal S256x128 .bf16)⟩, ⟨S256x128, (truncf (F := Ideal) .bf16 (exp2 (subf (φ := .f32) (shapeCast S256x128 t4 shapeCasts_S1x1x256x128_S256x128) m)) bitsLt_bf16_f32 : FVec Ideal S256x128 .bf16)⟩, ⟨S256x128, (truncf (F := Ideal) .bf16 (exp2 (subf (φ := .f32) (shapeCast S256x128 t5 shapeCasts_S1x1x256x128_S256x128) m)) bitsLt_bf16_f32 : FVec Ideal S256x128 .bf16)⟩, ⟨S256x128, (truncf (F := Ideal) .bf16 (exp2 (subf (φ := .f32) (shapeCast S256x128 t6 shapeCasts_S1x1x256x128_S256x128) m)) bitsLt_bf16_f32 : FVec Ideal S256x128 .bf16)⟩, ⟨S256x128, (truncf (F := Ideal) .bf16 (exp2 (subf (φ := .f32) (shapeCast S256x128 t7 shapeCasts_S1x1x256x128_S256x128) m)) bitsLt_bf16_f32 : FVec Ideal S256x128 .bf16)⟩] concatenates_S256x128_S256x128_S256x128_S256x128_S256x128_S256x128_S256x128_S256x128_S256x1024_d1 i)
      (Ideal.exp2 (f (i 0) (i 1) - μ (i 0))) := by
  idx_vars i
  pointwise
  simp only [hm, h0, h1, h2, h3, h4, h5, h6, h7]
  have key : ∀ n : Fin 1024, n = i1 → Ideal.exp2 (f i0 n - μ i0) = Ideal.exp2 (f i0 i1 - μ i0) := fun n hn => by rw [hn]
  split
  · exact key _ (Fin.ext (by simp))
  split
  · exact key _ (Fin.ext (by simp only; omega))
  split
  · exact key _ (Fin.ext (by simp only; omega))
  split
  · exact key _ (Fin.ext (by simp only; omega))
  split
  · exact key _ (Fin.ext (by simp only; omega))
  split
  · exact key _ (Fin.ext (by simp only; omega))
  split
  · exact key _ (Fin.ext (by simp only; omega))
  · exact key _ (Fin.ext (by simp only; omega))

/-- Which half a stacked row is in, and which of the 256 rows it is. -/
def halfOf (r : Fin 512) : Fin 2 := ⟨r.val / 256, by omega⟩
def rowOf (r : Fin 512) : Fin 256 := ⟨r.val % 256, by omega⟩

/-- The weighted sum of values after a chunk: both halves' rows stacked, both value chunks side by side. -/
theorem acc_add (a : FVec Ideal S512x256 .f32) (P0 P1 : FVec Ideal S256x1024 .bf16) (V0 V1 : Vec Ideal S1x1024x128 .bf16)
    (w : Fin 2 → Fin 256 → Fin 1024 → EReal) (v : Fin 1024 → Fin 256 → EReal)
    (hP0 : ∀ (r : Fin 256) (k : Fin 1024), (P0 (ix2 r k) : EReal) = w 0 r k) (hP1 : ∀ (r : Fin 256) (k : Fin 1024), (P1 (ix2 r k) : EReal) = w 1 r k)
    (hV0 : ∀ (k : Fin 1024) (e : Fin 128), (V0 (ix3 0 k e) : EReal) = v k ⟨e.val, by omega⟩) (hV1 : ∀ (k : Fin 1024) (e : Fin 128), (V1 (ix3 0 k e) : EReal) = v k ⟨128 + e.val, by omega⟩)
    (i : S512x256.Idx) :
    @Eq EReal (shapeCast S512x256 (addf (F := Ideal) (φ := .f32) a (matmul (F := Ideal) (φ₁ := .bf16) (φ₂ := .bf16) dot_S512x1024_S1024x256_S512x256_1_0_0_1_n_n none
        (concatenate (α := Ideal .bf16) S512x1024 0 [⟨S256x1024, P0⟩, ⟨S256x1024, P1⟩] concatenates_S256x1024_S256x1024_S512x1024_d0)
        (concatenate (α := Ideal .bf16) S1024x256 1 [⟨S1024x128, shapeCast S1024x128 V0 shapeCasts_S1x1024x128_S1024x128⟩, ⟨S1024x128, shapeCast S1024x128 V1 shapeCasts_S1x1024x128_S1024x128⟩]
          concatenates_S1024x128_S1024x128_S1024x256_d1) (constant S512x256 .f32 0#32))) shapeCasts_S512x256_S512x256 i)
      ((a i : EReal) + ∑ k : Fin 1024, w (halfOf (i 0)) (rowOf (i 0)) k * v k (i 1)) := by
  idx_vars i
  pointwise
  refine congrArg _ ?_
  refine Finset.sum_congr rfl fun k _ => ?_
  simp only [hP0, hP1, hV0, hV1]
  refine congrArg₂ (· * ·) ?_ ?_
  · by_cases h : i0.val < 256
    · rw [dif_pos h]
      exact congrArg₂ (fun a b => w a b k) (Fin.ext (by show 0 = i0.val / 256; omega)) (Fin.ext (by show i0.val = i0.val % 256; omega))
    · rw [dif_neg h]
      exact congrArg₂ (fun a b => w a b k) (Fin.ext (by show 1 = i0.val / 256; omega)) (Fin.ext (by show i0.val - 256 = i0.val % 256; omega))
  · by_cases h : i1.val < 128
    · rw [dif_pos h]
    · rw [dif_neg h]
      exact congrArg (v k) (Fin.ext (by show 128 + (i1.val - 128) = i1.val; omega))

/-- The weighted sum of values over the meta tokens, which the chunks are added to. -/
theorem acc_meta (P0 P1 : FVec Ideal S256x128 .f32) (V0 V1 : Vec Ideal S1x128x128 .bf16)
    (w : Fin 2 → Fin 256 → Fin 128 → EReal) (v : Fin 128 → Fin 256 → EReal)
    (hP0 : ∀ (r : Fin 256) (k : Fin 128), (P0 (ix2 r k) : EReal) = w 0 r k) (hP1 : ∀ (r : Fin 256) (k : Fin 128), (P1 (ix2 r k) : EReal) = w 1 r k)
    (hV0 : ∀ (k : Fin 128) (e : Fin 128), (V0 (ix3 0 k e) : EReal) = v k ⟨e.val, by omega⟩) (hV1 : ∀ (k : Fin 128) (e : Fin 128), (V1 (ix3 0 k e) : EReal) = v k ⟨128 + e.val, by omega⟩)
    (i : S512x256.Idx) :
    @Eq EReal (shapeCast S512x256 (matmul (F := Ideal) (φ₁ := .bf16) (φ₂ := .bf16) dot_S512x128_S128x256_S512x256_1_0_0_1_n_n none
        (truncf (F := Ideal) .bf16 (concatenate (α := Ideal .f32) S512x128 0 [⟨S256x128, P0⟩, ⟨S256x128, P1⟩] concatenates_S256x128_S256x128_S512x128_d0) bitsLt_bf16_f32)
        (concatenate (α := Ideal .bf16) S128x256 1 [⟨S128x128, shapeCast S128x128 V0 shapeCasts_S1x128x128_S128x128⟩, ⟨S128x128, shapeCast S128x128 V1 shapeCasts_S1x128x128_S128x128⟩]
          concatenates_S128x128_S128x128_S128x256_d1) (constant S512x256 .f32 0#32)) shapeCasts_S512x256_S512x256 i)
      (∑ k : Fin 128, w (halfOf (i 0)) (rowOf (i 0)) k * v k (i 1)) := by
  idx_vars i
  pointwise
  refine Finset.sum_congr rfl fun k _ => ?_
  simp only [hP0, hP1, hV0, hV1]
  refine congrArg₂ (· * ·) ?_ ?_
  · by_cases h : i0.val < 256
    · rw [dif_pos h]
      exact congrArg₂ (fun a b => w a b k) (Fin.ext (by show 0 = i0.val / 256; omega)) (Fin.ext (by show i0.val = i0.val % 256; omega))
    · rw [dif_neg h]
      exact congrArg₂ (fun a b => w a b k) (Fin.ext (by show 1 = i0.val / 256; omega)) (Fin.ext (by show i0.val - 256 = i0.val % 256; omega))
  · by_cases h : i1.val < 128
    · rw [dif_pos h]
    · rw [dif_neg h]
      exact congrArg (v k) (Fin.ext (by show 128 + (i1.val - 128) = i1.val; omega))

/-- What a load of a tile of the stored scores finds. -/
theorem load_score (c : Dev nD) (arg7 : Memref sig .tc .vmem S2x256x128 .bf16) (harg7 : arg7.IsWhole) (arg8 : Memref sig .tc .vmem S2x8192x128 .bf16) (harg8 : arg8.IsWhole)
    (x5 : Vec Ideal S2x256x128 .bf16) (x6 : Vec Ideal S2x8192x128 .bf16) (V : View sig .tc .vmem S2x8x256x1024 .f32) (p q o : Nat) (hp : p < 2) (hq : q < 8) (ho : o + 128 ≤ 1024)
    (inb : ∀ a, (![p, q, 0, o] : Fin 4 → Nat) a + S1x1x256x128.size a ≤ S2x8x256x1024.size a) (r : Fin 256) (b : Fin 128) :
    @Eq EReal (V.readCov (kernelRun0_A.sl.HS0_32 c arg7 harg7 arg8 harg8 x5 x6) (Rect.unit (s := S2x8x256x1024) ![p, q, 0, o] S1x1x256x128.size inb).toLoadRect (ix4 0 0 r b))
      (score x5 x6 (ix4 ⟨p, hp⟩ ⟨q, hq⟩ r ⟨o + b.val, by omega⟩)) := by
  rw [View.readCov_eq_canon']
  refine (canon_score c arg7 harg7 arg8 harg8 x5 x6 _).trans ?_
  refine congrArg (score x5 x6) (funext fun a => Fin.ext ?_)
  match a with
  | ⟨0, _⟩ => rfl
  | ⟨1, _⟩ => rfl
  | ⟨2, _⟩ => show 0 + 1 * r.val = r.val; omega
  | ⟨3, _⟩ => show o + 1 * b.val = o + b.val; omega

/-- What a load of one half's masked meta scores finds. -/
theorem load_meta (c : Dev nD) (arg7 : Memref sig .tc .vmem S2x256x128 .bf16) (harg7 : arg7.IsWhole) (arg10 : Memref sig .tc .vmem S2x128x128 .bf16) (harg10 : arg10.IsWhole)
    (x5 : Vec Ideal S2x256x128 .bf16) (x8 : Vec Ideal S2x128x128 .bf16) (V : View sig .tc .vmem S2x256x128 .f32) (p : Nat) (hp : p < 2)
    (inb : ∀ a, (![p, 0, 0] : Fin 3 → Nat) a + S1x256x128.size a ≤ S2x256x128.size a) (r : Fin 256) (b : Fin 128) :
    @Eq EReal (V.readCov (kernelRun0_A.sl.HS1_4 c arg7 harg7 arg10 harg10 x5 x8) (Rect.unit (s := S2x256x128) ![p, 0, 0] S1x256x128.size inb).toLoadRect (ix3 0 r b))
      (metaScore x5 x8 (ix3 ⟨p, hp⟩ r b)) := by
  rw [View.readCov_eq_canon']
  refine (canon_meta c arg7 harg7 arg10 harg10 x5 x8 _).trans ?_
  refine congrArg (metaScore x5 x8) (funext fun a => Fin.ext ?_)
  match a with
  | ⟨0, _⟩ => rfl
  | ⟨1, _⟩ => show 0 + 1 * r.val = r.val; omega
  | ⟨2, _⟩ => show 0 + 1 * b.val = b.val; omega

/-- What a load of one half's row maxima finds. -/
theorem load_mx (c : Dev nD) (arg7 : Memref sig .tc .vmem S2x256x128 .bf16) (harg7 : arg7.IsWhole) (arg8 : Memref sig .tc .vmem S2x8192x128 .bf16) (harg8 : arg8.IsWhole)
    (arg10 : Memref sig .tc .vmem S2x128x128 .bf16) (harg10 : arg10.IsWhole) (x5 : Vec Ideal S2x256x128 .bf16) (x6 : Vec Ideal S2x8192x128 .bf16) (x8 : Vec Ideal S2x128x128 .bf16)
    (V : View sig .tc .vmem S2x256x128 .f32) (p : Nat) (hp : p < 2)
    (inb : ∀ a, (![p, 0, 0] : Fin 3 → Nat) a + S1x256x128.size a ≤ S2x256x128.size a) (r : Fin 256) (b : Fin 128) :
    @Eq EReal (V.readCov (kernelRun0_A.sl.HS2_4 c arg7 harg7 arg8 harg8 arg10 harg10 x5 x6 x8) (Rect.unit (s := S2x256x128) ![p, 0, 0] S1x256x128.size inb).toLoadRect (ix3 0 r b))
      (mx c arg7 harg7 arg8 harg8 arg10 harg10 x5 x6 x8 ⟨p, hp⟩ r) := by
  rw [View.readCov_eq_canon']
  refine (canon_mx c arg7 harg7 arg8 harg8 arg10 harg10 x5 x6 x8 _).trans ?_
  refine congrArg₂ (mx c arg7 harg7 arg8 harg8 arg10 harg10 x5 x6 x8) (Fin.ext rfl) (Fin.ext ?_)
  show 0 + 1 * r.val = r.val
  omega

/-- The weight of a key at a row, before it is divided by the row's sum: half, chunk, row, key in the chunk. -/
def wt (c : Dev nD) (arg7 : Memref sig .tc .vmem S2x256x128 .bf16) (harg7 : arg7.IsWhole) (arg8 : Memref sig .tc .vmem S2x8192x128 .bf16) (harg8 : arg8.IsWhole)
    (arg10 : Memref sig .tc .vmem S2x128x128 .bf16) (harg10 : arg10.IsWhole) (x5 : Vec Ideal S2x256x128 .bf16) (x6 : Vec Ideal S2x8192x128 .bf16) (x8 : Vec Ideal S2x128x128 .bf16)
    (p : Fin 2) (q : Fin 8) (r : Fin 256) (k : Fin 1024) : EReal :=
  Ideal.exp2 (score x5 x6 (ix4 p q r k) - mx c arg7 harg7 arg8 harg8 arg10 harg10 x5 x6 x8 p r)

/-- The weight of a meta token, and of the padding after the meta tokens. -/
def wm (c : Dev nD) (arg7 : Memref sig .tc .vmem S2x256x128 .bf16) (harg7 : arg7.IsWhole) (arg8 : Memref sig .tc .vmem S2x8192x128 .bf16) (harg8 : arg8.IsWhole)
    (arg10 : Memref sig .tc .vmem S2x128x128 .bf16) (harg10 : arg10.IsWhole) (x5 : Vec Ideal S2x256x128 .bf16) (x6 : Vec Ideal S2x8192x128 .bf16) (x8 : Vec Ideal S2x128x128 .bf16)
    (p : Fin 2) (r : Fin 256) (j : Fin 128) : EReal :=
  Ideal.exp2 (metaScore x5 x8 (ix3 p r j) - mx c arg7 harg7 arg8 harg8 arg10 harg10 x5 x6 x8 p r)

end Cert.Proof

end
-- ==== Proof.Sums.lean ====
/- The kernel's sums of weights: the weights of every chunk, and the row's sum of them, lane by lane. -/
module

public import proofs.«01_k».proof.Proof.Chunk

@[expose] public section

set_option maxRecDepth 16384

noncomputable section

namespace Cert.Proof

open Cert.KernelIdeal Cert.KernelIdeal.Gen
open Idealize.ShloMosaic Idealize.ShloMosaic.TcCoe

variable (c : Dev nD) (arg7 : Memref sig .tc .vmem S2x256x128 .bf16) (harg7 : arg7.IsWhole) (arg8 : Memref sig .tc .vmem S2x8192x128 .bf16) (harg8 : arg8.IsWhole)
  (arg9 : Memref sig .tc .vmem S2x8192x128 .bf16) (harg9 : arg9.IsWhole) (arg10 : Memref sig .tc .vmem S2x128x128 .bf16) (harg10 : arg10.IsWhole)
  (arg11 : Memref sig .tc .vmem S2x128x128 .bf16) (harg11 : arg11.IsWhole)
  (arg13 : Memref sig .tc .vmem S2x8x256x1024 .f32) (arg14 : Memref sig .tc .vmem S2x256x128 .f32) (arg15 : Memref sig .tc .vmem S2x256x128 .f32)
  (arg16 : Memref sig .tc .vmem S2x256x128 .f32) (arg17 : Memref sig .tc .vmem S512x256 .f32)
  (x5 : Vec Ideal S2x256x128 .bf16) (x6 : Vec Ideal S2x8192x128 .bf16) (x7 : Vec Ideal S2x8192x128 .bf16) (x8 : Vec Ideal S2x128x128 .bf16) (x9 : Vec Ideal S2x128x128 .bf16)

/-- The row maxima of half 0, as loaded. -/
theorem mrow_0 (r : Fin 256) (b : Fin 128) : @Eq EReal (kernelRun0_A.sl.v781 c arg7 harg7 arg8 harg8 arg10 harg10 arg15 x5 x6 x8 (ix2 r b)) (mx c arg7 harg7 arg8 harg8 arg10 harg10 x5 x6 x8 0 r) := by
  unfold kernelRun0_A.sl.v781 kernelRun0_A.sl.v780
  refine Eq.trans ?_ (load_mx c arg7 harg7 arg8 harg8 arg10 harg10 x5 x6 x8 arg15.view 0 (by decide) inb_S2x256x128_S1x256x128_0_0_0 r b)
  pointwise

/-- The meta tokens' weights of half 0. -/
theorem wm_0 (r : Fin 256) (b : Fin 128) : @Eq EReal (kernelRun0_A.sl.v783 c arg7 harg7 arg8 harg8 arg10 harg10 arg14 arg15 x5 x6 x8 (ix2 r b)) (wm c arg7 harg7 arg8 harg8 arg10 harg10 x5 x6 x8 0 r b) := by
  refine congrArg Ideal.exp2 (congrArg₂ (fun a b : EReal => a - b) ?_ (mrow_0 c arg7 harg7 arg8 harg8 arg10 harg10 arg15 x5 x6 x8 r b))
  unfold kernelRun0_A.sl.v779 kernelRun0_A.sl.v778
  refine Eq.trans ?_ (load_meta c arg7 harg7 arg10 harg10 x5 x8 arg14.view 0 (by decide) inb_S2x256x128_S1x256x128_0_0_0 r b)
  pointwise

/-- The row maxima of half 1, as loaded. -/
theorem mrow_1 (r : Fin 256) (b : Fin 128) : @Eq EReal (kernelRun0_A.sl.v787 c arg7 harg7 arg8 harg8 arg10 harg10 arg15 x5 x6 x8 (ix2 r b)) (mx c arg7 harg7 arg8 harg8 arg10 harg10 x5 x6 x8 1 r) := by
  unfold kernelRun0_A.sl.v787 kernelRun0_A.sl.v786
  refine Eq.trans ?_ (load_mx c arg7 harg7 arg8 harg8 arg10 harg10 x5 x6 x8 arg15.view 1 (by decide) inb_S2x256x128_S1x256x128_1_0_0 r b)
  pointwise

/-- The meta tokens' weights of half 1. -/
theorem wm_1 (r : Fin 256) (b : Fin 128) : @Eq EReal (kernelRun0_A.sl.v789 c arg7 harg7 arg8 harg8 arg10 harg10 arg14 arg15 x5 x6 x8 (ix2 r b)) (wm c arg7 harg7 arg8 harg8 arg10 harg10 x5 x6 x8 1 r b) := by
  refine congrArg Ideal.exp2 (congrArg₂ (fun a b : EReal => a - b) ?_ (mrow_1 c arg7 harg7 arg8 harg8 arg10 harg10 arg15 x5 x6 x8 r b))
  unfold kernelRun0_A.sl.v785 kernelRun0_A.sl.v784
  refine Eq.trans ?_ (load_meta c arg7 harg7 arg10 harg10 x5 x8 arg14.view 1 (by decide) inb_S2x256x128_S1x256x128_1_0_0 r b)
  pointwise

/-- Casting a row block to a stored block and back changes nothing. -/
theorem cast_back (l : FVec Ideal S256x128 .f32) (i : S256x128.Idx) :
    @Eq EReal (shapeCast S256x128 (shapeCast S1x256x128 l shapeCasts_S256x128_S1x256x128) shapeCasts_S1x256x128_S256x128 i) (l i) := by
  idx_vars i
  pointwise

theorem weights_0_0 (r : Fin 256) (k : Fin 1024) : @Eq EReal (kernelRun0_A.sl.v867 c arg7 harg7 arg8 harg8 arg10 harg10 arg13 arg15 x5 x6 x8 (ix2 r k)) (wt c arg7 harg7 arg8 harg8 arg10 harg10 x5 x6 x8 0 0 r k) := by
  unfold kernelRun0_A.sl.v867 kernelRun0_A.sl.v821 kernelRun0_A.sl.v827 kernelRun0_A.sl.v833 kernelRun0_A.sl.v839 kernelRun0_A.sl.v845 kernelRun0_A.sl.v851 kernelRun0_A.sl.v857 kernelRun0_A.sl.v863 kernelRun0_A.sl.v819 kernelRun0_A.sl.v818 kernelRun0_A.sl.v817 kernelRun0_A.sl.v816 kernelRun0_A.sl.v825 kernelRun0_A.sl.v824 kernelRun0_A.sl.v823 kernelRun0_A.sl.v822 kernelRun0_A.sl.v831 kernelRun0_A.sl.v830 kernelRun0_A.sl.v829 kernelRun0_A.sl.v828 kernelRun0_A.sl.v837 kernelRun0_A.sl.v836 kernelRun0_A.sl.v835 kernelRun0_A.sl.v834 kernelRun0_A.sl.v843 kernelRun0_A.sl.v842 kernelRun0_A.sl.v841 kernelRun0_A.sl.v840 kernelRun0_A.sl.v849 kernelRun0_A.sl.v848 kernelRun0_A.sl.v847 kernelRun0_A.sl.v846 kernelRun0_A.sl.v855 kernelRun0_A.sl.v854 kernelRun0_A.sl.v853 kernelRun0_A.sl.v852 kernelRun0_A.sl.v861 kernelRun0_A.sl.v860 kernelRun0_A.sl.v859 kernelRun0_A.sl.v858
  exact weights_block _ _ _ _ _ _ _ _ _ (fun r k => score x5 x6 (ix4 0 0 r k)) (mx c arg7 harg7 arg8 harg8 arg10 harg10 x5 x6 x8 0) (mrow_0 c arg7 harg7 arg8 harg8 arg10 harg10 arg15 x5 x6 x8) (load_score c arg7 harg7 arg8 harg8 x5 x6 arg13.view 0 0 0 (by decide) (by decide) (by decide) _) (load_score c arg7 harg7 arg8 harg8 x5 x6 arg13.view 0 0 128 (by decide) (by decide) (by decide) _) (load_score c arg7 harg7 arg8 harg8 x5 x6 arg13.view 0 0 256 (by decide) (by decide) (by decide) _) (load_score c arg7 harg7 arg8 harg8 x5 x6 arg13.view 0 0 384 (by decide) (by decide) (by decide) _) (load_score c arg7 harg7 arg8 harg8 x5 x6 arg13.view 0 0 512 (by decide) (by decide) (by decide) _) (load_score c arg7 harg7 arg8 harg8 x5 x6 arg13.view 0 0 640 (by decide) (by decide) (by decide) _) (load_score c arg7 harg7 arg8 harg8 x5 x6 arg13.view 0 0 768 (by decide) (by decide) (by decide) _) (load_score c arg7 harg7 arg8 harg8 x5 x6 arg13.view 0 0 896 (by decide) (by decide) (by decide) _) (ix2 r k)

theorem row_0_0 (r : Fin 256) (b : Fin 128) :
    @Eq EReal (kernelRun0_A.sl.v862 c arg7 harg7 arg8 harg8 arg10 harg10 arg13 arg14 arg15 arg16 x5 x6 x8 (ix2 r b)) ((kernelRun0_A.sl.v815 c arg7 harg7 arg8 harg8 arg10 harg10 arg14 arg15 arg16 x5 x6 x8 (ix2 r b) : EReal) + ∑ k : Fin 8, wt c arg7 harg7 arg8 harg8 arg10 harg10 x5 x6 x8 0 0 r ⟨128 * k.val + b.val, by omega⟩) := by
  unfold kernelRun0_A.sl.v862 kernelRun0_A.sl.v856 kernelRun0_A.sl.v850 kernelRun0_A.sl.v844 kernelRun0_A.sl.v838 kernelRun0_A.sl.v832 kernelRun0_A.sl.v826 kernelRun0_A.sl.v820 kernelRun0_A.sl.v819 kernelRun0_A.sl.v818 kernelRun0_A.sl.v817 kernelRun0_A.sl.v816 kernelRun0_A.sl.v825 kernelRun0_A.sl.v824 kernelRun0_A.sl.v823 kernelRun0_A.sl.v822 kernelRun0_A.sl.v831 kernelRun0_A.sl.v830 kernelRun0_A.sl.v829 kernelRun0_A.sl.v828 kernelRun0_A.sl.v837 kernelRun0_A.sl.v836 kernelRun0_A.sl.v835 kernelRun0_A.sl.v834 kernelRun0_A.sl.v843 kernelRun0_A.sl.v842 kernelRun0_A.sl.v841 kernelRun0_A.sl.v840 kernelRun0_A.sl.v849 kernelRun0_A.sl.v848 kernelRun0_A.sl.v847 kernelRun0_A.sl.v846 kernelRun0_A.sl.v855 kernelRun0_A.sl.v854 kernelRun0_A.sl.v853 kernelRun0_A.sl.v852 kernelRun0_A.sl.v861 kernelRun0_A.sl.v860 kernelRun0_A.sl.v859 kernelRun0_A.sl.v858
  exact row_add _ _ _ _ _ _ _ _ _ _ (fun r k => score x5 x6 (ix4 0 0 r k)) (mx c arg7 harg7 arg8 harg8 arg10 harg10 x5 x6 x8 0) (mrow_0 c arg7 harg7 arg8 harg8 arg10 harg10 arg15 x5 x6 x8) (load_score c arg7 harg7 arg8 harg8 x5 x6 arg13.view 0 0 0 (by decide) (by decide) (by decide) _) (load_score c arg7 harg7 arg8 harg8 x5 x6 arg13.view 0 0 128 (by decide) (by decide) (by decide) _) (load_score c arg7 harg7 arg8 harg8 x5 x6 arg13.view 0 0 256 (by decide) (by decide) (by decide) _) (load_score c arg7 harg7 arg8 harg8 x5 x6 arg13.view 0 0 384 (by decide) (by decide) (by decide) _) (load_score c arg7 harg7 arg8 harg8 x5 x6 arg13.view 0 0 512 (by decide) (by decide) (by decide) _) (load_score c arg7 harg7 arg8 harg8 x5 x6 arg13.view 0 0 640 (by decide) (by decide) (by decide) _) (load_score c arg7 harg7 arg8 harg8 x5 x6 arg13.view 0 0 768 (by decide) (by decide) (by decide) _) (load_score c arg7 harg7 arg8 harg8 x5 x6 arg13.view 0 0 896 (by decide) (by decide) (by decide) _) (ix2 r b)

theorem prev_0_0 (i : S256x128.Idx) : @Eq EReal (kernelRun0_A.sl.v815 c arg7 harg7 arg8 harg8 arg10 harg10 arg14 arg15 arg16 x5 x6 x8 i) (kernelRun0_A.sl.v783 c arg7 harg7 arg8 harg8 arg10 harg10 arg14 arg15 x5 x6 x8 i) := by
  unfold kernelRun0_A.sl.v815 kernelRun0_A.sl.v814 kernelRun0_A.sl.HS3_2
  rw [View.readCov_skip _ _ _ _ _ rfl, View.readCov_cons_toLoadRect]
  unfold kernelRun0_A.sl.v797
  exact cast_back _ i

theorem weights_0_1 (r : Fin 256) (k : Fin 1024) : @Eq EReal (kernelRun0_A.sl.v923 c arg7 harg7 arg8 harg8 arg10 harg10 arg13 arg15 x5 x6 x8 (ix2 r k)) (wt c arg7 harg7 arg8 harg8 arg10 harg10 x5 x6 x8 1 0 r k) := by
  unfold kernelRun0_A.sl.v923 kernelRun0_A.sl.v877 kernelRun0_A.sl.v883 kernelRun0_A.sl.v889 kernelRun0_A.sl.v895 kernelRun0_A.sl.v901 kernelRun0_A.sl.v907 kernelRun0_A.sl.v913 kernelRun0_A.sl.v919 kernelRun0_A.sl.v875 kernelRun0_A.sl.v874 kernelRun0_A.sl.v873 kernelRun0_A.sl.v872 kernelRun0_A.sl.v881 kernelRun0_A.sl.v880 kernelRun0_A.sl.v879 kernelRun0_A.sl.v878 kernelRun0_A.sl.v887 kernelRun0_A.sl.v886 kernelRun0_A.sl.v885 kernelRun0_A.sl.v884 kernelRun0_A.sl.v893 kernelRun0_A.sl.v892 kernelRun0_A.sl.v891 kernelRun0_A.sl.v890 kernelRun0_A.sl.v899 kernelRun0_A.sl.v898 kernelRun0_A.sl.v897 kernelRun0_A.sl.v896 kernelRun0_A.sl.v905 kernelRun0_A.sl.v904 kernelRun0_A.sl.v903 kernelRun0_A.sl.v902 kernelRun0_A.sl.v911 kernelRun0_A.sl.v910 kernelRun0_A.sl.v909 kernelRun0_A.sl.v908 kernelRun0_A.sl.v917 kernelRun0_A.sl.v916 kernelRun0_A.sl.v915 kernelRun0_A.sl.v914
  exact weights_block _ _ _ _ _ _ _ _ _ (fun r k => score x5 x6 (ix4 1 0 r k)) (mx c arg7 harg7 arg8 harg8 arg10 harg10 x5 x6 x8 1) (mrow_1 c arg7 harg7 arg8 harg8 arg10 harg10 arg15 x5 x6 x8) (load_score c arg7 harg7 arg8 harg8 x5 x6 arg13.view 1 0 0 (by decide) (by decide) (by decide) _) (load_score c arg7 harg7 arg8 harg8 x5 x6 arg13.view 1 0 128 (by decide) (by decide) (by decide) _) (load_score c arg7 harg7 arg8 harg8 x5 x6 arg13.view 1 0 256 (by decide) (by decide) (by decide) _) (load_score c arg7 harg7 arg8 harg8 x5 x6 arg13.view 1 0 384 (by decide) (by decide) (by decide) _) (load_score c arg7 harg7 arg8 harg8 x5 x6 arg13.view 1 0 512 (by decide) (by decide) (by decide) _) (load_score c arg7 harg7 arg8 harg8 x5 x6 arg13.view 1 0 640 (by decide) (by decide) (by decide) _) (load_score c arg7 harg7 arg8 harg8 x5 x6 arg13.view 1 0 768 (by decide) (by decide) (by decide) _) (load_score c arg7 harg7 arg8 harg8 x5 x6 arg13.view 1 0 896 (by decide) (by decide) (by decide) _) (ix2 r k)

theorem row_0_1 (r : Fin 256) (b : Fin 128) :
    @Eq EReal (kernelRun0_A.sl.v918 c arg7 harg7 arg8 harg8 arg10 harg10 arg13 arg14 arg15 arg16 x5 x6 x8 (ix2 r b)) ((kernelRun0_A.sl.v871 c arg7 harg7 arg8 harg8 arg10 harg10 arg13 arg14 arg15 arg16 x5 x6 x8 (ix2 r b) : EReal) + ∑ k : Fin 8, wt c arg7 harg7 arg8 harg8 arg10 harg10 x5 x6 x8 1 0 r ⟨128 * k.val + b.val, by omega⟩) := by
  unfold kernelRun0_A.sl.v918 kernelRun0_A.sl.v912 kernelRun0_A.sl.v906 kernelRun0_A.sl.v900 kernelRun0_A.sl.v894 kernelRun0_A.sl.v888 kernelRun0_A.sl.v882 kernelRun0_A.sl.v876 kernelRun0_A.sl.v875 kernelRun0_A.sl.v874 kernelRun0_A.sl.v873 kernelRun0_A.sl.v872 kernelRun0_A.sl.v881 kernelRun0_A.sl.v880 kernelRun0_A.sl.v879 kernelRun0_A.sl.v878 kernelRun0_A.sl.v887 kernelRun0_A.sl.v886 kernelRun0_A.sl.v885 kernelRun0_A.sl.v884 kernelRun0_A.sl.v893 kernelRun0_A.sl.v892 kernelRun0_A.sl.v891 kernelRun0_A.sl.v890 kernelRun0_A.sl.v899 kernelRun0_A.sl.v898 kernelRun0_A.sl.v897 kernelRun0_A.sl.v896 kernelRun0_A.sl.v905 kernelRun0_A.sl.v904 kernelRun0_A.sl.v903 kernelRun0_A.sl.v902 kernelRun0_A.sl.v911 kernelRun0_A.sl.v910 kernelRun0_A.sl.v909 kernelRun0_A.sl.v908 kernelRun0_A.sl.v917 kernelRun0_A.sl.v916 kernelRun0_A.sl.v915 kernelRun0_A.sl.v914
  exact row_add _ _ _ _ _ _ _ _ _ _ (fun r k => score x5 x6 (ix4 1 0 r k)) (mx c arg7 harg7 arg8 harg8 arg10 harg10 x5 x6 x8 1) (mrow_1 c arg7 harg7 arg8 harg8 arg10 harg10 arg15 x5 x6 x8) (load_score c arg7 harg7 arg8 harg8 x5 x6 arg13.view 1 0 0 (by decide) (by decide) (by decide) _) (load_score c arg7 harg7 arg8 harg8 x5 x6 arg13.view 1 0 128 (by decide) (by decide) (by decide) _) (load_score c arg7 harg7 arg8 harg8 x5 x6 arg13.view 1 0 256 (by decide) (by decide) (by decide) _) (load_score c arg7 harg7 arg8 harg8 x5 x6 arg13.view 1 0 384 (by decide) (by decide) (by decide) _) (load_score c arg7 harg7 arg8 harg8 x5 x6 arg13.view 1 0 512 (by decide) (by decide) (by decide) _) (load_score c arg7 harg7 arg8 harg8 x5 x6 arg13.view 1 0 640 (by decide) (by decide) (by decide) _) (load_score c arg7 harg7 arg8 harg8 x5 x6 arg13.view 1 0 768 (by decide) (by decide) (by decide) _) (load_score c arg7 harg7 arg8 harg8 x5 x6 arg13.view 1 0 896 (by decide) (by decide) (by decide) _) (ix2 r b)

theorem prev_0_1 (i : S256x128.Idx) : @Eq EReal (kernelRun0_A.sl.v871 c arg7 harg7 arg8 harg8 arg10 harg10 arg13 arg14 arg15 arg16 x5 x6 x8 i) (kernelRun0_A.sl.v789 c arg7 harg7 arg8 harg8 arg10 harg10 arg14 arg15 x5 x6 x8 i) := by
  unfold kernelRun0_A.sl.v871 kernelRun0_A.sl.v870 kernelRun0_A.sl.HS3_3 kernelRun0_A.sl.HS3_2
  rw [View.readCov_skip _ _ _ _ _ rfl, View.readCov_cons_toLoadRect]
  unfold kernelRun0_A.sl.v800
  exact cast_back _ i

theorem weights_1_0 (r : Fin 256) (k : Fin 1024) : @Eq EReal (kernelRun0_A.sl.v991 c arg7 harg7 arg8 harg8 arg10 harg10 arg13 arg15 x5 x6 x8 (ix2 r k)) (wt c arg7 harg7 arg8 harg8 arg10 harg10 x5 x6 x8 0 1 r k) := by
  unfold kernelRun0_A.sl.v991 kernelRun0_A.sl.v945 kernelRun0_A.sl.v951 kernelRun0_A.sl.v957 kernelRun0_A.sl.v963 kernelRun0_A.sl.v969 kernelRun0_A.sl.v975 kernelRun0_A.sl.v981 kernelRun0_A.sl.v987 kernelRun0_A.sl.v943 kernelRun0_A.sl.v942 kernelRun0_A.sl.v941 kernelRun0_A.sl.v940 kernelRun0_A.sl.v949 kernelRun0_A.sl.v948 kernelRun0_A.sl.v947 kernelRun0_A.sl.v946 kernelRun0_A.sl.v955 kernelRun0_A.sl.v954 kernelRun0_A.sl.v953 kernelRun0_A.sl.v952 kernelRun0_A.sl.v961 kernelRun0_A.sl.v960 kernelRun0_A.sl.v959 kernelRun0_A.sl.v958 kernelRun0_A.sl.v967 kernelRun0_A.sl.v966 kernelRun0_A.sl.v965 kernelRun0_A.sl.v964 kernelRun0_A.sl.v973 kernelRun0_A.sl.v972 kernelRun0_A.sl.v971 kernelRun0_A.sl.v970 kernelRun0_A.sl.v979 kernelRun0_A.sl.v978 kernelRun0_A.sl.v977 kernelRun0_A.sl.v976 kernelRun0_A.sl.v985 kernelRun0_A.sl.v984 kernelRun0_A.sl.v983 kernelRun0_A.sl.v982
  exact weights_block _ _ _ _ _ _ _ _ _ (fun r k => score x5 x6 (ix4 0 1 r k)) (mx c arg7 harg7 arg8 harg8 arg10 harg10 x5 x6 x8 0) (mrow_0 c arg7 harg7 arg8 harg8 arg10 harg10 arg15 x5 x6 x8) (load_score c arg7 harg7 arg8 harg8 x5 x6 arg13.view 0 1 0 (by decide) (by decide) (by decide) _) (load_score c arg7 harg7 arg8 harg8 x5 x6 arg13.view 0 1 128 (by decide) (by decide) (by decide) _) (load_score c arg7 harg7 arg8 harg8 x5 x6 arg13.view 0 1 256 (by decide) (by decide) (by decide) _) (load_score c arg7 harg7 arg8 harg8 x5 x6 arg13.view 0 1 384 (by decide) (by decide) (by decide) _) (load_score c arg7 harg7 arg8 harg8 x5 x6 arg13.view 0 1 512 (by decide) (by decide) (by decide) _) (load_score c arg7 harg7 arg8 harg8 x5 x6 arg13.view 0 1 640 (by decide) (by decide) (by decide) _) (load_score c arg7 harg7 arg8 harg8 x5 x6 arg13.view 0 1 768 (by decide) (by decide) (by decide) _) (load_score c arg7 harg7 arg8 harg8 x5 x6 arg13.view 0 1 896 (by decide) (by decide) (by decide) _) (ix2 r k)

theorem row_1_0 (r : Fin 256) (b : Fin 128) :
    @Eq EReal (kernelRun0_A.sl.v986 c arg7 harg7 arg8 harg8 arg10 harg10 arg13 arg14 arg15 arg16 x5 x6 x8 (ix2 r b)) ((kernelRun0_A.sl.v939 c arg7 harg7 arg8 harg8 arg10 harg10 arg13 arg14 arg15 arg16 x5 x6 x8 (ix2 r b) : EReal) + ∑ k : Fin 8, wt c arg7 harg7 arg8 harg8 arg10 harg10 x5 x6 x8 0 1 r ⟨128 * k.val + b.val, by omega⟩) := by
  unfold kernelRun0_A.sl.v986 kernelRun0_A.sl.v980 kernelRun0_A.sl.v974 kernelRun0_A.sl.v968 kernelRun0_A.sl.v962 kernelRun0_A.sl.v956 kernelRun0_A.sl.v950 kernelRun0_A.sl.v944 kernelRun0_A.sl.v943 kernelRun0_A.sl.v942 kernelRun0_A.sl.v941 kernelRun0_A.sl.v940 kernelRun0_A.sl.v949 kernelRun0_A.sl.v948 kernelRun0_A.sl.v947 kernelRun0_A.sl.v946 kernelRun0_A.sl.v955 kernelRun0_A.sl.v954 kernelRun0_A.sl.v953 kernelRun0_A.sl.v952 kernelRun0_A.sl.v961 kernelRun0_A.sl.v960 kernelRun0_A.sl.v959 kernelRun0_A.sl.v958 kernelRun0_A.sl.v967 kernelRun0_A.sl.v966 kernelRun0_A.sl.v965 kernelRun0_A.sl.v964 kernelRun0_A.sl.v973 kernelRun0_A.sl.v972 kernelRun0_A.sl.v971 kernelRun0_A.sl.v970 kernelRun0_A.sl.v979 kernelRun0_A.sl.v978 kernelRun0_A.sl.v977 kernelRun0_A.sl.v976 kernelRun0_A.sl.v985 kernelRun0_A.sl.v984 kernelRun0_A.sl.v983 kernelRun0_A.sl.v982
  exact row_add _ _ _ _ _ _ _ _ _ _ (fun r k => score x5 x6 (ix4 0 1 r k)) (mx c arg7 harg7 arg8 harg8 arg10 harg10 x5 x6 x8 0) (mrow_0 c arg7 harg7 arg8 harg8 arg10 harg10 arg15 x5 x6 x8) (load_score c arg7 harg7 arg8 harg8 x5 x6 arg13.view 0 1 0 (by decide) (by decide) (by decide) _) (load_score c arg7 harg7 arg8 harg8 x5 x6 arg13.view 0 1 128 (by decide) (by decide) (by decide) _) (load_score c arg7 harg7 arg8 harg8 x5 x6 arg13.view 0 1 256 (by decide) (by decide) (by decide) _) (load_score c arg7 harg7 arg8 harg8 x5 x6 arg13.view 0 1 384 (by decide) (by decide) (by decide) _) (load_score c arg7 harg7 arg8 harg8 x5 x6 arg13.view 0 1 512 (by decide) (by decide) (by decide) _) (load_score c arg7 harg7 arg8 harg8 x5 x6 arg13.view 0 1 640 (by decide) (by decide) (by decide) _) (load_score c arg7 harg7 arg8 harg8 x5 x6 arg13.view 0 1 768 (by decide) (by decide) (by decide) _) (load_score c arg7 harg7 arg8 harg8 x5 x6 arg13.view 0 1 896 (by decide) (by decide) (by decide) _) (ix2 r b)

theorem prev_1_0 (i : S256x128.Idx) : @Eq EReal (kernelRun0_A.sl.v939 c arg7 harg7 arg8 harg8 arg10 harg10 arg13 arg14 arg15 arg16 x5 x6 x8 i) (kernelRun0_A.sl.v862 c arg7 harg7 arg8 harg8 arg10 harg10 arg13 arg14 arg15 arg16 x5 x6 x8 i) := by
  unfold kernelRun0_A.sl.v939 kernelRun0_A.sl.v938 kernelRun0_A.sl.HS3_4 kernelRun0_A.sl.HS3_3
  rw [View.readCov_skip _ _ _ _ _ rfl, View.readCov_cons_toLoadRect]
  unfold kernelRun0_A.sl.v866
  exact cast_back _ i

theorem weights_1_1 (r : Fin 256) (k : Fin 1024) : @Eq EReal (kernelRun0_A.sl.v1047 c arg7 harg7 arg8 harg8 arg10 harg10 arg13 arg15 x5 x6 x8 (ix2 r k)) (wt c arg7 harg7 arg8 harg8 arg10 harg10 x5 x6 x8 1 1 r k) := by
  unfold kernelRun0_A.sl.v1047 kernelRun0_A.sl.v1001 kernelRun0_A.sl.v1007 kernelRun0_A.sl.v1013 kernelRun0_A.sl.v1019 kernelRun0_A.sl.v1025 kernelRun0_A.sl.v1031 kernelRun0_A.sl.v1037 kernelRun0_A.sl.v1043 kernelRun0_A.sl.v999 kernelRun0_A.sl.v998 kernelRun0_A.sl.v997 kernelRun0_A.sl.v996 kernelRun0_A.sl.v1005 kernelRun0_A.sl.v1004 kernelRun0_A.sl.v1003 kernelRun0_A.sl.v1002 kernelRun0_A.sl.v1011 kernelRun0_A.sl.v1010 kernelRun0_A.sl.v1009 kernelRun0_A.sl.v1008 kernelRun0_A.sl.v1017 kernelRun0_A.sl.v1016 kernelRun0_A.sl.v1015 kernelRun0_A.sl.v1014 kernelRun0_A.sl.v1023 kernelRun0_A.sl.v1022 kernelRun0_A.sl.v1021 kernelRun0_A.sl.v1020 kernelRun0_A.sl.v1029 kernelRun0_A.sl.v1028 kernelRun0_A.sl.v1027 kernelRun0_A.sl.v1026 kernelRun0_A.sl.v1035 kernelRun0_A.sl.v1034 kernelRun0_A.sl.v1033 kernelRun0_A.sl.v1032 kernelRun0_A.sl.v1041 kernelRun0_A.sl.v1040 kernelRun0_A.sl.v1039 kernelRun0_A.sl.v1038
  exact weights_block _ _ _ _ _ _ _ _ _ (fun r k => score x5 x6 (ix4 1 1 r k)) (mx c arg7 harg7 arg8 harg8 arg10 harg10 x5 x6 x8 1) (mrow_1 c arg7 harg7 arg8 harg8 arg10 harg10 arg15 x5 x6 x8) (load_score c arg7 harg7 arg8 harg8 x5 x6 arg13.view 1 1 0 (by decide) (by decide) (by decide) _) (load_score c arg7 harg7 arg8 harg8 x5 x6 arg13.view 1 1 128 (by decide) (by decide) (by decide) _) (load_score c arg7 harg7 arg8 harg8 x5 x6 arg13.view 1 1 256 (by decide) (by decide) (by decide) _) (load_score c arg7 harg7 arg8 harg8 x5 x6 arg13.view 1 1 384 (by decide) (by decide) (by decide) _) (load_score c arg7 harg7 arg8 harg8 x5 x6 arg13.view 1 1 512 (by decide) (by decide) (by decide) _) (load_score c arg7 harg7 arg8 harg8 x5 x6 arg13.view 1 1 640 (by decide) (by decide) (by decide) _) (load_score c arg7 harg7 arg8 harg8 x5 x6 arg13.view 1 1 768 (by decide) (by decide) (by decide) _) (load_score c arg7 harg7 arg8 harg8 x5 x6 arg13.view 1 1 896 (by decide) (by decide) (by decide) _) (ix2 r k)

theorem row_1_1 (r : Fin 256) (b : Fin 128) :
    @Eq EReal (kernelRun0_A.sl.v1042 c arg7 harg7 arg8 harg8 arg10 harg10 arg13 arg14 arg15 arg16 x5 x6 x8 (ix2 r b)) ((kernelRun0_A.sl.v995 c arg7 harg7 arg8 harg8 arg10 harg10 arg13 arg14 arg15 arg16 x5 x6 x8 (ix2 r b) : EReal) + ∑ k : Fin 8, wt c arg7 harg7 arg8 harg8 arg10 harg10 x5 x6 x8 1 1 r ⟨128 * k.val + b.val, by omega⟩) := by
  unfold kernelRun0_A.sl.v1042 kernelRun0_A.sl.v1036 kernelRun0_A.sl.v1030 kernelRun0_A.sl.v1024 kernelRun0_A.sl.v1018 kernelRun0_A.sl.v1012 kernelRun0_A.sl.v1006 kernelRun0_A.sl.v1000 kernelRun0_A.sl.v999 kernelRun0_A.sl.v998 kernelRun0_A.sl.v997 kernelRun0_A.sl.v996 kernelRun0_A.sl.v1005 kernelRun0_A.sl.v1004 kernelRun0_A.sl.v1003 kernelRun0_A.sl.v1002 kernelRun0_A.sl.v1011 kernelRun0_A.sl.v1010 kernelRun0_A.sl.v1009 kernelRun0_A.sl.v1008 kernelRun0_A.sl.v1017 kernelRun0_A.sl.v1016 kernelRun0_A.sl.v1015 kernelRun0_A.sl.v1014 kernelRun0_A.sl.v1023 kernelRun0_A.sl.v1022 kernelRun0_A.sl.v1021 kernelRun0_A.sl.v1020 kernelRun0_A.sl.v1029 kernelRun0_A.sl.v1028 kernelRun0_A.sl.v1027 kernelRun0_A.sl.v1026 kernelRun0_A.sl.v1035 kernelRun0_A.sl.v1034 kernelRun0_A.sl.v1033 kernelRun0_A.sl.v1032 kernelRun0_A.sl.v1041 kernelRun0_A.sl.v1040 kernelRun0_A.sl.v1039 kernelRun0_A.sl.v1038
  exact row_add _ _ _ _ _ _ _ _ _ _ (fun r k => score x5 x6 (ix4 1 1 r k)) (mx c arg7 harg7 arg8 harg8 arg10 harg10 x5 x6 x8 1) (mrow_1 c arg7 harg7 arg8 harg8 arg10 harg10 arg15 x5 x6 x8) (load_score c arg7 harg7 arg8 harg8 x5 x6 arg13.view 1 1 0 (by decide) (by decide) (by decide) _) (load_score c arg7 harg7 arg8 harg8 x5 x6 arg13.view 1 1 128 (by decide) (by decide) (by decide) _) (load_score c arg7 harg7 arg8 harg8 x5 x6 arg13.view 1 1 256 (by decide) (by decide) (by decide) _) (load_score c arg7 harg7 arg8 harg8 x5 x6 arg13.view 1 1 384 (by decide) (by decide) (by decide) _) (load_score c arg7 harg7 arg8 harg8 x5 x6 arg13.view 1 1 512 (by decide) (by decide) (by decide) _) (load_score c arg7 harg7 arg8 harg8 x5 x6 arg13.view 1 1 640 (by decide) (by decide) (by decide) _) (load_score c arg7 harg7 arg8 harg8 x5 x6 arg13.view 1 1 768 (by decide) (by decide) (by decide) _) (load_score c arg7 harg7 arg8 harg8 x5 x6 arg13.view 1 1 896 (by decide) (by decide) (by decide) _) (ix2 r b)

theorem prev_1_1 (i : S256x128.Idx) : @Eq EReal (kernelRun0_A.sl.v995 c arg7 harg7 arg8 harg8 arg10 harg10 arg13 arg14 arg15 arg16 x5 x6 x8 i) (kernelRun0_A.sl.v918 c arg7 harg7 arg8 harg8 arg10 harg10 arg13 arg14 arg15 arg16 x5 x6 x8 i) := by
  unfold kernelRun0_A.sl.v995 kernelRun0_A.sl.v994 kernelRun0_A.sl.HS3_5 kernelRun0_A.sl.HS3_4
  rw [View.readCov_skip _ _ _ _ _ rfl, View.readCov_cons_toLoadRect]
  unfold kernelRun0_A.sl.v922
  exact cast_back _ i

theorem weights_2_0 (r : Fin 256) (k : Fin 1024) : @Eq EReal (kernelRun0_A.sl.v1115 c arg7 harg7 arg8 harg8 arg10 harg10 arg13 arg15 x5 x6 x8 (ix2 r k)) (wt c arg7 harg7 arg8 harg8 arg10 harg10 x5 x6 x8 0 2 r k) := by
  unfold kernelRun0_A.sl.v1115 kernelRun0_A.sl.v1069 kernelRun0_A.sl.v1075 kernelRun0_A.sl.v1081 kernelRun0_A.sl.v1087 kernelRun0_A.sl.v1093 kernelRun0_A.sl.v1099 kernelRun0_A.sl.v1105 kernelRun0_A.sl.v1111 kernelRun0_A.sl.v1067 kernelRun0_A.sl.v1066 kernelRun0_A.sl.v1065 kernelRun0_A.sl.v1064 kernelRun0_A.sl.v1073 kernelRun0_A.sl.v1072 kernelRun0_A.sl.v1071 kernelRun0_A.sl.v1070 kernelRun0_A.sl.v1079 kernelRun0_A.sl.v1078 kernelRun0_A.sl.v1077 kernelRun0_A.sl.v1076 kernelRun0_A.sl.v1085 kernelRun0_A.sl.v1084 kernelRun0_A.sl.v1083 kernelRun0_A.sl.v1082 kernelRun0_A.sl.v1091 kernelRun0_A.sl.v1090 kernelRun0_A.sl.v1089 kernelRun0_A.sl.v1088 kernelRun0_A.sl.v1097 kernelRun0_A.sl.v1096 kernelRun0_A.sl.v1095 kernelRun0_A.sl.v1094 kernelRun0_A.sl.v1103 kernelRun0_A.sl.v1102 kernelRun0_A.sl.v1101 kernelRun0_A.sl.v1100 kernelRun0_A.sl.v1109 kernelRun0_A.sl.v1108 kernelRun0_A.sl.v1107 kernelRun0_A.sl.v1106
  exact weights_block _ _ _ _ _ _ _ _ _ (fun r k => score x5 x6 (ix4 0 2 r k)) (mx c arg7 harg7 arg8 harg8 arg10 harg10 x5 x6 x8 0) (mrow_0 c arg7 harg7 arg8 harg8 arg10 harg10 arg15 x5 x6 x8) (load_score c arg7 harg7 arg8 harg8 x5 x6 arg13.view 0 2 0 (by decide) (by decide) (by decide) _) (load_score c arg7 harg7 arg8 harg8 x5 x6 arg13.view 0 2 128 (by decide) (by decide) (by decide) _) (load_score c arg7 harg7 arg8 harg8 x5 x6 arg13.view 0 2 256 (by decide) (by decide) (by decide) _) (load_score c arg7 harg7 arg8 harg8 x5 x6 arg13.view 0 2 384 (by decide) (by decide) (by decide) _) (load_score c arg7 harg7 arg8 harg8 x5 x6 arg13.view 0 2 512 (by decide) (by decide) (by decide) _) (load_score c arg7 harg7 arg8 harg8 x5 x6 arg13.view 0 2 640 (by decide) (by decide) (by decide) _) (load_score c arg7 harg7 arg8 harg8 x5 x6 arg13.view 0 2 768 (by decide) (by decide) (by decide) _) (load_score c arg7 harg7 arg8 harg8 x5 x6 arg13.view 0 2 896 (by decide) (by decide) (by decide) _) (ix2 r k)

theorem row_2_0 (r : Fin 256) (b : Fin 128) :
    @Eq EReal (kernelRun0_A.sl.v1110 c arg7 harg7 arg8 harg8 arg10 harg10 arg13 arg14 arg15 arg16 x5 x6 x8 (ix2 r b)) ((kernelRun0_A.sl.v1063 c arg7 harg7 arg8 harg8 arg10 harg10 arg13 arg14 arg15 arg16 x5 x6 x8 (ix2 r b) : EReal) + ∑ k : Fin 8, wt c arg7 harg7 arg8 harg8 arg10 harg10 x5 x6 x8 0 2 r ⟨128 * k.val + b.val, by omega⟩) := by
  unfold kernelRun0_A.sl.v1110 kernelRun0_A.sl.v1104 kernelRun0_A.sl.v1098 kernelRun0_A.sl.v1092 kernelRun0_A.sl.v1086 kernelRun0_A.sl.v1080 kernelRun0_A.sl.v1074 kernelRun0_A.sl.v1068 kernelRun0_A.sl.v1067 kernelRun0_A.sl.v1066 kernelRun0_A.sl.v1065 kernelRun0_A.sl.v1064 kernelRun0_A.sl.v1073 kernelRun0_A.sl.v1072 kernelRun0_A.sl.v1071 kernelRun0_A.sl.v1070 kernelRun0_A.sl.v1079 kernelRun0_A.sl.v1078 kernelRun0_A.sl.v1077 kernelRun0_A.sl.v1076 kernelRun0_A.sl.v1085 kernelRun0_A.sl.v1084 kernelRun0_A.sl.v1083 kernelRun0_A.sl.v1082 kernelRun0_A.sl.v1091 kernelRun0_A.sl.v1090 kernelRun0_A.sl.v1089 kernelRun0_A.sl.v1088 kernelRun0_A.sl.v1097 kernelRun0_A.sl.v1096 kernelRun0_A.sl.v1095 kernelRun0_A.sl.v1094 kernelRun0_A.sl.v1103 kernelRun0_A.sl.v1102 kernelRun0_A.sl.v1101 kernelRun0_A.sl.v1100 kernelRun0_A.sl.v1109 kernelRun0_A.sl.v1108 kernelRun0_A.sl.v1107 kernelRun0_A.sl.v1106
  exact row_add _ _ _ _ _ _ _ _ _ _ (fun r k => score x5 x6 (ix4 0 2 r k)) (mx c arg7 harg7 arg8 harg8 arg10 harg10 x5 x6 x8 0) (mrow_0 c arg7 harg7 arg8 harg8 arg10 harg10 arg15 x5 x6 x8) (load_score c arg7 harg7 arg8 harg8 x5 x6 arg13.view 0 2 0 (by decide) (by decide) (by decide) _) (load_score c arg7 harg7 arg8 harg8 x5 x6 arg13.view 0 2 128 (by decide) (by decide) (by decide) _) (load_score c arg7 harg7 arg8 harg8 x5 x6 arg13.view 0 2 256 (by decide) (by decide) (by decide) _) (load_score c arg7 harg7 arg8 harg8 x5 x6 arg13.view 0 2 384 (by decide) (by decide) (by decide) _) (load_score c arg7 harg7 arg8 harg8 x5 x6 arg13.view 0 2 512 (by decide) (by decide) (by decide) _) (load_score c arg7 harg7 arg8 harg8 x5 x6 arg13.view 0 2 640 (by decide) (by decide) (by decide) _) (load_score c arg7 harg7 arg8 harg8 x5 x6 arg13.view 0 2 768 (by decide) (by decide) (by decide) _) (load_score c arg7 harg7 arg8 harg8 x5 x6 arg13.view 0 2 896 (by decide) (by decide) (by decide) _) (ix2 r b)

theorem prev_2_0 (i : S256x128.Idx) : @Eq EReal (kernelRun0_A.sl.v1063 c arg7 harg7 arg8 harg8 arg10 harg10 arg13 arg14 arg15 arg16 x5 x6 x8 i) (kernelRun0_A.sl.v986 c arg7 harg7 arg8 harg8 arg10 harg10 arg13 arg14 arg15 arg16 x5 x6 x8 i) := by
  unfold kernelRun0_A.sl.v1063 kernelRun0_A.sl.v1062 kernelRun0_A.sl.HS3_6 kernelRun0_A.sl.HS3_5
  rw [View.readCov_skip _ _ _ _ _ rfl, View.readCov_cons_toLoadRect]
  unfold kernelRun0_A.sl.v990
  exact cast_back _ i

theorem weights_2_1 (r : Fin 256) (k : Fin 1024) : @Eq EReal (kernelRun0_A.sl.v1171 c arg7 harg7 arg8 harg8 arg10 harg10 arg13 arg15 x5 x6 x8 (ix2 r k)) (wt c arg7 harg7 arg8 harg8 arg10 harg10 x5 x6 x8 1 2 r k) := by
  unfold kernelRun0_A.sl.v1171 kernelRun0_A.sl.v1125 kernelRun0_A.sl.v1131 kernelRun0_A.sl.v1137 kernelRun0_A.sl.v1143 kernelRun0_A.sl.v1149 kernelRun0_A.sl.v1155 kernelRun0_A.sl.v1161 kernelRun0_A.sl.v1167 kernelRun0_A.sl.v1123 kernelRun0_A.sl.v1122 kernelRun0_A.sl.v1121 kernelRun0_A.sl.v1120 kernelRun0_A.sl.v1129 kernelRun0_A.sl.v1128 kernelRun0_A.sl.v1127 kernelRun0_A.sl.v1126 kernelRun0_A.sl.v1135 kernelRun0_A.sl.v1134 kernelRun0_A.sl.v1133 kernelRun0_A.sl.v1132 kernelRun0_A.sl.v1141 kernelRun0_A.sl.v1140 kernelRun0_A.sl.v1139 kernelRun0_A.sl.v1138 kernelRun0_A.sl.v1147 kernelRun0_A.sl.v1146 kernelRun0_A.sl.v1145 kernelRun0_A.sl.v1144 kernelRun0_A.sl.v1153 kernelRun0_A.sl.v1152 kernelRun0_A.sl.v1151 kernelRun0_A.sl.v1150 kernelRun0_A.sl.v1159 kernelRun0_A.sl.v1158 kernelRun0_A.sl.v1157 kernelRun0_A.sl.v1156 kernelRun0_A.sl.v1165 kernelRun0_A.sl.v1164 kernelRun0_A.sl.v1163 kernelRun0_A.sl.v1162
  exact weights_block _ _ _ _ _ _ _ _ _ (fun r k => score x5 x6 (ix4 1 2 r k)) (mx c arg7 harg7 arg8 harg8 arg10 harg10 x5 x6 x8 1) (mrow_1 c arg7 harg7 arg8 harg8 arg10 harg10 arg15 x5 x6 x8) (load_score c arg7 harg7 arg8 harg8 x5 x6 arg13.view 1 2 0 (by decide) (by decide) (by decide) _) (load_score c arg7 harg7 arg8 harg8 x5 x6 arg13.view 1 2 128 (by decide) (by decide) (by decide) _) (load_score c arg7 harg7 arg8 harg8 x5 x6 arg13.view 1 2 256 (by decide) (by decide) (by decide) _) (load_score c arg7 harg7 arg8 harg8 x5 x6 arg13.view 1 2 384 (by decide) (by decide) (by decide) _) (load_score c arg7 harg7 arg8 harg8 x5 x6 arg13.view 1 2 512 (by decide) (by decide) (by decide) _) (load_score c arg7 harg7 arg8 harg8 x5 x6 arg13.view 1 2 640 (by decide) (by decide) (by decide) _) (load_score c arg7 harg7 arg8 harg8 x5 x6 arg13.view 1 2 768 (by decide) (by decide) (by decide) _) (load_score c arg7 harg7 arg8 harg8 x5 x6 arg13.view 1 2 896 (by decide) (by decide) (by decide) _) (ix2 r k)

theorem row_2_1 (r : Fin 256) (b : Fin 128) :
    @Eq EReal (kernelRun0_A.sl.v1166 c arg7 harg7 arg8 harg8 arg10 harg10 arg13 arg14 arg15 arg16 x5 x6 x8 (ix2 r b)) ((kernelRun0_A.sl.v1119 c arg7 harg7 arg8 harg8 arg10 harg10 arg13 arg14 arg15 arg16 x5 x6 x8 (ix2 r b) : EReal) + ∑ k : Fin 8, wt c arg7 harg7 arg8 harg8 arg10 harg10 x5 x6 x8 1 2 r ⟨128 * k.val + b.val, by omega⟩) := by
  unfold kernelRun0_A.sl.v1166 kernelRun0_A.sl.v1160 kernelRun0_A.sl.v1154 kernelRun0_A.sl.v1148 kernelRun0_A.sl.v1142 kernelRun0_A.sl.v1136 kernelRun0_A.sl.v1130 kernelRun0_A.sl.v1124 kernelRun0_A.sl.v1123 kernelRun0_A.sl.v1122 kernelRun0_A.sl.v1121 kernelRun0_A.sl.v1120 kernelRun0_A.sl.v1129 kernelRun0_A.sl.v1128 kernelRun0_A.sl.v1127 kernelRun0_A.sl.v1126 kernelRun0_A.sl.v1135 kernelRun0_A.sl.v1134 kernelRun0_A.sl.v1133 kernelRun0_A.sl.v1132 kernelRun0_A.sl.v1141 kernelRun0_A.sl.v1140 kernelRun0_A.sl.v1139 kernelRun0_A.sl.v1138 kernelRun0_A.sl.v1147 kernelRun0_A.sl.v1146 kernelRun0_A.sl.v1145 kernelRun0_A.sl.v1144 kernelRun0_A.sl.v1153 kernelRun0_A.sl.v1152 kernelRun0_A.sl.v1151 kernelRun0_A.sl.v1150 kernelRun0_A.sl.v1159 kernelRun0_A.sl.v1158 kernelRun0_A.sl.v1157 kernelRun0_A.sl.v1156 kernelRun0_A.sl.v1165 kernelRun0_A.sl.v1164 kernelRun0_A.sl.v1163 kernelRun0_A.sl.v1162
  exact row_add _ _ _ _ _ _ _ _ _ _ (fun r k => score x5 x6 (ix4 1 2 r k)) (mx c arg7 harg7 arg8 harg8 arg10 harg10 x5 x6 x8 1) (mrow_1 c arg7 harg7 arg8 harg8 arg10 harg10 arg15 x5 x6 x8) (load_score c arg7 harg7 arg8 harg8 x5 x6 arg13.view 1 2 0 (by decide) (by decide) (by decide) _) (load_score c arg7 harg7 arg8 harg8 x5 x6 arg13.view 1 2 128 (by decide) (by decide) (by decide) _) (load_score c arg7 harg7 arg8 harg8 x5 x6 arg13.view 1 2 256 (by decide) (by decide) (by decide) _) (load_score c arg7 harg7 arg8 harg8 x5 x6 arg13.view 1 2 384 (by decide) (by decide) (by decide) _) (load_score c arg7 harg7 arg8 harg8 x5 x6 arg13.view 1 2 512 (by decide) (by decide) (by decide) _) (load_score c arg7 harg7 arg8 harg8 x5 x6 arg13.view 1 2 640 (by decide) (by decide) (by decide) _) (load_score c arg7 harg7 arg8 harg8 x5 x6 arg13.view 1 2 768 (by decide) (by decide) (by decide) _) (load_score c arg7 harg7 arg8 harg8 x5 x6 arg13.view 1 2 896 (by decide) (by decide) (by decide) _) (ix2 r b)

theorem prev_2_1 (i : S256x128.Idx) : @Eq EReal (kernelRun0_A.sl.v1119 c arg7 harg7 arg8 harg8 arg10 harg10 arg13 arg14 arg15 arg16 x5 x6 x8 i) (kernelRun0_A.sl.v1042 c arg7 harg7 arg8 harg8 arg10 harg10 arg13 arg14 arg15 arg16 x5 x6 x8 i) := by
  unfold kernelRun0_A.sl.v1119 kernelRun0_A.sl.v1118 kernelRun0_A.sl.HS3_7 kernelRun0_A.sl.HS3_6
  rw [View.readCov_skip _ _ _ _ _ rfl, View.readCov_cons_toLoadRect]
  unfold kernelRun0_A.sl.v1046
  exact cast_back _ i

theorem weights_3_0 (r : Fin 256) (k : Fin 1024) : @Eq EReal (kernelRun0_A.sl.v1239 c arg7 harg7 arg8 harg8 arg10 harg10 arg13 arg15 x5 x6 x8 (ix2 r k)) (wt c arg7 harg7 arg8 harg8 arg10 harg10 x5 x6 x8 0 3 r k) := by
  unfold kernelRun0_A.sl.v1239 kernelRun0_A.sl.v1193 kernelRun0_A.sl.v1199 kernelRun0_A.sl.v1205 kernelRun0_A.sl.v1211 kernelRun0_A.sl.v1217 kernelRun0_A.sl.v1223 kernelRun0_A.sl.v1229 kernelRun0_A.sl.v1235 kernelRun0_A.sl.v1191 kernelRun0_A.sl.v1190 kernelRun0_A.sl.v1189 kernelRun0_A.sl.v1188 kernelRun0_A.sl.v1197 kernelRun0_A.sl.v1196 kernelRun0_A.sl.v1195 kernelRun0_A.sl.v1194 kernelRun0_A.sl.v1203 kernelRun0_A.sl.v1202 kernelRun0_A.sl.v1201 kernelRun0_A.sl.v1200 kernelRun0_A.sl.v1209 kernelRun0_A.sl.v1208 kernelRun0_A.sl.v1207 kernelRun0_A.sl.v1206 kernelRun0_A.sl.v1215 kernelRun0_A.sl.v1214 kernelRun0_A.sl.v1213 kernelRun0_A.sl.v1212 kernelRun0_A.sl.v1221 kernelRun0_A.sl.v1220 kernelRun0_A.sl.v1219 kernelRun0_A.sl.v1218 kernelRun0_A.sl.v1227 kernelRun0_A.sl.v1226 kernelRun0_A.sl.v1225 kernelRun0_A.sl.v1224 kernelRun0_A.sl.v1233 kernelRun0_A.sl.v1232 kernelRun0_A.sl.v1231 kernelRun0_A.sl.v1230
  exact weights_block _ _ _ _ _ _ _ _ _ (fun r k => score x5 x6 (ix4 0 3 r k)) (mx c arg7 harg7 arg8 harg8 arg10 harg10 x5 x6 x8 0) (mrow_0 c arg7 harg7 arg8 harg8 arg10 harg10 arg15 x5 x6 x8) (load_score c arg7 harg7 arg8 harg8 x5 x6 arg13.view 0 3 0 (by decide) (by decide) (by decide) _) (load_score c arg7 harg7 arg8 harg8 x5 x6 arg13.view 0 3 128 (by decide) (by decide) (by decide) _) (load_score c arg7 harg7 arg8 harg8 x5 x6 arg13.view 0 3 256 (by decide) (by decide) (by decide) _) (load_score c arg7 harg7 arg8 harg8 x5 x6 arg13.view 0 3 384 (by decide) (by decide) (by decide) _) (load_score c arg7 harg7 arg8 harg8 x5 x6 arg13.view 0 3 512 (by decide) (by decide) (by decide) _) (load_score c arg7 harg7 arg8 harg8 x5 x6 arg13.view 0 3 640 (by decide) (by decide) (by decide) _) (load_score c arg7 harg7 arg8 harg8 x5 x6 arg13.view 0 3 768 (by decide) (by decide) (by decide) _) (load_score c arg7 harg7 arg8 harg8 x5 x6 arg13.view 0 3 896 (by decide) (by decide) (by decide) _) (ix2 r k)

theorem row_3_0 (r : Fin 256) (b : Fin 128) :
    @Eq EReal (kernelRun0_A.sl.v1234 c arg7 harg7 arg8 harg8 arg10 harg10 arg13 arg14 arg15 arg16 x5 x6 x8 (ix2 r b)) ((kernelRun0_A.sl.v1187 c arg7 harg7 arg8 harg8 arg10 harg10 arg13 arg14 arg15 arg16 x5 x6 x8 (ix2 r b) : EReal) + ∑ k : Fin 8, wt c arg7 harg7 arg8 harg8 arg10 harg10 x5 x6 x8 0 3 r ⟨128 * k.val + b.val, by omega⟩) := by
  unfold kernelRun0_A.sl.v1234 kernelRun0_A.sl.v1228 kernelRun0_A.sl.v1222 kernelRun0_A.sl.v1216 kernelRun0_A.sl.v1210 kernelRun0_A.sl.v1204 kernelRun0_A.sl.v1198 kernelRun0_A.sl.v1192 kernelRun0_A.sl.v1191 kernelRun0_A.sl.v1190 kernelRun0_A.sl.v1189 kernelRun0_A.sl.v1188 kernelRun0_A.sl.v1197 kernelRun0_A.sl.v1196 kernelRun0_A.sl.v1195 kernelRun0_A.sl.v1194 kernelRun0_A.sl.v1203 kernelRun0_A.sl.v1202 kernelRun0_A.sl.v1201 kernelRun0_A.sl.v1200 kernelRun0_A.sl.v1209 kernelRun0_A.sl.v1208 kernelRun0_A.sl.v1207 kernelRun0_A.sl.v1206 kernelRun0_A.sl.v1215 kernelRun0_A.sl.v1214 kernelRun0_A.sl.v1213 kernelRun0_A.sl.v1212 kernelRun0_A.sl.v1221 kernelRun0_A.sl.v1220 kernelRun0_A.sl.v1219 kernelRun0_A.sl.v1218 kernelRun0_A.sl.v1227 kernelRun0_A.sl.v1226 kernelRun0_A.sl.v1225 kernelRun0_A.sl.v1224 kernelRun0_A.sl.v1233 kernelRun0_A.sl.v1232 kernelRun0_A.sl.v1231 kernelRun0_A.sl.v1230
  exact row_add _ _ _ _ _ _ _ _ _ _ (fun r k => score x5 x6 (ix4 0 3 r k)) (mx c arg7 harg7 arg8 harg8 arg10 harg10 x5 x6 x8 0) (mrow_0 c arg7 harg7 arg8 harg8 arg10 harg10 arg15 x5 x6 x8) (load_score c arg7 harg7 arg8 harg8 x5 x6 arg13.view 0 3 0 (by decide) (by decide) (by decide) _) (load_score c arg7 harg7 arg8 harg8 x5 x6 arg13.view 0 3 128 (by decide) (by decide) (by decide) _) (load_score c arg7 harg7 arg8 harg8 x5 x6 arg13.view 0 3 256 (by decide) (by decide) (by decide) _) (load_score c arg7 harg7 arg8 harg8 x5 x6 arg13.view 0 3 384 (by decide) (by decide) (by decide) _) (load_score c arg7 harg7 arg8 harg8 x5 x6 arg13.view 0 3 512 (by decide) (by decide) (by decide) _) (load_score c arg7 harg7 arg8 harg8 x5 x6 arg13.view 0 3 640 (by decide) (by decide) (by decide) _) (load_score c arg7 harg7 arg8 harg8 x5 x6 arg13.view 0 3 768 (by decide) (by decide) (by decide) _) (load_score c arg7 harg7 arg8 harg8 x5 x6 arg13.view 0 3 896 (by decide) (by decide) (by decide) _) (ix2 r b)

theorem prev_3_0 (i : S256x128.Idx) : @Eq EReal (kernelRun0_A.sl.v1187 c arg7 harg7 arg8 harg8 arg10 harg10 arg13 arg14 arg15 arg16 x5 x6 x8 i) (kernelRun0_A.sl.v1110 c arg7 harg7 arg8 harg8 arg10 harg10 arg13 arg14 arg15 arg16 x5 x6 x8 i) := by
  unfold kernelRun0_A.sl.v1187 kernelRun0_A.sl.v1186 kernelRun0_A.sl.HS3_8 kernelRun0_A.sl.HS3_7
  rw [View.readCov_skip _ _ _ _ _ rfl, View.readCov_cons_toLoadRect]
  unfold kernelRun0_A.sl.v1114
  exact cast_back _ i

theorem weights_3_1 (r : Fin 256) (k : Fin 1024) : @Eq EReal (kernelRun0_A.sl.v1295 c arg7 harg7 arg8 harg8 arg10 harg10 arg13 arg15 x5 x6 x8 (ix2 r k)) (wt c arg7 harg7 arg8 harg8 arg10 harg10 x5 x6 x8 1 3 r k) := by
  unfold kernelRun0_A.sl.v1295 kernelRun0_A.sl.v1249 kernelRun0_A.sl.v1255 kernelRun0_A.sl.v1261 kernelRun0_A.sl.v1267 kernelRun0_A.sl.v1273 kernelRun0_A.sl.v1279 kernelRun0_A.sl.v1285 kernelRun0_A.sl.v1291 kernelRun0_A.sl.v1247 kernelRun0_A.sl.v1246 kernelRun0_A.sl.v1245 kernelRun0_A.sl.v1244 kernelRun0_A.sl.v1253 kernelRun0_A.sl.v1252 kernelRun0_A.sl.v1251 kernelRun0_A.sl.v1250 kernelRun0_A.sl.v1259 kernelRun0_A.sl.v1258 kernelRun0_A.sl.v1257 kernelRun0_A.sl.v1256 kernelRun0_A.sl.v1265 kernelRun0_A.sl.v1264 kernelRun0_A.sl.v1263 kernelRun0_A.sl.v1262 kernelRun0_A.sl.v1271 kernelRun0_A.sl.v1270 kernelRun0_A.sl.v1269 kernelRun0_A.sl.v1268 kernelRun0_A.sl.v1277 kernelRun0_A.sl.v1276 kernelRun0_A.sl.v1275 kernelRun0_A.sl.v1274 kernelRun0_A.sl.v1283 kernelRun0_A.sl.v1282 kernelRun0_A.sl.v1281 kernelRun0_A.sl.v1280 kernelRun0_A.sl.v1289 kernelRun0_A.sl.v1288 kernelRun0_A.sl.v1287 kernelRun0_A.sl.v1286
  exact weights_block _ _ _ _ _ _ _ _ _ (fun r k => score x5 x6 (ix4 1 3 r k)) (mx c arg7 harg7 arg8 harg8 arg10 harg10 x5 x6 x8 1) (mrow_1 c arg7 harg7 arg8 harg8 arg10 harg10 arg15 x5 x6 x8) (load_score c arg7 harg7 arg8 harg8 x5 x6 arg13.view 1 3 0 (by decide) (by decide) (by decide) _) (load_score c arg7 harg7 arg8 harg8 x5 x6 arg13.view 1 3 128 (by decide) (by decide) (by decide) _) (load_score c arg7 harg7 arg8 harg8 x5 x6 arg13.view 1 3 256 (by decide) (by decide) (by decide) _) (load_score c arg7 harg7 arg8 harg8 x5 x6 arg13.view 1 3 384 (by decide) (by decide) (by decide) _) (load_score c arg7 harg7 arg8 harg8 x5 x6 arg13.view 1 3 512 (by decide) (by decide) (by decide) _) (load_score c arg7 harg7 arg8 harg8 x5 x6 arg13.view 1 3 640 (by decide) (by decide) (by decide) _) (load_score c arg7 harg7 arg8 harg8 x5 x6 arg13.view 1 3 768 (by decide) (by decide) (by decide) _) (load_score c arg7 harg7 arg8 harg8 x5 x6 arg13.view 1 3 896 (by decide) (by decide) (by decide) _) (ix2 r k)

theorem row_3_1 (r : Fin 256) (b : Fin 128) :
    @Eq EReal (kernelRun0_A.sl.v1290 c arg7 harg7 arg8 harg8 arg10 harg10 arg13 arg14 arg15 arg16 x5 x6 x8 (ix2 r b)) ((kernelRun0_A.sl.v1243 c arg7 harg7 arg8 harg8 arg10 harg10 arg13 arg14 arg15 arg16 x5 x6 x8 (ix2 r b) : EReal) + ∑ k : Fin 8, wt c arg7 harg7 arg8 harg8 arg10 harg10 x5 x6 x8 1 3 r ⟨128 * k.val + b.val, by omega⟩) := by
  unfold kernelRun0_A.sl.v1290 kernelRun0_A.sl.v1284 kernelRun0_A.sl.v1278 kernelRun0_A.sl.v1272 kernelRun0_A.sl.v1266 kernelRun0_A.sl.v1260 kernelRun0_A.sl.v1254 kernelRun0_A.sl.v1248 kernelRun0_A.sl.v1247 kernelRun0_A.sl.v1246 kernelRun0_A.sl.v1245 kernelRun0_A.sl.v1244 kernelRun0_A.sl.v1253 kernelRun0_A.sl.v1252 kernelRun0_A.sl.v1251 kernelRun0_A.sl.v1250 kernelRun0_A.sl.v1259 kernelRun0_A.sl.v1258 kernelRun0_A.sl.v1257 kernelRun0_A.sl.v1256 kernelRun0_A.sl.v1265 kernelRun0_A.sl.v1264 kernelRun0_A.sl.v1263 kernelRun0_A.sl.v1262 kernelRun0_A.sl.v1271 kernelRun0_A.sl.v1270 kernelRun0_A.sl.v1269 kernelRun0_A.sl.v1268 kernelRun0_A.sl.v1277 kernelRun0_A.sl.v1276 kernelRun0_A.sl.v1275 kernelRun0_A.sl.v1274 kernelRun0_A.sl.v1283 kernelRun0_A.sl.v1282 kernelRun0_A.sl.v1281 kernelRun0_A.sl.v1280 kernelRun0_A.sl.v1289 kernelRun0_A.sl.v1288 kernelRun0_A.sl.v1287 kernelRun0_A.sl.v1286
  exact row_add _ _ _ _ _ _ _ _ _ _ (fun r k => score x5 x6 (ix4 1 3 r k)) (mx c arg7 harg7 arg8 harg8 arg10 harg10 x5 x6 x8 1) (mrow_1 c arg7 harg7 arg8 harg8 arg10 harg10 arg15 x5 x6 x8) (load_score c arg7 harg7 arg8 harg8 x5 x6 arg13.view 1 3 0 (by decide) (by decide) (by decide) _) (load_score c arg7 harg7 arg8 harg8 x5 x6 arg13.view 1 3 128 (by decide) (by decide) (by decide) _) (load_score c arg7 harg7 arg8 harg8 x5 x6 arg13.view 1 3 256 (by decide) (by decide) (by decide) _) (load_score c arg7 harg7 arg8 harg8 x5 x6 arg13.view 1 3 384 (by decide) (by decide) (by decide) _) (load_score c arg7 harg7 arg8 harg8 x5 x6 arg13.view 1 3 512 (by decide) (by decide) (by decide) _) (load_score c arg7 harg7 arg8 harg8 x5 x6 arg13.view 1 3 640 (by decide) (by decide) (by decide) _) (load_score c arg7 harg7 arg8 harg8 x5 x6 arg13.view 1 3 768 (by decide) (by decide) (by decide) _) (load_score c arg7 harg7 arg8 harg8 x5 x6 arg13.view 1 3 896 (by decide) (by decide) (by decide) _) (ix2 r b)

theorem prev_3_1 (i : S256x128.Idx) : @Eq EReal (kernelRun0_A.sl.v1243 c arg7 harg7 arg8 harg8 arg10 harg10 arg13 arg14 arg15 arg16 x5 x6 x8 i) (kernelRun0_A.sl.v1166 c arg7 harg7 arg8 harg8 arg10 harg10 arg13 arg14 arg15 arg16 x5 x6 x8 i) := by
  unfold kernelRun0_A.sl.v1243 kernelRun0_A.sl.v1242 kernelRun0_A.sl.HS3_9 kernelRun0_A.sl.HS3_8
  rw [View.readCov_skip _ _ _ _ _ rfl, View.readCov_cons_toLoadRect]
  unfold kernelRun0_A.sl.v1170
  exact cast_back _ i

theorem weights_4_0 (r : Fin 256) (k : Fin 1024) : @Eq EReal (kernelRun0_A.sl.v1363 c arg7 harg7 arg8 harg8 arg10 harg10 arg13 arg15 x5 x6 x8 (ix2 r k)) (wt c arg7 harg7 arg8 harg8 arg10 harg10 x5 x6 x8 0 4 r k) := by
  unfold kernelRun0_A.sl.v1363 kernelRun0_A.sl.v1317 kernelRun0_A.sl.v1323 kernelRun0_A.sl.v1329 kernelRun0_A.sl.v1335 kernelRun0_A.sl.v1341 kernelRun0_A.sl.v1347 kernelRun0_A.sl.v1353 kernelRun0_A.sl.v1359 kernelRun0_A.sl.v1315 kernelRun0_A.sl.v1314 kernelRun0_A.sl.v1313 kernelRun0_A.sl.v1312 kernelRun0_A.sl.v1321 kernelRun0_A.sl.v1320 kernelRun0_A.sl.v1319 kernelRun0_A.sl.v1318 kernelRun0_A.sl.v1327 kernelRun0_A.sl.v1326 kernelRun0_A.sl.v1325 kernelRun0_A.sl.v1324 kernelRun0_A.sl.v1333 kernelRun0_A.sl.v1332 kernelRun0_A.sl.v1331 kernelRun0_A.sl.v1330 kernelRun0_A.sl.v1339 kernelRun0_A.sl.v1338 kernelRun0_A.sl.v1337 kernelRun0_A.sl.v1336 kernelRun0_A.sl.v1345 kernelRun0_A.sl.v1344 kernelRun0_A.sl.v1343 kernelRun0_A.sl.v1342 kernelRun0_A.sl.v1351 kernelRun0_A.sl.v1350 kernelRun0_A.sl.v1349 kernelRun0_A.sl.v1348 kernelRun0_A.sl.v1357 kernelRun0_A.sl.v1356 kernelRun0_A.sl.v1355 kernelRun0_A.sl.v1354
  exact weights_block _ _ _ _ _ _ _ _ _ (fun r k => score x5 x6 (ix4 0 4 r k)) (mx c arg7 harg7 arg8 harg8 arg10 harg10 x5 x6 x8 0) (mrow_0 c arg7 harg7 arg8 harg8 arg10 harg10 arg15 x5 x6 x8) (load_score c arg7 harg7 arg8 harg8 x5 x6 arg13.view 0 4 0 (by decide) (by decide) (by decide) _) (load_score c arg7 harg7 arg8 harg8 x5 x6 arg13.view 0 4 128 (by decide) (by decide) (by decide) _) (load_score c arg7 harg7 arg8 harg8 x5 x6 arg13.view 0 4 256 (by decide) (by decide) (by decide) _) (load_score c arg7 harg7 arg8 harg8 x5 x6 arg13.view 0 4 384 (by decide) (by decide) (by decide) _) (load_score c arg7 harg7 arg8 harg8 x5 x6 arg13.view 0 4 512 (by decide) (by decide) (by decide) _) (load_score c arg7 harg7 arg8 harg8 x5 x6 arg13.view 0 4 640 (by decide) (by decide) (by decide) _) (load_score c arg7 harg7 arg8 harg8 x5 x6 arg13.view 0 4 768 (by decide) (by decide) (by decide) _) (load_score c arg7 harg7 arg8 harg8 x5 x6 arg13.view 0 4 896 (by decide) (by decide) (by decide) _) (ix2 r k)

theorem row_4_0 (r : Fin 256) (b : Fin 128) :
    @Eq EReal (kernelRun0_A.sl.v1358 c arg7 harg7 arg8 harg8 arg10 harg10 arg13 arg14 arg15 arg16 x5 x6 x8 (ix2 r b)) ((kernelRun0_A.sl.v1311 c arg7 harg7 arg8 harg8 arg10 harg10 arg13 arg14 arg15 arg16 x5 x6 x8 (ix2 r b) : EReal) + ∑ k : Fin 8, wt c arg7 harg7 arg8 harg8 arg10 harg10 x5 x6 x8 0 4 r ⟨128 * k.val + b.val, by omega⟩) := by
  unfold kernelRun0_A.sl.v1358 kernelRun0_A.sl.v1352 kernelRun0_A.sl.v1346 kernelRun0_A.sl.v1340 kernelRun0_A.sl.v1334 kernelRun0_A.sl.v1328 kernelRun0_A.sl.v1322 kernelRun0_A.sl.v1316 kernelRun0_A.sl.v1315 kernelRun0_A.sl.v1314 kernelRun0_A.sl.v1313 kernelRun0_A.sl.v1312 kernelRun0_A.sl.v1321 kernelRun0_A.sl.v1320 kernelRun0_A.sl.v1319 kernelRun0_A.sl.v1318 kernelRun0_A.sl.v1327 kernelRun0_A.sl.v1326 kernelRun0_A.sl.v1325 kernelRun0_A.sl.v1324 kernelRun0_A.sl.v1333 kernelRun0_A.sl.v1332 kernelRun0_A.sl.v1331 kernelRun0_A.sl.v1330 kernelRun0_A.sl.v1339 kernelRun0_A.sl.v1338 kernelRun0_A.sl.v1337 kernelRun0_A.sl.v1336 kernelRun0_A.sl.v1345 kernelRun0_A.sl.v1344 kernelRun0_A.sl.v1343 kernelRun0_A.sl.v1342 kernelRun0_A.sl.v1351 kernelRun0_A.sl.v1350 kernelRun0_A.sl.v1349 kernelRun0_A.sl.v1348 kernelRun0_A.sl.v1357 kernelRun0_A.sl.v1356 kernelRun0_A.sl.v1355 kernelRun0_A.sl.v1354
  exact row_add _ _ _ _ _ _ _ _ _ _ (fun r k => score x5 x6 (ix4 0 4 r k)) (mx c arg7 harg7 arg8 harg8 arg10 harg10 x5 x6 x8 0) (mrow_0 c arg7 harg7 arg8 harg8 arg10 harg10 arg15 x5 x6 x8) (load_score c arg7 harg7 arg8 harg8 x5 x6 arg13.view 0 4 0 (by decide) (by decide) (by decide) _) (load_score c arg7 harg7 arg8 harg8 x5 x6 arg13.view 0 4 128 (by decide) (by decide) (by decide) _) (load_score c arg7 harg7 arg8 harg8 x5 x6 arg13.view 0 4 256 (by decide) (by decide) (by decide) _) (load_score c arg7 harg7 arg8 harg8 x5 x6 arg13.view 0 4 384 (by decide) (by decide) (by decide) _) (load_score c arg7 harg7 arg8 harg8 x5 x6 arg13.view 0 4 512 (by decide) (by decide) (by decide) _) (load_score c arg7 harg7 arg8 harg8 x5 x6 arg13.view 0 4 640 (by decide) (by decide) (by decide) _) (load_score c arg7 harg7 arg8 harg8 x5 x6 arg13.view 0 4 768 (by decide) (by decide) (by decide) _) (load_score c arg7 harg7 arg8 harg8 x5 x6 arg13.view 0 4 896 (by decide) (by decide) (by decide) _) (ix2 r b)

theorem prev_4_0 (i : S256x128.Idx) : @Eq EReal (kernelRun0_A.sl.v1311 c arg7 harg7 arg8 harg8 arg10 harg10 arg13 arg14 arg15 arg16 x5 x6 x8 i) (kernelRun0_A.sl.v1234 c arg7 harg7 arg8 harg8 arg10 harg10 arg13 arg14 arg15 arg16 x5 x6 x8 i) := by
  unfold kernelRun0_A.sl.v1311 kernelRun0_A.sl.v1310 kernelRun0_A.sl.HS3_10 kernelRun0_A.sl.HS3_9
  rw [View.readCov_skip _ _ _ _ _ rfl, View.readCov_cons_toLoadRect]
  unfold kernelRun0_A.sl.v1238
  exact cast_back _ i

theorem weights_4_1 (r : Fin 256) (k : Fin 1024) : @Eq EReal (kernelRun0_A.sl.v1419 c arg7 harg7 arg8 harg8 arg10 harg10 arg13 arg15 x5 x6 x8 (ix2 r k)) (wt c arg7 harg7 arg8 harg8 arg10 harg10 x5 x6 x8 1 4 r k) := by
  unfold kernelRun0_A.sl.v1419 kernelRun0_A.sl.v1373 kernelRun0_A.sl.v1379 kernelRun0_A.sl.v1385 kernelRun0_A.sl.v1391 kernelRun0_A.sl.v1397 kernelRun0_A.sl.v1403 kernelRun0_A.sl.v1409 kernelRun0_A.sl.v1415 kernelRun0_A.sl.v1371 kernelRun0_A.sl.v1370 kernelRun0_A.sl.v1369 kernelRun0_A.sl.v1368 kernelRun0_A.sl.v1377 kernelRun0_A.sl.v1376 kernelRun0_A.sl.v1375 kernelRun0_A.sl.v1374 kernelRun0_A.sl.v1383 kernelRun0_A.sl.v1382 kernelRun0_A.sl.v1381 kernelRun0_A.sl.v1380 kernelRun0_A.sl.v1389 kernelRun0_A.sl.v1388 kernelRun0_A.sl.v1387 kernelRun0_A.sl.v1386 kernelRun0_A.sl.v1395 kernelRun0_A.sl.v1394 kernelRun0_A.sl.v1393 kernelRun0_A.sl.v1392 kernelRun0_A.sl.v1401 kernelRun0_A.sl.v1400 kernelRun0_A.sl.v1399 kernelRun0_A.sl.v1398 kernelRun0_A.sl.v1407 kernelRun0_A.sl.v1406 kernelRun0_A.sl.v1405 kernelRun0_A.sl.v1404 kernelRun0_A.sl.v1413 kernelRun0_A.sl.v1412 kernelRun0_A.sl.v1411 kernelRun0_A.sl.v1410
  exact weights_block _ _ _ _ _ _ _ _ _ (fun r k => score x5 x6 (ix4 1 4 r k)) (mx c arg7 harg7 arg8 harg8 arg10 harg10 x5 x6 x8 1) (mrow_1 c arg7 harg7 arg8 harg8 arg10 harg10 arg15 x5 x6 x8) (load_score c arg7 harg7 arg8 harg8 x5 x6 arg13.view 1 4 0 (by decide) (by decide) (by decide) _) (load_score c arg7 harg7 arg8 harg8 x5 x6 arg13.view 1 4 128 (by decide) (by decide) (by decide) _) (load_score c arg7 harg7 arg8 harg8 x5 x6 arg13.view 1 4 256 (by decide) (by decide) (by decide) _) (load_score c arg7 harg7 arg8 harg8 x5 x6 arg13.view 1 4 384 (by decide) (by decide) (by decide) _) (load_score c arg7 harg7 arg8 harg8 x5 x6 arg13.view 1 4 512 (by decide) (by decide) (by decide) _) (load_score c arg7 harg7 arg8 harg8 x5 x6 arg13.view 1 4 640 (by decide) (by decide) (by decide) _) (load_score c arg7 harg7 arg8 harg8 x5 x6 arg13.view 1 4 768 (by decide) (by decide) (by decide) _) (load_score c arg7 harg7 arg8 harg8 x5 x6 arg13.view 1 4 896 (by decide) (by decide) (by decide) _) (ix2 r k)

theorem row_4_1 (r : Fin 256) (b : Fin 128) :
    @Eq EReal (kernelRun0_A.sl.v1414 c arg7 harg7 arg8 harg8 arg10 harg10 arg13 arg14 arg15 arg16 x5 x6 x8 (ix2 r b)) ((kernelRun0_A.sl.v1367 c arg7 harg7 arg8 harg8 arg10 harg10 arg13 arg14 arg15 arg16 x5 x6 x8 (ix2 r b) : EReal) + ∑ k : Fin 8, wt c arg7 harg7 arg8 harg8 arg10 harg10 x5 x6 x8 1 4 r ⟨128 * k.val + b.val, by omega⟩) := by
  unfold kernelRun0_A.sl.v1414 kernelRun0_A.sl.v1408 kernelRun0_A.sl.v1402 kernelRun0_A.sl.v1396 kernelRun0_A.sl.v1390 kernelRun0_A.sl.v1384 kernelRun0_A.sl.v1378 kernelRun0_A.sl.v1372 kernelRun0_A.sl.v1371 kernelRun0_A.sl.v1370 kernelRun0_A.sl.v1369 kernelRun0_A.sl.v1368 kernelRun0_A.sl.v1377 kernelRun0_A.sl.v1376 kernelRun0_A.sl.v1375 kernelRun0_A.sl.v1374 kernelRun0_A.sl.v1383 kernelRun0_A.sl.v1382 kernelRun0_A.sl.v1381 kernelRun0_A.sl.v1380 kernelRun0_A.sl.v1389 kernelRun0_A.sl.v1388 kernelRun0_A.sl.v1387 kernelRun0_A.sl.v1386 kernelRun0_A.sl.v1395 kernelRun0_A.sl.v1394 kernelRun0_A.sl.v1393 kernelRun0_A.sl.v1392 kernelRun0_A.sl.v1401 kernelRun0_A.sl.v1400 kernelRun0_A.sl.v1399 kernelRun0_A.sl.v1398 kernelRun0_A.sl.v1407 kernelRun0_A.sl.v1406 kernelRun0_A.sl.v1405 kernelRun0_A.sl.v1404 kernelRun0_A.sl.v1413 kernelRun0_A.sl.v1412 kernelRun0_A.sl.v1411 kernelRun0_A.sl.v1410
  exact row_add _ _ _ _ _ _ _ _ _ _ (fun r k => score x5 x6 (ix4 1 4 r k)) (mx c arg7 harg7 arg8 harg8 arg10 harg10 x5 x6 x8 1) (mrow_1 c arg7 harg7 arg8 harg8 arg10 harg10 arg15 x5 x6 x8) (load_score c arg7 harg7 arg8 harg8 x5 x6 arg13.view 1 4 0 (by decide) (by decide) (by decide) _) (load_score c arg7 harg7 arg8 harg8 x5 x6 arg13.view 1 4 128 (by decide) (by decide) (by decide) _) (load_score c arg7 harg7 arg8 harg8 x5 x6 arg13.view 1 4 256 (by decide) (by decide) (by decide) _) (load_score c arg7 harg7 arg8 harg8 x5 x6 arg13.view 1 4 384 (by decide) (by decide) (by decide) _) (load_score c arg7 harg7 arg8 harg8 x5 x6 arg13.view 1 4 512 (by decide) (by decide) (by decide) _) (load_score c arg7 harg7 arg8 harg8 x5 x6 arg13.view 1 4 640 (by decide) (by decide) (by decide) _) (load_score c arg7 harg7 arg8 harg8 x5 x6 arg13.view 1 4 768 (by decide) (by decide) (by decide) _) (load_score c arg7 harg7 arg8 harg8 x5 x6 arg13.view 1 4 896 (by decide) (by decide) (by decide) _) (ix2 r b)

theorem prev_4_1 (i : S256x128.Idx) : @Eq EReal (kernelRun0_A.sl.v1367 c arg7 harg7 arg8 harg8 arg10 harg10 arg13 arg14 arg15 arg16 x5 x6 x8 i) (kernelRun0_A.sl.v1290 c arg7 harg7 arg8 harg8 arg10 harg10 arg13 arg14 arg15 arg16 x5 x6 x8 i) := by
  unfold kernelRun0_A.sl.v1367 kernelRun0_A.sl.v1366 kernelRun0_A.sl.HS3_11 kernelRun0_A.sl.HS3_10
  rw [View.readCov_skip _ _ _ _ _ rfl, View.readCov_cons_toLoadRect]
  unfold kernelRun0_A.sl.v1294
  exact cast_back _ i

theorem weights_5_0 (r : Fin 256) (k : Fin 1024) : @Eq EReal (kernelRun0_A.sl.v1487 c arg7 harg7 arg8 harg8 arg10 harg10 arg13 arg15 x5 x6 x8 (ix2 r k)) (wt c arg7 harg7 arg8 harg8 arg10 harg10 x5 x6 x8 0 5 r k) := by
  unfold kernelRun0_A.sl.v1487 kernelRun0_A.sl.v1441 kernelRun0_A.sl.v1447 kernelRun0_A.sl.v1453 kernelRun0_A.sl.v1459 kernelRun0_A.sl.v1465 kernelRun0_A.sl.v1471 kernelRun0_A.sl.v1477 kernelRun0_A.sl.v1483 kernelRun0_A.sl.v1439 kernelRun0_A.sl.v1438 kernelRun0_A.sl.v1437 kernelRun0_A.sl.v1436 kernelRun0_A.sl.v1445 kernelRun0_A.sl.v1444 kernelRun0_A.sl.v1443 kernelRun0_A.sl.v1442 kernelRun0_A.sl.v1451 kernelRun0_A.sl.v1450 kernelRun0_A.sl.v1449 kernelRun0_A.sl.v1448 kernelRun0_A.sl.v1457 kernelRun0_A.sl.v1456 kernelRun0_A.sl.v1455 kernelRun0_A.sl.v1454 kernelRun0_A.sl.v1463 kernelRun0_A.sl.v1462 kernelRun0_A.sl.v1461 kernelRun0_A.sl.v1460 kernelRun0_A.sl.v1469 kernelRun0_A.sl.v1468 kernelRun0_A.sl.v1467 kernelRun0_A.sl.v1466 kernelRun0_A.sl.v1475 kernelRun0_A.sl.v1474 kernelRun0_A.sl.v1473 kernelRun0_A.sl.v1472 kernelRun0_A.sl.v1481 kernelRun0_A.sl.v1480 kernelRun0_A.sl.v1479 kernelRun0_A.sl.v1478
  exact weights_block _ _ _ _ _ _ _ _ _ (fun r k => score x5 x6 (ix4 0 5 r k)) (mx c arg7 harg7 arg8 harg8 arg10 harg10 x5 x6 x8 0) (mrow_0 c arg7 harg7 arg8 harg8 arg10 harg10 arg15 x5 x6 x8) (load_score c arg7 harg7 arg8 harg8 x5 x6 arg13.view 0 5 0 (by decide) (by decide) (by decide) _) (load_score c arg7 harg7 arg8 harg8 x5 x6 arg13.view 0 5 128 (by decide) (by decide) (by decide) _) (load_score c arg7 harg7 arg8 harg8 x5 x6 arg13.view 0 5 256 (by decide) (by decide) (by decide) _) (load_score c arg7 harg7 arg8 harg8 x5 x6 arg13.view 0 5 384 (by decide) (by decide) (by decide) _) (load_score c arg7 harg7 arg8 harg8 x5 x6 arg13.view 0 5 512 (by decide) (by decide) (by decide) _) (load_score c arg7 harg7 arg8 harg8 x5 x6 arg13.view 0 5 640 (by decide) (by decide) (by decide) _) (load_score c arg7 harg7 arg8 harg8 x5 x6 arg13.view 0 5 768 (by decide) (by decide) (by decide) _) (load_score c arg7 harg7 arg8 harg8 x5 x6 arg13.view 0 5 896 (by decide) (by decide) (by decide) _) (ix2 r k)

theorem row_5_0 (r : Fin 256) (b : Fin 128) :
    @Eq EReal (kernelRun0_A.sl.v1482 c arg7 harg7 arg8 harg8 arg10 harg10 arg13 arg14 arg15 arg16 x5 x6 x8 (ix2 r b)) ((kernelRun0_A.sl.v1435 c arg7 harg7 arg8 harg8 arg10 harg10 arg13 arg14 arg15 arg16 x5 x6 x8 (ix2 r b) : EReal) + ∑ k : Fin 8, wt c arg7 harg7 arg8 harg8 arg10 harg10 x5 x6 x8 0 5 r ⟨128 * k.val + b.val, by omega⟩) := by
  unfold kernelRun0_A.sl.v1482 kernelRun0_A.sl.v1476 kernelRun0_A.sl.v1470 kernelRun0_A.sl.v1464 kernelRun0_A.sl.v1458 kernelRun0_A.sl.v1452 kernelRun0_A.sl.v1446 kernelRun0_A.sl.v1440 kernelRun0_A.sl.v1439 kernelRun0_A.sl.v1438 kernelRun0_A.sl.v1437 kernelRun0_A.sl.v1436 kernelRun0_A.sl.v1445 kernelRun0_A.sl.v1444 kernelRun0_A.sl.v1443 kernelRun0_A.sl.v1442 kernelRun0_A.sl.v1451 kernelRun0_A.sl.v1450 kernelRun0_A.sl.v1449 kernelRun0_A.sl.v1448 kernelRun0_A.sl.v1457 kernelRun0_A.sl.v1456 kernelRun0_A.sl.v1455 kernelRun0_A.sl.v1454 kernelRun0_A.sl.v1463 kernelRun0_A.sl.v1462 kernelRun0_A.sl.v1461 kernelRun0_A.sl.v1460 kernelRun0_A.sl.v1469 kernelRun0_A.sl.v1468 kernelRun0_A.sl.v1467 kernelRun0_A.sl.v1466 kernelRun0_A.sl.v1475 kernelRun0_A.sl.v1474 kernelRun0_A.sl.v1473 kernelRun0_A.sl.v1472 kernelRun0_A.sl.v1481 kernelRun0_A.sl.v1480 kernelRun0_A.sl.v1479 kernelRun0_A.sl.v1478
  exact row_add _ _ _ _ _ _ _ _ _ _ (fun r k => score x5 x6 (ix4 0 5 r k)) (mx c arg7 harg7 arg8 harg8 arg10 harg10 x5 x6 x8 0) (mrow_0 c arg7 harg7 arg8 harg8 arg10 harg10 arg15 x5 x6 x8) (load_score c arg7 harg7 arg8 harg8 x5 x6 arg13.view 0 5 0 (by decide) (by decide) (by decide) _) (load_score c arg7 harg7 arg8 harg8 x5 x6 arg13.view 0 5 128 (by decide) (by decide) (by decide) _) (load_score c arg7 harg7 arg8 harg8 x5 x6 arg13.view 0 5 256 (by decide) (by decide) (by decide) _) (load_score c arg7 harg7 arg8 harg8 x5 x6 arg13.view 0 5 384 (by decide) (by decide) (by decide) _) (load_score c arg7 harg7 arg8 harg8 x5 x6 arg13.view 0 5 512 (by decide) (by decide) (by decide) _) (load_score c arg7 harg7 arg8 harg8 x5 x6 arg13.view 0 5 640 (by decide) (by decide) (by decide) _) (load_score c arg7 harg7 arg8 harg8 x5 x6 arg13.view 0 5 768 (by decide) (by decide) (by decide) _) (load_score c arg7 harg7 arg8 harg8 x5 x6 arg13.view 0 5 896 (by decide) (by decide) (by decide) _) (ix2 r b)

theorem prev_5_0 (i : S256x128.Idx) : @Eq EReal (kernelRun0_A.sl.v1435 c arg7 harg7 arg8 harg8 arg10 harg10 arg13 arg14 arg15 arg16 x5 x6 x8 i) (kernelRun0_A.sl.v1358 c arg7 harg7 arg8 harg8 arg10 harg10 arg13 arg14 arg15 arg16 x5 x6 x8 i) := by
  unfold kernelRun0_A.sl.v1435 kernelRun0_A.sl.v1434 kernelRun0_A.sl.HS3_12 kernelRun0_A.sl.HS3_11
  rw [View.readCov_skip _ _ _ _ _ rfl, View.readCov_cons_toLoadRect]
  unfold kernelRun0_A.sl.v1362
  exact cast_back _ i

theorem weights_5_1 (r : Fin 256) (k : Fin 1024) : @Eq EReal (kernelRun0_A.sl.v1543 c arg7 harg7 arg8 harg8 arg10 harg10 arg13 arg15 x5 x6 x8 (ix2 r k)) (wt c arg7 harg7 arg8 harg8 arg10 harg10 x5 x6 x8 1 5 r k) := by
  unfold kernelRun0_A.sl.v1543 kernelRun0_A.sl.v1497 kernelRun0_A.sl.v1503 kernelRun0_A.sl.v1509 kernelRun0_A.sl.v1515 kernelRun0_A.sl.v1521 kernelRun0_A.sl.v1527 kernelRun0_A.sl.v1533 kernelRun0_A.sl.v1539 kernelRun0_A.sl.v1495 kernelRun0_A.sl.v1494 kernelRun0_A.sl.v1493 kernelRun0_A.sl.v1492 kernelRun0_A.sl.v1501 kernelRun0_A.sl.v1500 kernelRun0_A.sl.v1499 kernelRun0_A.sl.v1498 kernelRun0_A.sl.v1507 kernelRun0_A.sl.v1506 kernelRun0_A.sl.v1505 kernelRun0_A.sl.v1504 kernelRun0_A.sl.v1513 kernelRun0_A.sl.v1512 kernelRun0_A.sl.v1511 kernelRun0_A.sl.v1510 kernelRun0_A.sl.v1519 kernelRun0_A.sl.v1518 kernelRun0_A.sl.v1517 kernelRun0_A.sl.v1516 kernelRun0_A.sl.v1525 kernelRun0_A.sl.v1524 kernelRun0_A.sl.v1523 kernelRun0_A.sl.v1522 kernelRun0_A.sl.v1531 kernelRun0_A.sl.v1530 kernelRun0_A.sl.v1529 kernelRun0_A.sl.v1528 kernelRun0_A.sl.v1537 kernelRun0_A.sl.v1536 kernelRun0_A.sl.v1535 kernelRun0_A.sl.v1534
  exact weights_block _ _ _ _ _ _ _ _ _ (fun r k => score x5 x6 (ix4 1 5 r k)) (mx c arg7 harg7 arg8 harg8 arg10 harg10 x5 x6 x8 1) (mrow_1 c arg7 harg7 arg8 harg8 arg10 harg10 arg15 x5 x6 x8) (load_score c arg7 harg7 arg8 harg8 x5 x6 arg13.view 1 5 0 (by decide) (by decide) (by decide) _) (load_score c arg7 harg7 arg8 harg8 x5 x6 arg13.view 1 5 128 (by decide) (by decide) (by decide) _) (load_score c arg7 harg7 arg8 harg8 x5 x6 arg13.view 1 5 256 (by decide) (by decide) (by decide) _) (load_score c arg7 harg7 arg8 harg8 x5 x6 arg13.view 1 5 384 (by decide) (by decide) (by decide) _) (load_score c arg7 harg7 arg8 harg8 x5 x6 arg13.view 1 5 512 (by decide) (by decide) (by decide) _) (load_score c arg7 harg7 arg8 harg8 x5 x6 arg13.view 1 5 640 (by decide) (by decide) (by decide) _) (load_score c arg7 harg7 arg8 harg8 x5 x6 arg13.view 1 5 768 (by decide) (by decide) (by decide) _) (load_score c arg7 harg7 arg8 harg8 x5 x6 arg13.view 1 5 896 (by decide) (by decide) (by decide) _) (ix2 r k)

theorem row_5_1 (r : Fin 256) (b : Fin 128) :
    @Eq EReal (kernelRun0_A.sl.v1538 c arg7 harg7 arg8 harg8 arg10 harg10 arg13 arg14 arg15 arg16 x5 x6 x8 (ix2 r b)) ((kernelRun0_A.sl.v1491 c arg7 harg7 arg8 harg8 arg10 harg10 arg13 arg14 arg15 arg16 x5 x6 x8 (ix2 r b) : EReal) + ∑ k : Fin 8, wt c arg7 harg7 arg8 harg8 arg10 harg10 x5 x6 x8 1 5 r ⟨128 * k.val + b.val, by omega⟩) := by
  unfold kernelRun0_A.sl.v1538 kernelRun0_A.sl.v1532 kernelRun0_A.sl.v1526 kernelRun0_A.sl.v1520 kernelRun0_A.sl.v1514 kernelRun0_A.sl.v1508 kernelRun0_A.sl.v1502 kernelRun0_A.sl.v1496 kernelRun0_A.sl.v1495 kernelRun0_A.sl.v1494 kernelRun0_A.sl.v1493 kernelRun0_A.sl.v1492 kernelRun0_A.sl.v1501 kernelRun0_A.sl.v1500 kernelRun0_A.sl.v1499 kernelRun0_A.sl.v1498 kernelRun0_A.sl.v1507 kernelRun0_A.sl.v1506 kernelRun0_A.sl.v1505 kernelRun0_A.sl.v1504 kernelRun0_A.sl.v1513 kernelRun0_A.sl.v1512 kernelRun0_A.sl.v1511 kernelRun0_A.sl.v1510 kernelRun0_A.sl.v1519 kernelRun0_A.sl.v1518 kernelRun0_A.sl.v1517 kernelRun0_A.sl.v1516 kernelRun0_A.sl.v1525 kernelRun0_A.sl.v1524 kernelRun0_A.sl.v1523 kernelRun0_A.sl.v1522 kernelRun0_A.sl.v1531 kernelRun0_A.sl.v1530 kernelRun0_A.sl.v1529 kernelRun0_A.sl.v1528 kernelRun0_A.sl.v1537 kernelRun0_A.sl.v1536 kernelRun0_A.sl.v1535 kernelRun0_A.sl.v1534
  exact row_add _ _ _ _ _ _ _ _ _ _ (fun r k => score x5 x6 (ix4 1 5 r k)) (mx c arg7 harg7 arg8 harg8 arg10 harg10 x5 x6 x8 1) (mrow_1 c arg7 harg7 arg8 harg8 arg10 harg10 arg15 x5 x6 x8) (load_score c arg7 harg7 arg8 harg8 x5 x6 arg13.view 1 5 0 (by decide) (by decide) (by decide) _) (load_score c arg7 harg7 arg8 harg8 x5 x6 arg13.view 1 5 128 (by decide) (by decide) (by decide) _) (load_score c arg7 harg7 arg8 harg8 x5 x6 arg13.view 1 5 256 (by decide) (by decide) (by decide) _) (load_score c arg7 harg7 arg8 harg8 x5 x6 arg13.view 1 5 384 (by decide) (by decide) (by decide) _) (load_score c arg7 harg7 arg8 harg8 x5 x6 arg13.view 1 5 512 (by decide) (by decide) (by decide) _) (load_score c arg7 harg7 arg8 harg8 x5 x6 arg13.view 1 5 640 (by decide) (by decide) (by decide) _) (load_score c arg7 harg7 arg8 harg8 x5 x6 arg13.view 1 5 768 (by decide) (by decide) (by decide) _) (load_score c arg7 harg7 arg8 harg8 x5 x6 arg13.view 1 5 896 (by decide) (by decide) (by decide) _) (ix2 r b)

theorem prev_5_1 (i : S256x128.Idx) : @Eq EReal (kernelRun0_A.sl.v1491 c arg7 harg7 arg8 harg8 arg10 harg10 arg13 arg14 arg15 arg16 x5 x6 x8 i) (kernelRun0_A.sl.v1414 c arg7 harg7 arg8 harg8 arg10 harg10 arg13 arg14 arg15 arg16 x5 x6 x8 i) := by
  unfold kernelRun0_A.sl.v1491 kernelRun0_A.sl.v1490 kernelRun0_A.sl.HS3_13 kernelRun0_A.sl.HS3_12
  rw [View.readCov_skip _ _ _ _ _ rfl, View.readCov_cons_toLoadRect]
  unfold kernelRun0_A.sl.v1418
  exact cast_back _ i

theorem weights_6_0 (r : Fin 256) (k : Fin 1024) : @Eq EReal (kernelRun0_A.sl.v1611 c arg7 harg7 arg8 harg8 arg10 harg10 arg13 arg15 x5 x6 x8 (ix2 r k)) (wt c arg7 harg7 arg8 harg8 arg10 harg10 x5 x6 x8 0 6 r k) := by
  unfold kernelRun0_A.sl.v1611 kernelRun0_A.sl.v1565 kernelRun0_A.sl.v1571 kernelRun0_A.sl.v1577 kernelRun0_A.sl.v1583 kernelRun0_A.sl.v1589 kernelRun0_A.sl.v1595 kernelRun0_A.sl.v1601 kernelRun0_A.sl.v1607 kernelRun0_A.sl.v1563 kernelRun0_A.sl.v1562 kernelRun0_A.sl.v1561 kernelRun0_A.sl.v1560 kernelRun0_A.sl.v1569 kernelRun0_A.sl.v1568 kernelRun0_A.sl.v1567 kernelRun0_A.sl.v1566 kernelRun0_A.sl.v1575 kernelRun0_A.sl.v1574 kernelRun0_A.sl.v1573 kernelRun0_A.sl.v1572 kernelRun0_A.sl.v1581 kernelRun0_A.sl.v1580 kernelRun0_A.sl.v1579 kernelRun0_A.sl.v1578 kernelRun0_A.sl.v1587 kernelRun0_A.sl.v1586 kernelRun0_A.sl.v1585 kernelRun0_A.sl.v1584 kernelRun0_A.sl.v1593 kernelRun0_A.sl.v1592 kernelRun0_A.sl.v1591 kernelRun0_A.sl.v1590 kernelRun0_A.sl.v1599 kernelRun0_A.sl.v1598 kernelRun0_A.sl.v1597 kernelRun0_A.sl.v1596 kernelRun0_A.sl.v1605 kernelRun0_A.sl.v1604 kernelRun0_A.sl.v1603 kernelRun0_A.sl.v1602
  exact weights_block _ _ _ _ _ _ _ _ _ (fun r k => score x5 x6 (ix4 0 6 r k)) (mx c arg7 harg7 arg8 harg8 arg10 harg10 x5 x6 x8 0) (mrow_0 c arg7 harg7 arg8 harg8 arg10 harg10 arg15 x5 x6 x8) (load_score c arg7 harg7 arg8 harg8 x5 x6 arg13.view 0 6 0 (by decide) (by decide) (by decide) _) (load_score c arg7 harg7 arg8 harg8 x5 x6 arg13.view 0 6 128 (by decide) (by decide) (by decide) _) (load_score c arg7 harg7 arg8 harg8 x5 x6 arg13.view 0 6 256 (by decide) (by decide) (by decide) _) (load_score c arg7 harg7 arg8 harg8 x5 x6 arg13.view 0 6 384 (by decide) (by decide) (by decide) _) (load_score c arg7 harg7 arg8 harg8 x5 x6 arg13.view 0 6 512 (by decide) (by decide) (by decide) _) (load_score c arg7 harg7 arg8 harg8 x5 x6 arg13.view 0 6 640 (by decide) (by decide) (by decide) _) (load_score c arg7 harg7 arg8 harg8 x5 x6 arg13.view 0 6 768 (by decide) (by decide) (by decide) _) (load_score c arg7 harg7 arg8 harg8 x5 x6 arg13.view 0 6 896 (by decide) (by decide) (by decide) _) (ix2 r k)

theorem row_6_0 (r : Fin 256) (b : Fin 128) :
    @Eq EReal (kernelRun0_A.sl.v1606 c arg7 harg7 arg8 harg8 arg10 harg10 arg13 arg14 arg15 arg16 x5 x6 x8 (ix2 r b)) ((kernelRun0_A.sl.v1559 c arg7 harg7 arg8 harg8 arg10 harg10 arg13 arg14 arg15 arg16 x5 x6 x8 (ix2 r b) : EReal) + ∑ k : Fin 8, wt c arg7 harg7 arg8 harg8 arg10 harg10 x5 x6 x8 0 6 r ⟨128 * k.val + b.val, by omega⟩) := by
  unfold kernelRun0_A.sl.v1606 kernelRun0_A.sl.v1600 kernelRun0_A.sl.v1594 kernelRun0_A.sl.v1588 kernelRun0_A.sl.v1582 kernelRun0_A.sl.v1576 kernelRun0_A.sl.v1570 kernelRun0_A.sl.v1564 kernelRun0_A.sl.v1563 kernelRun0_A.sl.v1562 kernelRun0_A.sl.v1561 kernelRun0_A.sl.v1560 kernelRun0_A.sl.v1569 kernelRun0_A.sl.v1568 kernelRun0_A.sl.v1567 kernelRun0_A.sl.v1566 kernelRun0_A.sl.v1575 kernelRun0_A.sl.v1574 kernelRun0_A.sl.v1573 kernelRun0_A.sl.v1572 kernelRun0_A.sl.v1581 kernelRun0_A.sl.v1580 kernelRun0_A.sl.v1579 kernelRun0_A.sl.v1578 kernelRun0_A.sl.v1587 kernelRun0_A.sl.v1586 kernelRun0_A.sl.v1585 kernelRun0_A.sl.v1584 kernelRun0_A.sl.v1593 kernelRun0_A.sl.v1592 kernelRun0_A.sl.v1591 kernelRun0_A.sl.v1590 kernelRun0_A.sl.v1599 kernelRun0_A.sl.v1598 kernelRun0_A.sl.v1597 kernelRun0_A.sl.v1596 kernelRun0_A.sl.v1605 kernelRun0_A.sl.v1604 kernelRun0_A.sl.v1603 kernelRun0_A.sl.v1602
  exact row_add _ _ _ _ _ _ _ _ _ _ (fun r k => score x5 x6 (ix4 0 6 r k)) (mx c arg7 harg7 arg8 harg8 arg10 harg10 x5 x6 x8 0) (mrow_0 c arg7 harg7 arg8 harg8 arg10 harg10 arg15 x5 x6 x8) (load_score c arg7 harg7 arg8 harg8 x5 x6 arg13.view 0 6 0 (by decide) (by decide) (by decide) _) (load_score c arg7 harg7 arg8 harg8 x5 x6 arg13.view 0 6 128 (by decide) (by decide) (by decide) _) (load_score c arg7 harg7 arg8 harg8 x5 x6 arg13.view 0 6 256 (by decide) (by decide) (by decide) _) (load_score c arg7 harg7 arg8 harg8 x5 x6 arg13.view 0 6 384 (by decide) (by decide) (by decide) _) (load_score c arg7 harg7 arg8 harg8 x5 x6 arg13.view 0 6 512 (by decide) (by decide) (by decide) _) (load_score c arg7 harg7 arg8 harg8 x5 x6 arg13.view 0 6 640 (by decide) (by decide) (by decide) _) (load_score c arg7 harg7 arg8 harg8 x5 x6 arg13.view 0 6 768 (by decide) (by decide) (by decide) _) (load_score c arg7 harg7 arg8 harg8 x5 x6 arg13.view 0 6 896 (by decide) (by decide) (by decide) _) (ix2 r b)

theorem prev_6_0 (i : S256x128.Idx) : @Eq EReal (kernelRun0_A.sl.v1559 c arg7 harg7 arg8 harg8 arg10 harg10 arg13 arg14 arg15 arg16 x5 x6 x8 i) (kernelRun0_A.sl.v1482 c arg7 harg7 arg8 harg8 arg10 harg10 arg13 arg14 arg15 arg16 x5 x6 x8 i) := by
  unfold kernelRun0_A.sl.v1559 kernelRun0_A.sl.v1558 kernelRun0_A.sl.HS3_14 kernelRun0_A.sl.HS3_13
  rw [View.readCov_skip _ _ _ _ _ rfl, View.readCov_cons_toLoadRect]
  unfold kernelRun0_A.sl.v1486
  exact cast_back _ i

theorem weights_6_1 (r : Fin 256) (k : Fin 1024) : @Eq EReal (kernelRun0_A.sl.v1667 c arg7 harg7 arg8 harg8 arg10 harg10 arg13 arg15 x5 x6 x8 (ix2 r k)) (wt c arg7 harg7 arg8 harg8 arg10 harg10 x5 x6 x8 1 6 r k) := by
  unfold kernelRun0_A.sl.v1667 kernelRun0_A.sl.v1621 kernelRun0_A.sl.v1627 kernelRun0_A.sl.v1633 kernelRun0_A.sl.v1639 kernelRun0_A.sl.v1645 kernelRun0_A.sl.v1651 kernelRun0_A.sl.v1657 kernelRun0_A.sl.v1663 kernelRun0_A.sl.v1619 kernelRun0_A.sl.v1618 kernelRun0_A.sl.v1617 kernelRun0_A.sl.v1616 kernelRun0_A.sl.v1625 kernelRun0_A.sl.v1624 kernelRun0_A.sl.v1623 kernelRun0_A.sl.v1622 kernelRun0_A.sl.v1631 kernelRun0_A.sl.v1630 kernelRun0_A.sl.v1629 kernelRun0_A.sl.v1628 kernelRun0_A.sl.v1637 kernelRun0_A.sl.v1636 kernelRun0_A.sl.v1635 kernelRun0_A.sl.v1634 kernelRun0_A.sl.v1643 kernelRun0_A.sl.v1642 kernelRun0_A.sl.v1641 kernelRun0_A.sl.v1640 kernelRun0_A.sl.v1649 kernelRun0_A.sl.v1648 kernelRun0_A.sl.v1647 kernelRun0_A.sl.v1646 kernelRun0_A.sl.v1655 kernelRun0_A.sl.v1654 kernelRun0_A.sl.v1653 kernelRun0_A.sl.v1652 kernelRun0_A.sl.v1661 kernelRun0_A.sl.v1660 kernelRun0_A.sl.v1659 kernelRun0_A.sl.v1658
  exact weights_block _ _ _ _ _ _ _ _ _ (fun r k => score x5 x6 (ix4 1 6 r k)) (mx c arg7 harg7 arg8 harg8 arg10 harg10 x5 x6 x8 1) (mrow_1 c arg7 harg7 arg8 harg8 arg10 harg10 arg15 x5 x6 x8) (load_score c arg7 harg7 arg8 harg8 x5 x6 arg13.view 1 6 0 (by decide) (by decide) (by decide) _) (load_score c arg7 harg7 arg8 harg8 x5 x6 arg13.view 1 6 128 (by decide) (by decide) (by decide) _) (load_score c arg7 harg7 arg8 harg8 x5 x6 arg13.view 1 6 256 (by decide) (by decide) (by decide) _) (load_score c arg7 harg7 arg8 harg8 x5 x6 arg13.view 1 6 384 (by decide) (by decide) (by decide) _) (load_score c arg7 harg7 arg8 harg8 x5 x6 arg13.view 1 6 512 (by decide) (by decide) (by decide) _) (load_score c arg7 harg7 arg8 harg8 x5 x6 arg13.view 1 6 640 (by decide) (by decide) (by decide) _) (load_score c arg7 harg7 arg8 harg8 x5 x6 arg13.view 1 6 768 (by decide) (by decide) (by decide) _) (load_score c arg7 harg7 arg8 harg8 x5 x6 arg13.view 1 6 896 (by decide) (by decide) (by decide) _) (ix2 r k)

theorem row_6_1 (r : Fin 256) (b : Fin 128) :
    @Eq EReal (kernelRun0_A.sl.v1662 c arg7 harg7 arg8 harg8 arg10 harg10 arg13 arg14 arg15 arg16 x5 x6 x8 (ix2 r b)) ((kernelRun0_A.sl.v1615 c arg7 harg7 arg8 harg8 arg10 harg10 arg13 arg14 arg15 arg16 x5 x6 x8 (ix2 r b) : EReal) + ∑ k : Fin 8, wt c arg7 harg7 arg8 harg8 arg10 harg10 x5 x6 x8 1 6 r ⟨128 * k.val + b.val, by omega⟩) := by
  unfold kernelRun0_A.sl.v1662 kernelRun0_A.sl.v1656 kernelRun0_A.sl.v1650 kernelRun0_A.sl.v1644 kernelRun0_A.sl.v1638 kernelRun0_A.sl.v1632 kernelRun0_A.sl.v1626 kernelRun0_A.sl.v1620 kernelRun0_A.sl.v1619 kernelRun0_A.sl.v1618 kernelRun0_A.sl.v1617 kernelRun0_A.sl.v1616 kernelRun0_A.sl.v1625 kernelRun0_A.sl.v1624 kernelRun0_A.sl.v1623 kernelRun0_A.sl.v1622 kernelRun0_A.sl.v1631 kernelRun0_A.sl.v1630 kernelRun0_A.sl.v1629 kernelRun0_A.sl.v1628 kernelRun0_A.sl.v1637 kernelRun0_A.sl.v1636 kernelRun0_A.sl.v1635 kernelRun0_A.sl.v1634 kernelRun0_A.sl.v1643 kernelRun0_A.sl.v1642 kernelRun0_A.sl.v1641 kernelRun0_A.sl.v1640 kernelRun0_A.sl.v1649 kernelRun0_A.sl.v1648 kernelRun0_A.sl.v1647 kernelRun0_A.sl.v1646 kernelRun0_A.sl.v1655 kernelRun0_A.sl.v1654 kernelRun0_A.sl.v1653 kernelRun0_A.sl.v1652 kernelRun0_A.sl.v1661 kernelRun0_A.sl.v1660 kernelRun0_A.sl.v1659 kernelRun0_A.sl.v1658
  exact row_add _ _ _ _ _ _ _ _ _ _ (fun r k => score x5 x6 (ix4 1 6 r k)) (mx c arg7 harg7 arg8 harg8 arg10 harg10 x5 x6 x8 1) (mrow_1 c arg7 harg7 arg8 harg8 arg10 harg10 arg15 x5 x6 x8) (load_score c arg7 harg7 arg8 harg8 x5 x6 arg13.view 1 6 0 (by decide) (by decide) (by decide) _) (load_score c arg7 harg7 arg8 harg8 x5 x6 arg13.view 1 6 128 (by decide) (by decide) (by decide) _) (load_score c arg7 harg7 arg8 harg8 x5 x6 arg13.view 1 6 256 (by decide) (by decide) (by decide) _) (load_score c arg7 harg7 arg8 harg8 x5 x6 arg13.view 1 6 384 (by decide) (by decide) (by decide) _) (load_score c arg7 harg7 arg8 harg8 x5 x6 arg13.view 1 6 512 (by decide) (by decide) (by decide) _) (load_score c arg7 harg7 arg8 harg8 x5 x6 arg13.view 1 6 640 (by decide) (by decide) (by decide) _) (load_score c arg7 harg7 arg8 harg8 x5 x6 arg13.view 1 6 768 (by decide) (by decide) (by decide) _) (load_score c arg7 harg7 arg8 harg8 x5 x6 arg13.view 1 6 896 (by decide) (by decide) (by decide) _) (ix2 r b)

theorem prev_6_1 (i : S256x128.Idx) : @Eq EReal (kernelRun0_A.sl.v1615 c arg7 harg7 arg8 harg8 arg10 harg10 arg13 arg14 arg15 arg16 x5 x6 x8 i) (kernelRun0_A.sl.v1538 c arg7 harg7 arg8 harg8 arg10 harg10 arg13 arg14 arg15 arg16 x5 x6 x8 i) := by
  unfold kernelRun0_A.sl.v1615 kernelRun0_A.sl.v1614 kernelRun0_A.sl.HS3_15 kernelRun0_A.sl.HS3_14
  rw [View.readCov_skip _ _ _ _ _ rfl, View.readCov_cons_toLoadRect]
  unfold kernelRun0_A.sl.v1542
  exact cast_back _ i

theorem weights_7_0 (r : Fin 256) (k : Fin 1024) : @Eq EReal (kernelRun0_A.sl.v1735 c arg7 harg7 arg8 harg8 arg10 harg10 arg13 arg15 x5 x6 x8 (ix2 r k)) (wt c arg7 harg7 arg8 harg8 arg10 harg10 x5 x6 x8 0 7 r k) := by
  unfold kernelRun0_A.sl.v1735 kernelRun0_A.sl.v1689 kernelRun0_A.sl.v1695 kernelRun0_A.sl.v1701 kernelRun0_A.sl.v1707 kernelRun0_A.sl.v1713 kernelRun0_A.sl.v1719 kernelRun0_A.sl.v1725 kernelRun0_A.sl.v1731 kernelRun0_A.sl.v1687 kernelRun0_A.sl.v1686 kernelRun0_A.sl.v1685 kernelRun0_A.sl.v1684 kernelRun0_A.sl.v1693 kernelRun0_A.sl.v1692 kernelRun0_A.sl.v1691 kernelRun0_A.sl.v1690 kernelRun0_A.sl.v1699 kernelRun0_A.sl.v1698 kernelRun0_A.sl.v1697 kernelRun0_A.sl.v1696 kernelRun0_A.sl.v1705 kernelRun0_A.sl.v1704 kernelRun0_A.sl.v1703 kernelRun0_A.sl.v1702 kernelRun0_A.sl.v1711 kernelRun0_A.sl.v1710 kernelRun0_A.sl.v1709 kernelRun0_A.sl.v1708 kernelRun0_A.sl.v1717 kernelRun0_A.sl.v1716 kernelRun0_A.sl.v1715 kernelRun0_A.sl.v1714 kernelRun0_A.sl.v1723 kernelRun0_A.sl.v1722 kernelRun0_A.sl.v1721 kernelRun0_A.sl.v1720 kernelRun0_A.sl.v1729 kernelRun0_A.sl.v1728 kernelRun0_A.sl.v1727 kernelRun0_A.sl.v1726
  exact weights_block _ _ _ _ _ _ _ _ _ (fun r k => score x5 x6 (ix4 0 7 r k)) (mx c arg7 harg7 arg8 harg8 arg10 harg10 x5 x6 x8 0) (mrow_0 c arg7 harg7 arg8 harg8 arg10 harg10 arg15 x5 x6 x8) (load_score c arg7 harg7 arg8 harg8 x5 x6 arg13.view 0 7 0 (by decide) (by decide) (by decide) _) (load_score c arg7 harg7 arg8 harg8 x5 x6 arg13.view 0 7 128 (by decide) (by decide) (by decide) _) (load_score c arg7 harg7 arg8 harg8 x5 x6 arg13.view 0 7 256 (by decide) (by decide) (by decide) _) (load_score c arg7 harg7 arg8 harg8 x5 x6 arg13.view 0 7 384 (by decide) (by decide) (by decide) _) (load_score c arg7 harg7 arg8 harg8 x5 x6 arg13.view 0 7 512 (by decide) (by decide) (by decide) _) (load_score c arg7 harg7 arg8 harg8 x5 x6 arg13.view 0 7 640 (by decide) (by decide) (by decide) _) (load_score c arg7 harg7 arg8 harg8 x5 x6 arg13.view 0 7 768 (by decide) (by decide) (by decide) _) (load_score c arg7 harg7 arg8 harg8 x5 x6 arg13.view 0 7 896 (by decide) (by decide) (by decide) _) (ix2 r k)

theorem row_7_0 (r : Fin 256) (b : Fin 128) :
    @Eq EReal (kernelRun0_A.sl.v1730 c arg7 harg7 arg8 harg8 arg10 harg10 arg13 arg14 arg15 arg16 x5 x6 x8 (ix2 r b)) ((kernelRun0_A.sl.v1683 c arg7 harg7 arg8 harg8 arg10 harg10 arg13 arg14 arg15 arg16 x5 x6 x8 (ix2 r b) : EReal) + ∑ k : Fin 8, wt c arg7 harg7 arg8 harg8 arg10 harg10 x5 x6 x8 0 7 r ⟨128 * k.val + b.val, by omega⟩) := by
  unfold kernelRun0_A.sl.v1730 kernelRun0_A.sl.v1724 kernelRun0_A.sl.v1718 kernelRun0_A.sl.v1712 kernelRun0_A.sl.v1706 kernelRun0_A.sl.v1700 kernelRun0_A.sl.v1694 kernelRun0_A.sl.v1688 kernelRun0_A.sl.v1687 kernelRun0_A.sl.v1686 kernelRun0_A.sl.v1685 kernelRun0_A.sl.v1684 kernelRun0_A.sl.v1693 kernelRun0_A.sl.v1692 kernelRun0_A.sl.v1691 kernelRun0_A.sl.v1690 kernelRun0_A.sl.v1699 kernelRun0_A.sl.v1698 kernelRun0_A.sl.v1697 kernelRun0_A.sl.v1696 kernelRun0_A.sl.v1705 kernelRun0_A.sl.v1704 kernelRun0_A.sl.v1703 kernelRun0_A.sl.v1702 kernelRun0_A.sl.v1711 kernelRun0_A.sl.v1710 kernelRun0_A.sl.v1709 kernelRun0_A.sl.v1708 kernelRun0_A.sl.v1717 kernelRun0_A.sl.v1716 kernelRun0_A.sl.v1715 kernelRun0_A.sl.v1714 kernelRun0_A.sl.v1723 kernelRun0_A.sl.v1722 kernelRun0_A.sl.v1721 kernelRun0_A.sl.v1720 kernelRun0_A.sl.v1729 kernelRun0_A.sl.v1728 kernelRun0_A.sl.v1727 kernelRun0_A.sl.v1726
  exact row_add _ _ _ _ _ _ _ _ _ _ (fun r k => score x5 x6 (ix4 0 7 r k)) (mx c arg7 harg7 arg8 harg8 arg10 harg10 x5 x6 x8 0) (mrow_0 c arg7 harg7 arg8 harg8 arg10 harg10 arg15 x5 x6 x8) (load_score c arg7 harg7 arg8 harg8 x5 x6 arg13.view 0 7 0 (by decide) (by decide) (by decide) _) (load_score c arg7 harg7 arg8 harg8 x5 x6 arg13.view 0 7 128 (by decide) (by decide) (by decide) _) (load_score c arg7 harg7 arg8 harg8 x5 x6 arg13.view 0 7 256 (by decide) (by decide) (by decide) _) (load_score c arg7 harg7 arg8 harg8 x5 x6 arg13.view 0 7 384 (by decide) (by decide) (by decide) _) (load_score c arg7 harg7 arg8 harg8 x5 x6 arg13.view 0 7 512 (by decide) (by decide) (by decide) _) (load_score c arg7 harg7 arg8 harg8 x5 x6 arg13.view 0 7 640 (by decide) (by decide) (by decide) _) (load_score c arg7 harg7 arg8 harg8 x5 x6 arg13.view 0 7 768 (by decide) (by decide) (by decide) _) (load_score c arg7 harg7 arg8 harg8 x5 x6 arg13.view 0 7 896 (by decide) (by decide) (by decide) _) (ix2 r b)

theorem prev_7_0 (i : S256x128.Idx) : @Eq EReal (kernelRun0_A.sl.v1683 c arg7 harg7 arg8 harg8 arg10 harg10 arg13 arg14 arg15 arg16 x5 x6 x8 i) (kernelRun0_A.sl.v1606 c arg7 harg7 arg8 harg8 arg10 harg10 arg13 arg14 arg15 arg16 x5 x6 x8 i) := by
  unfold kernelRun0_A.sl.v1683 kernelRun0_A.sl.v1682 kernelRun0_A.sl.HS3_16 kernelRun0_A.sl.HS3_15
  rw [View.readCov_skip _ _ _ _ _ rfl, View.readCov_cons_toLoadRect]
  unfold kernelRun0_A.sl.v1610
  exact cast_back _ i

theorem weights_7_1 (r : Fin 256) (k : Fin 1024) : @Eq EReal (kernelRun0_A.sl.v1791 c arg7 harg7 arg8 harg8 arg10 harg10 arg13 arg15 x5 x6 x8 (ix2 r k)) (wt c arg7 harg7 arg8 harg8 arg10 harg10 x5 x6 x8 1 7 r k) := by
  unfold kernelRun0_A.sl.v1791 kernelRun0_A.sl.v1745 kernelRun0_A.sl.v1751 kernelRun0_A.sl.v1757 kernelRun0_A.sl.v1763 kernelRun0_A.sl.v1769 kernelRun0_A.sl.v1775 kernelRun0_A.sl.v1781 kernelRun0_A.sl.v1787 kernelRun0_A.sl.v1743 kernelRun0_A.sl.v1742 kernelRun0_A.sl.v1741 kernelRun0_A.sl.v1740 kernelRun0_A.sl.v1749 kernelRun0_A.sl.v1748 kernelRun0_A.sl.v1747 kernelRun0_A.sl.v1746 kernelRun0_A.sl.v1755 kernelRun0_A.sl.v1754 kernelRun0_A.sl.v1753 kernelRun0_A.sl.v1752 kernelRun0_A.sl.v1761 kernelRun0_A.sl.v1760 kernelRun0_A.sl.v1759 kernelRun0_A.sl.v1758 kernelRun0_A.sl.v1767 kernelRun0_A.sl.v1766 kernelRun0_A.sl.v1765 kernelRun0_A.sl.v1764 kernelRun0_A.sl.v1773 kernelRun0_A.sl.v1772 kernelRun0_A.sl.v1771 kernelRun0_A.sl.v1770 kernelRun0_A.sl.v1779 kernelRun0_A.sl.v1778 kernelRun0_A.sl.v1777 kernelRun0_A.sl.v1776 kernelRun0_A.sl.v1785 kernelRun0_A.sl.v1784 kernelRun0_A.sl.v1783 kernelRun0_A.sl.v1782
  exact weights_block _ _ _ _ _ _ _ _ _ (fun r k => score x5 x6 (ix4 1 7 r k)) (mx c arg7 harg7 arg8 harg8 arg10 harg10 x5 x6 x8 1) (mrow_1 c arg7 harg7 arg8 harg8 arg10 harg10 arg15 x5 x6 x8) (load_score c arg7 harg7 arg8 harg8 x5 x6 arg13.view 1 7 0 (by decide) (by decide) (by decide) _) (load_score c arg7 harg7 arg8 harg8 x5 x6 arg13.view 1 7 128 (by decide) (by decide) (by decide) _) (load_score c arg7 harg7 arg8 harg8 x5 x6 arg13.view 1 7 256 (by decide) (by decide) (by decide) _) (load_score c arg7 harg7 arg8 harg8 x5 x6 arg13.view 1 7 384 (by decide) (by decide) (by decide) _) (load_score c arg7 harg7 arg8 harg8 x5 x6 arg13.view 1 7 512 (by decide) (by decide) (by decide) _) (load_score c arg7 harg7 arg8 harg8 x5 x6 arg13.view 1 7 640 (by decide) (by decide) (by decide) _) (load_score c arg7 harg7 arg8 harg8 x5 x6 arg13.view 1 7 768 (by decide) (by decide) (by decide) _) (load_score c arg7 harg7 arg8 harg8 x5 x6 arg13.view 1 7 896 (by decide) (by decide) (by decide) _) (ix2 r k)

theorem row_7_1 (r : Fin 256) (b : Fin 128) :
    @Eq EReal (kernelRun0_A.sl.v1786 c arg7 harg7 arg8 harg8 arg10 harg10 arg13 arg14 arg15 arg16 x5 x6 x8 (ix2 r b)) ((kernelRun0_A.sl.v1739 c arg7 harg7 arg8 harg8 arg10 harg10 arg13 arg14 arg15 arg16 x5 x6 x8 (ix2 r b) : EReal) + ∑ k : Fin 8, wt c arg7 harg7 arg8 harg8 arg10 harg10 x5 x6 x8 1 7 r ⟨128 * k.val + b.val, by omega⟩) := by
  unfold kernelRun0_A.sl.v1786 kernelRun0_A.sl.v1780 kernelRun0_A.sl.v1774 kernelRun0_A.sl.v1768 kernelRun0_A.sl.v1762 kernelRun0_A.sl.v1756 kernelRun0_A.sl.v1750 kernelRun0_A.sl.v1744 kernelRun0_A.sl.v1743 kernelRun0_A.sl.v1742 kernelRun0_A.sl.v1741 kernelRun0_A.sl.v1740 kernelRun0_A.sl.v1749 kernelRun0_A.sl.v1748 kernelRun0_A.sl.v1747 kernelRun0_A.sl.v1746 kernelRun0_A.sl.v1755 kernelRun0_A.sl.v1754 kernelRun0_A.sl.v1753 kernelRun0_A.sl.v1752 kernelRun0_A.sl.v1761 kernelRun0_A.sl.v1760 kernelRun0_A.sl.v1759 kernelRun0_A.sl.v1758 kernelRun0_A.sl.v1767 kernelRun0_A.sl.v1766 kernelRun0_A.sl.v1765 kernelRun0_A.sl.v1764 kernelRun0_A.sl.v1773 kernelRun0_A.sl.v1772 kernelRun0_A.sl.v1771 kernelRun0_A.sl.v1770 kernelRun0_A.sl.v1779 kernelRun0_A.sl.v1778 kernelRun0_A.sl.v1777 kernelRun0_A.sl.v1776 kernelRun0_A.sl.v1785 kernelRun0_A.sl.v1784 kernelRun0_A.sl.v1783 kernelRun0_A.sl.v1782
  exact row_add _ _ _ _ _ _ _ _ _ _ (fun r k => score x5 x6 (ix4 1 7 r k)) (mx c arg7 harg7 arg8 harg8 arg10 harg10 x5 x6 x8 1) (mrow_1 c arg7 harg7 arg8 harg8 arg10 harg10 arg15 x5 x6 x8) (load_score c arg7 harg7 arg8 harg8 x5 x6 arg13.view 1 7 0 (by decide) (by decide) (by decide) _) (load_score c arg7 harg7 arg8 harg8 x5 x6 arg13.view 1 7 128 (by decide) (by decide) (by decide) _) (load_score c arg7 harg7 arg8 harg8 x5 x6 arg13.view 1 7 256 (by decide) (by decide) (by decide) _) (load_score c arg7 harg7 arg8 harg8 x5 x6 arg13.view 1 7 384 (by decide) (by decide) (by decide) _) (load_score c arg7 harg7 arg8 harg8 x5 x6 arg13.view 1 7 512 (by decide) (by decide) (by decide) _) (load_score c arg7 harg7 arg8 harg8 x5 x6 arg13.view 1 7 640 (by decide) (by decide) (by decide) _) (load_score c arg7 harg7 arg8 harg8 x5 x6 arg13.view 1 7 768 (by decide) (by decide) (by decide) _) (load_score c arg7 harg7 arg8 harg8 x5 x6 arg13.view 1 7 896 (by decide) (by decide) (by decide) _) (ix2 r b)

theorem prev_7_1 (i : S256x128.Idx) : @Eq EReal (kernelRun0_A.sl.v1739 c arg7 harg7 arg8 harg8 arg10 harg10 arg13 arg14 arg15 arg16 x5 x6 x8 i) (kernelRun0_A.sl.v1662 c arg7 harg7 arg8 harg8 arg10 harg10 arg13 arg14 arg15 arg16 x5 x6 x8 i) := by
  unfold kernelRun0_A.sl.v1739 kernelRun0_A.sl.v1738 kernelRun0_A.sl.HS3_17 kernelRun0_A.sl.HS3_16
  rw [View.readCov_skip _ _ _ _ _ rfl, View.readCov_cons_toLoadRect]
  unfold kernelRun0_A.sl.v1666
  exact cast_back _ i

/-- The sum of half 0's weights at a lane, over the meta tokens and every chunk. -/
theorem sum_0 (r : Fin 256) (b : Fin 128) :
    @Eq EReal (kernelRun0_A.sl.v1730 c arg7 harg7 arg8 harg8 arg10 harg10 arg13 arg14 arg15 arg16 x5 x6 x8 (ix2 r b)) (wm c arg7 harg7 arg8 harg8 arg10 harg10 x5 x6 x8 0 r b + ∑ q : Fin 8, ∑ k : Fin 8, wt c arg7 harg7 arg8 harg8 arg10 harg10 x5 x6 x8 0 q r ⟨128 * k.val + b.val, by omega⟩) := by
  rw [row_7_0, prev_7_0, row_6_0, prev_6_0, row_5_0, prev_5_0, row_4_0, prev_4_0, row_3_0, prev_3_0, row_2_0, prev_2_0, row_1_0, prev_1_0, row_0_0, prev_0_0, wm_0]
  simp only [Fin.sum_univ_eight (f := fun q : Fin 8 => ∑ k : Fin 8, wt c arg7 harg7 arg8 harg8 arg10 harg10 x5 x6 x8 0 q r ⟨128 * k.val + b.val, _⟩), ← add_assoc]

theorem last_0 (i : S256x128.Idx) : @Eq EReal (kernelRun0_A.sl.v1819 c arg7 harg7 arg8 harg8 arg10 harg10 arg13 arg14 arg15 arg16 x5 x6 x8 i) (kernelRun0_A.sl.v1730 c arg7 harg7 arg8 harg8 arg10 harg10 arg13 arg14 arg15 arg16 x5 x6 x8 i) := by
  unfold kernelRun0_A.sl.v1819 kernelRun0_A.sl.v1818 kernelRun0_A.sl.HS3_18 kernelRun0_A.sl.HS3_17
  rw [View.readCov_skip _ _ _ _ _ rfl, View.readCov_cons_toLoadRect]
  unfold kernelRun0_A.sl.v1734
  exact cast_back _ i

/-- The sum of half 1's weights at a lane, over the meta tokens and every chunk. -/
theorem sum_1 (r : Fin 256) (b : Fin 128) :
    @Eq EReal (kernelRun0_A.sl.v1786 c arg7 harg7 arg8 harg8 arg10 harg10 arg13 arg14 arg15 arg16 x5 x6 x8 (ix2 r b)) (wm c arg7 harg7 arg8 harg8 arg10 harg10 x5 x6 x8 1 r b + ∑ q : Fin 8, ∑ k : Fin 8, wt c arg7 harg7 arg8 harg8 arg10 harg10 x5 x6 x8 1 q r ⟨128 * k.val + b.val, by omega⟩) := by
  rw [row_7_1, prev_7_1, row_6_1, prev_6_1, row_5_1, prev_5_1, row_4_1, prev_4_1, row_3_1, prev_3_1, row_2_1, prev_2_1, row_1_1, prev_1_1, row_0_1, prev_0_1, wm_1]
  simp only [Fin.sum_univ_eight (f := fun q : Fin 8 => ∑ k : Fin 8, wt c arg7 harg7 arg8 harg8 arg10 harg10 x5 x6 x8 1 q r ⟨128 * k.val + b.val, _⟩), ← add_assoc]

theorem last_1 (i : S256x128.Idx) : @Eq EReal (kernelRun0_A.sl.v1823 c arg7 harg7 arg8 harg8 arg10 harg10 arg13 arg14 arg15 arg16 x5 x6 x8 i) (kernelRun0_A.sl.v1786 c arg7 harg7 arg8 harg8 arg10 harg10 arg13 arg14 arg15 arg16 x5 x6 x8 i) := by
  unfold kernelRun0_A.sl.v1823 kernelRun0_A.sl.v1822 kernelRun0_A.sl.HS3_18
  rw [View.readCov_cons_toLoadRect]
  unfold kernelRun0_A.sl.v1790
  exact cast_back _ i

end Cert.Proof

end
-- ==== Proof.Accum.lean ====
/- The kernel's weighted sums of values: over the meta tokens and every chunk, both halves' rows stacked. -/
module

public import proofs.«01_k».proof.Proof.Sums

@[expose] public section

set_option maxRecDepth 16384

noncomputable section

namespace Cert.Proof

open Cert.KernelIdeal Cert.KernelIdeal.Gen
open Idealize.ShloMosaic Idealize.ShloMosaic.TcCoe

variable (c : Dev nD) (arg7 : Memref sig .tc .vmem S2x256x128 .bf16) (harg7 : arg7.IsWhole) (arg8 : Memref sig .tc .vmem S2x8192x128 .bf16) (harg8 : arg8.IsWhole)
  (arg9 : Memref sig .tc .vmem S2x8192x128 .bf16) (harg9 : arg9.IsWhole) (arg10 : Memref sig .tc .vmem S2x128x128 .bf16) (harg10 : arg10.IsWhole)
  (arg11 : Memref sig .tc .vmem S2x128x128 .bf16) (harg11 : arg11.IsWhole)
  (arg13 : Memref sig .tc .vmem S2x8x256x1024 .f32) (arg14 : Memref sig .tc .vmem S2x256x128 .f32) (arg15 : Memref sig .tc .vmem S2x256x128 .f32)
  (arg16 : Memref sig .tc .vmem S2x256x128 .f32) (arg17 : Memref sig .tc .vmem S512x256 .f32)
  (x5 : Vec Ideal S2x256x128 .bf16) (x6 : Vec Ideal S2x8192x128 .bf16) (x7 : Vec Ideal S2x8192x128 .bf16) (x8 : Vec Ideal S2x128x128 .bf16) (x9 : Vec Ideal S2x128x128 .bf16)

/-- A value: key in the chunk, column of the pair's 256. -/
def vch (x7 : Vec Ideal S2x8192x128 .bf16) (q : Fin 8) (k : Fin 1024) (e : Fin 256) : EReal :=
  x7 (ix3 ⟨e.val / 128, by omega⟩ ⟨1024 * q.val + k.val, by omega⟩ ⟨e.val % 128, by omega⟩)

/-- A meta token's value. -/
def vmt (x9 : Vec Ideal S2x128x128 .bf16) (j : Fin 128) (e : Fin 256) : EReal :=
  x9 (ix3 ⟨e.val / 128, by omega⟩ j ⟨e.val % 128, by omega⟩)

theorem load_v (p o : Nat) (hp : p < 2) (q : Fin 8) (hq : o = 1024 * q.val)
    (inb : ∀ a, (![p, o, 0] : Fin 3 → Nat) a + S1x1024x128.size a ≤ S2x8192x128.size a) (k : Fin 1024) (e : Fin 128) :
    @Eq EReal (View.readAt (Elt Ideal) arg9.view (Rect.unit (s := S2x8192x128) ![p, o, 0] S1x1024x128.size inb).toLoadRect (harg9.unread x7) (ix3 0 k e))
      (vch x7 q k ⟨128 * p + e.val, by omega⟩) := by
  simp only [View.readAt_eq_ld, harg9.read_unread]
  refine View.ld_unit_apply_of _ _ _ _ _ _ ?_
  intro a
  match a with
  | ⟨0, _⟩ => show (128 * p + e.val) / 128 = p + 0; omega
  | ⟨1, _⟩ => show 1024 * q.val + k.val = o + k.val; omega
  | ⟨2, _⟩ => show (128 * p + e.val) % 128 = 0 + e.val; omega

theorem load_vmt (p : Nat) (hp : p < 2)
    (inb : ∀ a, (![p, 0, 0] : Fin 3 → Nat) a + S1x128x128.size a ≤ S2x128x128.size a) (k : Fin 128) (e : Fin 128) :
    @Eq EReal (View.readAt (Elt Ideal) arg11.view (Rect.unit (s := S2x128x128) ![p, 0, 0] S1x128x128.size inb).toLoadRect (harg11.unread x9) (ix3 0 k e))
      (vmt x9 k ⟨128 * p + e.val, by omega⟩) := by
  simp only [View.readAt_eq_ld, harg11.read_unread]
  refine View.ld_unit_apply_of _ _ _ _ _ _ ?_
  intro a
  match a with
  | ⟨0, _⟩ => show (128 * p + e.val) / 128 = p + 0; omega
  | ⟨1, _⟩ => show k.val = 0 + k.val; omega
  | ⟨2, _⟩ => show (128 * p + e.val) % 128 = 0 + e.val; omega

theorem accm (i : S512x256.Idx) :
    @Eq EReal (kernelRun0_A.sl.v806 c arg7 harg7 arg8 harg8 arg10 harg10 arg11 harg11 arg14 arg15 x5 x6 x8 x9 i) (∑ k : Fin 128, wm c arg7 harg7 arg8 harg8 arg10 harg10 x5 x6 x8 (halfOf (i 0)) (rowOf (i 0)) k * vmt x9 k (i 1)) := by
  unfold kernelRun0_A.sl.v806 kernelRun0_A.sl.v803 kernelRun0_A.sl.v802 kernelRun0_A.sl.v801 kernelRun0_A.sl.v794 kernelRun0_A.sl.v791 kernelRun0_A.sl.v793 kernelRun0_A.sl.cst_321
  exact acc_meta _ _ _ _ (wm c arg7 harg7 arg8 harg8 arg10 harg10 x5 x6 x8) (vmt x9) (wm_0 c arg7 harg7 arg8 harg8 arg10 harg10 arg14 arg15 x5 x6 x8) (wm_1 c arg7 harg7 arg8 harg8 arg10 harg10 arg14 arg15 x5 x6 x8)
    (fun k e => (load_vmt arg11 harg11 x9 0 (by decide) _ k e).trans (congrArg (vmt x9 k) (Fin.ext (by show 128 * 0 + e.val = e.val; omega)))) (load_vmt arg11 harg11 x9 1 (by decide) _) i

theorem acc_0 (i : S512x256.Idx) :
    @Eq EReal (kernelRun0_A.sl.v930 c arg7 harg7 arg8 harg8 arg9 harg9 arg10 harg10 arg11 harg11 arg13 arg14 arg15 arg17 x5 x6 x7 x8 x9 i) ((kernelRun0_A.sl.v806 c arg7 harg7 arg8 harg8 arg10 harg10 arg11 harg11 arg14 arg15 x5 x6 x8 x9 i : EReal) + ∑ k : Fin 1024, wt c arg7 harg7 arg8 harg8 arg10 harg10 x5 x6 x8 (halfOf (i 0)) 0 (rowOf (i 0)) k * vch x7 0 k (i 1)) := by
  unfold kernelRun0_A.sl.v930 kernelRun0_A.sl.v927 kernelRun0_A.sl.v926 kernelRun0_A.sl.v925 kernelRun0_A.sl.v924 kernelRun0_A.sl.v811 kernelRun0_A.sl.v810 kernelRun0_A.sl.v808 kernelRun0_A.sl.cst_321
  unfold kernelRun0_A.sl.HS4_1
  rw [View.readCov_cons_toLoadRect]
  exact acc_add _ _ _ _ _ (fun p r k => wt c arg7 harg7 arg8 harg8 arg10 harg10 x5 x6 x8 p 0 r k) (vch x7 0) (weights_0_0 c arg7 harg7 arg8 harg8 arg10 harg10 arg13 arg15 x5 x6 x8) (weights_0_1 c arg7 harg7 arg8 harg8 arg10 harg10 arg13 arg15 x5 x6 x8)
    (fun k e => (load_v arg9 harg9 x7 0 0 (by decide) 0 (by decide) _ k e).trans (congrArg (vch x7 0 k) (Fin.ext (by show 128 * 0 + e.val = e.val; omega)))) (load_v arg9 harg9 x7 1 0 (by decide) 0 (by decide) _) i

theorem acc_1 (i : S512x256.Idx) :
    @Eq EReal (kernelRun0_A.sl.v1054 c arg7 harg7 arg8 harg8 arg9 harg9 arg10 harg10 arg11 harg11 arg13 arg14 arg15 arg17 x5 x6 x7 x8 x9 i) ((kernelRun0_A.sl.v930 c arg7 harg7 arg8 harg8 arg9 harg9 arg10 harg10 arg11 harg11 arg13 arg14 arg15 arg17 x5 x6 x7 x8 x9 i : EReal) + ∑ k : Fin 1024, wt c arg7 harg7 arg8 harg8 arg10 harg10 x5 x6 x8 (halfOf (i 0)) 1 (rowOf (i 0)) k * vch x7 1 k (i 1)) := by
  unfold kernelRun0_A.sl.v1054 kernelRun0_A.sl.v1051 kernelRun0_A.sl.v1050 kernelRun0_A.sl.v1049 kernelRun0_A.sl.v1048 kernelRun0_A.sl.v935 kernelRun0_A.sl.v934 kernelRun0_A.sl.v932 kernelRun0_A.sl.cst_321
  unfold kernelRun0_A.sl.HS4_2
  rw [View.readCov_cons_toLoadRect]
  exact acc_add _ _ _ _ _ (fun p r k => wt c arg7 harg7 arg8 harg8 arg10 harg10 x5 x6 x8 p 1 r k) (vch x7 1) (weights_1_0 c arg7 harg7 arg8 harg8 arg10 harg10 arg13 arg15 x5 x6 x8) (weights_1_1 c arg7 harg7 arg8 harg8 arg10 harg10 arg13 arg15 x5 x6 x8)
    (fun k e => (load_v arg9 harg9 x7 0 1024 (by decide) 1 (by decide) _ k e).trans (congrArg (vch x7 1 k) (Fin.ext (by show 128 * 0 + e.val = e.val; omega)))) (load_v arg9 harg9 x7 1 1024 (by decide) 1 (by decide) _) i

theorem acc_2 (i : S512x256.Idx) :
    @Eq EReal (kernelRun0_A.sl.v1178 c arg7 harg7 arg8 harg8 arg9 harg9 arg10 harg10 arg11 harg11 arg13 arg14 arg15 arg17 x5 x6 x7 x8 x9 i) ((kernelRun0_A.sl.v1054 c arg7 harg7 arg8 harg8 arg9 harg9 arg10 harg10 arg11 harg11 arg13 arg14 arg15 arg17 x5 x6 x7 x8 x9 i : EReal) + ∑ k : Fin 1024, wt c arg7 harg7 arg8 harg8 arg10 harg10 x5 x6 x8 (halfOf (i 0)) 2 (rowOf (i 0)) k * vch x7 2 k (i 1)) := by
  unfold kernelRun0_A.sl.v1178 kernelRun0_A.sl.v1175 kernelRun0_A.sl.v1174 kernelRun0_A.sl.v1173 kernelRun0_A.sl.v1172 kernelRun0_A.sl.v1059 kernelRun0_A.sl.v1058 kernelRun0_A.sl.v1056 kernelRun0_A.sl.cst_321
  unfold kernelRun0_A.sl.HS4_3
  rw [View.readCov_cons_toLoadRect]
  exact acc_add _ _ _ _ _ (fun p r k => wt c arg7 harg7 arg8 harg8 arg10 harg10 x5 x6 x8 p 2 r k) (vch x7 2) (weights_2_0 c arg7 harg7 arg8 harg8 arg10 harg10 arg13 arg15 x5 x6 x8) (weights_2_1 c arg7 harg7 arg8 harg8 arg10 harg10 arg13 arg15 x5 x6 x8)
    (fun k e => (load_v arg9 harg9 x7 0 2048 (by decide) 2 (by decide) _ k e).trans (congrArg (vch x7 2 k) (Fin.ext (by show 128 * 0 + e.val = e.val; omega)))) (load_v arg9 harg9 x7 1 2048 (by decide) 2 (by decide) _) i

theorem acc_3 (i : S512x256.Idx) :
    @Eq EReal (kernelRun0_A.sl.v1302 c arg7 harg7 arg8 harg8 arg9 harg9 arg10 harg10 arg11 harg11 arg13 arg14 arg15 arg17 x5 x6 x7 x8 x9 i) ((kernelRun0_A.sl.v1178 c arg7 harg7 arg8 harg8 arg9 harg9 arg10 harg10 arg11 harg11 arg13 arg14 arg15 arg17 x5 x6 x7 x8 x9 i : EReal) + ∑ k : Fin 1024, wt c arg7 harg7 arg8 harg8 arg10 harg10 x5 x6 x8 (halfOf (i 0)) 3 (rowOf (i 0)) k * vch x7 3 k (i 1)) := by
  unfold kernelRun0_A.sl.v1302 kernelRun0_A.sl.v1299 kernelRun0_A.sl.v1298 kernelRun0_A.sl.v1297 kernelRun0_A.sl.v1296 kernelRun0_A.sl.v1183 kernelRun0_A.sl.v1182 kernelRun0_A.sl.v1180 kernelRun0_A.sl.cst_321
  unfold kernelRun0_A.sl.HS4_4
  rw [View.readCov_cons_toLoadRect]
  exact acc_add _ _ _ _ _ (fun p r k => wt c arg7 harg7 arg8 harg8 arg10 harg10 x5 x6 x8 p 3 r k) (vch x7 3) (weights_3_0 c arg7 harg7 arg8 harg8 arg10 harg10 arg13 arg15 x5 x6 x8) (weights_3_1 c arg7 harg7 arg8 harg8 arg10 harg10 arg13 arg15 x5 x6 x8)
    (fun k e => (load_v arg9 harg9 x7 0 3072 (by decide) 3 (by decide) _ k e).trans (congrArg (vch x7 3 k) (Fin.ext (by show 128 * 0 + e.val = e.val; omega)))) (load_v arg9 harg9 x7 1 3072 (by decide) 3 (by decide) _) i

theorem acc_4 (i : S512x256.Idx) :
    @Eq EReal (kernelRun0_A.sl.v1426 c arg7 harg7 arg8 harg8 arg9 harg9 arg10 harg10 arg11 harg11 arg13 arg14 arg15 arg17 x5 x6 x7 x8 x9 i) ((kernelRun0_A.sl.v1302 c arg7 harg7 arg8 harg8 arg9 harg9 arg10 harg10 arg11 harg11 arg13 arg14 arg15 arg17 x5 x6 x7 x8 x9 i : EReal) + ∑ k : Fin 1024, wt c arg7 harg7 arg8 harg8 arg10 harg10 x5 x6 x8 (halfOf (i 0)) 4 (rowOf (i 0)) k * vch x7 4 k (i 1)) := by
  unfold kernelRun0_A.sl.v1426 kernelRun0_A.sl.v1423 kernelRun0_A.sl.v1422 kernelRun0_A.sl.v1421 kernelRun0_A.sl.v1420 kernelRun0_A.sl.v1307 kernelRun0_A.sl.v1306 kernelRun0_A.sl.v1304 kernelRun0_A.sl.cst_321
  unfold kernelRun0_A.sl.HS4_5
  rw [View.readCov_cons_toLoadRect]
  exact acc_add _ _ _ _ _ (fun p r k => wt c arg7 harg7 arg8 harg8 arg10 harg10 x5 x6 x8 p 4 r k) (vch x7 4) (weights_4_0 c arg7 harg7 arg8 harg8 arg10 harg10 arg13 arg15 x5 x6 x8) (weights_4_1 c arg7 harg7 arg8 harg8 arg10 harg10 arg13 arg15 x5 x6 x8)
    (fun k e => (load_v arg9 harg9 x7 0 4096 (by decide) 4 (by decide) _ k e).trans (congrArg (vch x7 4 k) (Fin.ext (by show 128 * 0 + e.val = e.val; omega)))) (load_v arg9 harg9 x7 1 4096 (by decide) 4 (by decide) _) i

theorem acc_5 (i : S512x256.Idx) :
    @Eq EReal (kernelRun0_A.sl.v1550 c arg7 harg7 arg8 harg8 arg9 harg9 arg10 harg10 arg11 harg11 arg13 arg14 arg15 arg17 x5 x6 x7 x8 x9 i) ((kernelRun0_A.sl.v1426 c arg7 harg7 arg8 harg8 arg9 harg9 arg10 harg10 arg11 harg11 arg13 arg14 arg15 arg17 x5 x6 x7 x8 x9 i : EReal) + ∑ k : Fin 1024, wt c arg7 harg7 arg8 harg8 arg10 harg10 x5 x6 x8 (halfOf (i 0)) 5 (rowOf (i 0)) k * vch x7 5 k (i 1)) := by
  unfold kernelRun0_A.sl.v1550 kernelRun0_A.sl.v1547 kernelRun0_A.sl.v1546 kernelRun0_A.sl.v1545 kernelRun0_A.sl.v1544 kernelRun0_A.sl.v1431 kernelRun0_A.sl.v1430 kernelRun0_A.sl.v1428 kernelRun0_A.sl.cst_321
  unfold kernelRun0_A.sl.HS4_6
  rw [View.readCov_cons_toLoadRect]
  exact acc_add _ _ _ _ _ (fun p r k => wt c arg7 harg7 arg8 harg8 arg10 harg10 x5 x6 x8 p 5 r k) (vch x7 5) (weights_5_0 c arg7 harg7 arg8 harg8 arg10 harg10 arg13 arg15 x5 x6 x8) (weights_5_1 c arg7 harg7 arg8 harg8 arg10 harg10 arg13 arg15 x5 x6 x8)
    (fun k e => (load_v arg9 harg9 x7 0 5120 (by decide) 5 (by decide) _ k e).trans (congrArg (vch x7 5 k) (Fin.ext (by show 128 * 0 + e.val = e.val; omega)))) (load_v arg9 harg9 x7 1 5120 (by decide) 5 (by decide) _) i

theorem acc_6 (i : S512x256.Idx) :
    @Eq EReal (kernelRun0_A.sl.v1674 c arg7 harg7 arg8 harg8 arg9 harg9 arg10 harg10 arg11 harg11 arg13 arg14 arg15 arg17 x5 x6 x7 x8 x9 i) ((kernelRun0_A.sl.v1550 c arg7 harg7 arg8 harg8 arg9 harg9 arg10 harg10 arg11 harg11 arg13 arg14 arg15 arg17 x5 x6 x7 x8 x9 i : EReal) + ∑ k : Fin 1024, wt c arg7 harg7 arg8 harg8 arg10 harg10 x5 x6 x8 (halfOf (i 0)) 6 (rowOf (i 0)) k * vch x7 6 k (i 1)) := by
  unfold kernelRun0_A.sl.v1674 kernelRun0_A.sl.v1671 kernelRun0_A.sl.v1670 kernelRun0_A.sl.v1669 kernelRun0_A.sl.v1668 kernelRun0_A.sl.v1555 kernelRun0_A.sl.v1554 kernelRun0_A.sl.v1552 kernelRun0_A.sl.cst_321
  unfold kernelRun0_A.sl.HS4_7
  rw [View.readCov_cons_toLoadRect]
  exact acc_add _ _ _ _ _ (fun p r k => wt c arg7 harg7 arg8 harg8 arg10 harg10 x5 x6 x8 p 6 r k) (vch x7 6) (weights_6_0 c arg7 harg7 arg8 harg8 arg10 harg10 arg13 arg15 x5 x6 x8) (weights_6_1 c arg7 harg7 arg8 harg8 arg10 harg10 arg13 arg15 x5 x6 x8)
    (fun k e => (load_v arg9 harg9 x7 0 6144 (by decide) 6 (by decide) _ k e).trans (congrArg (vch x7 6 k) (Fin.ext (by show 128 * 0 + e.val = e.val; omega)))) (load_v arg9 harg9 x7 1 6144 (by decide) 6 (by decide) _) i

theorem acc_7 (i : S512x256.Idx) :
    @Eq EReal (kernelRun0_A.sl.v1798 c arg7 harg7 arg8 harg8 arg9 harg9 arg10 harg10 arg11 harg11 arg13 arg14 arg15 arg17 x5 x6 x7 x8 x9 i) ((kernelRun0_A.sl.v1674 c arg7 harg7 arg8 harg8 arg9 harg9 arg10 harg10 arg11 harg11 arg13 arg14 arg15 arg17 x5 x6 x7 x8 x9 i : EReal) + ∑ k : Fin 1024, wt c arg7 harg7 arg8 harg8 arg10 harg10 x5 x6 x8 (halfOf (i 0)) 7 (rowOf (i 0)) k * vch x7 7 k (i 1)) := by
  unfold kernelRun0_A.sl.v1798 kernelRun0_A.sl.v1795 kernelRun0_A.sl.v1794 kernelRun0_A.sl.v1793 kernelRun0_A.sl.v1792 kernelRun0_A.sl.v1679 kernelRun0_A.sl.v1678 kernelRun0_A.sl.v1676 kernelRun0_A.sl.cst_321
  unfold kernelRun0_A.sl.HS4_8
  rw [View.readCov_cons_toLoadRect]
  exact acc_add _ _ _ _ _ (fun p r k => wt c arg7 harg7 arg8 harg8 arg10 harg10 x5 x6 x8 p 7 r k) (vch x7 7) (weights_7_0 c arg7 harg7 arg8 harg8 arg10 harg10 arg13 arg15 x5 x6 x8) (weights_7_1 c arg7 harg7 arg8 harg8 arg10 harg10 arg13 arg15 x5 x6 x8)
    (fun k e => (load_v arg9 harg9 x7 0 7168 (by decide) 7 (by decide) _ k e).trans (congrArg (vch x7 7 k) (Fin.ext (by show 128 * 0 + e.val = e.val; omega)))) (load_v arg9 harg9 x7 1 7168 (by decide) 7 (by decide) _) i

/-- The weighted sum of values after the last chunk. -/
theorem acc_all (i : S512x256.Idx) :
    @Eq EReal (kernelRun0_A.sl.v1798 c arg7 harg7 arg8 harg8 arg9 harg9 arg10 harg10 arg11 harg11 arg13 arg14 arg15 arg17 x5 x6 x7 x8 x9 i) ((∑ k : Fin 128, wm c arg7 harg7 arg8 harg8 arg10 harg10 x5 x6 x8 (halfOf (i 0)) (rowOf (i 0)) k * vmt x9 k (i 1))
      + ∑ q : Fin 8, ∑ k : Fin 1024, wt c arg7 harg7 arg8 harg8 arg10 harg10 x5 x6 x8 (halfOf (i 0)) q (rowOf (i 0)) k * vch x7 q k (i 1)) := by
  rw [acc_7, acc_6, acc_5, acc_4, acc_3, acc_2, acc_1, acc_0, accm, Fin.sum_univ_eight]
  simp only [← add_assoc]

end Cert.Proof

end
-- ==== Proof.Output.lean ====
/- What one grid point writes: the difference of the two softmax averages, normalised over the pair's 256 columns. -/
module

public import proofs.«01_k».proof.Proof.Accum

@[expose] public section

set_option maxRecDepth 16384

noncomputable section

namespace Cert.Proof

open Cert.KernelIdeal Cert.KernelIdeal.Gen
open Idealize.ShloMosaic Idealize.ShloMosaic.TcCoe

variable (c : Dev nD) (i : grid0.Coords) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x256 .f32) (harg6 : arg6.IsWhole) (arg7 : Memref sig .tc .vmem S2x256x128 .bf16) (harg7 : arg7.IsWhole) (arg8 : Memref sig .tc .vmem S2x8192x128 .bf16) (harg8 : arg8.IsWhole) (arg9 : Memref sig .tc .vmem S2x8192x128 .bf16) (harg9 : arg9.IsWhole) (arg10 : Memref sig .tc .vmem S2x128x128 .bf16) (harg10 : arg10.IsWhole) (arg11 : Memref sig .tc .vmem S2x128x128 .bf16) (harg11 : arg11.IsWhole) (arg12 : Memref sig .tc .vmem S256x256 .bf16) (harg12 : arg12.IsWhole) (arg13 : Memref sig .tc .vmem S2x8x256x1024 .f32) (harg13 : arg13.IsWhole) (arg14 : Memref sig .tc .vmem S2x256x128 .f32) (harg14 : arg14.IsWhole) (arg15 : Memref sig .tc .vmem S2x256x128 .f32) (harg15 : arg15.IsWhole) (arg16 : Memref sig .tc .vmem S2x256x128 .f32) (harg16 : arg16.IsWhole) (arg17 : Memref sig .tc .vmem S512x256 .f32) (harg17 : arg17.IsWhole)
  (x0 : Vec Ideal S1x128 .f32) (x1 : Vec Ideal S1x128 .f32) (x2 : Vec Ideal S1x128 .f32) (x3 : Vec Ideal S1x128 .f32) (x4 : Vec Ideal S1x256 .f32) (x5 : Vec Ideal S2x256x128 .bf16) (x6 : Vec Ideal S2x8192x128 .bf16) (x7 : Vec Ideal S2x8192x128 .bf16) (x8 : Vec Ideal S2x128x128 .bf16) (x9 : Vec Ideal S2x128x128 .bf16)

/-- A row's sum of weights. -/
def lsum (p : Fin 2) (r : Fin 256) : EReal :=
  ∑ b : Fin 128, (wm c arg7 harg7 arg8 harg8 arg10 harg10 x5 x6 x8 p r b + ∑ q : Fin 8, ∑ k : Fin 8, wt c arg7 harg7 arg8 harg8 arg10 harg10 x5 x6 x8 p q r ⟨128 * k.val + b.val, by omega⟩)

/-- A row's weighted sum of values. -/
def accv (p : Fin 2) (r : Fin 256) (e : Fin 256) : EReal :=
  (∑ k : Fin 128, wm c arg7 harg7 arg8 harg8 arg10 harg10 x5 x6 x8 p r k * vmt x9 k e) + ∑ q : Fin 8, ∑ k : Fin 1024, wt c arg7 harg7 arg8 harg8 arg10 harg10 x5 x6 x8 p q r k * vch x7 q k e

/-- The factor of the second softmax. -/
def lamv : EReal :=
  Ideal.exp (∑ d : Fin 128, (x0 (ix2 0 d) : EReal) * x1 (ix2 0 d)) - Ideal.exp (∑ d : Fin 128, (x2 (ix2 0 d) : EReal) * x3 (ix2 0 d)) + Ideal.ofBits .f32 0x3E4CCCCD#32

theorem lamv_word : @Eq EReal (kernelRun0_A.sl.v1817 c arg2 harg2 arg3 harg3 arg4 harg4 arg5 harg5 x0 x1 x2 x3 (ix2 0 0)) (lamv x0 x1 x2 x3) := by
  unfold kernelRun0_A.sl.v1817 kernelRun0_A.sl.v1816 kernelRun0_A.sl.v1815 kernelRun0_A.sl.v1814 kernelRun0_A.sl.v1813 kernelRun0_A.sl.v1812 kernelRun0_A.sl.v1811 kernelRun0_A.sl.v1810 kernelRun0_A.sl.v1808 kernelRun0_A.sl.v1806 kernelRun0_A.sl.v1805 kernelRun0_A.sl.v1804 kernelRun0_A.sl.v1803 kernelRun0_A.sl.v1802 kernelRun0_A.sl.v1800 kernelRun0_A.sl.cst_1072
  simp only [View.readAt_eq_ld, harg2.read_unread, harg3.read_unread, harg4.read_unread, harg5.read_unread]
  pointwise
  rfl

theorem lsum_word_0 (r : Fin 256) : @Eq EReal (kernelRun0_A.sl.v1821 c arg7 harg7 arg8 harg8 arg10 harg10 arg13 arg14 arg15 arg16 x5 x6 x8 (ix2 r 0)) (lsum c arg7 harg7 arg8 harg8 arg10 harg10 x5 x6 x8 0 r) := by
  unfold kernelRun0_A.sl.v1821 kernelRun0_A.sl.v1820
  pointwise
  exact Finset.sum_congr rfl fun b _ => (last_0 c arg7 harg7 arg8 harg8 arg10 harg10 arg13 arg14 arg15 arg16 x5 x6 x8 (ix2 r b)).trans (sum_0 c arg7 harg7 arg8 harg8 arg10 harg10 arg13 arg14 arg15 arg16 x5 x6 x8 r b)

theorem lsum_word_1 (r : Fin 256) : @Eq EReal (kernelRun0_A.sl.v1825 c arg7 harg7 arg8 harg8 arg10 harg10 arg13 arg14 arg15 arg16 x5 x6 x8 (ix2 r 0)) (lsum c arg7 harg7 arg8 harg8 arg10 harg10 x5 x6 x8 1 r) := by
  unfold kernelRun0_A.sl.v1825 kernelRun0_A.sl.v1824
  pointwise
  exact Finset.sum_congr rfl fun b _ => (last_1 c arg7 harg7 arg8 harg8 arg10 harg10 arg13 arg14 arg15 arg16 x5 x6 x8 (ix2 r b)).trans (sum_1 c arg7 harg7 arg8 harg8 arg10 harg10 arg13 arg14 arg15 arg16 x5 x6 x8 r b)

theorem acc_word_0 (r e : Fin 256) : @Eq EReal (kernelRun0_A.sl.v1826 c arg7 harg7 arg8 harg8 arg9 harg9 arg10 harg10 arg11 harg11 arg13 arg14 arg15 arg17 x5 x6 x7 x8 x9 (ix2 r e)) (accv c arg7 harg7 arg8 harg8 arg10 harg10 x5 x6 x7 x8 x9 0 r e) := by
  unfold kernelRun0_A.sl.v1826 kernelRun0_A.sl.HS4_9
  rw [View.readCov_fill _ _ _ _ _ (by decide)]
  refine (View.ld_unit_apply_of _ _ _ _ _ (ix2 (⟨0 + r.val, by omega⟩ : Fin 512) e) ?_).trans ((acc_all c arg7 harg7 arg8 harg8 arg9 harg9 arg10 harg10 arg11 harg11 arg13 arg14 arg15 arg17 x5 x6 x7 x8 x9 _).trans ?_)
  · intro a
    match a with
    | ⟨0, _⟩ => show 0 + r.val = _ + r.val; simp
    | ⟨1, _⟩ => show e.val = 0 + e.val; omega
  · have hh : halfOf (⟨0 + r.val, by omega⟩ : Fin 512) = 0 := Fin.ext (by show (0 + r.val) / 256 = 0; omega)
    have hr : rowOf (⟨0 + r.val, by omega⟩ : Fin 512) = r := Fin.ext (by show (0 + r.val) % 256 = r.val; omega)
    show (∑ k : Fin 128, wm c arg7 harg7 arg8 harg8 arg10 harg10 x5 x6 x8 (halfOf (⟨0 + r.val, _⟩ : Fin 512)) (rowOf (⟨0 + r.val, _⟩ : Fin 512)) k * vmt x9 k e)
      + (∑ q : Fin 8, ∑ k : Fin 1024, wt c arg7 harg7 arg8 harg8 arg10 harg10 x5 x6 x8 (halfOf (⟨0 + r.val, _⟩ : Fin 512)) q (rowOf (⟨0 + r.val, _⟩ : Fin 512)) k * vch x7 q k e) = _
    rw [hh, hr]
    rfl

theorem acc_word_1 (r e : Fin 256) : @Eq EReal (kernelRun0_A.sl.v1831 c arg7 harg7 arg8 harg8 arg9 harg9 arg10 harg10 arg11 harg11 arg13 arg14 arg15 arg17 x5 x6 x7 x8 x9 (ix2 r e)) (accv c arg7 harg7 arg8 harg8 arg10 harg10 x5 x6 x7 x8 x9 1 r e) := by
  unfold kernelRun0_A.sl.v1831 kernelRun0_A.sl.HS4_9
  rw [View.readCov_fill _ _ _ _ _ (by decide)]
  refine (View.ld_unit_apply_of _ _ _ _ _ (ix2 (⟨256 + r.val, by omega⟩ : Fin 512) e) ?_).trans ((acc_all c arg7 harg7 arg8 harg8 arg9 harg9 arg10 harg10 arg11 harg11 arg13 arg14 arg15 arg17 x5 x6 x7 x8 x9 _).trans ?_)
  · intro a
    match a with
    | ⟨0, _⟩ => show 256 + r.val = _ + r.val; simp
    | ⟨1, _⟩ => show e.val = 0 + e.val; omega
  · have hh : halfOf (⟨256 + r.val, by omega⟩ : Fin 512) = 1 := Fin.ext (by show (256 + r.val) / 256 = 1; omega)
    have hr : rowOf (⟨256 + r.val, by omega⟩ : Fin 512) = r := Fin.ext (by show (256 + r.val) % 256 = r.val; omega)
    show (∑ k : Fin 128, wm c arg7 harg7 arg8 harg8 arg10 harg10 x5 x6 x8 (halfOf (⟨256 + r.val, _⟩ : Fin 512)) (rowOf (⟨256 + r.val, _⟩ : Fin 512)) k * vmt x9 k e)
      + (∑ q : Fin 8, ∑ k : Fin 1024, wt c arg7 harg7 arg8 harg8 arg10 harg10 x5 x6 x8 (halfOf (⟨256 + r.val, _⟩ : Fin 512)) q (rowOf (⟨256 + r.val, _⟩ : Fin 512)) k * vch x7 q k e) = _
    rw [hh, hr]
    rfl

/-- The norm over a head's 256 columns, with its gain and factor. -/
def normed (o g : Fin 256 → EReal) (e : Fin 256) : EReal :=
  o e * Ideal.rsqrt (Ideal.div (∑ x : Fin 256, o x * o x) (Ideal.ofBits .f32 0x43800000#32) + Ideal.ofBits .f32 0x3727C5AC#32) * g e * Ideal.ofBits .f32 0x3F4CCCCD#32

theorem last_block (lam : FVec Ideal S1x1 .f32) (l1 l2 : FVec Ideal S256x1 .f32) (a1 a2 : Vec Ideal S256x256 .f32) (g : Vec Ideal S1x256 .f32) (r e : Fin 256) :
    @Eq EReal (k0_pay1 (F := Ideal) lam l2 (k0_pay474 l1 a1) a2 g (ix2 r e))
      (normed (fun x => (a1 (ix2 r x) : EReal) * Ideal.div 1 (l1 (ix2 r 0)) - a2 (ix2 r x) * Ideal.div (lam (ix2 0 0)) (l2 (ix2 r 0))) (fun x => g (ix2 0 x)) e) := by
  unfold k0_pay1 k0_pay474
  pointwise
  have h1 : (FloatOps.ofBits .f32 0x3F800000#32 : Ideal .f32) = (1 : EReal) := Ideal.ofBits_one_f32
  try simp only [h1]
  rfl

/-- The difference of the two weighted averages at a row and column. -/
def oker (r e : Fin 256) : EReal :=
  accv c arg7 harg7 arg8 harg8 arg10 harg10 x5 x6 x7 x8 x9 0 r e * Ideal.div 1 (lsum c arg7 harg7 arg8 harg8 arg10 harg10 x5 x6 x8 0 r) - accv c arg7 harg7 arg8 harg8 arg10 harg10 x5 x6 x7 x8 x9 1 r e * Ideal.div (lamv x0 x1 x2 x3) (lsum c arg7 harg7 arg8 harg8 arg10 harg10 x5 x6 x8 1 r)

theorem out_word (r e : Fin 256) : @Eq EReal (out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 (ix2 r e)) (normed (oker c arg7 harg7 arg8 harg8 arg10 harg10 x0 x1 x2 x3 x5 x6 x7 x8 x9 r) (fun x => x4 (ix2 0 x)) e) := by
  unfold out0_A_10 kernelRun0_A
  rw [VO0_10.read_writes_junk_eq_canon]
  show View.canon [_] _ = _
  rw [View.canon_unit_zero (by decide)]
  unfold kernelRun0_A.sl.r_6
  refine (last_block _ _ _ _ _ _ r e).trans ?_
  simp only [lamv_word, lsum_word_0, lsum_word_1, acc_word_0, acc_word_1]
  refine congrArg (fun g => normed (oker c arg7 harg7 arg8 harg8 arg10 harg10 x0 x1 x2 x3 x5 x6 x7 x8 x9 r) g e) (funext fun x => ?_)
  simp only [View.readAt_eq_ld, harg6.read_unread]
  refine View.ld_unit_apply_of _ _ _ _ _ _ ?_
  intro a
  match a with
  | ⟨0, _⟩ => rfl
  | ⟨1, _⟩ => show x.val = 0 + x.val; omega

end Cert.Proof

end
-- ==== Proof.Packed.lean ====
/- What the kernel's launch is given: the projections in chunks of 128 columns, the queries' columns scaled. -/
module

public import proofs.«01_k».proof.Proof.Output

@[expose] public section

set_option maxRecDepth 16384

noncomputable section

namespace Cert.Proof

open Cert.KernelIdeal Cert.KernelIdeal.Gen
open Idealize.ShloMosaic Idealize.ShloMosaic.TcCoe

/-- The queries' scale: 1/√128 over ln 2, the base-2 exponential being taken later. -/
def qscale : EReal := Ideal.div (Ideal.rsqrt (Ideal.ofBits .f32 0x43000000#32)) (Ideal.log (Ideal.ofBits .f32 0x40000000#32))

/-- The scale of each column. -/
def colScale : Vec Ideal S1x12288 .f32 :=
  shapeCast S1x12288 (select (cmpi .slt (iotaInDim S12288 32 0) (broadcastInDim S12288 ![] bcast_S_S12288 (constantI S_ 32 2048#32)))
    (broadcastInDim S12288 ![] bcast_S_S12288 (constant (F := Ideal) S_ .f32 0x3DB504F3#32))
    (select (andi (cmpi .sge (iotaInDim S12288 32 0) (broadcastInDim S12288 ![] bcast_S_S12288 (constantI S_ 32 6144#32)))
        (cmpi .slt (iotaInDim S12288 32 0) (broadcastInDim S12288 ![] bcast_S_S12288 (constantI S_ 32 8192#32))))
      (broadcastInDim S12288 ![] bcast_S_S12288 (Host.divf (F := Ideal) (φ := .f32) (Host.rsqrt (F := Ideal) (φ := .f32) (constant S_ .f32 0x43000000#32)) (Host.log (F := Ideal) (φ := .f32) (constant S_ .f32 0x40000000#32))))
      (broadcastInDim S12288 ![] bcast_S_S12288 (constant (F := Ideal) S_ .f32 0x3F800000#32)))) shapeCasts_S12288_S1x12288

theorem colScale_q (e : Fin 12288) (h₀ : 6144 ≤ e.val) (h₁ : e.val < 8192) : @Eq EReal (colScale (ix2 0 e)) qscale := by
  have hw : ∀ b : Fin 2048, IntOp.cmpi .slt (BitVec.ofNat 32 (6144 + b.val)) 2048#32 = 0#1
      ∧ IntOp.cmpi .sge (BitVec.ofNat 32 (6144 + b.val)) 6144#32 = 1#1 ∧ IntOp.cmpi .slt (BitVec.ofNat 32 (6144 + b.val)) 8192#32 = 1#1 := by decide +kernel
  obtain ⟨a, b, c⟩ := hw ⟨e.val - 6144, by omega⟩
  have he : 6144 + (e.val - 6144) = e.val := by omega
  simp only [he] at a b c
  unfold colScale qscale
  pointwise
  rw [a, b, c]
  rfl

theorem colScale_kv (e : Fin 12288) (h₀ : 8192 ≤ e.val) : @Eq EReal (colScale (ix2 0 e)) 1 := by
  have hw : ∀ b : Fin 4096, IntOp.cmpi .slt (BitVec.ofNat 32 (8192 + b.val)) 2048#32 = 0#1
      ∧ IntOp.cmpi .slt (BitVec.ofNat 32 (8192 + b.val)) 8192#32 = 0#1 := by decide +kernel
  obtain ⟨a, b⟩ := hw ⟨e.val - 8192, by omega⟩
  have he : 8192 + (e.val - 8192) = e.val := by omega
  simp only [he] at a b
  unfold colScale
  pointwise
  rw [a, b]
  have h0 : ∀ x : BitVec 1, IntOp.andi x 0#1 = 0#1 := by decide
  rw [h0]
  rfl

/-- The prompt's projections: chunk, row, column of the chunk. -/
def rowsOf (A0 : Vec Ideal S24576x12288 .f32) : Vec Ideal S96x24576x128 .bf16 :=
  truncf (F := Ideal) (φ := .f32) .bf16 (transpose S96x24576x128 [1, 0, 2] (shapeCast S24576x96x128 (mulf (φ := .f32) A0 (broadcastInDim S24576x12288 ![0, 1] bcast_S1x12288_S24576x12288_0_1 colScale)) shapeCasts_S24576x12288_S24576x96x128)
    transposes_S24576x96x128_S96x24576x128_1_0_2) bitsLt_bf16_f32

theorem rowsOf_apply (A0 : Vec Ideal S24576x12288 .f32) (p : Fin 96) (r : Fin 24576) (d : Fin 128) :
    @Eq EReal (rowsOf A0 (ix3 p r d)) (A0 (ix2 r (⟨p.val * 128 + d.val, by omega⟩ : Fin 12288)) * colScale (ix2 0 (⟨p.val * 128 + d.val, by omega⟩ : Fin 12288))) := by
  unfold rowsOf
  pointwise

/-- The meta tokens' projections, padded to 128 rows with zeros: chunk, row, column of the chunk. -/
def metaOf (A1 : Vec Ideal S16x12288 .f32) : Vec Ideal S96x128x128 .bf16 :=
  truncf (F := Ideal) (φ := .f32) .bf16 (transpose S96x128x128 [1, 0, 2] (shapeCast S128x96x128 (mulf (φ := .f32)
    (pad S128x12288 ![0, 0] ![112, 0] ![0, 0] A1 (sitofp (F := Ideal) .f32 (constantI S_ 32 0#32)) pads_S16x12288_S128x12288_01120_000 h_S_)
    (broadcastInDim S128x12288 ![0, 1] bcast_S1x12288_S128x12288_0_1 colScale)) shapeCasts_S128x12288_S128x96x128)
    transposes_S128x96x128_S96x128x128_1_0_2) bitsLt_bf16_f32

theorem metaOf_apply (A1 : Vec Ideal S16x12288 .f32) (p : Fin 96) (r : Fin 128) (d : Fin 128) :
    @Eq EReal (metaOf A1 (ix3 p r d)) ((if h : r.val < 16 then (A1 (ix2 ⟨r.val, h⟩ (⟨p.val * 128 + d.val, by omega⟩ : Fin 12288)) : EReal) else 0)
      * colScale (ix2 0 (⟨p.val * 128 + d.val, by omega⟩ : Fin 12288))) := by
  unfold metaOf
  pointwise
  have h0 : (FloatOps.sitofp (F := Ideal) FTy.f32 0#32 : EReal) = 0 := by
    show (((0#32 : BitVec 32).toInt : ℝ) : EReal) = 0
    simp
  have hp : p.val * 128 + d.val < 12288 := by omega
  rw [h0]
  by_cases h : r.val < 16
  · rw [dif_pos ⟨h, hp⟩, dif_pos h]
  · rw [dif_neg (fun hh => h hh.1), dif_neg h]

theorem V_rows (m : (ℓ : Loc nD τ sig) → Buf (Elt Ideal) ℓ) (c : Dev nD) : V m c main_v19 = rowsOf (m ((c.tc : Thread nD τ).loc main_arg0)) := by
  simp only [V, hostOps0, hostOps0_1, hostOps0_2, hostOps0_3, hostOps0_4, hostOps0_5, hostOps0_6, List.flatten_cons, List.flatten_nil, List.append_nil,
    List.cons_append, List.nil_append]
  after_results
  rfl

theorem V_meta (m : (ℓ : Loc nD τ sig) → Buf (Elt Ideal) ℓ) (c : Dev nD) : V m c main_v24 = metaOf (m ((c.tc : Thread nD τ).loc main_arg1)) := by
  simp only [V, hostOps0, hostOps0_1, hostOps0_2, hostOps0_3, hostOps0_4, hostOps0_5, hostOps0_6, List.flatten_cons, List.flatten_nil, List.append_nil,
    List.cons_append, List.nil_append]
  after_results
  rfl

theorem twice128 (x : Vec Ideal S1x128 .f32) : shapeCast S1x128 (shapeCast S128 x shapeCasts_S1x128_S128) shapeCasts_S128_S1x128 = x := by
  funext i
  idx_vars i
  pointwise

theorem twice256 (x : Vec Ideal S1x256 .f32) : shapeCast S1x256 (shapeCast S256 x shapeCasts_S1x256_S256) shapeCasts_S256_S1x256 = x := by
  funext i
  idx_vars i
  pointwise

theorem V_q1 (m : (ℓ : Loc nD τ sig) → Buf (Elt Ideal) ℓ) (c : Dev nD) : V m c main_v30 = m ((c.tc : Thread nD τ).loc main_arg2) := by
  simp only [V, hostOps0, hostOps0_1, hostOps0_2, hostOps0_3, hostOps0_4, hostOps0_5, hostOps0_6, List.flatten_cons, List.flatten_nil, List.append_nil,
    List.cons_append, List.nil_append]
  after_results
  exact twice128 _

theorem V_k1 (m : (ℓ : Loc nD τ sig) → Buf (Elt Ideal) ℓ) (c : Dev nD) : V m c main_v31 = m ((c.tc : Thread nD τ).loc main_arg3) := by
  simp only [V, hostOps0, hostOps0_1, hostOps0_2, hostOps0_3, hostOps0_4, hostOps0_5, hostOps0_6, List.flatten_cons, List.flatten_nil, List.append_nil,
    List.cons_append, List.nil_append]
  after_results
  exact twice128 _

theorem V_q2 (m : (ℓ : Loc nD τ sig) → Buf (Elt Ideal) ℓ) (c : Dev nD) : V m c main_v32 = m ((c.tc : Thread nD τ).loc main_arg4) := by
  simp only [V, hostOps0, hostOps0_1, hostOps0_2, hostOps0_3, hostOps0_4, hostOps0_5, hostOps0_6, List.flatten_cons, List.flatten_nil, List.append_nil,
    List.cons_append, List.nil_append]
  after_results
  exact twice128 _

theorem V_k2 (m : (ℓ : Loc nD τ sig) → Buf (Elt Ideal) ℓ) (c : Dev nD) : V m c main_v33 = m ((c.tc : Thread nD τ).loc main_arg5) := by
  simp only [V, hostOps0, hostOps0_1, hostOps0_2, hostOps0_3, hostOps0_4, hostOps0_5, hostOps0_6, List.flatten_cons, List.flatten_nil, List.append_nil,
    List.cons_append, List.nil_append]
  after_results
  exact twice128 _

theorem V_g (m : (ℓ : Loc nD τ sig) → Buf (Elt Ideal) ℓ) (c : Dev nD) : V m c main_v34 = m ((c.tc : Thread nD τ).loc main_arg6) := by
  simp only [V, hostOps0, hostOps0_1, hostOps0_2, hostOps0_3, hostOps0_4, hostOps0_5, hostOps0_6, List.flatten_cons, List.flatten_nil, List.append_nil,
    List.cons_append, List.nil_append]
  after_results
  exact twice256 _

end Cert.Proof

end
-- ==== Proof.Blocks.lean ====
/- The blocks of a grid point: head `t / 32`, tile of 256 query rows `t % 32`. -/
module

public import proofs.«01_k».proof.Proof.Packed
public import proofs.«01_k».proof.Proof.Gen.KernelIdeal.Value

@[expose] public section

set_option maxRecDepth 16384

noncomputable section

namespace Cert.Proof

open Cert.KernelIdeal Cert.KernelIdeal.Gen
open Idealize.ShloMosaic Idealize.ShloMosaic.TcCoe

theorem at0 : ∀ t : Fin cfg0.N, win0_0.index t (0 : Fin 2) = 0 ∧ win0_0.index t (1 : Fin 2) = 0 :=
  (by decide +kernel : ∀ t : Fin grid0.N, _)
theorem at1 : ∀ t : Fin cfg0.N, win0_1.index t (0 : Fin 2) = 0 ∧ win0_1.index t (1 : Fin 2) = 0 :=
  (by decide +kernel : ∀ t : Fin grid0.N, _)
theorem at2 : ∀ t : Fin cfg0.N, win0_2.index t (0 : Fin 2) = 0 ∧ win0_2.index t (1 : Fin 2) = 0 :=
  (by decide +kernel : ∀ t : Fin grid0.N, _)
theorem at3 : ∀ t : Fin cfg0.N, win0_3.index t (0 : Fin 2) = 0 ∧ win0_3.index t (1 : Fin 2) = 0 :=
  (by decide +kernel : ∀ t : Fin grid0.N, _)
theorem at4 : ∀ t : Fin cfg0.N, win0_4.index t (0 : Fin 2) = 0 ∧ win0_4.index t (1 : Fin 2) = 0 :=
  (by decide +kernel : ∀ t : Fin grid0.N, _)
theorem at5 : ∀ t : Fin cfg0.N, win0_5.index t (0 : Fin 3) = 24 + t.val / 32 ∧ win0_5.index t (1 : Fin 3) = t.val % 32 ∧ win0_5.index t (2 : Fin 3) = 0 :=
  (by decide +kernel : ∀ t : Fin grid0.N, _)
theorem at6 : ∀ t : Fin cfg0.N, win0_6.index t (0 : Fin 3) = 32 + t.val / 32 ∧ win0_6.index t (1 : Fin 3) = 0 ∧ win0_6.index t (2 : Fin 3) = 0 :=
  (by decide +kernel : ∀ t : Fin grid0.N, _)
theorem at7 : ∀ t : Fin cfg0.N, win0_7.index t (0 : Fin 3) = 40 + t.val / 32 ∧ win0_7.index t (1 : Fin 3) = 0 ∧ win0_7.index t (2 : Fin 3) = 0 :=
  (by decide +kernel : ∀ t : Fin grid0.N, _)
theorem at8 : ∀ t : Fin cfg0.N, win0_8.index t (0 : Fin 3) = 32 + t.val / 32 ∧ win0_8.index t (1 : Fin 3) = 0 ∧ win0_8.index t (2 : Fin 3) = 0 :=
  (by decide +kernel : ∀ t : Fin grid0.N, _)
theorem at9 : ∀ t : Fin cfg0.N, win0_9.index t (0 : Fin 3) = 40 + t.val / 32 ∧ win0_9.index t (1 : Fin 3) = 0 ∧ win0_9.index t (2 : Fin 3) = 0 :=
  (by decide +kernel : ∀ t : Fin grid0.N, _)
theorem at10 : ∀ t : Fin cfg0.N, win0_10.index t (0 : Fin 2) = t.val % 32 ∧ win0_10.index t (1 : Fin 2) = t.val / 32 :=
  (by decide +kernel : ∀ t : Fin grid0.N, _)

variable (m : (ℓ : Loc nD τ sig) → Buf (Elt Ideal) ℓ)

theorem blk0 (c : Dev nD) (t : Fin cfg0.N) : iblk m c 0 t = m ((c.tc : Thread nD τ).loc main_arg2) := by
  rw [← V_q1 m c]
  obtain ⟨e0, e1⟩ := at0 t
  funext j
  show V m c main_v30 (((cfg0.win 0).blk t).view.emb j) = V m c main_v30 j
  refine congrArg _ (funext fun a => Fin.ext ?_)
  match a with
  | ⟨0, _⟩ => show win0_0.index t (0 : Fin 2) * 1 + 1 * (j 0).val = (j 0).val; omega
  | ⟨1, _⟩ => show win0_0.index t (1 : Fin 2) * 128 + 1 * (j 1).val = (j 1).val; omega

theorem blk1 (c : Dev nD) (t : Fin cfg0.N) : iblk m c 1 t = m ((c.tc : Thread nD τ).loc main_arg3) := by
  rw [← V_k1 m c]
  obtain ⟨e0, e1⟩ := at1 t
  funext j
  show V m c main_v31 (((cfg0.win 1).blk t).view.emb j) = V m c main_v31 j
  refine congrArg _ (funext fun a => Fin.ext ?_)
  match a with
  | ⟨0, _⟩ => show win0_1.index t (0 : Fin 2) * 1 + 1 * (j 0).val = (j 0).val; omega
  | ⟨1, _⟩ => show win0_1.index t (1 : Fin 2) * 128 + 1 * (j 1).val = (j 1).val; omega

theorem blk2 (c : Dev nD) (t : Fin cfg0.N) : iblk m c 2 t = m ((c.tc : Thread nD τ).loc main_arg4) := by
  rw [← V_q2 m c]
  obtain ⟨e0, e1⟩ := at2 t
  funext j
  show V m c main_v32 (((cfg0.win 2).blk t).view.emb j) = V m c main_v32 j
  refine congrArg _ (funext fun a => Fin.ext ?_)
  match a with
  | ⟨0, _⟩ => show win0_2.index t (0 : Fin 2) * 1 + 1 * (j 0).val = (j 0).val; omega
  | ⟨1, _⟩ => show win0_2.index t (1 : Fin 2) * 128 + 1 * (j 1).val = (j 1).val; omega

theorem blk3 (c : Dev nD) (t : Fin cfg0.N) : iblk m c 3 t = m ((c.tc : Thread nD τ).loc main_arg5) := by
  rw [← V_k2 m c]
  obtain ⟨e0, e1⟩ := at3 t
  funext j
  show V m c main_v33 (((cfg0.win 3).blk t).view.emb j) = V m c main_v33 j
  refine congrArg _ (funext fun a => Fin.ext ?_)
  match a with
  | ⟨0, _⟩ => show win0_3.index t (0 : Fin 2) * 1 + 1 * (j 0).val = (j 0).val; omega
  | ⟨1, _⟩ => show win0_3.index t (1 : Fin 2) * 128 + 1 * (j 1).val = (j 1).val; omega

theorem blk4 (c : Dev nD) (t : Fin cfg0.N) : iblk m c 4 t = m ((c.tc : Thread nD τ).loc main_arg6) := by
  rw [← V_g m c]
  obtain ⟨e0, e1⟩ := at4 t
  funext j
  show V m c main_v34 (((cfg0.win 4).blk t).view.emb j) = V m c main_v34 j
  refine congrArg _ (funext fun a => Fin.ext ?_)
  match a with
  | ⟨0, _⟩ => show win0_4.index t (0 : Fin 2) * 1 + 1 * (j 0).val = (j 0).val; omega
  | ⟨1, _⟩ => show win0_4.index t (1 : Fin 2) * 256 + 1 * (j 1).val = (j 1).val; omega

theorem blk5 (c : Dev nD) (t : Fin cfg0.N) (p : Fin 2) (r : Fin 256) (d : Fin 128) :
    iblk m c 5 t (ix3 p r d) = rowsOf (m ((c.tc : Thread nD τ).loc main_arg0)) (ix3 (⟨48 + ((t.val / 32) * 2 + p.val), by
      have := N_0; have := t.isLt; have h : cfg0.N = 256 := N_0; omega⟩ : Fin 96) (⟨(t.val % 32) * 256 + r.val, by omega⟩ : Fin 24576) d) := by
  rw [← V_rows m c]
  obtain ⟨e0, e1, e2⟩ := at5 t
  show V m c main_v19 (((cfg0.win 5).blk t).view.emb (ix3 p r d)) = V m c main_v19 _
  refine congrArg _ (funext fun a => Fin.ext ?_)
  match a with
  | ⟨0, _⟩ => show win0_5.index t (0 : Fin 3) * 2 + 1 * p.val = 48 + ((t.val / 32) * 2 + p.val); omega
  | ⟨1, _⟩ => show win0_5.index t (1 : Fin 3) * 256 + 1 * r.val = (t.val % 32) * 256 + r.val; omega
  | ⟨2, _⟩ => show win0_5.index t (2 : Fin 3) * 128 + 1 * d.val = d.val; omega

theorem blk6 (c : Dev nD) (t : Fin cfg0.N) (p : Fin 2) (r : Fin 8192) (d : Fin 128) :
    iblk m c 6 t (ix3 p r d) = rowsOf (m ((c.tc : Thread nD τ).loc main_arg0)) (ix3 (⟨64 + ((t.val / 32) * 2 + p.val), by
      have := N_0; have := t.isLt; have h : cfg0.N = 256 := N_0; omega⟩ : Fin 96) (⟨r.val, by omega⟩ : Fin 24576) d) := by
  rw [← V_rows m c]
  obtain ⟨e0, e1, e2⟩ := at6 t
  show V m c main_v19 (((cfg0.win 6).blk t).view.emb (ix3 p r d)) = V m c main_v19 _
  refine congrArg _ (funext fun a => Fin.ext ?_)
  match a with
  | ⟨0, _⟩ => show win0_6.index t (0 : Fin 3) * 2 + 1 * p.val = 64 + ((t.val / 32) * 2 + p.val); omega
  | ⟨1, _⟩ => show win0_6.index t (1 : Fin 3) * 8192 + 1 * r.val = r.val; omega
  | ⟨2, _⟩ => show win0_6.index t (2 : Fin 3) * 128 + 1 * d.val = d.val; omega

theorem blk7 (c : Dev nD) (t : Fin cfg0.N) (p : Fin 2) (r : Fin 8192) (d : Fin 128) :
    iblk m c 7 t (ix3 p r d) = rowsOf (m ((c.tc : Thread nD τ).loc main_arg0)) (ix3 (⟨80 + ((t.val / 32) * 2 + p.val), by
      have := N_0; have := t.isLt; have h : cfg0.N = 256 := N_0; omega⟩ : Fin 96) (⟨r.val, by omega⟩ : Fin 24576) d) := by
  rw [← V_rows m c]
  obtain ⟨e0, e1, e2⟩ := at7 t
  show V m c main_v19 (((cfg0.win 7).blk t).view.emb (ix3 p r d)) = V m c main_v19 _
  refine congrArg _ (funext fun a => Fin.ext ?_)
  match a with
  | ⟨0, _⟩ => show win0_7.index t (0 : Fin 3) * 2 + 1 * p.val = 80 + ((t.val / 32) * 2 + p.val); omega
  | ⟨1, _⟩ => show win0_7.index t (1 : Fin 3) * 8192 + 1 * r.val = r.val; omega
  | ⟨2, _⟩ => show win0_7.index t (2 : Fin 3) * 128 + 1 * d.val = d.val; omega

theorem blk8 (c : Dev nD) (t : Fin cfg0.N) (p : Fin 2) (r : Fin 128) (d : Fin 128) :
    iblk m c 8 t (ix3 p r d) = metaOf (m ((c.tc : Thread nD τ).loc main_arg1)) (ix3 (⟨64 + ((t.val / 32) * 2 + p.val), by
      have := N_0; have := t.isLt; have h : cfg0.N = 256 := N_0; omega⟩ : Fin 96) (⟨r.val, by omega⟩ : Fin 128) d) := by
  rw [← V_meta m c]
  obtain ⟨e0, e1, e2⟩ := at8 t
  show V m c main_v24 (((cfg0.win 8).blk t).view.emb (ix3 p r d)) = V m c main_v24 _
  refine congrArg _ (funext fun a => Fin.ext ?_)
  match a with
  | ⟨0, _⟩ => show win0_8.index t (0 : Fin 3) * 2 + 1 * p.val = 64 + ((t.val / 32) * 2 + p.val); omega
  | ⟨1, _⟩ => show win0_8.index t (1 : Fin 3) * 128 + 1 * r.val = r.val; omega
  | ⟨2, _⟩ => show win0_8.index t (2 : Fin 3) * 128 + 1 * d.val = d.val; omega

theorem blk9 (c : Dev nD) (t : Fin cfg0.N) (p : Fin 2) (r : Fin 128) (d : Fin 128) :
    iblk m c 9 t (ix3 p r d) = metaOf (m ((c.tc : Thread nD τ).loc main_arg1)) (ix3 (⟨80 + ((t.val / 32) * 2 + p.val), by
      have := N_0; have := t.isLt; have h : cfg0.N = 256 := N_0; omega⟩ : Fin 96) (⟨r.val, by omega⟩ : Fin 128) d) := by
  rw [← V_meta m c]
  obtain ⟨e0, e1, e2⟩ := at9 t
  show V m c main_v24 (((cfg0.win 9).blk t).view.emb (ix3 p r d)) = V m c main_v24 _
  refine congrArg _ (funext fun a => Fin.ext ?_)
  match a with
  | ⟨0, _⟩ => show win0_9.index t (0 : Fin 3) * 2 + 1 * p.val = 80 + ((t.val / 32) * 2 + p.val); omega
  | ⟨1, _⟩ => show win0_9.index t (1 : Fin 3) * 128 + 1 * r.val = r.val; omega
  | ⟨2, _⟩ => show win0_9.index t (2 : Fin 3) * 128 + 1 * d.val = d.val; omega

theorem place (t : Fin cfg0.N) (r : Fin 256) (e : Fin 256) :
    ((cfg0.win 10).blk t).view.emb (ix2 r e) = ix2 (⟨(t.val % 32) * 256 + r.val, by omega⟩ : Fin 8192)
      (⟨(t.val / 32) * 256 + e.val, by have := t.isLt; have h : cfg0.N = 256 := N_0; omega⟩ : Fin 2048) := by
  obtain ⟨e0, e1⟩ := at10 t
  refine funext fun a => Fin.ext ?_
  match a with
  | ⟨0, _⟩ => show win0_10.index t (0 : Fin 2) * 256 + 1 * r.val = (t.val % 32) * 256 + r.val; omega
  | ⟨1, _⟩ => show win0_10.index t (1 : Fin 2) * 256 + 1 * e.val = (t.val / 32) * 256 + e.val; omega

/-- Every index of the result is in the block of the point of its head and its tile of rows. -/
theorem covered (i : S8192x2048.Idx) : ∃ t : Fin cfg0.N, (cfg0.win 10).flush t = true ∧ i ∈ ((cfg0.win 10).blk t).view.set := by
  have h : cfg0.N = 256 := N_0
  have h0 : (i 0).val < 8192 := (i 0).isLt
  have h1 : (i 1).val < 2048 := (i 1).isLt
  let t : Fin cfg0.N := ⟨(i 1).val / 256 * 32 + (i 0).val / 256, by omega⟩
  refine ⟨t, flush0_10 _, ?_⟩
  have hm := ((cfg0.win 10).blk t).view.emb_mem_set (ix2 (⟨(i 0).val % 256, by omega⟩ : Fin 256) (⟨(i 1).val % 256, by omega⟩ : Fin 256))
  rw [place] at hm
  have hi : i = ix2 (⟨(t.val % 32) * 256 + (i 0).val % 256, by omega⟩ : Fin 8192) (⟨(t.val / 32) * 256 + (i 1).val % 256, by have := t.isLt; omega⟩ : Fin 2048) := by
    refine funext fun a => Fin.ext ?_
    match a with
    | ⟨0, _⟩ => show (i 0).val = ((i 1).val / 256 * 32 + (i 0).val / 256) % 32 * 256 + (i 0).val % 256; omega
    | ⟨1, _⟩ => show (i 1).val = ((i 1).val / 256 * 32 + (i 0).val / 256) / 32 * 256 + (i 1).val % 256; omega
  rw [hi]
  exact hm

end Cert.Proof

end
-- ==== Proof.RefMax.lean ====
/- The reference's row maxima, at an index and as real numbers. -/
module

public import proofs.«01_k».proof.Proof.Gen.ReferenceIdeal.Run
public import proofs.«01_k».proof.Proof.Output

@[expose] public section

set_option maxRecDepth 16384

noncomputable section

namespace Cert.Proof.Ref

open Cert.ReferenceIdeal Cert.ReferenceIdeal.Gen
open Idealize.ShloMosaic Idealize.ShloMosaic.TcCoe

/-- A row's maximum from −∞. -/
def hostMax (S : Vec Ideal S1x8x2x8192x8208 .f32) : Vec Ideal S1x8x2x8192 .f32 :=
  Host.reduce (FloatOps.maximumf (F := Ideal) (φ := .f32)) S (constant (F := Ideal) S_ .f32 0xFF800000#32) reducesTo_S1x8x2x8192x8208_S1x8x2x8192_d4 h_S_

/-- A row's maximum, as the reference takes it: not less than −∞. -/
def rowMax (R : Vec Ideal S1x8x2x8192 .f32) : Vec Ideal S1x8x2x8192 .f32 :=
  maximumf (φ := .f32) (broadcastInDim S1x8x2x8192 ![] bcast_S_S1x8x2x8192 (constant (F := Ideal) S_ .f32 0xFF800000#32)) R

/-- A fold of maxima from −∞ over a nonempty set of real numbers is a real number. -/
theorem real_fold {ι : Type} (x : ι → EReal) (hx : ∀ i, ∃ u : ℝ, x i = u) (t : Finset ι) (ht : t.Nonempty) :
    ∃ u : ℝ, Finset.fold max (⊥ : EReal) x t = u := by
  induction ht using Finset.Nonempty.cons_induction with
  | singleton a =>
    obtain ⟨r, hr⟩ := hx a
    exact ⟨r, by rw [Finset.fold_singleton, hr]; simp⟩
  | cons a t ha _ ih =>
    obtain ⟨r, hr⟩ := hx a
    obtain ⟨q, hq⟩ := ih
    rw [Finset.fold_cons, hq]
    rcases max_choice (x a) (q : EReal) with h | h
    · exact ⟨r, h.trans hr⟩
    · exact ⟨q, h⟩

/-- A reduction by maxima from −∞ of an array of real numbers, along one axis that is not empty, is a real number. -/
theorem real_reduce {s t u : Shape} {a : Fin s.rank} (x : s.Idx → EReal) (hx : ∀ i, ∃ u : ℝ, x i = u) (init : u.Idx → EReal) (hi : ∀ i, init i = ⊥)
    (h' : s.ReducesTo [a] t) (h : s.Reduces [a] t) (hu : 0 < u.numel) (ha : 0 < s.size a) (j : t.Idx) :
    ∃ r : ℝ, Host.reduce (FloatOps.maximumf (F := Ideal) (φ := .f32)) x init h' hu j = (r : EReal) := by
  rw [Host.reduce_eq_fold_single (FloatOps.maximumf (F := Ideal) (φ := .f32)) x init h' h hu j, hi]
  exact real_fold _ (fun i => hx _) _ ⟨⟨0, ha⟩, Finset.mem_univ _⟩

theorem negInf : (Ideal.ofBits .f32 0xFF800000#32 : EReal) = ⊥ := by
  show Ideal.ieee 8 23 0xFF800000#32 = ⊥
  unfold Ideal.ieee
  simp

theorem big_pos : 0 < S1x8x2x8192x8208.size (4 : Fin 5) := by decide

theorem big_red : S1x8x2x8192x8208.Reduces [4] S1x8x2x8192 := by decide

theorem rowMax_eq (R : Vec Ideal S1x8x2x8192 .f32) (i : S1x8x2x8192.Idx) :
    @Eq EReal (rowMax R i) (max (Ideal.ofBits .f32 0xFF800000#32) (R i)) := rfl

theorem hostMax_real (S : Vec Ideal S1x8x2x8192x8208 .f32) (hS : ∀ i, ∃ u : ℝ, (S i : EReal) = u) (i : S1x8x2x8192.Idx) :
    ∃ u : ℝ, @Eq EReal (hostMax S i) (u : EReal) := by
  unfold hostMax
  exact real_reduce S hS (constant (F := Ideal) S_ .f32 0xFF800000#32) (fun _ => negInf)
    reducesTo_S1x8x2x8192x8208_S1x8x2x8192_d4 big_red h_S_ big_pos i

/-- Of real scores the row's maximum is a real number. -/
theorem rowMax_real (S : Vec Ideal S1x8x2x8192x8208 .f32) (hS : ∀ i, ∃ u : ℝ, (S i : EReal) = u) (i : S1x8x2x8192.Idx) :
    ∃ u : ℝ, @Eq EReal (rowMax (hostMax S) i) (u : EReal) := by
  obtain ⟨u, hu⟩ := hostMax_real S hS i
  refine ⟨u, ?_⟩
  refine (rowMax_eq _ i).trans ?_
  generalize hostMax S i = z at hu ⊢
  rw [negInf, hu]
  exact max_eq_right bot_le

end Cert.Proof.Ref

end
-- ==== Proof.RefScores.lean ====
/- The reference's scores, weights and averages at an index: its arrays' definitions, each over the one before. -/
module

public import proofs.«01_k».proof.Proof.RefMax

@[expose] public section

set_option maxRecDepth 16384

noncomputable section

namespace Cert.Proof.Ref

open Cert.ReferenceIdeal Cert.ReferenceIdeal.Gen
open Idealize.ShloMosaic Idealize.ShloMosaic.TcCoe

/-- The sequence: the meta tokens, then the prompt. -/
def seqs (A0 : Vec Ideal S24576x12288 .f32) (A1 : Vec Ideal S16x12288 .f32) : Vec Ideal S1x8208x12288 .f32 :=
  concatenate S1x8208x12288 1 [⟨S1x16x12288, (broadcastInDim S1x16x12288 ![1, 2] bcast_S16x12288_S1x16x12288_1_2 A1)⟩,
    ⟨S1x8192x12288, (broadcastInDim S1x8192x12288 ![1, 2] bcast_S8192x12288_S1x8192x12288_1_2 (extractStridedSlice S8192x12288 ![0, 0] A0 slices_S24576x12288_S8192x12288_0_0))⟩]
    concatenates_S1x16x12288_S1x8192x12288_S1x8208x12288_d1

/-- A token's projection: position in the sequence, column. -/
def tok (A0 : Vec Ideal S24576x12288 .f32) (A1 : Vec Ideal S16x12288 .f32) (j : Fin 8208) (e : Fin 12288) : EReal :=
  if h : j.val < 16 then A1 (ix2 ⟨j.val, h⟩ e) else A0 (ix2 ⟨j.val - 16, by omega⟩ e)

theorem seqs_apply (A0 : Vec Ideal S24576x12288 .f32) (A1 : Vec Ideal S16x12288 .f32) (j : Fin 8208) (e : Fin 12288) :
    @Eq EReal (seqs A0 A1 (ix3 0 j e)) (tok A0 A1 j e) := by
  unfold seqs
  pointwise
  rfl

/-- The scaled scores: head, half, query, key. -/
def scores (X : Vec Ideal S1x8208x12288 .f32) : Vec Ideal S1x8x2x8192x8208 .f32 :=
  mulf (φ := .f32) (Host.dotGeneral (F := Ideal) (φ₁ := .f32) (φ₂ := .f32) dot_S1x8192x8x2x128_S1x8208x8x2x128_S1x8x2x8192x8208_4_4_1_1_023_023 none
    (extractStridedSlice S1x8192x8x2x128 ![0, 16, 0, 0, 0] (shapeCast S1x8208x8x2x128 (extractStridedSlice S1x8208x2048 ![0, 0, 6144] X slices_S1x8208x12288_S1x8208x2048_0_0_6144) shapeCasts_S1x8208x2048_S1x8208x8x2x128) slices_S1x8208x8x2x128_S1x8192x8x2x128_0_16_0_0_0)
    (shapeCast S1x8208x8x2x128 (extractStridedSlice S1x8208x2048 ![0, 0, 8192] X slices_S1x8208x12288_S1x8208x2048_0_0_8192) shapeCasts_S1x8208x2048_S1x8208x8x2x128))
    (broadcastInDim S1x8x2x8192x8208 ![] bcast_S_S1x8x2x8192x8208 (Host.rsqrt (F := Ideal) (φ := .f32) (constant S_ .f32 0x43000000#32)))

theorem scores_apply (X : Vec Ideal S1x8208x12288 .f32) (h : Fin 8) (p : Fin 2) (r : Fin 8192) (j : Fin 8208) :
    @Eq EReal (scores X (ix5 0 h p r j))
      ((∑ d : Fin 128, (X (ix3 0 (⟨16 + r.val, by omega⟩ : Fin 8208) (⟨6144 + (h.val * 256 + p.val * 128 + d.val), by omega⟩ : Fin 12288)) : EReal)
        * X (ix3 0 j (⟨8192 + (h.val * 256 + p.val * 128 + d.val), by omega⟩ : Fin 12288))) * Ideal.rsqrt (Ideal.ofBits .f32 0x43000000#32)) := by
  unfold scores
  pointwise

/-- The weights before the division. -/
def exps (S : Vec Ideal S1x8x2x8192x8208 .f32) : Vec Ideal S1x8x2x8192x8208 .f32 :=
  Host.exp (F := Ideal) (φ := .f32) (subf (φ := .f32) S (broadcastInDim S1x8x2x8192x8208 ![0, 1, 2, 3, 4] bcast_S1x8x2x8192x1_S1x8x2x8192x8208_0_1_2_3_4
    (broadcastInDim S1x8x2x8192x1 ![0, 1, 2, 3] bcast_S1x8x2x8192_S1x8x2x8192x1_0_1_2_3 (rowMax (hostMax S)))))

theorem exps_apply (S : Vec Ideal S1x8x2x8192x8208 .f32) (h : Fin 8) (p : Fin 2) (r : Fin 8192) (j : Fin 8208) :
    @Eq EReal (exps S (ix5 0 h p r j)) (Ideal.exp (S (ix5 0 h p r j) - rowMax (hostMax S) (ix4 0 h p r))) := by
  unfold exps
  pointwise

/-- The softmax. -/
def probs (E : Vec Ideal S1x8x2x8192x8208 .f32) : Vec Ideal S1x8x2x8192x8208 .f32 :=
  Host.divf (F := Ideal) (φ := .f32) E (broadcastInDim S1x8x2x8192x8208 ![0, 1, 2, 3, 4] bcast_S1x8x2x8192x1_S1x8x2x8192x8208_0_1_2_3_4
    (broadcastInDim S1x8x2x8192x1 ![0, 1, 2, 3] bcast_S1x8x2x8192_S1x8x2x8192x1_0_1_2_3
      (Host.reduceAdd (F := Ideal) (φ := .f32) E (constant S_ .f32 0x00000000#32) reducesTo_S1x8x2x8192x8208_S1x8x2x8192_d4 h_S_)))

theorem probs_apply (E : Vec Ideal S1x8x2x8192x8208 .f32) (h : Fin 8) (p : Fin 2) (r : Fin 8192) (j : Fin 8208) :
    @Eq EReal (probs E (ix5 0 h p r j)) (Ideal.div (E (ix5 0 h p r j)) (∑ x : Fin 8208, (E (ix5 0 h p r x) : EReal))) := by
  unfold probs
  pointwise

/-- The factor of the second softmax. -/
def lam (q1 k1 q2 k2 : Vec Ideal S1x128 .f32) : Vec Ideal S_ .f32 :=
  addf (φ := .f32) (subf (φ := .f32)
    (Host.exp (F := Ideal) (φ := .f32) (Host.reduceAdd (F := Ideal) (φ := .f32) (mulf (φ := .f32) (shapeCast S128 q1 shapeCasts_S1x128_S128) (shapeCast S128 k1 shapeCasts_S1x128_S128)) (constant S_ .f32 0x00000000#32) reducesTo_S128_S_d0 h_S_))
    (Host.exp (F := Ideal) (φ := .f32) (Host.reduceAdd (F := Ideal) (φ := .f32) (mulf (φ := .f32) (shapeCast S128 q2 shapeCasts_S1x128_S128) (shapeCast S128 k2 shapeCasts_S1x128_S128)) (constant S_ .f32 0x00000000#32) reducesTo_S128_S_d0 h_S_)))
    (constant S_ .f32 0x3E4CCCCD#32)

theorem lam_apply (q1 k1 q2 k2 : Vec Ideal S1x128 .f32) (i : S_.Idx) :
    @Eq EReal (lam q1 k1 q2 k2 i) (lamv q1 k1 q2 k2) := by
  unfold lam lamv
  pointwise

/-- The averages: token, head, column. -/
def avgs (X : Vec Ideal S1x8208x12288 .f32) (P : Vec Ideal S1x8x2x8192x8208 .f32) (l : Vec Ideal S_ .f32) : Vec Ideal S1x8192x8x256 .f32 :=
  transpose S1x8192x8x256 [0, 3, 1, 2] (Host.dotGeneral (F := Ideal) (φ₁ := .f32) (φ₂ := .f32) dot_S1x8208x8x256_S1x8x8192x8208_S1x8x256x8192_1_3_3_2_02_01 none
    (shapeCast S1x8208x8x256 (extractStridedSlice S1x8208x2048 ![0, 0, 10240] X slices_S1x8208x12288_S1x8208x2048_0_0_10240) shapeCasts_S1x8208x2048_S1x8208x8x256)
    (subf (φ := .f32) (shapeCast S1x8x8192x8208 (extractStridedSlice S1x8x1x8192x8208 ![0, 0, 0, 0, 0] P slices_S1x8x2x8192x8208_S1x8x1x8192x8208_0_0_0_0_0) shapeCasts_S1x8x1x8192x8208_S1x8x8192x8208)
      (mulf (φ := .f32) (broadcastInDim S1x8x8192x8208 ![] bcast_S_S1x8x8192x8208 l)
        (shapeCast S1x8x8192x8208 (extractStridedSlice S1x8x1x8192x8208 ![0, 0, 1, 0, 0] P slices_S1x8x2x8192x8208_S1x8x1x8192x8208_0_0_1_0_0) shapeCasts_S1x8x1x8192x8208_S1x8x8192x8208))))
    transposes_S1x8x256x8192_S1x8192x8x256_0_3_1_2

theorem avgs_apply (X : Vec Ideal S1x8208x12288 .f32) (P : Vec Ideal S1x8x2x8192x8208 .f32) (l : Vec Ideal S_ .f32) (r : Fin 8192) (h : Fin 8) (e : Fin 256) :
    @Eq EReal (avgs X P l (ix4 0 r h e))
      (∑ j : Fin 8208, (X (ix3 0 j (⟨10240 + (h.val * 256 + e.val), by omega⟩ : Fin 12288)) : EReal) * (P (ix5 0 h 0 r j) - l ix0 * P (ix5 0 h 1 r j))) := by
  unfold avgs
  pointwise

/-- The result, over the averages. -/
def result (O : Vec Ideal S1x8192x8x256 .f32) (g : Vec Ideal S1x256 .f32) : Vec Ideal S8192x2048 .bf16 :=
  truncf (F := Ideal) (φ := .f32) .bf16 (shapeCast S8192x2048 (mulf (φ := .f32) (mulf (φ := .f32) (mulf (φ := .f32) O
    (broadcastInDim S1x8192x8x256 ![0, 1, 2, 3] bcast_S1x8192x8x1_S1x8192x8x256_0_1_2_3 (Host.rsqrt (F := Ideal) (φ := .f32) (addf (φ := .f32) (Host.divf (F := Ideal) (φ := .f32)
      (broadcastInDim S1x8192x8x1 ![0, 1, 2] bcast_S1x8192x8_S1x8192x8x1_0_1_2 (Host.reduceAdd (F := Ideal) (φ := .f32) (mulf (φ := .f32) O O) (constant S_ .f32 0x00000000#32) reducesTo_S1x8192x8x256_S1x8192x8_d3 h_S_))
      (broadcastInDim S1x8192x8x1 ![] bcast_S_S1x8192x8x1 (constant S_ .f32 0x43800000#32)))
      (broadcastInDim S1x8192x8x1 ![] bcast_S_S1x8192x8x1 (constant S_ .f32 0x3727C5AC#32))))))
    (broadcastInDim S1x8192x8x256 ![0, 1, 2, 3] bcast_S1x1x1x256_S1x8192x8x256_0_1_2_3 (broadcastInDim S1x1x1x256 ![3] bcast_S256_S1x1x1x256_3 (shapeCast S256 g shapeCasts_S1x256_S256))))
    (broadcastInDim S1x8192x8x256 ![] bcast_S_S1x8192x8x256 (constant S_ .f32 0x3F4CCCCD#32))) shapeCasts_S1x8192x8x256_S8192x2048) bitsLt_bf16_f32

theorem result_apply (O : Vec Ideal S1x8192x8x256 .f32) (g : Vec Ideal S1x256 .f32) (r : Fin 8192) (h : Fin 8) (e : Fin 256) :
    @Eq EReal (result O g (ix2 r (⟨h.val * 256 + e.val, by omega⟩ : Fin 2048))) (normed (fun x => O (ix4 0 r h x)) (fun x => g (ix2 0 x)) e) := by
  unfold result
  pointwise
  rfl

theorem res_eq (m : (ℓ : Loc nD τ sig) → Buf (Elt Ideal) ℓ) (c : Dev nD) :
    Value.res_main_v64 m c = result (avgs (seqs (m ((c.tc : Thread nD τ).loc main_arg0)) (m ((c.tc : Thread nD τ).loc main_arg1)))
      (probs (exps (scores (seqs (m ((c.tc : Thread nD τ).loc main_arg0)) (m ((c.tc : Thread nD τ).loc main_arg1))))))
      (lam (m ((c.tc : Thread nD τ).loc main_arg2)) (m ((c.tc : Thread nD τ).loc main_arg3)) (m ((c.tc : Thread nD τ).loc main_arg4)) (m ((c.tc : Thread nD τ).loc main_arg5))))
      (m ((c.tc : Thread nD τ).loc main_arg6)) := rfl

end Cert.Proof.Ref

end
-- ==== Proof.Softmax.lean ====
/- Softmax averages over real scores: a constant subtracted from every score cancels, and the sums over the sequence are the
   sums the kernel takes, over the meta tokens' padded block and the chunks of keys. -/
module

public import proofs.«01_k».proof.Proof.Output

@[expose] public section

set_option maxRecDepth 16384

noncomputable section

namespace Cert.Proof

open Idealize.ShloMosaic

/-- A sum over `n = a b` indices: `a` stretches of `b`. -/
theorem sum_stretches {n : Nat} (a b : Nat) (h : n = a * b) (f : Fin n → EReal) (g : Fin a → Fin b → EReal)
    (hg : ∀ (i : Fin a) (k : Fin b) (j : Fin n), j.val = b * i.val + k.val → f j = g i k) : ∑ j, f j = ∑ i, ∑ k, g i k := by
  subst h
  rw [← Fintype.sum_prod_type', ← finProdFinEquiv.sum_comp]
  refine Finset.sum_congr rfl fun x _ => hg x.1 x.2 _ ?_
  show x.2.val + b * x.1.val = _
  omega

/-- A sum over the sequence: the meta tokens, then eight chunks of 1024 rows. -/
theorem sum_seq (f : Fin 8208 → EReal) :
    ∑ j, f j = ∑ j : Fin 16, f ⟨j.val, by omega⟩ + ∑ q : Fin 8, ∑ k : Fin 1024, f ⟨16 + (1024 * q.val + k.val), by omega⟩ := by
  have h1 : ∑ j, f j = ∑ j : Fin 16, f ⟨j.val, by omega⟩ + ∑ j : Fin 8192, f ⟨16 + j.val, by omega⟩ := Fin.sum_univ_add (a := 16) (b := 8192) f
  refine h1.trans (congrArg (∑ j : Fin 16, f ⟨j.val, by omega⟩ + ·) ?_)
  exact sum_stretches 8 1024 rfl _ _ fun i k j hj => congrArg f (Fin.ext (by show 16 + j.val = 16 + (1024 * i.val + k.val); omega))

/-- A sum over a block of 128 that is zero past the first sixteen. -/
theorem sum_pad (g : Fin 128 → EReal) (h : ∀ b : Fin 128, 16 ≤ b.val → g b = 0) : ∑ b, g b = ∑ j : Fin 16, g ⟨j.val, by omega⟩ := by
  have h1 : ∑ b, g b = ∑ j : Fin 16, g ⟨j.val, by omega⟩ + ∑ j : Fin 112, g ⟨16 + j.val, by omega⟩ := Fin.sum_univ_add (a := 16) (b := 112) g
  rw [h1, Finset.sum_eq_zero fun (j : Fin 112) _ => h ⟨16 + j.val, by omega⟩ (by show 16 ≤ 16 + j.val; omega), add_zero]

/-- A chunk's sum taken by lanes. -/
theorem sum_lanes (f : Fin 1024 → EReal) : ∑ b : Fin 128, ∑ k : Fin 8, f ⟨128 * k.val + b.val, by omega⟩ = ∑ x, f x := by
  rw [Finset.sum_comm]
  exact (sum_stretches 8 128 rfl _ _ fun i k j hj => congrArg f (Fin.ext hj)).symm

/-- The sum of the weights as the kernel takes it. -/
theorem sum_weights (f : Fin 8208 → EReal) (g : Fin 128 → EReal) (w : Fin 8 → Fin 1024 → EReal) (h0 : ∀ b : Fin 128, 16 ≤ b.val → g b = 0)
    (hg : ∀ (b : Fin 128) (h : b.val < 16), g b = f ⟨b.val, by omega⟩) (hw : ∀ (q : Fin 8) (k : Fin 1024), w q k = f ⟨16 + (1024 * q.val + k.val), by omega⟩) :
    ∑ b : Fin 128, (g b + ∑ q : Fin 8, ∑ k : Fin 8, w q ⟨128 * k.val + b.val, by omega⟩) = ∑ j, f j := by
  rw [Finset.sum_add_distrib, sum_pad g h0, sum_seq f, Finset.sum_comm]
  congr 1
  · exact Finset.sum_congr rfl fun j _ => hg ⟨j.val, by omega⟩ j.isLt
  · refine Finset.sum_congr rfl fun q _ => (sum_lanes (w q)).trans (Finset.sum_congr rfl fun k _ => hw q k)

/-- The weighted sum of values as the kernel takes it. -/
theorem sum_values (f : Fin 8208 → EReal) (g : Fin 128 → EReal) (w : Fin 8 → Fin 1024 → EReal) (h0 : ∀ b : Fin 128, 16 ≤ b.val → g b = 0)
    (hg : ∀ (b : Fin 128) (h : b.val < 16), g b = f ⟨b.val, by omega⟩) (hw : ∀ (q : Fin 8) (k : Fin 1024), w q k = f ⟨16 + (1024 * q.val + k.val), by omega⟩) :
    ∑ b : Fin 128, g b + ∑ q : Fin 8, ∑ k : Fin 1024, w q k = ∑ j, f j := by
  rw [sum_pad g h0, sum_seq f]
  congr 1
  · exact Finset.sum_congr rfl fun j _ => hg ⟨j.val, by omega⟩ j.isLt
  · exact Finset.sum_congr rfl fun q _ => Finset.sum_congr rfl fun k _ => hw q k

/-- A sum of reals, as an extended real. -/
theorem coe_sum {n : Nat} (f : Fin n → ℝ) : ∑ j, ((f j : ℝ) : EReal) = ((∑ j, f j : ℝ) : EReal) := by
  classical
  induction (Finset.univ : Finset (Fin n)) using Finset.induction_on with
  | empty => simp
  | insert a t ha ih => rw [Finset.sum_insert ha, Finset.sum_insert ha, ih, EReal.coe_add]

theorem div_real (x y : ℝ) (h : y ≠ 0) : Ideal.div (x : EReal) (y : EReal) = ((x / y : ℝ) : EReal) := by
  rw [Ideal.div_coe h, ← EReal.coe_mul, mul_one_div]

/-- The base-2 exponential of a scaled score is the exponential of the score. -/
theorem exp2_scaled (s u : ℝ) : Ideal.exp2 (((s / Real.log 2 : ℝ) : EReal) - (u : EReal)) = ((Real.exp (s - u * Real.log 2) : ℝ) : EReal) := by
  have h2 : Real.log 2 ≠ 0 := (Real.log_pos (by norm_num)).ne'
  rw [← EReal.coe_sub, Ideal.exp2_coe]
  refine congrArg _ ?_
  show (2 : ℝ) ^ (s / Real.log 2 - u) = _
  rw [Real.rpow_def_of_pos (by norm_num)]
  congr 1
  field_simp

theorem exp_shift {n : Nat} (s v : Fin n → ℝ) (a b : ℝ) (hn : 0 < n) :
    (∑ j, Real.exp (s j - a) * v j) / (∑ j, Real.exp (s j - a)) = (∑ j, Real.exp (s j - b) * v j) / (∑ j, Real.exp (s j - b)) := by
  have h : ∀ j, Real.exp (s j - a) = Real.exp (b - a) * Real.exp (s j - b) := fun j => by rw [← Real.exp_add]; congr 1; ring
  simp only [h, mul_assoc]
  rw [← Finset.mul_sum, ← Finset.mul_sum, mul_div_mul_left _ _ (Real.exp_pos _).ne']

theorem exp_sum_pos {n : Nat} (s : Fin n → ℝ) (a : ℝ) (hn : 0 < n) : 0 < ∑ j, Real.exp (s j - a) :=
  Finset.sum_pos (fun _ _ => Real.exp_pos _) ⟨⟨0, hn⟩, Finset.mem_univ _⟩

/-- The difference of the two averages: over the sums at the end, or inside the sum. -/
theorem two_averages (s₀ s₁ v : Fin 8208 → ℝ) (a₀ a₁ b₀ b₁ L : ℝ) :
    ((∑ j, Real.exp (s₀ j - a₀) * v j : ℝ) : EReal) * Ideal.div 1 ((∑ j, Real.exp (s₀ j - a₀) : ℝ) : EReal)
      - ((∑ j, Real.exp (s₁ j - a₁) * v j : ℝ) : EReal) * Ideal.div (L : EReal) ((∑ j, Real.exp (s₁ j - a₁) : ℝ) : EReal)
    = ∑ j, ((v j : ℝ) : EReal) * (Ideal.div (Ideal.exp ((s₀ j : EReal) - (b₀ : EReal))) (∑ x, Ideal.exp ((s₀ x : EReal) - (b₀ : EReal)))
        - (L : EReal) * Ideal.div (Ideal.exp ((s₁ j : EReal) - (b₁ : EReal))) (∑ x, Ideal.exp ((s₁ x : EReal) - (b₁ : EReal)))) := by
  have hp : ∀ (s : Fin 8208 → ℝ) (a : ℝ), (∑ j, Real.exp (s j - a)) ≠ 0 := fun s a => (exp_sum_pos s a (by norm_num)).ne'
  have he : ∀ (s : Fin 8208 → ℝ) (a : ℝ) (j : Fin 8208), Ideal.exp ((s j : EReal) - (a : EReal)) = ((Real.exp (s j - a) : ℝ) : EReal) := fun s a j => by
    rw [← EReal.coe_sub, Ideal.exp_coe]
  simp only [he, coe_sum]
  rw [← EReal.coe_one, div_real _ _ (hp s₀ a₀), div_real _ _ (hp s₁ a₁)]
  simp only [div_real _ _ (hp s₀ b₀), div_real _ _ (hp s₁ b₁), ← EReal.coe_mul, ← EReal.coe_sub, coe_sum]
  refine congrArg _ ?_
  have e0 := exp_shift s₀ v a₀ b₀ (by norm_num)
  have e1 := exp_shift s₁ v a₁ b₁ (by norm_num)
  have hl : ∀ (A Z A' Z' : ℝ), A * (1 / Z) - A' * (L / Z') = A / Z - L * (A' / Z') := fun A Z A' Z' => by ring
  rw [hl, e0, e1]
  generalize hZ : ∑ j, Real.exp (s₀ j - b₀) = Z
  generalize hZ' : ∑ j, Real.exp (s₁ j - b₁) = Z'
  rw [Finset.sum_div, Finset.sum_div, Finset.mul_sum, ← Finset.sum_sub_distrib]
  exact Finset.sum_congr rfl fun j _ => by ring

end Cert.Proof

end
-- ==== Proof.Equation.lean ====
/- The kernel's difference of averages is the difference of the two softmax averages, of real scores and values. -/
module

public import proofs.«01_k».proof.Proof.Softmax

@[expose] public section

set_option maxRecDepth 16384

noncomputable section

namespace Cert.Proof

open Cert.KernelIdeal Cert.KernelIdeal.Gen
open Idealize.ShloMosaic Idealize.ShloMosaic.TcCoe

theorem oker_eq (c : Dev nD) (arg7 : Memref sig .tc .vmem S2x256x128 .bf16) (harg7 : arg7.IsWhole) (arg8 : Memref sig .tc .vmem S2x8192x128 .bf16) (harg8 : arg8.IsWhole)
    (arg10 : Memref sig .tc .vmem S2x128x128 .bf16) (harg10 : arg10.IsWhole) (x0 x1 x2 x3 : Vec Ideal S1x128 .f32) (x5 : Vec Ideal S2x256x128 .bf16) (x6 x7 : Vec Ideal S2x8192x128 .bf16)
    (x8 x9 : Vec Ideal S2x128x128 .bf16) (r : Fin 256) (e : Fin 256) (s : Fin 2 → Fin 8208 → ℝ) (v : Fin 8208 → ℝ) (L : ℝ) (b : Fin 2 → ℝ)
    (hs : ∀ (p : Fin 2) (q : Fin 8) (k : Fin 1024), @Eq EReal (score x5 x6 (ix4 p q r k)) ((s p ⟨16 + (1024 * q.val + k.val), by omega⟩ / Real.log 2 : ℝ) : EReal))
    (hm : ∀ (p : Fin 2) (j : Fin 128) (h : j.val < 16), @Eq EReal (metaScore x5 x8 (ix3 p r j)) ((s p ⟨j.val, by omega⟩ / Real.log 2 : ℝ) : EReal))
    (hb : ∀ (p : Fin 2) (j : Fin 128), 16 ≤ j.val → @Eq EReal (metaScore x5 x8 (ix3 p r j)) ⊥)
    (hv : ∀ (q : Fin 8) (k : Fin 1024), vch x7 q k e = ((v ⟨16 + (1024 * q.val + k.val), by omega⟩ : ℝ) : EReal))
    (hvm : ∀ (j : Fin 128) (h : j.val < 16), vmt x9 j e = ((v ⟨j.val, by omega⟩ : ℝ) : EReal))
    (h5 : Reals (fun i => (x5 i : EReal))) (h6 : Reals (fun i => (x6 i : EReal))) (h8 : Reals (fun i => (x8 i : EReal)))
    (hL : lamv x0 x1 x2 x3 = (L : EReal)) :
    oker c arg7 harg7 arg8 harg8 arg10 harg10 x0 x1 x2 x3 x5 x6 x7 x8 x9 r e
      = ∑ j, ((v j : ℝ) : EReal) * (Ideal.div (Ideal.exp ((s 0 j : EReal) - (b 0 : EReal))) (∑ x, Ideal.exp ((s 0 x : EReal) - (b 0 : EReal)))
        - (L : EReal) * Ideal.div (Ideal.exp ((s 1 j : EReal) - (b 1 : EReal))) (∑ x, Ideal.exp ((s 1 x : EReal) - (b 1 : EReal)))) := by
  have hmx : ∀ p : Fin 2, ∃ u : ℝ, mx c arg7 harg7 arg8 harg8 arg10 harg10 x5 x6 x8 p r = u := fun p => real_mx c arg7 harg7 arg8 harg8 arg10 harg10 x5 x6 x8 h5 h6 h8 p r
  choose u hu using hmx
  have hwt : ∀ (p : Fin 2) (q : Fin 8) (k : Fin 1024), wt c arg7 harg7 arg8 harg8 arg10 harg10 x5 x6 x8 p q r k
      = ((Real.exp (s p ⟨16 + (1024 * q.val + k.val), by omega⟩ - u p * Real.log 2) : ℝ) : EReal) := fun p q k => by
    unfold wt
    rw [hu, hs]
    exact exp2_scaled _ _
  have hwm : ∀ (p : Fin 2) (j : Fin 128) (h : j.val < 16), wm c arg7 harg7 arg8 harg8 arg10 harg10 x5 x6 x8 p r j
      = ((Real.exp (s p ⟨j.val, by omega⟩ - u p * Real.log 2) : ℝ) : EReal) := fun p j h => by
    unfold wm
    rw [hu, hm p j h]
    exact exp2_scaled _ _
  have hwb : ∀ (p : Fin 2) (j : Fin 128), 16 ≤ j.val → wm c arg7 harg7 arg8 harg8 arg10 harg10 x5 x6 x8 p r j = 0 := fun p j h => by
    unfold wm
    rw [hu, hb p j h, EReal.bot_sub]
    exact Ideal.exp2_bot
  have hl : ∀ p : Fin 2, lsum c arg7 harg7 arg8 harg8 arg10 harg10 x5 x6 x8 p r = ((∑ j, Real.exp (s p j - u p * Real.log 2) : ℝ) : EReal) := fun p => by
    unfold lsum
    exact (sum_weights (fun j => ((Real.exp (s p j - u p * Real.log 2) : ℝ) : EReal)) _ _ (hwb p) (hwm p) (hwt p)).trans (coe_sum _)
  have ha : ∀ p : Fin 2, accv c arg7 harg7 arg8 harg8 arg10 harg10 x5 x6 x7 x8 x9 p r e = ((∑ j, Real.exp (s p j - u p * Real.log 2) * v j : ℝ) : EReal) := fun p => by
    unfold accv
    refine (sum_values (fun j => ((Real.exp (s p j - u p * Real.log 2) * v j : ℝ) : EReal)) _ (fun q k => _) (fun j h => ?_) (fun j h => ?_) (fun q k => ?_)).trans (coe_sum _)
    · rw [hwb p j h, zero_mul]
    · rw [hwm p j h, hvm j h, EReal.coe_mul]
    · rw [hwt, hv, EReal.coe_mul]
  unfold oker
  rw [ha 0, ha 1, hl 0, hl 1, hL]
  exact two_averages _ _ v _ _ (b 0) (b 1) L

end Cert.Proof

end
-- ==== Proof.Reads.lean ====
/- The entries of a grid point's blocks, as entries of the sequence: the meta tokens, then the prompt. -/
module

public import proofs.«01_k».proof.Proof.Blocks
public import proofs.«01_k».proof.Proof.RefScores
public import proofs.«01_k».proof.Proof.Equation

@[expose] public section

set_option maxRecDepth 16384

noncomputable section

namespace Cert.Proof

open Cert.KernelIdeal Cert.KernelIdeal.Gen
open Idealize.ShloMosaic Idealize.ShloMosaic.TcCoe

theorem tok_row (A0 : Vec Ideal S24576x12288 .f32) (A1 : Vec Ideal S16x12288 .f32) (j : Fin 8208) (e e' : Fin 12288) (r : Fin 24576)
    (hj : j.val = 16 + r.val) (he : e.val = e'.val) : @Eq EReal (A0 (ix2 r e)) (Ref.tok A0 A1 j e') := by
  unfold Ref.tok
  rw [dif_neg (by omega)]
  have h1 : r = ⟨j.val - 16, by omega⟩ := Fin.ext (by show r.val = j.val - 16; omega)
  have h2 : e = e' := Fin.ext he
  subst h2
  exact congrArg (fun x => A0 (ix2 x e)) h1

theorem tok_meta (A0 : Vec Ideal S24576x12288 .f32) (A1 : Vec Ideal S16x12288 .f32) (j : Fin 8208) (e e' : Fin 12288) (r : Fin 16)
    (hj : j.val = r.val) (he : e.val = e'.val) : @Eq EReal (A1 (ix2 r e)) (Ref.tok A0 A1 j e') := by
  unfold Ref.tok
  rw [dif_pos (by omega)]
  have h1 : r = ⟨j.val, by omega⟩ := Fin.ext hj.symm
  have h2 : e = e' := Fin.ext he
  subst h2
  exact congrArg (fun x => A1 (ix2 x e)) h1

variable (m : (ℓ : Loc nD τ sig) → Buf (Elt Ideal) ℓ)

/-- The sequence's projections of a memory. -/
abbrev seqAt (c : Dev nD) : Fin 8208 → Fin 12288 → EReal :=
  Ref.tok (m ((c.tc : Thread nD τ).loc main_arg0)) (m ((c.tc : Thread nD τ).loc main_arg1))

theorem lt8 (t : Fin cfg0.N) : t.val / 32 < 8 := by
  have := t.isLt
  have h : cfg0.N = 256 := N_0
  omega

/-- A query, scaled. -/
theorem query (c : Dev nD) (t : Fin cfg0.N) (p : Fin 2) (r : Fin 256) (d : Fin 128) :
    @Eq EReal (iblk m c 5 t (ix3 p r d)) (seqAt m c (⟨16 + ((t.val % 32) * 256 + r.val), by omega⟩ : Fin 8208)
      (⟨6144 + (t.val / 32 * 256 + p.val * 128 + d.val), by have := lt8 t; omega⟩ : Fin 12288) * qscale) := by
  have h8 := lt8 t
  refine (blk5 m c t p r d).trans ((rowsOf_apply _ _ _ _).trans (congrArg₂ (· * ·) (tok_row _ _ _ _ _ _ ?_ ?_) (colScale_q _ ?_ ?_)))
  · rfl
  · show (48 + (t.val / 32 * 2 + p.val)) * 128 + d.val = _; simp only []; omega
  · show 6144 ≤ (48 + (t.val / 32 * 2 + p.val)) * 128 + d.val; omega
  · show (48 + (t.val / 32 * 2 + p.val)) * 128 + d.val < 8192; omega

/-- A key of the prompt. -/
theorem key (c : Dev nD) (t : Fin cfg0.N) (p : Fin 2) (k : Fin 8192) (d : Fin 128) :
    @Eq EReal (iblk m c 6 t (ix3 p k d)) (seqAt m c (⟨16 + k.val, by omega⟩ : Fin 8208)
      (⟨8192 + (t.val / 32 * 256 + p.val * 128 + d.val), by have := lt8 t; omega⟩ : Fin 12288)) := by
  have h8 := lt8 t
  refine (blk6 m c t p k d).trans ((rowsOf_apply _ _ _ _).trans ((congrArg₂ (· * ·) (tok_row _ _ _ _ _ _ ?_ ?_) (colScale_kv _ ?_)).trans (mul_one _)))
  · rfl
  · show (64 + (t.val / 32 * 2 + p.val)) * 128 + d.val = _; simp only []; omega
  · show 8192 ≤ (64 + (t.val / 32 * 2 + p.val)) * 128 + d.val; omega

/-- A value of the prompt. -/
theorem value (c : Dev nD) (t : Fin cfg0.N) (p : Fin 2) (k : Fin 8192) (d : Fin 128) :
    @Eq EReal (iblk m c 7 t (ix3 p k d)) (seqAt m c (⟨16 + k.val, by omega⟩ : Fin 8208)
      (⟨10240 + (t.val / 32 * 256 + p.val * 128 + d.val), by have := lt8 t; omega⟩ : Fin 12288)) := by
  have h8 := lt8 t
  refine (blk7 m c t p k d).trans ((rowsOf_apply _ _ _ _).trans ((congrArg₂ (· * ·) (tok_row _ _ _ _ _ _ ?_ ?_) (colScale_kv _ ?_)).trans (mul_one _)))
  · rfl
  · show (80 + (t.val / 32 * 2 + p.val)) * 128 + d.val = _; simp only []; omega
  · show 8192 ≤ (80 + (t.val / 32 * 2 + p.val)) * 128 + d.val; omega

/-- A key of a meta token. -/
theorem key_meta (c : Dev nD) (t : Fin cfg0.N) (p : Fin 2) (j : Fin 128) (h : j.val < 16) (d : Fin 128) :
    @Eq EReal (iblk m c 8 t (ix3 p j d)) (seqAt m c (⟨j.val, by omega⟩ : Fin 8208)
      (⟨8192 + (t.val / 32 * 256 + p.val * 128 + d.val), by have := lt8 t; omega⟩ : Fin 12288)) := by
  have h8 := lt8 t
  refine (blk8 m c t p j d).trans ((metaOf_apply _ _ _ _).trans ((congrArg₂ (· * ·) ((dif_pos h).trans (tok_meta _ _ _ _ _ _ ?_ ?_)) (colScale_kv _ ?_)).trans (mul_one _)))
  · rfl
  · show (64 + (t.val / 32 * 2 + p.val)) * 128 + d.val = _; simp only []; omega
  · show 8192 ≤ (64 + (t.val / 32 * 2 + p.val)) * 128 + d.val; omega

/-- A key past the meta tokens is zero. -/
theorem key_pad (c : Dev nD) (t : Fin cfg0.N) (p : Fin 2) (j : Fin 128) (h : 16 ≤ j.val) (d : Fin 128) :
    @Eq EReal (iblk m c 8 t (ix3 p j d)) 0 := by
  have h8 := lt8 t
  refine (blk8 m c t p j d).trans ((metaOf_apply _ _ _ _).trans ((congrArg (· * _) (dif_neg (Nat.not_lt.mpr h))).trans (zero_mul _)))

/-- A value of a meta token. -/
theorem value_meta (c : Dev nD) (t : Fin cfg0.N) (p : Fin 2) (j : Fin 128) (h : j.val < 16) (d : Fin 128) :
    @Eq EReal (iblk m c 9 t (ix3 p j d)) (seqAt m c (⟨j.val, by omega⟩ : Fin 8208)
      (⟨10240 + (t.val / 32 * 256 + p.val * 128 + d.val), by have := lt8 t; omega⟩ : Fin 12288)) := by
  have h8 := lt8 t
  refine (blk9 m c t p j d).trans ((metaOf_apply _ _ _ _).trans ((congrArg₂ (· * ·) ((dif_pos h).trans (tok_meta _ _ _ _ _ _ ?_ ?_)) (colScale_kv _ ?_)).trans (mul_one _)))
  · rfl
  · show (80 + (t.val / 32 * 2 + p.val)) * 128 + d.val = _; simp only []; omega
  · show 8192 ≤ (80 + (t.val / 32 * 2 + p.val)) * 128 + d.val; omega

/-- 128, positive. -/
theorem word_128 : (Ideal.ofBits .f32 0x43000000#32 : EReal) = ((128 : ℝ) : EReal) := by
  show Ideal.ieee 8 23 0x43000000#32 = _
  unfold Ideal.ieee
  simp
  rw [← EReal.coe_mul]
  norm_num

theorem word_2 : (Ideal.ofBits .f32 0x40000000#32 : EReal) = ((2 : ℝ) : EReal) := by
  show Ideal.ieee 8 23 0x40000000#32 = _
  unfold Ideal.ieee
  simp
  rw [← EReal.coe_mul]
  norm_num

theorem word_lam : ∃ u : ℝ, (Ideal.ofBits .f32 0x3E4CCCCD#32 : EReal) = (u : EReal) := by
  show ∃ u : ℝ, Ideal.ieee 8 23 0x3E4CCCCD#32 = (u : EReal)
  unfold Ideal.ieee
  simp
  exact ⟨_, (EReal.coe_mul _ _).symm⟩

/-- 1/√128. -/
def root : ℝ := (Real.sqrt 128)⁻¹

theorem rsqrt_word : Ideal.rsqrt (Ideal.ofBits .f32 0x43000000#32) = ((root : ℝ) : EReal) := by
  rw [word_128, Ideal.rsqrt_coe, if_neg (by norm_num), if_neg (by norm_num)]
  rfl

theorem qscale_eq : qscale = ((root / Real.log 2 : ℝ) : EReal) := by
  unfold qscale
  rw [rsqrt_word, word_2, Ideal.log_coe, if_neg (by norm_num)]
  exact div_real _ _ (Real.log_pos (by norm_num)).ne'

end Cert.Proof

end
-- ==== Proof.Attention.lean ====
/- What a grid point writes is the reference's result at the point's block, the projections being finite. -/
module

public import proofs.«01_k».proof.Proof.Reads

@[expose] public section

set_option maxRecDepth 16384

noncomputable section

namespace Cert.Proof

open Cert.KernelIdeal Cert.KernelIdeal.Gen
open Idealize.ShloMosaic Idealize.ShloMosaic.TcCoe

theorem real_tok (A0 : Vec Ideal S24576x12288 .f32) (A1 : Vec Ideal S16x12288 .f32) (h0 : Reals (fun i => (A0 i : EReal))) (h1 : Reals (fun i => (A1 i : EReal)))
    (j : Fin 8208) (e : Fin 12288) : ∃ u : ℝ, Ref.tok A0 A1 j e = u := by
  unfold Ref.tok
  split
  · exact h1 _
  · exact h0 _

theorem real_lam (x0 x1 x2 x3 : Vec Ideal S1x128 .f32) (h0 : Reals (fun i => (x0 i : EReal))) (h1 : Reals (fun i => (x1 i : EReal)))
    (h2 : Reals (fun i => (x2 i : EReal))) (h3 : Reals (fun i => (x3 i : EReal))) : ∃ u : ℝ, lamv x0 x1 x2 x3 = u := by
  have hs : ∀ (x y : Vec Ideal S1x128 .f32), Reals (fun i => (x i : EReal)) → Reals (fun i => (y i : EReal)) →
      ∃ u : ℝ, ∑ d : Fin 128, (x (ix2 0 d) : EReal) * (y (ix2 0 d) : EReal) = u := fun x y hx hy =>
    real_sum _ _ fun d _ => by
      obtain ⟨a, ha⟩ := hx (ix2 0 d)
      obtain ⟨b, hb⟩ := hy (ix2 0 d)
      exact ⟨a * b, by rw [EReal.coe_mul]; exact congrArg₂ (· * ·) ha hb⟩
  obtain ⟨a, ha⟩ := hs x0 x1 h0 h1
  obtain ⟨b, hb⟩ := hs x2 x3 h2 h3
  obtain ⟨k, hk⟩ := word_lam
  refine ⟨Real.exp a - Real.exp b + k, ?_⟩
  unfold lamv
  rw [ha, hb, hk, Ideal.exp_coe, Ideal.exp_coe, EReal.coe_add, EReal.coe_sub]

theorem score_of (x5 : Vec Ideal S2x256x128 .bf16) (x6 : Vec Ideal S2x8192x128 .bf16) (p : Fin 2) (q : Fin 8) (r : Fin 256) (k : Fin 1024) (a b : Fin 128 → ℝ)
    (ha : ∀ d, @Eq EReal (x5 (ix3 p r d)) (a d : EReal)) (hb : ∀ d, @Eq EReal (x6 (ix3 p (⟨q.val * 1024 + k.val, by omega⟩ : Fin 8192) d)) (b d : EReal)) :
    @Eq EReal (score x5 x6 (ix4 p q r k)) ((∑ d, a d * b d : ℝ) : EReal) :=
  (Finset.sum_congr rfl fun d _ => (congrArg₂ (· * ·) (ha d) (hb d)).trans (EReal.coe_mul _ _).symm).trans (coe_sum _)

theorem metaScore_of (x5 : Vec Ideal S2x256x128 .bf16) (x8 : Vec Ideal S2x128x128 .bf16) (p : Fin 2) (r : Fin 256) (j : Fin 128) (hj : j.val < 16) (a b : Fin 128 → ℝ)
    (ha : ∀ d, @Eq EReal (x5 (ix3 p r d)) (a d : EReal)) (hb : ∀ d, @Eq EReal (x8 (ix3 p j d)) (b d : EReal)) :
    @Eq EReal (metaScore x5 x8 (ix3 p r j)) ((∑ d, a d * b d : ℝ) : EReal) := by
  have h : (∑ d : Fin 128, (x5 (ix3 p r d) : EReal) * (x8 (ix3 p j d) : EReal)) = ((∑ d, a d * b d : ℝ) : EReal) :=
    (Finset.sum_congr rfl fun d _ => (congrArg₂ (· * ·) (ha d) (hb d)).trans (EReal.coe_mul _ _).symm).trans (coe_sum _)
  exact (congrArg₂ (· + ·) h (if_pos hj)).trans (add_zero _)

theorem metaScore_pad (x5 : Vec Ideal S2x256x128 .bf16) (x8 : Vec Ideal S2x128x128 .bf16) (p : Fin 2) (r : Fin 256) (j : Fin 128) (hj : 16 ≤ j.val) :
    @Eq EReal (metaScore x5 x8 (ix3 p r j)) ⊥ := by
  show (∑ d : Fin 128, (x5 (ix3 p r d) : EReal) * (x8 (ix3 p j d) : EReal)) + (if j.val < 16 then 0 else ⊥) = (⊥ : EReal)
  generalize (∑ d : Fin 128, (x5 (ix3 p r d) : EReal) * (x8 (ix3 p j d) : EReal)) = z
  rw [if_neg (Nat.not_lt.mpr hj)]
  exact EReal.add_bot z

section Point

variable (m : (ℓ : Loc nD τ sig) → Buf (Elt Ideal) ℓ) (c : Dev nD) (t : Fin cfg0.N)

/-- The projections of a sequence, as real numbers `x`: a row's scores over 128 columns. -/
def rowScores (x : Fin 8208 → Fin 12288 → ℝ) (r : Fin 256) (p : Fin 2) (j : Fin 8208) : ℝ :=
  (∑ d : Fin 128, x (⟨16 + ((t.val % 32) * 256 + r.val), by omega⟩ : Fin 8208) (⟨6144 + (t.val / 32 * 256 + p.val * 128 + d.val), by have := lt8 t; omega⟩ : Fin 12288)
    * x j (⟨8192 + (t.val / 32 * 256 + p.val * 128 + d.val), by have := lt8 t; omega⟩ : Fin 12288)) * root

variable (x : Fin 8208 → Fin 12288 → ℝ) (hx : ∀ j e, seqAt m c j e = ((x j e : ℝ) : EReal))

include hx

theorem query_real (r : Fin 256) (p : Fin 2) (d : Fin 128) : @Eq EReal (iblk m c 5 t (ix3 p r d))
    ((x (⟨16 + ((t.val % 32) * 256 + r.val), by omega⟩ : Fin 8208) (⟨6144 + (t.val / 32 * 256 + p.val * 128 + d.val), by have := lt8 t; omega⟩ : Fin 12288) * (root / Real.log 2) : ℝ) : EReal) :=
  (query m c t p r d).trans ((congrArg₂ (· * ·) (hx _ _) qscale_eq).trans (EReal.coe_mul _ _).symm)

omit hx in
theorem scaled_scores (r : Fin 256) (p : Fin 2) (j : Fin 8208) :
    (∑ d : Fin 128, x (⟨16 + ((t.val % 32) * 256 + r.val), by omega⟩ : Fin 8208) (⟨6144 + (t.val / 32 * 256 + p.val * 128 + d.val), by have := lt8 t; omega⟩ : Fin 12288) * (root / Real.log 2)
      * x j (⟨8192 + (t.val / 32 * 256 + p.val * 128 + d.val), by have := lt8 t; omega⟩ : Fin 12288)) = rowScores t x r p j / Real.log 2 := by
  unfold rowScores
  rw [Finset.sum_mul, Finset.sum_div]
  exact Finset.sum_congr rfl fun d _ => by ring

theorem score_real (r : Fin 256) (p : Fin 2) (q : Fin 8) (k : Fin 1024) :
    @Eq EReal (score (iblk m c 5 t) (iblk m c 6 t) (ix4 p q r k)) ((rowScores t x r p ⟨16 + (1024 * q.val + k.val), by omega⟩ / Real.log 2 : ℝ) : EReal) := by
  rw [← scaled_scores t x r p]
  refine score_of (iblk m c 5 t) (iblk m c 6 t) p q r k _ _ (query_real m c t x hx r p) fun d =>
    (key m c t p _ d).trans ((congrArg (fun j => seqAt m c j _) (Fin.ext ?_)).trans (hx _ _))
  show 16 + (q.val * 1024 + k.val) = 16 + (1024 * q.val + k.val)
  omega

theorem meta_real (r : Fin 256) (p : Fin 2) (j : Fin 128) (hj : j.val < 16) :
    @Eq EReal (metaScore (iblk m c 5 t) (iblk m c 8 t) (ix3 p r j)) ((rowScores t x r p ⟨j.val, by omega⟩ / Real.log 2 : ℝ) : EReal) := by
  rw [← scaled_scores t x r p]
  exact metaScore_of (iblk m c 5 t) (iblk m c 8 t) p r j hj _ _ (query_real m c t x hx r p) fun d => (key_meta m c t p j hj d).trans (hx _ _)

/-- The blocks of queries and keys are real. -/
theorem real5 : Reals (s := S2x256x128) (fun i => (iblk m c 5 t i : EReal)) := fun i => by
  idx_vars i
  exact ⟨_, (query m c t _ _ _).trans ((congrArg₂ (· * ·) (hx _ _) qscale_eq).trans (EReal.coe_mul _ _).symm)⟩

theorem real6 : Reals (s := S2x8192x128) (fun i => (iblk m c 6 t i : EReal)) := fun i => by
  idx_vars i
  exact ⟨_, (key m c t _ _ _).trans (hx _ _)⟩

theorem real8 : Reals (s := S2x128x128) (fun i => (iblk m c 8 t i : EReal)) := fun i => by
  idx_vars i
  by_cases h : i1.val < 16
  · exact ⟨_, (key_meta m c t _ _ h _).trans (hx _ _)⟩
  · exact ⟨0, (key_pad m c t _ _ (Nat.not_lt.mp h) _).trans EReal.coe_zero.symm⟩

theorem value_real (q : Fin 8) (k : Fin 1024) (e : Fin 256) : vch (iblk m c 7 t) q k e
    = ((x ⟨16 + (1024 * q.val + k.val), by omega⟩ (⟨10240 + (t.val / 32 * 256 + e.val), by have := lt8 t; omega⟩ : Fin 12288) : ℝ) : EReal) := by
  rw [← hx]
  unfold vch
  refine (value m c t _ _ _).trans (congrArg (seqAt m c _) (Fin.ext ?_))
  show 10240 + (t.val / 32 * 256 + e.val / 128 * 128 + e.val % 128) = 10240 + (t.val / 32 * 256 + e.val)
  omega

theorem value_meta_real (j : Fin 128) (hj : j.val < 16) (e : Fin 256) : vmt (iblk m c 9 t) j e
    = ((x ⟨j.val, by omega⟩ (⟨10240 + (t.val / 32 * 256 + e.val), by have := lt8 t; omega⟩ : Fin 12288) : ℝ) : EReal) := by
  rw [← hx]
  unfold vmt
  refine (value_meta m c t _ _ hj _).trans (congrArg (seqAt m c _) (Fin.ext ?_))
  show 10240 + (t.val / 32 * 256 + e.val / 128 * 128 + e.val % 128) = 10240 + (t.val / 32 * 256 + e.val)
  omega

/-- The reference's sequence and scaled scores of a memory. -/
abbrev seqsAt : Vec Ideal Cert.ReferenceIdeal.S1x8208x12288 .f32 :=
  Ref.seqs (m ((c.tc : Thread nD τ).loc main_arg0)) (m ((c.tc : Thread nD τ).loc main_arg1))

theorem scores_real (r : Fin 256) (p : Fin 2) (j : Fin 8208) :
    @Eq EReal (Ref.scores (seqsAt m c) (ix5 0 (⟨t.val / 32, lt8 t⟩ : Fin 8) p (⟨(t.val % 32) * 256 + r.val, by omega⟩ : Fin 8192) j))
      ((rowScores t x r p j : ℝ) : EReal) := by
  refine (Ref.scores_apply _ _ _ _ _).trans ?_
  unfold rowScores
  rw [rsqrt_word, EReal.coe_mul, ← coe_sum]
  refine congrArg (· * _) (Finset.sum_congr rfl fun d _ => ?_)
  rw [EReal.coe_mul, ← hx, ← hx]
  exact congrArg₂ (· * ·) (Ref.seqs_apply _ _ _ _) (Ref.seqs_apply _ _ _ _)

theorem scores_all_real (i : Cert.ReferenceIdeal.S1x8x2x8192x8208.Idx) : ∃ u : ℝ, @Eq EReal (Ref.scores (seqsAt m c) i) (u : EReal) := by
  idx_vars i
  obtain rfl : i0 = 0 := Subsingleton.elim _ _
  have h : ∀ (n : Fin 8208) (e : Fin 12288), @Eq EReal (seqsAt m c (ix3 0 n e)) ((x n e : ℝ) : EReal) := fun n e => (Ref.seqs_apply _ _ _ _).trans (hx n e)
  exact ⟨_, (Ref.scores_apply _ _ _ _ _).trans ((congrArg₂ (· * ·) ((Finset.sum_congr rfl fun d _ =>
    (congrArg₂ (· * ·) (h _ _) (h _ _)).trans (EReal.coe_mul _ _).symm).trans (coe_sum _)) rsqrt_word).trans (EReal.coe_mul _ _).symm)⟩

/-- The kernel's difference of averages, over the real scores. -/
theorem oker_point (r e : Fin 256) (arg7 : Memref sig .tc .vmem S2x256x128 .bf16) (harg7 : arg7.IsWhole) (arg8 : Memref sig .tc .vmem S2x8192x128 .bf16) (harg8 : arg8.IsWhole)
    (arg10 : Memref sig .tc .vmem S2x128x128 .bf16) (harg10 : arg10.IsWhole) (x0 x1 x2 x3 : Vec Ideal S1x128 .f32) (L : ℝ) (hL : lamv x0 x1 x2 x3 = (L : EReal)) (b : Fin 2 → ℝ)
    (x5 : Vec Ideal S2x256x128 .bf16) (x6 x7 : Vec Ideal S2x8192x128 .bf16) (x8 x9 : Vec Ideal S2x128x128 .bf16)
    (e5 : x5 = iblk m c 5 t) (e6 : x6 = iblk m c 6 t) (e7 : x7 = iblk m c 7 t) (e8 : x8 = iblk m c 8 t) (e9 : x9 = iblk m c 9 t) :
    oker c arg7 harg7 arg8 harg8 arg10 harg10 x0 x1 x2 x3 x5 x6 x7 x8 x9 r e
      = ∑ j, ((x j (⟨10240 + (t.val / 32 * 256 + e.val), by have := lt8 t; omega⟩ : Fin 12288) : ℝ) : EReal)
        * (Ideal.div (Ideal.exp ((rowScores t x r 0 j : EReal) - (b 0 : EReal))) (∑ y, Ideal.exp ((rowScores t x r 0 y : EReal) - (b 0 : EReal)))
        - (L : EReal) * Ideal.div (Ideal.exp ((rowScores t x r 1 j : EReal) - (b 1 : EReal))) (∑ y, Ideal.exp ((rowScores t x r 1 y : EReal) - (b 1 : EReal)))) := by
  have hs := score_real m c t x hx r
  have hm := meta_real m c t x hx r
  have hv := fun q k => value_real m c t x hx q k e
  have hvm := fun j hj => value_meta_real m c t x hx j hj e
  have h5 := real5 m c t x hx
  have h6 := real6 m c t x hx
  have h8 := real8 m c t x hx
  rw [← e5, ← e6] at hs
  rw [← e5, ← e8] at hm
  rw [← e7] at hv
  rw [← e9] at hvm
  rw [← e5] at h5
  rw [← e6] at h6
  rw [← e8] at h8
  exact oker_eq c arg7 harg7 arg8 harg8 arg10 harg10 x0 x1 x2 x3 x5 x6 x7 x8 x9 r e (rowScores t x r)
    (fun j => x j (⟨10240 + (t.val / 32 * 256 + e.val), by have := lt8 t; omega⟩ : Fin 12288)) L b hs hm (fun p j hj => metaScore_pad x5 x8 p r j hj) hv hvm h5 h6 h8 hL

theorem seqs_value (j : Fin 8208) (e : Fin 12288) : @Eq EReal (seqsAt m c (ix3 0 j e)) ((x j e : ℝ) : EReal) :=
  (Ref.seqs_apply _ _ _ _).trans (hx _ _)

theorem max_real (r : Fin 256) (p : Fin 2) : ∃ u : ℝ, @Eq EReal (Ref.rowMax (Ref.hostMax (Ref.scores (seqsAt m c))) (ix4 0 (⟨t.val / 32, lt8 t⟩ : Fin 8) p (⟨(t.val % 32) * 256 + r.val, by omega⟩ : Fin 8192))) (u : EReal) :=
  Ref.rowMax_real _ (scores_all_real m c x hx) _

/-- The reference's difference of averages, over the real scores. -/
theorem reference_point (r e : Fin 256) (l : Vec Ideal Cert.ReferenceIdeal.S_ .f32) (L : ℝ) (hL : @Eq EReal (l ix0) (L : EReal)) (b : Fin 2 → ℝ)
    (S : Vec Ideal Cert.ReferenceIdeal.S1x8x2x8192x8208 .f32) (eS : S = Ref.scores (seqsAt m c))
    (hb : ∀ p : Fin 2, @Eq EReal (Ref.rowMax (Ref.hostMax S) (ix4 0 (⟨t.val / 32, lt8 t⟩ : Fin 8) p (⟨(t.val % 32) * 256 + r.val, by omega⟩ : Fin 8192))) (b p : EReal)) :
    @Eq EReal (Ref.avgs (seqsAt m c) (Ref.probs (Ref.exps S)) l (ix4 0 (⟨(t.val % 32) * 256 + r.val, by omega⟩ : Fin 8192) (⟨t.val / 32, lt8 t⟩ : Fin 8) e))
      (∑ j, ((x j (⟨10240 + (t.val / 32 * 256 + e.val), by have := lt8 t; omega⟩ : Fin 12288) : ℝ) : EReal)
        * (Ideal.div (Ideal.exp ((rowScores t x r 0 j : EReal) - (b 0 : EReal))) (∑ y, Ideal.exp ((rowScores t x r 0 y : EReal) - (b 0 : EReal)))
        - (L : EReal) * Ideal.div (Ideal.exp ((rowScores t x r 1 j : EReal) - (b 1 : EReal))) (∑ y, Ideal.exp ((rowScores t x r 1 y : EReal) - (b 1 : EReal))))) := by
  have hs := scores_real m c t x hx r
  rw [← eS] at hs
  have he : ∀ (p : Fin 2) (j : Fin 8208), @Eq EReal (Ref.exps S (ix5 0 (⟨t.val / 32, lt8 t⟩ : Fin 8) p (⟨(t.val % 32) * 256 + r.val, by omega⟩ : Fin 8192) j))
      (Ideal.exp (((rowScores t x r p j : ℝ) : EReal) - (b p : EReal))) := fun p j =>
    (Ref.exps_apply _ _ _ _ _).trans (congrArg Ideal.exp (congrArg₂ (· - ·) (hs p j) (hb p)))
  generalize Ref.exps S = E at he ⊢
  have hp : ∀ (p : Fin 2) (j : Fin 8208), @Eq EReal (Ref.probs E (ix5 0 (⟨t.val / 32, lt8 t⟩ : Fin 8) p (⟨(t.val % 32) * 256 + r.val, by omega⟩ : Fin 8192) j))
      (Ideal.div (Ideal.exp (((rowScores t x r p j : ℝ) : EReal) - (b p : EReal))) (∑ y, Ideal.exp (((rowScores t x r p y : ℝ) : EReal) - (b p : EReal)))) := fun p j =>
    (Ref.probs_apply _ _ _ _ _).trans (congrArg₂ Ideal.div (he p j) (Finset.sum_congr rfl fun y _ => he p y))
  generalize Ref.probs E = P at hp ⊢
  have hv := seqs_value m c x hx
  generalize seqsAt m c = X at hv ⊢
  refine (Ref.avgs_apply X P l _ _ e).trans (Finset.sum_congr rfl fun j _ => ?_)
  refine congrArg₂ (· * ·) (hv j _) (congrArg₂ (· - ·) (hp 0 j) (congrArg₂ (· * ·) hL (hp 1 j)))

end Point

end Cert.Proof

end
-- ==== Proof.Whole.lean ====
/- The array the kernel leaves is the reference's result. -/
module

public import proofs.«01_k».proof.Proof.Attention

@[expose] public section

set_option maxRecDepth 16384

noncomputable section

namespace Cert.Proof

open Cert.KernelIdeal Cert.KernelIdeal.Gen
open Idealize.ShloMosaic Idealize.ShloMosaic.TcCoe

/-- Reading a point's block of the result array. -/
theorem cut_read (t : Fin cfg0.N) (X : Vec Ideal S256x256 .bf16) (Y : Vec Ideal S8192x2048 .bf16)
    (h : ∀ r e : Fin 256, X (ix2 r e) = Y (ix2 (⟨(t.val % 32) * 256 + r.val, by omega⟩ : Fin 8192) (⟨t.val / 32 * 256 + e.val, by have := lt8 t; omega⟩ : Fin 2048))) :
    (cfg0.win 10).cut (grid0.coords t) X = ((cfg0.win 10).blk t).view.read (Elt Ideal) Y := by
  funext y
  idx_vars y
  show X (ix2 y0 y1) = Y (((cfg0.win 10).blk t).view.emb (ix2 y0 y1))
  rw [place]
  exact h y0 y1

/-- The reference's averages of a memory. -/
def avgsAt (m : (ℓ : Loc nD τ sig) → Buf (Elt Ideal) ℓ) (c : Dev nD) : Vec Ideal Cert.ReferenceIdeal.S1x8192x8x256 .f32 :=
  Ref.avgs (seqsAt m c) (Ref.probs (Ref.exps (Ref.scores (seqsAt m c))))
    (Ref.lam (m ((c.tc : Thread nD τ).loc main_arg2)) (m ((c.tc : Thread nD τ).loc main_arg3)) (m ((c.tc : Thread nD τ).loc main_arg4)) (m ((c.tc : Thread nD τ).loc main_arg5)))

/-- The reference's result of a memory, as one array. -/
def whole (m : (ℓ : Loc nD τ sig) → Buf (Elt Ideal) ℓ) (c : Dev nD) : Vec Ideal S8192x2048 .bf16 :=
  Ref.result (avgsAt m c) (m ((c.tc : Thread nD τ).loc main_arg6))

theorem whole_of (O : Vec Ideal Cert.ReferenceIdeal.S1x8192x8x256 .f32) (g : Vec Ideal S1x256 .f32) (R : Fin 8192) (h : Fin 8) (C : Fin 2048) (e : Fin 256)
    (hC : C.val = h.val * 256 + e.val) (o : Fin 256 → EReal) (ho : ∀ x, o x = O (ix4 0 R h x)) :
    @Eq EReal (normed o (fun x => g (ix2 0 x)) e) (Ref.result O g (ix2 R C)) := by
  have hlt : h.val * 256 + e.val < 2048 := by omega
  have hC' : C = ⟨h.val * 256 + e.val, hlt⟩ := Fin.ext hC
  clear hC
  subst hC'
  rw [show o = fun x => O (ix4 0 R h x) from funext ho]
  exact (Ref.result_apply O g R h e).symm

section Point

variable (m : (ℓ : Loc nD τ sig) → Buf (Elt Ideal) ℓ) (t : Fin cfg0.N)
  (x : Fin 8208 → Fin 12288 → ℝ) (L : ℝ)
  (c : Dev nD) (i : grid0.Coords) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x256 .f32) (harg6 : arg6.IsWhole) (arg7 : Memref sig .tc .vmem S2x256x128 .bf16) (harg7 : arg7.IsWhole) (arg8 : Memref sig .tc .vmem S2x8192x128 .bf16) (harg8 : arg8.IsWhole) (arg9 : Memref sig .tc .vmem S2x8192x128 .bf16) (harg9 : arg9.IsWhole) (arg10 : Memref sig .tc .vmem S2x128x128 .bf16) (harg10 : arg10.IsWhole) (arg11 : Memref sig .tc .vmem S2x128x128 .bf16) (harg11 : arg11.IsWhole) (arg12 : Memref sig .tc .vmem S256x256 .bf16) (harg12 : arg12.IsWhole) (arg13 : Memref sig .tc .vmem S2x8x256x1024 .f32) (harg13 : arg13.IsWhole) (arg14 : Memref sig .tc .vmem S2x256x128 .f32) (harg14 : arg14.IsWhole) (arg15 : Memref sig .tc .vmem S2x256x128 .f32) (harg15 : arg15.IsWhole) (arg16 : Memref sig .tc .vmem S2x256x128 .f32) (harg16 : arg16.IsWhole) (arg17 : Memref sig .tc .vmem S512x256 .f32) (harg17 : arg17.IsWhole)
  (x0 : Vec Ideal S1x128 .f32) (x1 : Vec Ideal S1x128 .f32) (x2 : Vec Ideal S1x128 .f32) (x3 : Vec Ideal S1x128 .f32) (x4 : Vec Ideal S1x256 .f32) (x5 : Vec Ideal S2x256x128 .bf16) (x6 : Vec Ideal S2x8192x128 .bf16) (x7 : Vec Ideal S2x8192x128 .bf16) (x8 : Vec Ideal S2x128x128 .bf16) (x9 : Vec Ideal S2x128x128 .bf16)

theorem average_eq (hx : ∀ j e, seqAt m c j e = ((x j e : ℝ) : EReal)) (hL : lamv x0 x1 x2 x3 = (L : EReal))
    (e0 : x0 = m ((c.tc : Thread nD τ).loc main_arg2)) (e1 : x1 = m ((c.tc : Thread nD τ).loc main_arg3)) (e2 : x2 = m ((c.tc : Thread nD τ).loc main_arg4)) (e3 : x3 = m ((c.tc : Thread nD τ).loc main_arg5))
    (e5 : x5 = iblk m c 5 t) (e6 : x6 = iblk m c 6 t) (e7 : x7 = iblk m c 7 t) (e8 : x8 = iblk m c 8 t) (e9 : x9 = iblk m c 9 t) (r e : Fin 256) :
    @Eq EReal (oker c arg7 harg7 arg8 harg8 arg10 harg10 x0 x1 x2 x3 x5 x6 x7 x8 x9 r e)
      (avgsAt m c (ix4 0 (⟨(t.val % 32) * 256 + r.val, by omega⟩ : Fin 8192) (⟨t.val / 32, lt8 t⟩ : Fin 8) e)) := by
  have hl : @Eq EReal (Ref.lam x0 x1 x2 x3 ix0) (L : EReal) := (Ref.lam_apply x0 x1 x2 x3 ix0).trans hL
  obtain ⟨b0, hb0⟩ := max_real m c t x hx r 0
  obtain ⟨b1, hb1⟩ := max_real m c t x hx r 1
  unfold avgsAt
  rw [← e0, ← e1, ← e2, ← e3]
  generalize Ref.lam x0 x1 x2 x3 = l at hl ⊢
  generalize eS : Ref.scores (seqsAt m c) = S at hb0 hb1 ⊢
  refine (oker_point m c t x hx r e arg7 harg7 arg8 harg8 arg10 harg10 x0 x1 x2 x3 L hL (fun p => if p = 0 then b0 else b1) x5 x6 x7 x8 x9 e5 e6 e7 e8 e9).trans
    (reference_point m c t x hx r e l L hl (fun p => if p = 0 then b0 else b1) S eS.symm fun p => ?_).symm
  match p with
  | ⟨0, _⟩ => exact hb0
  | ⟨1, _⟩ => exact hb1

/-- What a point leaves of its block is the reference's result there. -/
theorem point_eq (hx : ∀ j e, seqAt m c j e = ((x j e : ℝ) : EReal)) (hL : lamv x0 x1 x2 x3 = (L : EReal))
    (e0 : x0 = m ((c.tc : Thread nD τ).loc main_arg2)) (e1 : x1 = m ((c.tc : Thread nD τ).loc main_arg3)) (e2 : x2 = m ((c.tc : Thread nD τ).loc main_arg4)) (e3 : x3 = m ((c.tc : Thread nD τ).loc main_arg5))
    (e4 : x4 = m ((c.tc : Thread nD τ).loc main_arg6))
    (e5 : x5 = iblk m c 5 t) (e6 : x6 = iblk m c 6 t) (e7 : x7 = iblk m c 7 t) (e8 : x8 = iblk m c 8 t) (e9 : x9 = iblk m c 9 t) (r e : Fin 256) :
    @Eq EReal (out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 (ix2 r e))
      (whole m c (ix2 (⟨(t.val % 32) * 256 + r.val, by omega⟩ : Fin 8192) (⟨t.val / 32 * 256 + e.val, by have := lt8 t; omega⟩ : Fin 2048))) := by
  have ha := average_eq m t x L c arg7 harg7 arg8 harg8 arg10 harg10 x0 x1 x2 x3 x5 x6 x7 x8 x9 hx hL e0 e1 e2 e3 e5 e6 e7 e8 e9 r
  unfold whole
  rw [← e4]
  generalize avgsAt m c = O at ha ⊢
  exact (out_word c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 r e).trans
    (whole_of O x4 _ (⟨t.val / 32, lt8 t⟩ : Fin 8) _ e rfl _ ha)

end Point

/-- The array the kernel leaves is the reference's result, the arguments but the gain being finite. -/
theorem array_eq (m : (ℓ : Loc nD τ sig) → Buf (Elt Ideal) ℓ) (c : Dev nD)
    (h0 : Reals (fun i => (m ((c.tc : Thread nD τ).loc main_arg0) i : EReal))) (h1 : Reals (fun i => (m ((c.tc : Thread nD τ).loc main_arg1) i : EReal)))
    (h2 : Reals (fun i => (m ((c.tc : Thread nD τ).loc main_arg2) i : EReal))) (h3 : Reals (fun i => (m ((c.tc : Thread nD τ).loc main_arg3) i : EReal)))
    (h4 : Reals (fun i => (m ((c.tc : Thread nD τ).loc main_arg4) i : EReal))) (h5 : Reals (fun i => (m ((c.tc : Thread nD τ).loc main_arg5) i : EReal))) :
    (dats m 0 c).arrAt 10 cfg0.N = whole m c := by
  have hx : ∀ j e, ∃ u : ℝ, seqAt m c j e = u := fun j e => real_tok _ _ h0 h1 j e
  choose x hx using hx
  obtain ⟨L, hL⟩ := real_lam _ _ _ _ h2 h3 h4 h5
  refine (dats m 0 c).arrAt_eq_of_cover 10 (whole m c) (fun t _ => ?_) covered
  rw [Value.flushed10_A]
  refine cut_read t _ _ (point_eq m t x L _ _ _ _ _ _ _ _ _ _ _ _ _ _ _ _ _ _ _ _ _ _ _ _ _ _ _ _ _ _ _ _ _ _ _ _ _ _ _ _ _ _ _ _ hx ?_ (blk0 m c t) (blk1 m c t) (blk2 m c t) (blk3 m c t) (blk4 m c t) rfl rfl rfl rfl rfl)
  rw [blk0, blk1, blk2, blk3]
  exact hL

end Cert.Proof

end
-- ==== Proof.Finite.lean ====
/- What the precondition gives: the arguments it names hold real numbers only. -/
module

public import proofs.«01_k».proof.Defs
public import proofs.«01_k».proof.Proof.Whole

@[expose] public section

noncomputable section

namespace Cert.Proof

open Idealize.ShloMosaic Idealize.ShloMosaic.TcCoe

theorem inf_word : (Ideal.ieee 8 23 0x7F800000#32 : EReal) = ⊤ := by
  unfold Ideal.ieee
  simp

/-- An extended real whose magnitude is below +∞ is a real number. -/
theorem real_of_lt (x : EReal) (h : Ideal.cmp .olt (max x (-x)) ⊤ = 1#1) : ∃ r : ℝ, x = r := by
  have h' : max x (-x) < ⊤ := by
    by_contra hn
    simp only [Ideal.cmp, decide_eq_false hn] at h
    exact absurd h (by decide)
  induction x using EReal.rec with
  | bot => simp at h'
  | top => simp at h'
  | coe r => exact ⟨r, rfl⟩

/-- The predicate's conjunct of one array: every magnitude below +∞. -/
theorem reals_of {s : Shape} (hb : (⟨0, ![]⟩ : Shape).BroadcastsInDim s (![] : Fin 0 → Fin s.rank)) (v : FVec Ideal s .f32)
    (h : cmpf .olt (Host.absf v) (broadcastInDim s ![] hb (constant (F := Ideal) ⟨0, ![]⟩ .f32 0x7F800000#32)) = (fun _ => 1#1)) :
    Reals v := by
  intro i
  have e := congrFun h i
  have e' : Ideal.cmp .olt (max (v i) (-(v i))) (Ideal.ieee 8 23 0x7F800000#32) = 1#1 := e
  rw [inf_word] at e'
  exact real_of_lt _ e'

/-- The predicate's side conditions. -/
theorem preFacts : Cert.Pre_finite.Facts := ⟨by decide, by decide, by decide⟩

attribute [local instance] preFacts

theorem reals_args (m : (ℓ : Loc Cert.KernelIdeal.nD Cert.KernelIdeal.τ Cert.KernelIdeal.sig) → Buf (Elt Ideal) ℓ)
    (h : Cert.Pre_KernelIdeal_finite m) (c : Dev Cert.KernelIdeal.nD) :
    Reals (fun i => (m ((c.tc : Thread Cert.KernelIdeal.nD Cert.KernelIdeal.τ).loc Cert.KernelIdeal.main_arg0) i : EReal))
    ∧ Reals (fun i => (m ((c.tc : Thread Cert.KernelIdeal.nD Cert.KernelIdeal.τ).loc Cert.KernelIdeal.main_arg1) i : EReal))
    ∧ Reals (fun i => (m ((c.tc : Thread Cert.KernelIdeal.nD Cert.KernelIdeal.τ).loc Cert.KernelIdeal.main_arg2) i : EReal))
    ∧ Reals (fun i => (m ((c.tc : Thread Cert.KernelIdeal.nD Cert.KernelIdeal.τ).loc Cert.KernelIdeal.main_arg3) i : EReal))
    ∧ Reals (fun i => (m ((c.tc : Thread Cert.KernelIdeal.nD Cert.KernelIdeal.τ).loc Cert.KernelIdeal.main_arg4) i : EReal))
    ∧ Reals (fun i => (m ((c.tc : Thread Cert.KernelIdeal.nD Cert.KernelIdeal.τ).loc Cert.KernelIdeal.main_arg5) i : EReal)) := by
  obtain ⟨h0, h1, h2, h3, h4, h5⟩ := h c
  exact ⟨reals_of _ _ h0, reals_of _ _ h1, reals_of _ _ h2, reals_of _ _ h3, reals_of _ _ h4, reals_of _ _ h5⟩

end Cert.Proof

end
-- ==== Proof.Gated.lean ====
/- The gated product of a feed-forward half: the values, and the norm's factor taken out of a sum. -/
module

public import Idealize.ShloMosaic.PureOps.Ideal
public import Idealize.ShloMosaic.Lib.Pipeline.ValueKit
public import Idealize.ShloMosaic.Lib.Pointwise

@[expose] public section

noncomputable section

namespace Cert.Proof

open Idealize.ShloMosaic

/-- The word of one half. -/
abbrev half : EReal := Ideal.ofBits .f32 0x3F000000#32

/-- The gate's silu, halved, times the other product. -/
def gated (g u : EReal) : EReal := half * (g * Ideal.div 1 (1 + Ideal.exp (-g))) * u

/-- The reciprocal root of a row's mean square. -/
def rootOf (f : Fin 4096 → EReal) : EReal :=
  Ideal.rsqrt (Ideal.div (∑ k : Fin 4096, f k * f k) (Ideal.ofBits .f32 0x45800000#32) + Ideal.ofBits .f32 0x358637BD#32)

theorem word_4096 : (Ideal.ofBits .f32 0x45800000#32 : EReal) = ((4096 : ℝ) : EReal) := by
  show Ideal.ieee 8 23 0x45800000#32 = _
  unfold Ideal.ieee
  simp
  rw [← EReal.coe_mul]
  norm_num

theorem word_tiny : ∃ u : ℝ, 0 < u ∧ (Ideal.ofBits .f32 0x358637BD#32 : EReal) = (u : EReal) := by
  show ∃ u : ℝ, 0 < u ∧ Ideal.ieee 8 23 0x358637BD#32 = (u : EReal)
  unfold Ideal.ieee
  simp
  exact ⟨_, by positivity, (EReal.coe_mul _ _).symm⟩

theorem rsqrt_pos (a : EReal) (h : 0 < a) : 0 ≤ Ideal.rsqrt a ∧ Ideal.rsqrt a ≠ ⊤ := by
  induction a with
  | bot => exact absurd h (by simp)
  | top => exact ⟨le_refl _, by show (0 : EReal) ≠ ⊤; simp⟩
  | coe r =>
    have hr : 0 < r := by exact_mod_cast h
    rw [Ideal.rsqrt_coe, if_neg hr.not_gt, if_neg hr.ne']
    exact ⟨by exact_mod_cast inv_nonneg.mpr (Real.sqrt_nonneg r), EReal.coe_ne_top _⟩

theorem square_nonneg (a : EReal) : 0 ≤ a * a := by
  induction a with
  | bot => simp
  | top => simp
  | coe r => exact_mod_cast mul_self_nonneg r

/-- The reciprocal root is never negative and never +∞. -/
theorem root_range (f : Fin 4096 → EReal) : 0 ≤ rootOf f ∧ rootOf f ≠ ⊤ := by
  obtain ⟨u, hu, e⟩ := word_tiny
  unfold rootOf
  apply rsqrt_pos
  rw [word_4096, e, Ideal.div_coe (by norm_num)]
  have h1 : (0 : EReal) ≤ (∑ k : Fin 4096, f k * f k) * ((1 / 4096 : ℝ) : EReal) :=
    mul_nonneg (Finset.sum_nonneg fun k _ => square_nonneg (f k)) (by exact_mod_cast (by norm_num : (0 : ℝ) ≤ 1 / 4096))
  have h2 : (0 : EReal) < (u : EReal) := by exact_mod_cast hu
  exact h2.trans_le (le_add_of_nonneg_left h1)

/-- A factor that is neither negative nor +∞ goes into a sum. -/
theorem sum_scaled {n : Nat} (f : Fin n → EReal) (s : EReal) (h0 : 0 ≤ s) (h1 : s ≠ ⊤) : (∑ k, f k) * s = ∑ k, f k * s := by
  have h : ∀ S : Finset (Fin n), (∑ k ∈ S, f k) * s = ∑ k ∈ S, f k * s := fun S => by
    induction S using Finset.induction_on with
    | empty => simp
    | insert a S ha ih => rw [Finset.sum_insert ha, Finset.sum_insert ha, EReal.right_distrib_of_nonneg_of_ne_top h0 h1, ih]
  exact h _

/-- The norm's factor, taken after the product over the gain times the weights, or before it. -/
theorem norm_out (f g w : Fin 4096 → EReal) : (∑ k, f k * (g k * w k)) * rootOf f = ∑ k, f k * rootOf f * g k * w k := by
  rw [sum_scaled _ _ (root_range f).1 (root_range f).2]
  refine Finset.sum_congr rfl fun k _ => ?_
  rw [mul_right_comm (f k) (g k * w k) (rootOf f), mul_assoc (f k * rootOf f)]

end Cert.Proof

end
-- ==== Proof.GateBlock.lean ====
/- What a grid point of the gated product leaves of its block. -/
module

public import proofs.«01_k».proof.Proof.Gen.GateIdeal.Value
public import proofs.«01_k».proof.Proof.Gated
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.Gate

open Cert.GateIdeal Cert.GateIdeal.Gen
open Idealize.ShloMosaic Idealize.ShloMosaic.TcCoe

/-- An entry of a product of blocks. -/
abbrev prod (x : Vec Ideal S1024x4096 .bf16) (w : Vec Ideal S4096x512 .bf16) (r : Fin 1024) (e : Fin 512) : EReal :=
  ∑ k : Fin 4096, (x (ix2 r k) : EReal) * w (ix2 k e)

variable (x : Vec Ideal S1024x4096 .bf16) (w v : Vec Ideal S4096x512 .bf16) (s s' : Vec Ideal S1024x128 .f32)

theorem piece0 (r : Fin 1024) (e : Fin 128) : @Eq EReal (k0_pay8 x w v s s' (ix2 r e))
    (gated (prod x w r ⟨e.val, by omega⟩ * s (ix2 r e)) (prod x v r ⟨e.val, by omega⟩ * s' (ix2 r e))) := by
  unfold k0_pay8 k0_pay6 k0_pay7 k0_pay5
  pointwise
  rfl

theorem piece1 (r : Fin 1024) (e : Fin 128) : @Eq EReal (k0_pay1 (k0_pay9 x v s') (k0_pay10 x w s) (ix2 r e))
    (gated (prod x w r ⟨128 + e.val, by omega⟩ * s (ix2 r e)) (prod x v r ⟨128 + e.val, by omega⟩ * s' (ix2 r e))) := by
  unfold k0_pay1 k0_pay9 k0_pay10 k0_pay6 k0_pay7 k0_pay5
  pointwise
  rfl

theorem piece2 (r : Fin 1024) (e : Fin 128) : @Eq EReal (k0_pay2 (k0_pay6 x w) (k0_pay7 x v) s s' (ix2 r e))
    (gated (prod x w r ⟨256 + e.val, by omega⟩ * s (ix2 r e)) (prod x v r ⟨256 + e.val, by omega⟩ * s' (ix2 r e))) := by
  unfold k0_pay2 k0_pay6 k0_pay7 k0_pay5
  pointwise
  rfl

theorem piece3 (r : Fin 1024) (e : Fin 128) : @Eq EReal (k0_pay3 (k0_pay6 x w) (k0_pay7 x v) s s' (ix2 r e))
    (gated (prod x w r ⟨384 + e.val, by omega⟩ * s (ix2 r e)) (prod x v r ⟨384 + e.val, by omega⟩ * s' (ix2 r e))) := by
  unfold k0_pay3 k0_pay6 k0_pay7 k0_pay5
  pointwise
  rfl

theorem root_piece (r : Fin 1024) (e : Fin 128) : @Eq EReal (k0_pay4 x (ix2 r e)) (rootOf fun k => x (ix2 r k)) := by
  unfold k0_pay4
  pointwise
  rfl

variable (c : Dev nD) (i : grid0.Coords) (arg2 : Memref sig .tc .vmem S1024x4096 .bf16) (harg2 : arg2.IsWhole) (arg3 : Memref sig .tc .vmem S4096x512 .bf16) (harg3 : arg3.IsWhole) (arg4 : Memref sig .tc .vmem S4096x512 .bf16) (harg4 : arg4.IsWhole) (arg5 : Memref sig .tc .vmem S1024x512 .bf16) (harg5 : arg5.IsWhole) (arg6 : Memref sig .tc .vmem S1024x128 .f32) (harg6 : arg6.IsWhole)

theorem z4096 : (![0, 0] : Fin S1024x4096.rank → Nat) = fun _ => 0 := funext fun a => by fin_cases a <;> rfl
theorem z512 : (![0, 0] : Fin S4096x512.rank → Nat) = fun _ => 0 := funext fun a => by fin_cases a <;> rfl
theorem z128 : (![0, 0] : Fin S1024x128.rank → Nat) = fun _ => 0 := funext fun a => by fin_cases a <;> rfl

/-- A load of a whole buffer. -/
theorem read_x : View.readAt (Elt Ideal) arg2.view (Rect.unit (s := S1024x4096) ![0, 0] S1024x4096.size inb_S1024x4096_S1024x4096_0_0).toLoadRect (harg2.unread x) = x := by
  rw [View.readAt_eq_ld, harg2.read_unread, View.ld_unit_zero z4096]

theorem read_w : View.readAt (Elt Ideal) arg3.view (Rect.unit (s := S4096x512) ![0, 0] S4096x512.size inb_S4096x512_S4096x512_0_0).toLoadRect (harg3.unread w) = w := by
  rw [View.readAt_eq_ld, harg3.read_unread, View.ld_unit_zero z512]

theorem read_s : View.readAt (Elt Ideal) arg6.view (Rect.unit (s := S1024x128) ![0, 0] S1024x128.size inb_S1024x128_S1024x128_0_0).toLoadRect (harg6.unread s) = s := by
  rw [View.readAt_eq_ld, harg6.read_unread, View.ld_unit_zero z128]

/-- The reciprocal roots of a block's rows, on every lane. -/
abbrev roots : Vec Ideal S1024x128 .f32 := k0_pay4 x

theorem scratch_A (hc0 : cond0_0 i) :
    sout0_A_0 c i arg2 harg2 arg3 harg3 arg4 harg4 arg5 harg5 arg6 harg6 hc0 x w v = roots x := by
  unfold sout0_A_0 kernelRun0_A
  rw [VS0_0.read_writes_junk_eq_canon]
  show View.canon [_] = _
  sl_unfold_words
  rw [View.canon_unit_zero z128, read_x]

/-- The entry of a block that lies in a stretch of 128 columns. -/
theorem gated_at (o : Nat) (r : Fin 1024) (e : Fin 512) (y : S1024x128.Idx) (h0 : r.val = (y 0).val) (h1 : e.val = o + (y 1).val) (hd : 128 ∣ o) (ho : o ≤ 384)
    (q : EReal)
    (hq : q = gated (prod x w (y 0) ⟨o + (y 1).val, by have : (y 1).val < 128 := (y 1).isLt; omega⟩ * s (ix2 (y 0) (y 1)))
      (prod x v (y 0) ⟨o + (y 1).val, by have : (y 1).val < 128 := (y 1).isLt; omega⟩ * s (ix2 (y 0) (y 1)))) :
    q = gated (prod x w r e * s (ix2 r (⟨e.val % 128, by omega⟩ : Fin 128))) (prod x v r e * s (ix2 r (⟨e.val % 128, by omega⟩ : Fin 128))) := by
  have hy : (y 1).val < 128 := (y 1).isLt
  have er : r = y 0 := Fin.ext h0
  have ee : e = ⟨o + (y 1).val, by omega⟩ := Fin.ext h1
  have em : (⟨e.val % 128, by omega⟩ : Fin 128) = y 1 := Fin.ext (by show e.val % 128 = (y 1).val; omega)
  rw [em, er, ee]
  exact hq

theorem out_B (hc0 : ¬cond0_0 i) (r : Fin 1024) (e : Fin 512) :
    @Eq EReal (out0_B_3 c i arg2 harg2 arg3 harg3 arg4 harg4 arg5 harg5 arg6 harg6 hc0 x w v s (ix2 r e))
      (gated (prod x w r e * s (ix2 r (⟨e.val % 128, by omega⟩ : Fin 128))) (prod x v r e * s (ix2 r (⟨e.val % 128, by omega⟩ : Fin 128)))) := by
  unfold out0_B_3 kernelRun0_B
  rw [VO0_3.read_writes_junk_eq_canon]
  canon_tiles y h
  · sl_unfold_words
    rw [read_x, read_w, read_w, read_s]
    refine gated_at x w v s 384 r e y h0 h1 (by decide) (by decide) _ ?_
    idx_vars y
    exact piece3 x w v s s y0 y1
  · sl_unfold_words
    rw [read_x, read_w, read_w, read_s]
    refine gated_at x w v s 256 r e y h0 h1 (by decide) (by decide) _ ?_
    idx_vars y
    exact piece2 x w v s s y0 y1
  · sl_unfold_words
    rw [read_x, read_w, read_w, read_s]
    refine gated_at x w v s 128 r e y h0 h1 (by decide) (by decide) _ ?_
    idx_vars y
    exact piece1 x w v s s y0 y1
  · rw [read_x, read_w, read_w, read_s]
    refine gated_at x w v s 0 r e y h0 (h1.trans (Nat.zero_add _).symm) (by decide) (by decide) _ ?_
    idx_vars y
    simp only [Nat.zero_add]
    exact piece0 x w v s s y0 y1

/-- A load of the whole scratch after a store to the whole of it. -/
theorem read_root (P : Vec Ideal S1024x128 .f32) : arg6.view.readCov [(⟨Rect.unit (s := S1024x128) ![0, 0] S1024x128.size inb_S1024x128_S1024x128_0_0, P⟩ : View.Piece (Elt Ideal) S1024x128 .f32)]
    (Rect.unit (s := S1024x128) ![0, 0] S1024x128.size inb_S1024x128_S1024x128_0_0).toLoadRect = P :=
  View.readCov_unit_zero arg6.view z128 inb_S1024x128_S1024x128_0_0 P

theorem out_A (hc0 : cond0_0 i) (r : Fin 1024) (e : Fin 512) :
    @Eq EReal (out0_A_3 c i arg2 harg2 arg3 harg3 arg4 harg4 arg5 harg5 arg6 harg6 hc0 x w v (ix2 r e))
      (gated (prod x w r e * roots x (ix2 r (⟨e.val % 128, by omega⟩ : Fin 128))) (prod x v r e * roots x (ix2 r (⟨e.val % 128, by omega⟩ : Fin 128)))) := by
  unfold out0_A_3 kernelRun0_A
  rw [VO0_3.read_writes_junk_eq_canon]
  canon_tiles y h
  · sl_unfold_words
    rw [read_x, read_w, read_w, read_root]
    refine gated_at x w v (roots x) 384 r e y h0 h1 (by decide) (by decide) _ ?_
    idx_vars y
    exact piece3 x w v (roots x) (roots x) y0 y1
  · sl_unfold_words
    rw [read_x, read_w, read_w, read_root]
    refine gated_at x w v (roots x) 256 r e y h0 h1 (by decide) (by decide) _ ?_
    idx_vars y
    exact piece2 x w v (roots x) (roots x) y0 y1
  · sl_unfold_words
    rw [read_x, read_w, read_w, read_root]
    refine gated_at x w v (roots x) 128 r e y h0 h1 (by decide) (by decide) _ ?_
    idx_vars y
    exact piece1 x w v (roots x) (roots x) y0 y1
  · sl_unfold_words
    rw [read_x, read_w, read_w, read_root]
    refine gated_at x w v (roots x) 0 r e y h0 (h1.trans (Nat.zero_add _).symm) (by decide) (by decide) _ ?_
    idx_vars y
    simp only [Nat.zero_add]
    exact piece0 x w v (roots x) (roots x) y0 y1

end Cert.Proof.Gate

end
-- ==== Proof.GateRef.lean ====
/- The reference of the gated product's first 10752 columns, and an entry of it. -/
module

public import proofs.«01_k».proof.Proof.Gen.GateReferenceIdeal.Run
public import proofs.«01_k».proof.Proof.Gated
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.GateRef

open Cert.GateReferenceIdeal Cert.GateReferenceIdeal.Gen
open Idealize.ShloMosaic Idealize.ShloMosaic.TcCoe

/-- The normed residual stream. -/
def normed (h : Vec Ideal S24576x4096 .f32) (g : Vec Ideal S1x4096 .f32) : Vec Ideal S24576x4096 .f32 :=
  mulf (F := Ideal) (φ := .f32) (mulf (F := Ideal) (φ := .f32) h (broadcastInDim S24576x4096 ![0, 1] bcast_S24576x1_S24576x4096_0_1 (Host.rsqrt (F := Ideal) (φ := .f32) (addf (F := Ideal) (φ := .f32) (Host.divf (F := Ideal) (φ := .f32) (broadcastInDim S24576x1 ![0] bcast_S24576_S24576x1_0 (Host.reduceAdd (F := Ideal) (φ := .f32) (mulf (F := Ideal) (φ := .f32) h h) (constant (F := Ideal) S_ .f32 0x00000000#32) reducesTo_S24576x4096_S24576_d1 h_S_)) (broadcastInDim S24576x1 ![] bcast_S_S24576x1 (constant (F := Ideal) S_ .f32 0x45800000#32))) (broadcastInDim S24576x1 ![] bcast_S_S24576x1 (constant (F := Ideal) S_ .f32 0x358637BD#32))))))
    (broadcastInDim S24576x4096 ![0, 1] bcast_S1x4096_S24576x4096_0_1 (broadcastInDim S1x4096 ![1] bcast_S4096_S1x4096_1 (shapeCast S4096 g shapeCasts_S1x4096_S4096)))

/-- The normed stream times the first 10752 columns of weights. -/
def times (n : Vec Ideal S24576x4096 .f32) (w : Vec Ideal S1x4096x11008 .f32) : Vec Ideal S24576x10752 .f32 :=
  Host.dotGeneral (F := Ideal) (φ₁ := .f32) (φ₂ := .f32) dot_S24576x4096_S4096x10752_S24576x10752_1_0_0_1_n_n none n
    (shapeCast S4096x10752 (extractStridedSlice S1x4096x10752 ![0, 0, 0] w slices_S1x4096x11008_S1x4096x10752_0_0_0) shapeCasts_S1x4096x10752_S4096x10752)

/-- Half of `silu a · b`. -/
def joined (a b : Vec Ideal S24576x10752 .f32) : Vec Ideal S24576x10752 .bf16 :=
  truncf (F := Ideal) (φ := .f32) .bf16 (mulf (F := Ideal) (φ := .f32) (broadcastInDim S24576x10752 ![] bcast_S_S24576x10752 (constant (F := Ideal) S_ .f32 0x3F000000#32))
    (mulf (F := Ideal) (φ := .f32) (mulf (F := Ideal) (φ := .f32) a (Host.divf (F := Ideal) (φ := .f32) (broadcastInDim S24576x10752 ![] bcast_S_S24576x10752 (constant (F := Ideal) S_ .f32 0x3F800000#32))
      (addf (F := Ideal) (φ := .f32) (broadcastInDim S24576x10752 ![] bcast_S_S24576x10752 (constant (F := Ideal) S_ .f32 0x3F800000#32)) (Host.exp (F := Ideal) (φ := .f32) (Host.negf (F := Ideal) (φ := .f32) a))))) b)) bitsLt_bf16_f32

/-- The reference's result. -/
def result (h : Vec Ideal S24576x4096 .f32) (g : Vec Ideal S1x4096 .f32) (wg wu : Vec Ideal S1x4096x11008 .f32) : Vec Ideal S24576x10752 .bf16 :=
  joined (times (normed h g) wg) (times (normed h g) wu)

variable (h : Vec Ideal S24576x4096 .f32) (g : Vec Ideal S1x4096 .f32) (wg wu : Vec Ideal S1x4096x11008 .f32)

theorem normed_apply (r : Fin 24576) (k : Fin 4096) :
    @Eq EReal (normed h g (ix2 r k)) ((h (ix2 r k) : EReal) * rootOf (fun k => h (ix2 r k)) * g (ix2 0 k)) := by
  unfold normed
  pointwise
  rfl

theorem times_apply (n : Vec Ideal S24576x4096 .f32) (w : Vec Ideal S1x4096x11008 .f32) (r : Fin 24576) (e : Fin 10752) :
    @Eq EReal (times n w (ix2 r e)) (∑ k : Fin 4096, (n (ix2 r k) : EReal) * w (ix3 0 k (⟨e.val, by omega⟩ : Fin 11008))) := by
  unfold times
  pointwise

theorem joined_apply (a b : Vec Ideal S24576x10752 .f32) (r : Fin 24576) (e : Fin 10752) :
    @Eq EReal (joined a b (ix2 r e)) (gated (a (ix2 r e)) (b (ix2 r e))) := by
  unfold joined gated
  pointwise
  rw [mul_assoc half]

/-- A column of the normed stream's product, the norm's factor taken out. -/
theorem product_apply (w : Vec Ideal S1x4096x11008 .f32) (r : Fin 24576) (e : Fin 10752) :
    @Eq EReal (times (normed h g) w (ix2 r e))
      ((∑ k : Fin 4096, (h (ix2 r k) : EReal) * ((g (ix2 0 k) : EReal) * w (ix3 0 k (⟨e.val, by omega⟩ : Fin 11008)))) * rootOf fun k => h (ix2 r k)) := by
  rw [times_apply]
  refine Eq.trans ?_ (norm_out (fun k => h (ix2 r k)) (fun k => g (ix2 0 k)) (fun k => w (ix3 0 k (⟨e.val, by omega⟩ : Fin 11008)))).symm
  exact Finset.sum_congr rfl fun k _ => congrArg (fun z : EReal => z * w (ix3 0 k (⟨e.val, by omega⟩ : Fin 11008))) (normed_apply h g r k)

end Cert.Proof.GateRef

end
-- ==== Proof.Gate.lean ====
/- The gated product of a feed-forward half's first 10752 columns: the array the kernel leaves is the reference's. -/
module

public import proofs.«01_k».proof.Proof.GateBlock
public import proofs.«01_k».proof.Proof.GateRef

@[expose] public section

set_option maxRecDepth 16384

noncomputable section

namespace Cert.Proof.Gate

open Cert.GateIdeal Cert.GateIdeal.Gen
open Idealize.ShloMosaic Idealize.ShloMosaic.TcCoe

/-- The residual stream in bf16, the launch's first array. -/
def stream (h : Vec Ideal S24576x4096 .f32) : Vec Ideal S24576x4096 .bf16 :=
  truncf (F := Ideal) (φ := .f32) .bf16 h bitsLt_bf16_f32

/-- The gain times the weights, the launch's second and third arrays. -/
def scaled (g : Vec Ideal S1x4096 .f32) (w : Vec Ideal S1x4096x11008 .f32) : Vec Ideal S4096x11008 .bf16 :=
  truncf (F := Ideal) (φ := .f32) .bf16 (mulf (F := Ideal) (φ := .f32)
    (broadcastInDim S4096x11008 ![0, 1] bcast_S4096x1_S4096x11008_0_1 (broadcastInDim S4096x1 ![0] bcast_S4096_S4096x1_0 (shapeCast S4096 g shapeCasts_S1x4096_S4096)))
    (shapeCast S4096x11008 w shapeCasts_S1x4096x11008_S4096x11008)) bitsLt_bf16_f32

theorem stream_apply (h : Vec Ideal S24576x4096 .f32) (r : Fin 24576) (k : Fin 4096) : @Eq EReal (stream h (ix2 r k)) (h (ix2 r k)) := by
  unfold stream
  pointwise

theorem scaled_apply (g : Vec Ideal S1x4096 .f32) (w : Vec Ideal S1x4096x11008 .f32) (k : Fin 4096) (e : Fin 11008) :
    @Eq EReal (scaled g w (ix2 k e)) ((g (ix2 0 k) : EReal) * w (ix3 0 k e)) := by
  unfold scaled
  pointwise

variable (m : (ℓ : Loc nD τ sig) → Buf (Elt Ideal) ℓ)

abbrev resid (c : Dev nD) : Vec Ideal S24576x4096 .f32 := m ((c.tc : Thread nD τ).loc main_arg0)
abbrev gain (c : Dev nD) : Vec Ideal S1x4096 .f32 := m ((c.tc : Thread nD τ).loc main_arg1)
abbrev gateW (c : Dev nD) : Vec Ideal S1x4096x11008 .f32 := m ((c.tc : Thread nD τ).loc main_arg2)
abbrev upW (c : Dev nD) : Vec Ideal S1x4096x11008 .f32 := m ((c.tc : Thread nD τ).loc main_arg3)

theorem V_stream (c : Dev nD) : V m c main_v10 = stream (resid m c) := by
  simp only [V, hostOps0]
  after_results
  rfl

theorem V_gate (c : Dev nD) : V m c main_v5 = scaled (gain m c) (gateW m c) := by
  simp only [V, hostOps0]
  after_results
  rfl

theorem V_up (c : Dev nD) : V m c main_v9 = scaled (gain m c) (upW m c) := by
  simp only [V, hostOps0]
  after_results
  rfl

theorem at0 : ∀ t : Fin cfg0.N, win0_0.index t (0 : Fin 2) = t.val / 21 ∧ win0_0.index t (1 : Fin 2) = 0 :=
  (by decide +kernel : ∀ t : Fin grid0.N, _)
theorem at1 : ∀ t : Fin cfg0.N, win0_1.index t (0 : Fin 2) = 0 ∧ win0_1.index t (1 : Fin 2) = t.val % 21 :=
  (by decide +kernel : ∀ t : Fin grid0.N, _)
theorem at2 : ∀ t : Fin cfg0.N, win0_2.index t (0 : Fin 2) = 0 ∧ win0_2.index t (1 : Fin 2) = t.val % 21 :=
  (by decide +kernel : ∀ t : Fin grid0.N, _)
theorem at3 : ∀ t : Fin cfg0.N, win0_3.index t (0 : Fin 2) = t.val / 21 ∧ win0_3.index t (1 : Fin 2) = t.val % 21 :=
  (by decide +kernel : ∀ t : Fin grid0.N, _)

theorem lt24 (t : Fin cfg0.N) : t.val / 21 < 24 := by
  have := t.isLt
  have h : cfg0.N = 504 := N_0
  omega

/-- The row and the column of the whole arrays an entry of a point's block is. -/
abbrev rowAt (t : Fin cfg0.N) (r : Fin 1024) : Fin 24576 := ⟨t.val / 21 * 1024 + r.val, by have := lt24 t; omega⟩
abbrev colAt (t : Fin cfg0.N) (e : Fin 512) : Fin 10752 := ⟨t.val % 21 * 512 + e.val, by omega⟩
abbrev colW (t : Fin cfg0.N) (e : Fin 512) : Fin 11008 := ⟨t.val % 21 * 512 + e.val, by omega⟩

theorem blk0 (c : Dev nD) (t : Fin cfg0.N) (r : Fin 1024) (k : Fin 4096) :
    @Eq EReal (iblk m c 0 t (ix2 r k)) (resid m c (ix2 (rowAt t r) k)) := by
  refine Eq.trans ?_ (stream_apply (resid m c) (rowAt t r) k)
  rw [← V_stream m c]
  obtain ⟨e0, e1⟩ := at0 t
  show V m c main_v10 (((cfg0.win 0).blk t).view.emb (ix2 r k)) = V m c main_v10 _
  refine congrArg _ (funext fun a => Fin.ext ?_)
  match a with
  | ⟨0, _⟩ => show win0_0.index t (0 : Fin 2) * 1024 + 1 * r.val = t.val / 21 * 1024 + r.val; omega
  | ⟨1, _⟩ => show win0_0.index t (1 : Fin 2) * 4096 + 1 * k.val = k.val; omega

theorem blk1 (c : Dev nD) (t : Fin cfg0.N) (k : Fin 4096) (e : Fin 512) :
    @Eq EReal (X0_1 m c t (ix2 k e)) ((gain m c (ix2 0 k) : EReal) * gateW m c (ix3 0 k (colW t e))) := by
  refine Eq.trans ?_ (scaled_apply (gain m c) (gateW m c) k (colW t e))
  rw [← V_gate m c]
  obtain ⟨e0, e1⟩ := at1 t
  unfold X0_1 Pipeline.Window.fill
  rw [dif_pos (moved0_1 t (ix2 k e))]
  show V m c main_v5 (((cfg0.win 1).blk t).view.emb _) = V m c main_v5 _
  refine congrArg _ (funext fun a => Fin.ext ?_)
  match a with
  | ⟨0, _⟩ => show win0_1.index t (0 : Fin 2) * 4096 + 1 * k.val = k.val; omega
  | ⟨1, _⟩ => show win0_1.index t (1 : Fin 2) * 512 + 1 * e.val = t.val % 21 * 512 + e.val; omega

theorem blk2 (c : Dev nD) (t : Fin cfg0.N) (k : Fin 4096) (e : Fin 512) :
    @Eq EReal (X0_2 m c t (ix2 k e)) ((gain m c (ix2 0 k) : EReal) * upW m c (ix3 0 k (colW t e))) := by
  refine Eq.trans ?_ (scaled_apply (gain m c) (upW m c) k (colW t e))
  rw [← V_up m c]
  obtain ⟨e0, e1⟩ := at2 t
  unfold X0_2 Pipeline.Window.fill
  rw [dif_pos (moved0_2 t (ix2 k e))]
  show V m c main_v9 (((cfg0.win 2).blk t).view.emb _) = V m c main_v9 _
  refine congrArg _ (funext fun a => Fin.ext ?_)
  match a with
  | ⟨0, _⟩ => show win0_2.index t (0 : Fin 2) * 4096 + 1 * k.val = k.val; omega
  | ⟨1, _⟩ => show win0_2.index t (1 : Fin 2) * 512 + 1 * e.val = t.val % 21 * 512 + e.val; omega

/-- The root of a row of the whole stream. -/
abbrev rowRoot (c : Dev nD) (R : Fin 24576) : EReal := rootOf fun k => resid m c (ix2 R k)

theorem roots_row (c : Dev nD) (t : Fin cfg0.N) (r : Fin 1024) (e : Fin 128) :
    @Eq EReal (roots (iblk m c 0 t) (ix2 r e)) (rowRoot m c (rowAt t r)) :=
  (root_piece _ r e).trans (congrArg rootOf (funext fun k => blk0 m c t r k))

/-- The scratch after a grid point holds the roots of the point's rows: the first point of a row block stores them, the
later ones leave them. -/
theorem scratch (c : Dev nD) : ∀ (n : Nat) (hn : n < cfg0.N) (r : Fin 1024) (e : Fin 128),
    @Eq EReal ((outsAt0 m c n hn).2 (ix2 r e)) (rowRoot m c (rowAt ⟨n, hn⟩ r))
  | 0, hn, r, e => by
    rw [outsAt0_A m c ⟨0, hn⟩ (Nat.zero_mod _)]
    dsimp only
    rw [scratch_A]
    exact roots_row m c ⟨0, hn⟩ r e
  | n + 1, hn, r, e => by
    by_cases h0 : (n + 1) % 21 = 0
    · rw [outsAt0_A m c ⟨n + 1, hn⟩ h0]
      dsimp only
      rw [scratch_A]
      exact roots_row m c ⟨n + 1, hn⟩ r e
    · rw [outsAt0_B m c ⟨n + 1, hn⟩ h0]
      have ih := scratch c n (Nat.lt_of_succ_lt hn) r e
      have er : rowAt ⟨n, Nat.lt_of_succ_lt hn⟩ r = rowAt ⟨n + 1, hn⟩ r := Fin.ext (by
        show n / 21 * 1024 + r.val = (n + 1) / 21 * 1024 + r.val
        have : n / 21 = (n + 1) / 21 := by omega
        rw [this])
      rw [er] at ih
      exact ih

theorem place (t : Fin cfg0.N) (r : Fin 1024) (e : Fin 512) : ((cfg0.win 3).blk t).view.emb (ix2 r e) = ix2 (rowAt t r) (colAt t e) := by
  obtain ⟨e0, e1⟩ := at3 t
  refine funext fun a => Fin.ext ?_
  match a with
  | ⟨0, _⟩ => show win0_3.index t (0 : Fin 2) * 1024 + 1 * r.val = t.val / 21 * 1024 + r.val; omega
  | ⟨1, _⟩ => show win0_3.index t (1 : Fin 2) * 512 + 1 * e.val = t.val % 21 * 512 + e.val; omega

/-- Every index of the result is in the block of the point of its row block and column block. -/
theorem covered (i : S24576x10752.Idx) : ∃ t : Fin cfg0.N, (cfg0.win 3).flush t = true ∧ i ∈ ((cfg0.win 3).blk t).view.set :=
  (Cert.GateIdeal.Value.covered_iff3 i).2 (by
    have h0 : (i 0).val < 24576 := (i 0).isLt
    have h1 : (i 1).val < 10752 := (i 1).isLt
    omega)

/-- The reference's result of a memory. -/
abbrev whole (c : Dev nD) : Vec Ideal S24576x10752 .bf16 := GateRef.result (resid m c) (gain m c) (gateW m c) (upW m c)

/-- An entry of a point's block, whatever holds the roots. -/
theorem point (h : Vec Ideal S24576x4096 .f32) (g : Vec Ideal S1x4096 .f32) (wg wu : Vec Ideal S1x4096x11008 .f32)
    (x : Vec Ideal S1024x4096 .bf16) (w v : Vec Ideal S4096x512 .bf16) (s : EReal) (r : Fin 1024) (e : Fin 512) (R : Fin 24576) (E : Fin 10752)
    (e0 : ∀ k : Fin 4096, @Eq EReal (x (ix2 r k)) (h (ix2 R k)))
    (e1 : ∀ k : Fin 4096, @Eq EReal (w (ix2 k e)) ((g (ix2 0 k) : EReal) * wg (ix3 0 k (⟨E.val, by omega⟩ : Fin 11008))))
    (e2 : ∀ k : Fin 4096, @Eq EReal (v (ix2 k e)) ((g (ix2 0 k) : EReal) * wu (ix3 0 k (⟨E.val, by omega⟩ : Fin 11008))))
    (es : s = rootOf fun k => h (ix2 R k)) :
    gated (prod x w r e * s) (prod x v r e * s) = GateRef.result h g wg wu (ix2 R E) := by
  have hw : prod x w r e = ∑ k : Fin 4096, (h (ix2 R k) : EReal) * ((g (ix2 0 k) : EReal) * wg (ix3 0 k (⟨E.val, by omega⟩ : Fin 11008))) :=
    Finset.sum_congr rfl fun k _ => congrArg₂ (· * ·) (e0 k) (e1 k)
  have hv : prod x v r e = ∑ k : Fin 4096, (h (ix2 R k) : EReal) * ((g (ix2 0 k) : EReal) * wu (ix3 0 k (⟨E.val, by omega⟩ : Fin 11008))) :=
    Finset.sum_congr rfl fun k _ => congrArg₂ (· * ·) (e0 k) (e2 k)
  rw [hw, hv, es]
  unfold GateRef.result
  refine Eq.trans ?_ (GateRef.joined_apply _ _ R E).symm
  exact congrArg₂ gated (GateRef.product_apply h g wg R E).symm (GateRef.product_apply h g wu R E).symm

/-- Reading a point's block of the result array. -/
theorem cut_read (t : Fin cfg0.N) (X : Vec Ideal S1024x512 .bf16) (Y : Vec Ideal S24576x10752 .bf16)
    (h : ∀ (r : Fin 1024) (e : Fin 512), @Eq EReal (X (ix2 r e)) (Y (ix2 (rowAt t r) (colAt t e)))) :
    (cfg0.win 3).cut (grid0.coords t) X = ((cfg0.win 3).blk t).view.read (Elt Ideal) Y := by
  funext y
  idx_vars y
  show X (ix2 y0 y1) = Y (((cfg0.win 3).blk t).view.emb (ix2 y0 y1))
  rw [place]
  exact h y0 y1

theorem previous (t : Fin cfg0.N) (h0 : ¬t.val % 21 = 0) (hp : t.val - 1 < cfg0.N) (r : Fin 1024) : rowAt ⟨t.val - 1, hp⟩ r = rowAt t r :=
  Fin.ext (by
    show (t.val - 1) / 21 * 1024 + r.val = t.val / 21 * 1024 + r.val
    have : (t.val - 1) / 21 = t.val / 21 := by omega
    rw [this])

/-- The array the kernel leaves is the reference's result. -/
theorem array_eq (c : Dev nD) : (dats m 0 c).arrAt 3 cfg0.N = whole m c := by
  refine (dats m 0 c).arrAt_eq_of_cover 3 (whole m c) (fun t _ => ?_) covered
  by_cases h0 : t.val % 21 = 0
  · rw [Cert.GateIdeal.Value.flushed3_A m c t h0]
    refine cut_read t _ _ fun r e => ?_
    refine (out_A _ _ _ _ _ _ _ _ _ _ _ _ _ _ _ _ r e).trans ?_
    exact point _ _ _ _ _ _ _ _ r e (rowAt t r) (colAt t e) (blk0 m c t r) (fun k => blk1 m c t k e) (fun k => blk2 m c t k e) (roots_row m c t r _)
  · rw [Cert.GateIdeal.Value.flushed3_B m c t h0]
    refine cut_read t _ _ fun r e => ?_
    refine (out_B _ _ _ _ _ _ _ _ _ _ _ _ _ _ _ _ _ r e).trans ?_
    refine point _ _ _ _ _ _ _ _ r e (rowAt t r) (colAt t e) (blk0 m c t r) (fun k => blk1 m c t k e) (fun k => blk2 m c t k e) ?_
    exact (scratch m c (t.val - 1) _ r _).trans (congrArg (rowRoot m c) (previous t h0 _ r))

end Cert.Proof.Gate

end
-- ==== Proof.TailBlock.lean ====
/- What a grid point of the gated product's last 256 columns leaves of its block. -/
module

public import proofs.«01_k».proof.Proof.Gen.TailIdeal.Value
public import proofs.«01_k».proof.Proof.Gated
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.Tail

open Cert.TailIdeal Cert.TailIdeal.Gen
open Idealize.ShloMosaic Idealize.ShloMosaic.TcCoe

/-- An entry of a product of blocks. -/
abbrev prod (x : Vec Ideal S1024x4096 .bf16) (w : Vec Ideal S4096x256 .bf16) (r : Fin 1024) (e : Fin 256) : EReal :=
  ∑ k : Fin 4096, (x (ix2 r k) : EReal) * w (ix2 k e)

variable (x : Vec Ideal S1024x4096 .bf16) (w v : Vec Ideal S4096x256 .bf16) (s s' : Vec Ideal S1024x128 .f32)

theorem piece0 (r : Fin 1024) (e : Fin 128) : @Eq EReal (k0_pay6 x w v s s' (ix2 r e))
    (gated (prod x w r ⟨e.val, by omega⟩ * s (ix2 r e)) (prod x v r ⟨e.val, by omega⟩ * s' (ix2 r e))) := by
  unfold k0_pay6 k0_pay4 k0_pay5 k0_pay3
  pointwise
  rfl

theorem piece1 (r : Fin 1024) (e : Fin 128) : @Eq EReal (k0_pay1 (k0_pay7 x v s') (k0_pay8 x w s) (ix2 r e))
    (gated (prod x w r ⟨128 + e.val, by omega⟩ * s (ix2 r e)) (prod x v r ⟨128 + e.val, by omega⟩ * s' (ix2 r e))) := by
  unfold k0_pay1 k0_pay7 k0_pay8 k0_pay4 k0_pay5 k0_pay3
  pointwise
  rfl

theorem root_piece (r : Fin 1024) (e : Fin 128) : @Eq EReal (k0_pay2 x (ix2 r e)) (rootOf fun k => x (ix2 r k)) := by
  unfold k0_pay2
  pointwise
  rfl

variable (c : Dev nD) (i : grid0.Coords) (arg2 : Memref sig .tc .vmem S1024x4096 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S1024x256 .bf16) (harg5 : arg5.IsWhole) (arg6 : Memref sig .tc .vmem S1024x128 .f32) (harg6 : arg6.IsWhole)

theorem z4096 : (![0, 0] : Fin S1024x4096.rank → Nat) = fun _ => 0 := funext fun a => by fin_cases a <;> rfl
theorem z256 : (![0, 0] : Fin S4096x256.rank → Nat) = fun _ => 0 := funext fun a => by fin_cases a <;> rfl
theorem z128 : (![0, 0] : Fin S1024x128.rank → Nat) = fun _ => 0 := funext fun a => by fin_cases a <;> rfl

/-- A load of a whole buffer. -/
theorem read_x : View.readAt (Elt Ideal) arg2.view (Rect.unit (s := S1024x4096) ![0, 0] S1024x4096.size inb_S1024x4096_S1024x4096_0_0).toLoadRect (harg2.unread x) = x := by
  rw [View.readAt_eq_ld, harg2.read_unread, View.ld_unit_zero z4096]

theorem read_w : View.readAt (Elt Ideal) arg3.view (Rect.unit (s := S4096x256) ![0, 0] S4096x256.size inb_S4096x256_S4096x256_0_0).toLoadRect (harg3.unread w) = w := by
  rw [View.readAt_eq_ld, harg3.read_unread, View.ld_unit_zero z256]

/-- The reciprocal roots of a block's rows, on every lane. -/
abbrev roots : Vec Ideal S1024x128 .f32 := k0_pay2 x

/-- The entry of a block that lies in a stretch of 128 columns. -/
theorem gated_at (o : Nat) (r : Fin 1024) (e : Fin 256) (y : S1024x128.Idx) (h0 : r.val = (y 0).val) (h1 : e.val = o + (y 1).val) (hd : 128 ∣ o) (ho : o ≤ 128)
    (q : EReal)
    (hq : q = gated (prod x w (y 0) ⟨o + (y 1).val, by have : (y 1).val < 128 := (y 1).isLt; omega⟩ * s (ix2 (y 0) (y 1)))
      (prod x v (y 0) ⟨o + (y 1).val, by have : (y 1).val < 128 := (y 1).isLt; omega⟩ * s (ix2 (y 0) (y 1)))) :
    q = gated (prod x w r e * s (ix2 r (⟨e.val % 128, by omega⟩ : Fin 128))) (prod x v r e * s (ix2 r (⟨e.val % 128, by omega⟩ : Fin 128))) := by
  have hy : (y 1).val < 128 := (y 1).isLt
  have er : r = y 0 := Fin.ext h0
  have ee : e = ⟨o + (y 1).val, by omega⟩ := Fin.ext h1
  have em : (⟨e.val % 128, by omega⟩ : Fin 128) = y 1 := Fin.ext (by show e.val % 128 = (y 1).val; omega)
  rw [em, er, ee]
  exact hq

/-- A load of the whole scratch after a store to the whole of it. -/
theorem read_root (P : Vec Ideal S1024x128 .f32) : arg6.view.readCov [(⟨Rect.unit (s := S1024x128) ![0, 0] S1024x128.size inb_S1024x128_S1024x128_0_0, P⟩ : View.Piece (Elt Ideal) S1024x128 .f32)]
    (Rect.unit (s := S1024x128) ![0, 0] S1024x128.size inb_S1024x128_S1024x128_0_0).toLoadRect = P :=
  View.readCov_unit_zero arg6.view z128 inb_S1024x128_S1024x128_0_0 P

theorem out_A (hc0 : cond0_0 i) (r : Fin 1024) (e : Fin 256) :
    @Eq EReal (out0_A_3 c i arg2 harg2 arg3 harg3 arg4 harg4 arg5 harg5 arg6 harg6 hc0 x w v (ix2 r e))
      (gated (prod x w r e * roots x (ix2 r (⟨e.val % 128, by omega⟩ : Fin 128))) (prod x v r e * roots x (ix2 r (⟨e.val % 128, by omega⟩ : Fin 128)))) := by
  unfold out0_A_3 kernelRun0_A
  rw [VO0_3.read_writes_junk_eq_canon]
  canon_tiles y h
  · sl_unfold_words
    rw [read_x, read_w, read_w, read_root]
    refine gated_at x w v (roots x) 128 r e y h0 h1 (by decide) (by decide) _ ?_
    idx_vars y
    exact piece1 x w v (roots x) (roots x) y0 y1
  · sl_unfold_words
    rw [read_x, read_w, read_w, read_root]
    refine gated_at x w v (roots x) 0 r e y h0 (h1.trans (Nat.zero_add _).symm) (by decide) (by decide) _ ?_
    idx_vars y
    simp only [Nat.zero_add]
    exact piece0 x w v (roots x) (roots x) y0 y1

end Cert.Proof.Tail

end
-- ==== Proof.TailRef.lean ====
/- The reference of the gated product's last 256 columns, and an entry of it. -/
module

public import proofs.«01_k».proof.Proof.Gen.TailReferenceIdeal.Run
public import proofs.«01_k».proof.Proof.Gated
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.TailRef

open Cert.TailReferenceIdeal Cert.TailReferenceIdeal.Gen
open Idealize.ShloMosaic Idealize.ShloMosaic.TcCoe

/-- The normed residual stream. -/
def normed (h : Vec Ideal S24576x4096 .f32) (g : Vec Ideal S1x4096 .f32) : Vec Ideal S24576x4096 .f32 :=
  mulf (F := Ideal) (φ := .f32) (mulf (F := Ideal) (φ := .f32) h (broadcastInDim S24576x4096 ![0, 1] bcast_S24576x1_S24576x4096_0_1 (Host.rsqrt (F := Ideal) (φ := .f32) (addf (F := Ideal) (φ := .f32) (Host.divf (F := Ideal) (φ := .f32) (broadcastInDim S24576x1 ![0] bcast_S24576_S24576x1_0 (Host.reduceAdd (F := Ideal) (φ := .f32) (mulf (F := Ideal) (φ := .f32) h h) (constant (F := Ideal) S_ .f32 0x00000000#32) reducesTo_S24576x4096_S24576_d1 h_S_)) (broadcastInDim S24576x1 ![] bcast_S_S24576x1 (constant (F := Ideal) S_ .f32 0x45800000#32))) (broadcastInDim S24576x1 ![] bcast_S_S24576x1 (constant (F := Ideal) S_ .f32 0x358637BD#32))))))
    (broadcastInDim S24576x4096 ![0, 1] bcast_S1x4096_S24576x4096_0_1 (broadcastInDim S1x4096 ![1] bcast_S4096_S1x4096_1 (shapeCast S4096 g shapeCasts_S1x4096_S4096)))

/-- The normed stream times the last 256 columns of weights. -/
def times (n : Vec Ideal S24576x4096 .f32) (w : Vec Ideal S1x4096x11008 .f32) : Vec Ideal S24576x256 .f32 :=
  Host.dotGeneral (F := Ideal) (φ₁ := .f32) (φ₂ := .f32) dot_S24576x4096_S4096x256_S24576x256_1_0_0_1_n_n none n
    (shapeCast S4096x256 (extractStridedSlice S1x4096x256 ![0, 0, 10752] w slices_S1x4096x11008_S1x4096x256_0_0_10752) shapeCasts_S1x4096x256_S4096x256)

/-- Half of `silu a · b`. -/
def joined (a b : Vec Ideal S24576x256 .f32) : Vec Ideal S24576x256 .bf16 :=
  truncf (F := Ideal) (φ := .f32) .bf16 (mulf (F := Ideal) (φ := .f32) (broadcastInDim S24576x256 ![] bcast_S_S24576x256 (constant (F := Ideal) S_ .f32 0x3F000000#32))
    (mulf (F := Ideal) (φ := .f32) (mulf (F := Ideal) (φ := .f32) a (Host.divf (F := Ideal) (φ := .f32) (broadcastInDim S24576x256 ![] bcast_S_S24576x256 (constant (F := Ideal) S_ .f32 0x3F800000#32))
      (addf (F := Ideal) (φ := .f32) (broadcastInDim S24576x256 ![] bcast_S_S24576x256 (constant (F := Ideal) S_ .f32 0x3F800000#32)) (Host.exp (F := Ideal) (φ := .f32) (Host.negf (F := Ideal) (φ := .f32) a))))) b)) bitsLt_bf16_f32

/-- The reference's result. -/
def result (h : Vec Ideal S24576x4096 .f32) (g : Vec Ideal S1x4096 .f32) (wg wu : Vec Ideal S1x4096x11008 .f32) : Vec Ideal S24576x256 .bf16 :=
  joined (times (normed h g) wg) (times (normed h g) wu)

variable (h : Vec Ideal S24576x4096 .f32) (g : Vec Ideal S1x4096 .f32) (wg wu : Vec Ideal S1x4096x11008 .f32)

theorem normed_apply (r : Fin 24576) (k : Fin 4096) :
    @Eq EReal (normed h g (ix2 r k)) ((h (ix2 r k) : EReal) * rootOf (fun k => h (ix2 r k)) * g (ix2 0 k)) := by
  unfold normed
  pointwise
  rfl

theorem times_apply (n : Vec Ideal S24576x4096 .f32) (w : Vec Ideal S1x4096x11008 .f32) (r : Fin 24576) (e : Fin 256) :
    @Eq EReal (times n w (ix2 r e)) (∑ k : Fin 4096, (n (ix2 r k) : EReal) * w (ix3 0 k (⟨10752 + e.val, by omega⟩ : Fin 11008))) := by
  unfold times
  pointwise

theorem joined_apply (a b : Vec Ideal S24576x256 .f32) (r : Fin 24576) (e : Fin 256) :
    @Eq EReal (joined a b (ix2 r e)) (gated (a (ix2 r e)) (b (ix2 r e))) := by
  unfold joined gated
  pointwise
  rw [mul_assoc half]

/-- A column of the normed stream's product, the norm's factor taken out. -/
theorem product_apply (w : Vec Ideal S1x4096x11008 .f32) (r : Fin 24576) (e : Fin 256) :
    @Eq EReal (times (normed h g) w (ix2 r e))
      ((∑ k : Fin 4096, (h (ix2 r k) : EReal) * ((g (ix2 0 k) : EReal) * w (ix3 0 k (⟨10752 + e.val, by omega⟩ : Fin 11008)))) * rootOf fun k => h (ix2 r k)) := by
  rw [times_apply]
  refine Eq.trans ?_ (norm_out (fun k => h (ix2 r k)) (fun k => g (ix2 0 k)) (fun k => w (ix3 0 k (⟨10752 + e.val, by omega⟩ : Fin 11008)))).symm
  exact Finset.sum_congr rfl fun k _ => congrArg (fun z : EReal => z * w (ix3 0 k (⟨10752 + e.val, by omega⟩ : Fin 11008))) (normed_apply h g r k)

end Cert.Proof.TailRef

end
-- ==== Proof.Tail.lean ====
/- The gated product of a feed-forward half's last 256 columns: the array the kernel leaves is the reference's. -/
module

public import proofs.«01_k».proof.Proof.TailBlock
public import proofs.«01_k».proof.Proof.TailRef

@[expose] public section

set_option maxRecDepth 16384

noncomputable section

namespace Cert.Proof.Tail

open Cert.TailIdeal Cert.TailIdeal.Gen
open Idealize.ShloMosaic Idealize.ShloMosaic.TcCoe

/-- The residual stream in bf16, the launch's first array. -/
def stream (h : Vec Ideal S24576x4096 .f32) : Vec Ideal S24576x4096 .bf16 :=
  truncf (F := Ideal) (φ := .f32) .bf16 h bitsLt_bf16_f32

/-- The gain times the weights, the launch's second and third arrays. -/
def scaled (g : Vec Ideal S1x4096 .f32) (w : Vec Ideal S1x4096x11008 .f32) : Vec Ideal S4096x11008 .bf16 :=
  truncf (F := Ideal) (φ := .f32) .bf16 (mulf (F := Ideal) (φ := .f32)
    (broadcastInDim S4096x11008 ![0, 1] bcast_S4096x1_S4096x11008_0_1 (broadcastInDim S4096x1 ![0] bcast_S4096_S4096x1_0 (shapeCast S4096 g shapeCasts_S1x4096_S4096)))
    (shapeCast S4096x11008 w shapeCasts_S1x4096x11008_S4096x11008)) bitsLt_bf16_f32

theorem stream_apply (h : Vec Ideal S24576x4096 .f32) (r : Fin 24576) (k : Fin 4096) : @Eq EReal (stream h (ix2 r k)) (h (ix2 r k)) := by
  unfold stream
  pointwise

theorem scaled_apply (g : Vec Ideal S1x4096 .f32) (w : Vec Ideal S1x4096x11008 .f32) (k : Fin 4096) (e : Fin 11008) :
    @Eq EReal (scaled g w (ix2 k e)) ((g (ix2 0 k) : EReal) * w (ix3 0 k e)) := by
  unfold scaled
  pointwise

variable (m : (ℓ : Loc nD τ sig) → Buf (Elt Ideal) ℓ)

abbrev resid (c : Dev nD) : Vec Ideal S24576x4096 .f32 := m ((c.tc : Thread nD τ).loc main_arg0)
abbrev gain (c : Dev nD) : Vec Ideal S1x4096 .f32 := m ((c.tc : Thread nD τ).loc main_arg1)
abbrev gateW (c : Dev nD) : Vec Ideal S1x4096x11008 .f32 := m ((c.tc : Thread nD τ).loc main_arg2)
abbrev upW (c : Dev nD) : Vec Ideal S1x4096x11008 .f32 := m ((c.tc : Thread nD τ).loc main_arg3)

theorem V_stream (c : Dev nD) : V m c main_v10 = stream (resid m c) := by
  simp only [V, hostOps0]
  after_results
  rfl

theorem V_gate (c : Dev nD) : V m c main_v5 = scaled (gain m c) (gateW m c) := by
  simp only [V, hostOps0]
  after_results
  rfl

theorem V_up (c : Dev nD) : V m c main_v9 = scaled (gain m c) (upW m c) := by
  simp only [V, hostOps0]
  after_results
  rfl

theorem at0 : ∀ t : Fin cfg0.N, win0_0.index t (0 : Fin 2) = t.val ∧ win0_0.index t (1 : Fin 2) = 0 :=
  (by decide +kernel : ∀ t : Fin grid0.N, _)
theorem at1 : ∀ t : Fin cfg0.N, win0_1.index t (0 : Fin 2) = 0 ∧ win0_1.index t (1 : Fin 2) = 42 :=
  (by decide +kernel : ∀ t : Fin grid0.N, _)
theorem at2 : ∀ t : Fin cfg0.N, win0_2.index t (0 : Fin 2) = 0 ∧ win0_2.index t (1 : Fin 2) = 42 :=
  (by decide +kernel : ∀ t : Fin grid0.N, _)
theorem at3 : ∀ t : Fin cfg0.N, win0_3.index t (0 : Fin 2) = t.val ∧ win0_3.index t (1 : Fin 2) = 0 :=
  (by decide +kernel : ∀ t : Fin grid0.N, _)

theorem lt24 (t : Fin cfg0.N) : t.val < 24 := by
  have := t.isLt
  have h : cfg0.N = 24 := N_0
  omega

/-- The row of the whole stream, and the column of the whole weights, an entry of a point's block is. -/
abbrev rowAt (t : Fin cfg0.N) (r : Fin 1024) : Fin 24576 := ⟨t.val * 1024 + r.val, by have := lt24 t; omega⟩
abbrev colW (e : Fin 256) : Fin 11008 := ⟨10752 + e.val, by omega⟩

theorem blk0 (c : Dev nD) (t : Fin cfg0.N) (r : Fin 1024) (k : Fin 4096) :
    @Eq EReal (iblk m c 0 t (ix2 r k)) (resid m c (ix2 (rowAt t r) k)) := by
  refine Eq.trans ?_ (stream_apply (resid m c) (rowAt t r) k)
  rw [← V_stream m c]
  obtain ⟨e0, e1⟩ := at0 t
  show V m c main_v10 (((cfg0.win 0).blk t).view.emb (ix2 r k)) = V m c main_v10 _
  refine congrArg _ (funext fun a => Fin.ext ?_)
  match a with
  | ⟨0, _⟩ => show win0_0.index t (0 : Fin 2) * 1024 + 1 * r.val = t.val * 1024 + r.val; omega
  | ⟨1, _⟩ => show win0_0.index t (1 : Fin 2) * 4096 + 1 * k.val = k.val; omega

theorem blk1 (c : Dev nD) (t : Fin cfg0.N) (k : Fin 4096) (e : Fin 256) :
    @Eq EReal (iblk m c 1 t (ix2 k e)) ((gain m c (ix2 0 k) : EReal) * gateW m c (ix3 0 k (colW e))) := by
  refine Eq.trans ?_ (scaled_apply (gain m c) (gateW m c) k (colW e))
  rw [← V_gate m c]
  obtain ⟨e0, e1⟩ := at1 t
  show V m c main_v5 (((cfg0.win 1).blk t).view.emb (ix2 k e)) = V m c main_v5 _
  refine congrArg _ (funext fun a => Fin.ext ?_)
  match a with
  | ⟨0, _⟩ => show win0_1.index t (0 : Fin 2) * 4096 + 1 * k.val = k.val; omega
  | ⟨1, _⟩ => show win0_1.index t (1 : Fin 2) * 256 + 1 * e.val = 10752 + e.val; omega

theorem blk2 (c : Dev nD) (t : Fin cfg0.N) (k : Fin 4096) (e : Fin 256) :
    @Eq EReal (iblk m c 2 t (ix2 k e)) ((gain m c (ix2 0 k) : EReal) * upW m c (ix3 0 k (colW e))) := by
  refine Eq.trans ?_ (scaled_apply (gain m c) (upW m c) k (colW e))
  rw [← V_up m c]
  obtain ⟨e0, e1⟩ := at2 t
  show V m c main_v9 (((cfg0.win 2).blk t).view.emb (ix2 k e)) = V m c main_v9 _
  refine congrArg _ (funext fun a => Fin.ext ?_)
  match a with
  | ⟨0, _⟩ => show win0_2.index t (0 : Fin 2) * 4096 + 1 * k.val = k.val; omega
  | ⟨1, _⟩ => show win0_2.index t (1 : Fin 2) * 256 + 1 * e.val = 10752 + e.val; omega

/-- The root of a row of the whole stream. -/
abbrev rowRoot (c : Dev nD) (R : Fin 24576) : EReal := rootOf fun k => resid m c (ix2 R k)

theorem roots_row (c : Dev nD) (t : Fin cfg0.N) (r : Fin 1024) (e : Fin 128) :
    @Eq EReal (roots (iblk m c 0 t) (ix2 r e)) (rowRoot m c (rowAt t r)) :=
  (root_piece _ r e).trans (congrArg rootOf (funext fun k => blk0 m c t r k))

theorem place (t : Fin cfg0.N) (r : Fin 1024) (e : Fin 256) : ((cfg0.win 3).blk t).view.emb (ix2 r e) = ix2 (rowAt t r) (e) := by
  obtain ⟨e0, e1⟩ := at3 t
  refine funext fun a => Fin.ext ?_
  match a with
  | ⟨0, _⟩ => show win0_3.index t (0 : Fin 2) * 1024 + 1 * r.val = t.val * 1024 + r.val; omega
  | ⟨1, _⟩ => show win0_3.index t (1 : Fin 2) * 256 + 1 * e.val = e.val; omega

/-- Every index of the result is in the block of the point of its row block. -/
theorem covered (i : S24576x256.Idx) : ∃ t : Fin cfg0.N, (cfg0.win 3).flush t = true ∧ i ∈ ((cfg0.win 3).blk t).view.set := by
  have h : cfg0.N = 24 := N_0
  have h0 : (i 0).val < 24576 := (i 0).isLt
  have h1 : (i 1).val < 256 := (i 1).isLt
  let t : Fin cfg0.N := ⟨(i 0).val / 1024, by omega⟩
  refine ⟨t, flush0_3 _, ?_⟩
  have hm := ((cfg0.win 3).blk t).view.emb_mem_set (ix2 (⟨(i 0).val % 1024, by omega⟩ : Fin 1024) (⟨(i 1).val, h1⟩ : Fin 256))
  rw [place] at hm
  have hi : i = ix2 (rowAt t ⟨(i 0).val % 1024, by omega⟩) (⟨(i 1).val, h1⟩ : Fin 256) := by
    refine funext fun a => Fin.ext ?_
    match a with
    | ⟨0, _⟩ => show (i 0).val = (i 0).val / 1024 * 1024 + (i 0).val % 1024; omega
    | ⟨1, _⟩ => rfl
  rw [hi]
  exact hm

/-- The reference's result of a memory. -/
abbrev whole (c : Dev nD) : Vec Ideal S24576x256 .bf16 := TailRef.result (resid m c) (gain m c) (gateW m c) (upW m c)

/-- An entry of a point's block. -/
theorem point (h : Vec Ideal S24576x4096 .f32) (g : Vec Ideal S1x4096 .f32) (wg wu : Vec Ideal S1x4096x11008 .f32)
    (x : Vec Ideal S1024x4096 .bf16) (w v : Vec Ideal S4096x256 .bf16) (s : EReal) (r : Fin 1024) (e : Fin 256) (R : Fin 24576) (E : Fin 256)
    (e0 : ∀ k : Fin 4096, @Eq EReal (x (ix2 r k)) (h (ix2 R k)))
    (e1 : ∀ k : Fin 4096, @Eq EReal (w (ix2 k e)) ((g (ix2 0 k) : EReal) * wg (ix3 0 k (colW E))))
    (e2 : ∀ k : Fin 4096, @Eq EReal (v (ix2 k e)) ((g (ix2 0 k) : EReal) * wu (ix3 0 k (colW E))))
    (es : s = rootOf fun k => h (ix2 R k)) :
    gated (prod x w r e * s) (prod x v r e * s) = TailRef.result h g wg wu (ix2 R E) := by
  have hw : prod x w r e = ∑ k : Fin 4096, (h (ix2 R k) : EReal) * ((g (ix2 0 k) : EReal) * wg (ix3 0 k (colW E))) :=
    Finset.sum_congr rfl fun k _ => congrArg₂ (· * ·) (e0 k) (e1 k)
  have hv : prod x v r e = ∑ k : Fin 4096, (h (ix2 R k) : EReal) * ((g (ix2 0 k) : EReal) * wu (ix3 0 k (colW E))) :=
    Finset.sum_congr rfl fun k _ => congrArg₂ (· * ·) (e0 k) (e2 k)
  rw [hw, hv, es]
  unfold TailRef.result
  refine Eq.trans ?_ (TailRef.joined_apply _ _ R E).symm
  exact congrArg₂ gated (TailRef.product_apply h g wg R E).symm (TailRef.product_apply h g wu R E).symm

/-- Reading a point's block of the result array. -/
theorem cut_read (t : Fin cfg0.N) (X : Vec Ideal S1024x256 .bf16) (Y : Vec Ideal S24576x256 .bf16)
    (h : ∀ (r : Fin 1024) (e : Fin 256), @Eq EReal (X (ix2 r e)) (Y (ix2 (rowAt t r) (e)))) :
    (cfg0.win 3).cut (grid0.coords t) X = ((cfg0.win 3).blk t).view.read (Elt Ideal) Y := by
  funext y
  idx_vars y
  show X (ix2 y0 y1) = Y (((cfg0.win 3).blk t).view.emb (ix2 y0 y1))
  rw [place]
  exact h y0 y1

/-- The array the kernel leaves is the reference's result. -/
theorem array_eq (c : Dev nD) : (dats m 0 c).arrAt 3 cfg0.N = whole m c := by
  refine (dats m 0 c).arrAt_eq_of_cover 3 (whole m c) (fun t _ => ?_) covered
  rw [Cert.TailIdeal.Value.flushed3_A m c t]
  refine cut_read t _ _ fun r e => ?_
  refine (out_A _ _ _ _ _ _ _ _ _ _ _ _ _ _ _ _ r e).trans ?_
  exact point _ _ _ _ _ _ _ _ r e (rowAt t r) e (blk0 m c t r) (fun k => blk1 m c t k e) (fun k => blk2 m c t k e) (roots_row m c t r _)

end Cert.Proof.Tail

end
-- ==== Proof.Down.lean ====
/- The last product of a feed-forward half: `h + act · wd`, a block of 512 × 512 entries at each grid point. -/
module

public import proofs.«01_k».proof.Proof.Gen.DownIdeal.Value
public import proofs.«01_k».proof.Proof.Gen.DownReferenceIdeal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.Down

open Cert.DownIdeal Cert.DownIdeal.Gen
open Idealize.ShloMosaic Idealize.ShloMosaic.TcCoe

/-- A sum over the hidden columns: the first 10752, then the last 256. -/
theorem sum_hidden (f : Fin 11008 → EReal) :
    (∑ k : Fin 10752, f ⟨k.val, by omega⟩) + ∑ k : Fin 256, f ⟨10752 + k.val, by omega⟩ = ∑ k, f k :=
  (Fin.sum_univ_add (a := 10752) (b := 256) f).symm

/-- What a grid point leaves of its block. -/
theorem out_apply (x0 : Vec Ideal S512x10752 .bf16) (x1 : Vec Ideal S512x256 .bf16) (x2 : Vec Ideal S11008x512 .bf16) (x3 : Vec Ideal S512x512 .f32) (r e : Fin 512) :
    @Eq EReal (out0_4 x0 x1 x2 x3 (ix2 r e)) ((x3 (ix2 r e) : EReal) + ((∑ k : Fin 10752, (x0 (ix2 r k) : EReal) * x2 (ix2 (⟨k.val, by omega⟩ : Fin 11008) e))
      + ∑ k : Fin 256, (x1 (ix2 r k) : EReal) * x2 (ix2 (⟨10752 + k.val, by omega⟩ : Fin 11008) e))) := by
  have hz0 : (![0, 0] : Fin S512x10752.rank → Nat) = fun _ => 0 := funext fun a => by fin_cases a <;> rfl
  have hz2 : (![0, 0] : Fin S512x256.rank → Nat) = fun _ => 0 := funext fun a => by fin_cases a <;> rfl
  have hz4 : (![0, 0] : Fin S512x512.rank → Nat) = fun _ => 0 := funext fun a => by fin_cases a <;> rfl
  unfold out0_4
  rw [View.canon_unit_zero hz4, View.ld_unit_zero hz0, View.ld_unit_zero hz2, View.ld_unit_zero hz4]
  have e1 : ∀ k : Fin 10752, View.ld x2 r0_1 (ix2 k e) = x2 (ix2 (⟨k.val, by omega⟩ : Fin 11008) e) := fun k =>
    congrArg x2 (funext fun a => Fin.ext (by
      match a with
      | ⟨0, _⟩ => show 0 + 1 * k.val = k.val; omega
      | ⟨1, _⟩ => show 0 + 1 * e.val = e.val; omega))
  have e3 : ∀ k : Fin 256, View.ld x2 r0_3 (ix2 k e) = x2 (ix2 (⟨10752 + k.val, by omega⟩ : Fin 11008) e) := fun k =>
    congrArg x2 (funext fun a => Fin.ext (by
      match a with
      | ⟨0, _⟩ => show 10752 + 1 * k.val = 10752 + k.val; omega
      | ⟨1, _⟩ => show 0 + 1 * e.val = e.val; omega))
  generalize View.ld x2 r0_1 = a at e1 ⊢
  generalize View.ld x2 r0_3 = b at e3 ⊢
  unfold k0_pay1
  pointwise
  simp only [e1, e3]

/-- The reference's result: `h + act · wd`. -/
def result (h : Vec Ideal S24576x4096 .f32) (act : Vec Ideal S24576x11008 .f32) (wd : Vec Ideal S1x11008x4096 .f32) : Vec Ideal S24576x4096 .f32 :=
  addf (F := Ideal) (φ := .f32) h (Host.dotGeneral (F := Ideal) (φ₁ := .f32) (φ₂ := .f32) Cert.DownReferenceIdeal.dot_S24576x11008_S11008x4096_S24576x4096_1_0_0_1_n_n none act
    (shapeCast S11008x4096 wd shapeCasts_S1x11008x4096_S11008x4096))

theorem result_apply (h : Vec Ideal S24576x4096 .f32) (act : Vec Ideal S24576x11008 .f32) (wd : Vec Ideal S1x11008x4096 .f32) (r : Fin 24576) (e : Fin 4096) :
    @Eq EReal (result h act wd (ix2 r e)) ((h (ix2 r e) : EReal) + ∑ k : Fin 11008, (act (ix2 r k) : EReal) * wd (ix3 0 k e)) := by
  unfold result
  pointwise

/-- The first 10752 columns of `act`, the launch's first array. -/
def front (act : Vec Ideal S24576x11008 .f32) : Vec Ideal S24576x10752 .bf16 :=
  truncf (F := Ideal) (φ := .f32) .bf16 (extractStridedSlice S24576x10752 ![0, 0] act slices_S24576x11008_S24576x10752_0_0) bitsLt_bf16_f32

/-- The last 256 columns of `act`, the launch's second array. -/
def back (act : Vec Ideal S24576x11008 .f32) : Vec Ideal S24576x256 .bf16 :=
  truncf (F := Ideal) (φ := .f32) .bf16 (extractStridedSlice S24576x256 ![0, 10752] act slices_S24576x11008_S24576x256_0_10752) bitsLt_bf16_f32

/-- The weights, the launch's third array. -/
def weights (wd : Vec Ideal S1x11008x4096 .f32) : Vec Ideal S11008x4096 .bf16 :=
  truncf (F := Ideal) (φ := .f32) .bf16 (shapeCast S11008x4096 wd shapeCasts_S1x11008x4096_S11008x4096) bitsLt_bf16_f32

theorem front_apply (act : Vec Ideal S24576x11008 .f32) (r : Fin 24576) (k : Fin 10752) :
    @Eq EReal (front act (ix2 r k)) (act (ix2 r (⟨k.val, by omega⟩ : Fin 11008))) := by
  unfold front
  pointwise

theorem back_apply (act : Vec Ideal S24576x11008 .f32) (r : Fin 24576) (k : Fin 256) :
    @Eq EReal (back act (ix2 r k)) (act (ix2 r (⟨10752 + k.val, by omega⟩ : Fin 11008))) := by
  unfold back
  pointwise

theorem weights_apply (wd : Vec Ideal S1x11008x4096 .f32) (k : Fin 11008) (e : Fin 4096) :
    @Eq EReal (weights wd (ix2 k e)) (wd (ix3 0 k e)) := by
  unfold weights
  pointwise

variable (m : (ℓ : Loc nD τ sig) → Buf (Elt Ideal) ℓ)

theorem V_front (c : Dev nD) : V m c main_v1 = front (m ((c.tc : Thread nD τ).loc main_arg1)) := by
  simp only [V, hostOps0]
  after_results
  rfl

theorem V_back (c : Dev nD) : V m c main_v3 = back (m ((c.tc : Thread nD τ).loc main_arg1)) := by
  simp only [V, hostOps0]
  after_results
  rfl

theorem V_weights (c : Dev nD) : V m c main_v5 = weights (m ((c.tc : Thread nD τ).loc main_arg2)) := by
  simp only [V, hostOps0]
  after_results
  rfl

theorem at0 : ∀ t : Fin cfg0.N, win0_0.index t (0 : Fin 2) = t.val / 8 ∧ win0_0.index t (1 : Fin 2) = 0 :=
  (by decide +kernel : ∀ t : Fin grid0.N, _)
theorem at1 : ∀ t : Fin cfg0.N, win0_1.index t (0 : Fin 2) = t.val / 8 ∧ win0_1.index t (1 : Fin 2) = 0 :=
  (by decide +kernel : ∀ t : Fin grid0.N, _)
theorem at2 : ∀ t : Fin cfg0.N, win0_2.index t (0 : Fin 2) = 0 ∧ win0_2.index t (1 : Fin 2) = t.val % 8 :=
  (by decide +kernel : ∀ t : Fin grid0.N, _)
theorem at3 : ∀ t : Fin cfg0.N, win0_3.index t (0 : Fin 2) = t.val / 8 ∧ win0_3.index t (1 : Fin 2) = t.val % 8 :=
  (by decide +kernel : ∀ t : Fin grid0.N, _)
theorem at4 : ∀ t : Fin cfg0.N, win0_4.index t (0 : Fin 2) = t.val / 8 ∧ win0_4.index t (1 : Fin 2) = t.val % 8 :=
  (by decide +kernel : ∀ t : Fin grid0.N, _)

theorem lt48 (t : Fin cfg0.N) : t.val / 8 < 48 := by
  have := t.isLt
  have h : cfg0.N = 384 := N_0
  omega

/-- The row and the column of the whole arrays an entry of a point's block is. -/
abbrev rowAt (t : Fin cfg0.N) (r : Fin 512) : Fin 24576 := ⟨t.val / 8 * 512 + r.val, by have := lt48 t; omega⟩
abbrev colAt (t : Fin cfg0.N) (e : Fin 512) : Fin 4096 := ⟨t.val % 8 * 512 + e.val, by omega⟩

theorem blk0 (c : Dev nD) (t : Fin cfg0.N) (r : Fin 512) (k : Fin 10752) :
    iblk m c 0 t (ix2 r k) = front (m ((c.tc : Thread nD τ).loc main_arg1)) (ix2 (rowAt t r) k) := by
  rw [← V_front m c]
  obtain ⟨e0, e1⟩ := at0 t
  show V m c main_v1 (((cfg0.win 0).blk t).view.emb (ix2 r k)) = V m c main_v1 _
  refine congrArg _ (funext fun a => Fin.ext ?_)
  match a with
  | ⟨0, _⟩ => show win0_0.index t (0 : Fin 2) * 512 + 1 * r.val = t.val / 8 * 512 + r.val; omega
  | ⟨1, _⟩ => show win0_0.index t (1 : Fin 2) * 10752 + 1 * k.val = k.val; omega

theorem blk1 (c : Dev nD) (t : Fin cfg0.N) (r : Fin 512) (k : Fin 256) :
    iblk m c 1 t (ix2 r k) = back (m ((c.tc : Thread nD τ).loc main_arg1)) (ix2 (rowAt t r) k) := by
  rw [← V_back m c]
  obtain ⟨e0, e1⟩ := at1 t
  show V m c main_v3 (((cfg0.win 1).blk t).view.emb (ix2 r k)) = V m c main_v3 _
  refine congrArg _ (funext fun a => Fin.ext ?_)
  match a with
  | ⟨0, _⟩ => show win0_1.index t (0 : Fin 2) * 512 + 1 * r.val = t.val / 8 * 512 + r.val; omega
  | ⟨1, _⟩ => show win0_1.index t (1 : Fin 2) * 256 + 1 * k.val = k.val; omega

theorem blk2 (c : Dev nD) (t : Fin cfg0.N) (k : Fin 11008) (e : Fin 512) :
    iblk m c 2 t (ix2 k e) = weights (m ((c.tc : Thread nD τ).loc main_arg2)) (ix2 k (colAt t e)) := by
  rw [← V_weights m c]
  obtain ⟨e0, e1⟩ := at2 t
  show V m c main_v5 (((cfg0.win 2).blk t).view.emb (ix2 k e)) = V m c main_v5 _
  refine congrArg _ (funext fun a => Fin.ext ?_)
  match a with
  | ⟨0, _⟩ => show win0_2.index t (0 : Fin 2) * 11008 + 1 * k.val = k.val; omega
  | ⟨1, _⟩ => show win0_2.index t (1 : Fin 2) * 512 + 1 * e.val = t.val % 8 * 512 + e.val; omega

theorem blk3 (c : Dev nD) (t : Fin cfg0.N) (r e : Fin 512) :
    iblk m c 3 t (ix2 r e) = m ((c.tc : Thread nD τ).loc main_arg0) (ix2 (rowAt t r) (colAt t e)) := by
  rw [← V_main_arg0 m c]
  obtain ⟨e0, e1⟩ := at3 t
  show V m c main_arg0 (((cfg0.win 3).blk t).view.emb (ix2 r e)) = V m c main_arg0 _
  refine congrArg _ (funext fun a => Fin.ext ?_)
  match a with
  | ⟨0, _⟩ => show win0_3.index t (0 : Fin 2) * 512 + 1 * r.val = t.val / 8 * 512 + r.val; omega
  | ⟨1, _⟩ => show win0_3.index t (1 : Fin 2) * 512 + 1 * e.val = t.val % 8 * 512 + e.val; omega

theorem place (t : Fin cfg0.N) (r e : Fin 512) : ((cfg0.win 4).blk t).view.emb (ix2 r e) = ix2 (rowAt t r) (colAt t e) := by
  obtain ⟨e0, e1⟩ := at4 t
  refine funext fun a => Fin.ext ?_
  match a with
  | ⟨0, _⟩ => show win0_4.index t (0 : Fin 2) * 512 + 1 * r.val = t.val / 8 * 512 + r.val; omega
  | ⟨1, _⟩ => show win0_4.index t (1 : Fin 2) * 512 + 1 * e.val = t.val % 8 * 512 + e.val; omega

/-- Every index of the result is in the block of the point of its row block and column block. -/
theorem covered (i : S24576x4096.Idx) : ∃ t : Fin cfg0.N, (cfg0.win 4).flush t = true ∧ i ∈ ((cfg0.win 4).blk t).view.set := by
  have h : cfg0.N = 384 := N_0
  have h0 : (i 0).val < 24576 := (i 0).isLt
  have h1 : (i 1).val < 4096 := (i 1).isLt
  let t : Fin cfg0.N := ⟨(i 0).val / 512 * 8 + (i 1).val / 512, by omega⟩
  refine ⟨t, flush0_4 _, ?_⟩
  have hm := ((cfg0.win 4).blk t).view.emb_mem_set (ix2 (⟨(i 0).val % 512, by omega⟩ : Fin 512) (⟨(i 1).val % 512, by omega⟩ : Fin 512))
  rw [place] at hm
  have hi : i = ix2 (rowAt t ⟨(i 0).val % 512, by omega⟩) (colAt t ⟨(i 1).val % 512, by omega⟩) := by
    refine funext fun a => Fin.ext ?_
    match a with
    | ⟨0, _⟩ => show (i 0).val = ((i 0).val / 512 * 8 + (i 1).val / 512) / 8 * 512 + (i 0).val % 512; omega
    | ⟨1, _⟩ => show (i 1).val = ((i 0).val / 512 * 8 + (i 1).val / 512) % 8 * 512 + (i 1).val % 512; omega
  rw [hi]
  exact hm

/-- The reference's result of a memory. -/
abbrev whole (c : Dev nD) : Vec Ideal S24576x4096 .f32 :=
  result (m ((c.tc : Thread nD τ).loc main_arg0)) (m ((c.tc : Thread nD τ).loc main_arg1)) (m ((c.tc : Thread nD τ).loc main_arg2))

theorem point (h : Vec Ideal S24576x4096 .f32) (act : Vec Ideal S24576x11008 .f32) (wd : Vec Ideal S1x11008x4096 .f32)
    (x0 : Vec Ideal S512x10752 .bf16) (x1 : Vec Ideal S512x256 .bf16) (x2 : Vec Ideal S11008x512 .bf16) (x3 : Vec Ideal S512x512 .f32)
    (r e : Fin 512) (R : Fin 24576) (E : Fin 4096)
    (e0 : ∀ k : Fin 10752, x0 (ix2 r k) = front act (ix2 R k)) (e1 : ∀ k : Fin 256, x1 (ix2 r k) = back act (ix2 R k))
    (e2 : ∀ k : Fin 11008, x2 (ix2 k e) = weights wd (ix2 k E)) (e3 : x3 (ix2 r e) = h (ix2 R E)) :
    @Eq EReal (out0_4 x0 x1 x2 x3 (ix2 r e)) (result h act wd (ix2 R E)) := by
  rw [out_apply, result_apply, e3]
  refine congrArg _ ((congrArg₂ (· + ·) (Finset.sum_congr rfl fun k _ => ?_) (Finset.sum_congr rfl fun k _ => ?_)).trans
    (sum_hidden fun k => (act (ix2 R k) : EReal) * wd (ix3 0 k E)))
  · rw [e0, e2]
    exact congrArg₂ (· * ·) (front_apply act R k) (weights_apply wd _ E)
  · rw [e1, e2]
    exact congrArg₂ (· * ·) (back_apply act R k) (weights_apply wd _ E)

/-- Reading a point's block of the result array. -/
theorem cut_read (t : Fin cfg0.N) (X : Vec Ideal S512x512 .f32) (Y : Vec Ideal S24576x4096 .f32)
    (h : ∀ r e : Fin 512, X (ix2 r e) = Y (ix2 (rowAt t r) (colAt t e))) :
    (cfg0.win 4).cut (grid0.coords t) X = ((cfg0.win 4).blk t).view.read (Elt Ideal) Y := by
  funext y
  idx_vars y
  show X (ix2 y0 y1) = Y (((cfg0.win 4).blk t).view.emb (ix2 y0 y1))
  rw [place]
  exact h y0 y1

/-- The array the kernel leaves is the reference's result. -/
theorem array_eq (c : Dev nD) : (dats m 0 c).arrAt 4 cfg0.N = whole m c := by
  refine (dats m 0 c).arrAt_eq_of_cover 4 (whole m c) (fun t _ => ?_) covered
  rw [Value.flushed4]
  exact cut_read t _ _ fun r e => point _ _ _ _ _ _ _ r e (rowAt t r) (colAt t e) (blk0 m c t r) (blk1 m c t r) (fun k => blk2 m c t k e) (blk3 m c t r e)

end Cert.Proof.Down

end
-- ==== Proof.Forward.lean ====
/- The feed-forward half's calls: the references' frames, and the kernels' results equal to the references'. -/
module

public import proofs.«01_k».proof.Defs
public import proofs.«01_k».proof.Proof.Gen.Gate.Frame
public import proofs.«01_k».proof.Proof.Gen.GateIdeal.Frame
public import proofs.«01_k».proof.Proof.Gen.GateIdeal.Value
public import proofs.«01_k».proof.Proof.Gen.GateReferenceIdeal.Run
public import proofs.«01_k».proof.Proof.Gen.Tail.Frame
public import proofs.«01_k».proof.Proof.Gen.TailIdeal.Frame
public import proofs.«01_k».proof.Proof.Gen.TailIdeal.Value
public import proofs.«01_k».proof.Proof.Gen.TailReferenceIdeal.Run
public import proofs.«01_k».proof.Proof.Gen.Down.Frame
public import proofs.«01_k».proof.Proof.Gen.DownIdeal.Frame
public import proofs.«01_k».proof.Proof.Gen.DownIdeal.Value
public import proofs.«01_k».proof.Proof.Gen.DownReferenceIdeal.Run
public import proofs.«01_k».proof.Proof.Gate
public import proofs.«01_k».proof.Proof.Tail
public import proofs.«01_k».proof.Proof.Down
public import Idealize.ShloMosaic.Adequacy
public import Idealize.ShloMosaic.Init

@[expose] public section

set_option maxRecDepth 16384

noncomputable section

namespace Cert.Proof

open Idealize.ShloMosaic Idealize.SL.Sem

attribute [local instance] Cert.GateIdeal.Gen.facts Cert.GateReferenceIdeal.Gen.facts Cert.TailIdeal.Gen.facts Cert.TailReferenceIdeal.Gen.facts Cert.DownIdeal.Gen.facts Cert.DownReferenceIdeal.Gen.facts

/-- The frame of the reference of the gated product's first 10752 columns: its run read at the arguments; it declares no semaphore. -/
theorem frame_gate_reference : Cert.quiescent_GateReferenceIdeal := fun m ρ _ =>
  (θ_run Cert.GateReferenceIdeal.defs _ _).mono (fun r h => ⟨fun c => (h c).2,
    Idealize.ShloMosaic.sem_eq_zero_of_no_sems (by decide) r.2⟩)
    (Cert.GateReferenceIdeal.Value.run (F := Ideal) m ρ)

/-- The results of the gated product's first 10752 columns: the kernel's and the reference's are equal. -/
theorem values_gate : Cert.algebraic_GateIdeal_GateReferenceIdeal := by
  intro m g m' g' _ hargs
  refine ⟨fun c => Gate.whole m c, ?_, ?_⟩
  · exact (θ_run Cert.GateIdeal.defs _ _).mono (fun r h c => ⟨(h c).1.trans (Gate.array_eq m c), (h c).2⟩) (Cert.GateIdeal.Value.run_blocks (F := Ideal) m g)
  · refine (θ_run Cert.GateReferenceIdeal.defs _ _).mono (fun r h c => ?_) (Cert.GateReferenceIdeal.Value.run (F := Ideal) m' g')
    obtain ⟨a0, a1, a2, a3⟩ := hargs c
    refine ⟨(h c).1.trans ?_, (h c).2⟩
    rw [a0, a1, a2, a3]
    rfl

/-- The frame of the reference of the gated product's last 256 columns: its run read at the arguments; it declares no semaphore. -/
theorem frame_tail_reference : Cert.quiescent_TailReferenceIdeal := fun m ρ _ =>
  (θ_run Cert.TailReferenceIdeal.defs _ _).mono (fun r h => ⟨fun c => (h c).2,
    Idealize.ShloMosaic.sem_eq_zero_of_no_sems (by decide) r.2⟩)
    (Cert.TailReferenceIdeal.Value.run (F := Ideal) m ρ)

/-- The results of the gated product's last 256 columns: the kernel's and the reference's are equal. -/
theorem values_tail : Cert.algebraic_TailIdeal_TailReferenceIdeal := by
  intro m g m' g' _ hargs
  refine ⟨fun c => Tail.whole m c, ?_, ?_⟩
  · exact (θ_run Cert.TailIdeal.defs _ _).mono (fun r h c => ⟨(h c).1.trans (Tail.array_eq m c), (h c).2⟩) (Cert.TailIdeal.Value.run_blocks (F := Ideal) m g)
  · refine (θ_run Cert.TailReferenceIdeal.defs _ _).mono (fun r h c => ?_) (Cert.TailReferenceIdeal.Value.run (F := Ideal) m' g')
    obtain ⟨a0, a1, a2, a3⟩ := hargs c
    refine ⟨(h c).1.trans ?_, (h c).2⟩
    rw [a0, a1, a2, a3]
    rfl

/-- The frame of the reference of the last product: its run read at the arguments; it declares no semaphore. -/
theorem frame_down_reference : Cert.quiescent_DownReferenceIdeal := fun m ρ _ =>
  (θ_run Cert.DownReferenceIdeal.defs _ _).mono (fun r h => ⟨fun c => (h c).2,
    Idealize.ShloMosaic.sem_eq_zero_of_no_sems (by decide) r.2⟩)
    (Cert.DownReferenceIdeal.Value.run (F := Ideal) m ρ)

/-- The results of the last product: the kernel's and the reference's are equal. -/
theorem values_down : Cert.algebraic_DownIdeal_DownReferenceIdeal := by
  intro m g m' g' _ hargs
  refine ⟨fun c => Down.whole m c, ?_, ?_⟩
  · exact (θ_run Cert.DownIdeal.defs _ _).mono (fun r h c => ⟨(h c).1.trans (Down.array_eq m c), (h c).2⟩) (Cert.DownIdeal.Value.run_blocks (F := Ideal) m g)
  · refine (θ_run Cert.DownReferenceIdeal.defs _ _).mono (fun r h c => ?_) (Cert.DownReferenceIdeal.Value.run (F := Ideal) m' g')
    obtain ⟨a0, a1, a2⟩ := hargs c
    refine ⟨(h c).1.trans ?_, (h c).2⟩
    rw [a0, a1, a2]
    rfl

end Cert.Proof

end
-- ==== Proof.SplitRun.lean ====
/- The last norm's body at a grid point: at the first 32 points it stores the normed block into the prompt's output, at the
   others into the sample's; the buffer it does not store into keeps what it held. -/
module

public import proofs.«01_k».proof.Proof.Gen.SplitIdeal.Frame
public import proofs.«01_k».proof.Proof.Gen.SplitIdeal.Skeleton
public import Idealize.ShloMosaic.Lib.Pipeline.FrameBody
public import Idealize.ShloMosaic.Lib.Pipeline.ValueKit
public import Idealize.ShloMosaic.Lib.Tactic
public import Idealize.ShloMosaic.Lib.VecWindow

@[expose] public section

set_option maxRecDepth 16384

noncomputable section

namespace Cert.Proof.Split

open Cert.SplitIdeal Cert.SplitIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resources the assertions speak of. -/
abbrev World (F : FTy → Type) [FloatOps F] := MT nD τ sig Unit (Elt F) ℕ (UR sig nD τ) ℕ

set_option maxHeartbeats 1000000 in
/-- At a point of the prompt: the normed block ends in the first output's buffer. -/
theorem run_prompt (c : Dev nD) (i : grid0.Coords) (arg1 : Memref sig .tc .vmem S256x4096 .f32) (harg1 : arg1.IsWhole) (arg2 : Memref sig .tc .vmem S1x4096 .f32) (harg2 : arg2.IsWhole)
    (arg3 : Memref sig .tc .vmem S256x4096 .f32) (harg3 : arg3.IsWhole) (arg4 : Memref sig .tc .vmem S256x4096 .f32) (harg4 : arg4.IsWhole)
    (hc0 : k0_cond1 i = 1#1) (hc1 : ¬k0_cond2 i = 1#1) (x0 : Vec F S256x4096 .f32) (x1 : Vec F S1x4096 .f32) :
      ∀ (E : Set ℕ) (K : PUnit → sProp (World F)),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ owns (c : Thread nD τ) arg3 fullShare (k0_pay1 x0 x1)) -∗ K ⟨⟩))
          ⊢ wp frame (wpE (defs₀ (F := F)) Variants.none c none) E (cc0_rmsnorm_split i arg1 harg1 arg2 harg2 arg3 harg3 arg4 harg4) K := by
  intro E K
  simp only [cc0_rmsnorm_split_eq_skeleton]; unfold cc0_rmsnorm_split_skel
  unfold owns
  iintro ⟨⟨%f0, %hf0, H0⟩, ⟨%f1, %hf1, H1⟩, ⟨%d2, %f2, -, H2⟩, Hk⟩
  obtain rfl := harg1.eq_unread hf0; obtain rfl := harg2.eq_unread hf1
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  iexists _; isplitr; swap; · iexact H2
  ipureintro
  rw [View.read_writes_full, View.readAt_full, View.readAt_full, harg1.read_unread, harg2.read_unread]

set_option maxHeartbeats 1000000 in
/-- At a point of the sample: the normed block ends in the second output's buffer. -/
theorem run_sample (c : Dev nD) (i : grid0.Coords) (arg1 : Memref sig .tc .vmem S256x4096 .f32) (harg1 : arg1.IsWhole) (arg2 : Memref sig .tc .vmem S1x4096 .f32) (harg2 : arg2.IsWhole)
    (arg3 : Memref sig .tc .vmem S256x4096 .f32) (harg3 : arg3.IsWhole) (arg4 : Memref sig .tc .vmem S256x4096 .f32) (harg4 : arg4.IsWhole)
    (hc0 : ¬k0_cond1 i = 1#1) (hc1 : k0_cond2 i = 1#1) (x0 : Vec F S256x4096 .f32) (x1 : Vec F S1x4096 .f32) :
      ∀ (E : Set ℕ) (K : PUnit → sProp (World F)),
        iprop(owns (c : Thread nD τ) arg1 fullShare x0 ∗ owns (c : Thread nD τ) arg2 fullShare x1 ∗ (∃ d, owns (c : Thread nD τ) arg4 fullShare d)
            ∗ (iprop(owns (c : Thread nD τ) arg1 fullShare x0 ∗ owns (c : Thread nD τ) arg2 fullShare x1 ∗ owns (c : Thread nD τ) arg4 fullShare (k0_pay1 x0 x1)) -∗ K ⟨⟩))
          ⊢ wp frame (wpE (defs₀ (F := F)) Variants.none c none) E (cc0_rmsnorm_split i arg1 harg1 arg2 harg2 arg3 harg3 arg4 harg4) K := by
  intro E K
  simp only [cc0_rmsnorm_split_eq_skeleton]; unfold cc0_rmsnorm_split_skel
  unfold owns
  iintro ⟨⟨%f0, %hf0, H0⟩, ⟨%f1, %hf1, H1⟩, ⟨%d2, %f2, -, H2⟩, Hk⟩
  obtain rfl := harg1.eq_unread hf0; obtain rfl := harg2.eq_unread hf1
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  iexists _; isplitr; swap; · iexact H2
  ipureintro
  rw [View.read_writes_full, View.readAt_full, View.readAt_full, harg1.read_unread, harg2.read_unread]

end Cert.Proof.Split

end
-- ==== Proof.SplitPoints.lean ====
/- Which grid points of the last norm store into and write back which output, and what each output's buffer holds there. -/
module

public import proofs.«01_k».proof.Proof.SplitRun

@[expose] public section

set_option maxRecDepth 16384

noncomputable section

namespace Cert.Proof.Split

open Cert.SplitIdeal Cert.SplitIdeal.Gen
open Idealize.ShloMosaic Idealize.ShloMosaic.TcCoe Idealize.ShloMosaic.Tactic
open Idealize.SL Idealize.SL.RA Idealize.SL.BI Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

theorem prompt_iff : ∀ t : Fin cfg0.N, k0_cond1 (grid0.coords t) = 1#1 ↔ t.val < 32 :=
  (by decide +kernel : ∀ t : Fin grid0.N, k0_cond1 (grid0.coords t) = 1#1 ↔ t.val < 32)
theorem sample_iff : ∀ t : Fin cfg0.N, k0_cond2 (grid0.coords t) = 1#1 ↔ 32 ≤ t.val :=
  (by decide +kernel : ∀ t : Fin grid0.N, k0_cond2 (grid0.coords t) = 1#1 ↔ 32 ≤ t.val)

theorem live0 : ∀ t : Fin cfg0.N, cfg0.idle 0 (grid0.coords t) = false := fun _ => rfl
theorem live1 : ∀ t : Fin cfg0.N, cfg0.idle 1 (grid0.coords t) = false := fun _ => rfl
/-- The prompt's output is stored into at the first 32 points, -/
theorem idle2 : ∀ t : Fin cfg0.N, cfg0.idle 2 (grid0.coords t) = !decide (t.val < 32) :=
  (by decide +kernel : ∀ t : Fin grid0.N, idle0 2 (grid0.coords t) = !decide (t.val < 32))
/-- the sample's at the others. -/
theorem idle3 : ∀ t : Fin cfg0.N, cfg0.idle 3 (grid0.coords t) = !decide (32 ≤ t.val) :=
  (by decide +kernel : ∀ t : Fin grid0.N, idle0 3 (grid0.coords t) = !decide (32 ≤ t.val))
/-- The prompt's output is written back when its block index moves, and at the end; -/
theorem flush2 : ∀ t : Fin cfg0.N, (cfg0.win 2).flush t = (decide (t.val < 31) || decide (t.val = 95)) :=
  (by decide +kernel : ∀ t : Fin grid0.N, win0_2.flush t = (decide (t.val < 31) || decide (t.val = 95)))
/-- the sample's at its own points. -/
theorem flush3 : ∀ t : Fin cfg0.N, (cfg0.win 3).flush t = decide (32 ≤ t.val) :=
  (by decide +kernel : ∀ t : Fin grid0.N, win0_3.flush t = decide (32 ≤ t.val))
theorem fetch2 : ∀ t : Fin cfg0.N, (cfg0.win 2).fetch t = false :=
  (by decide +kernel : ∀ t : Fin grid0.N, win0_2.fetch t = false)

theorem numPoints : cfg0.N = 96 := N_0

/-- The point whose block the prompt's output buffer holds after point `t`. -/
def lastPrompt (t : Fin cfg0.N) : Fin cfg0.N := ⟨min t.val 31, Nat.lt_of_le_of_lt (Nat.min_le_left _ _) t.isLt⟩

/-- The normed block of a point. -/
def normAt (c : Dev nD) (t : Fin cfg0.N) : Vec F S256x4096 .f32 := k0_pay1 (iblk m c 0 t) (iblk m c 1 t)

/-- What the buffers hold after each point, and what stays true throughout. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => normAt m c (lastPrompt t)
    | ⟨3, _⟩ => normAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = normAt m c (lastPrompt t) := by dsimp only [dats]
theorem after3 (c : Dev nD) (t : Fin cfg0.N) : (dats m 0 c).after 3 t = normAt m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

theorem kept2 (c : Dev nD) (t : Fin cfg0.N) (d) : (dats m 0 c).kept 2 t d = normAt m c (lastPrompt t) := by
  unfold Dat.kept
  rw [Pipeline.fill_of_clip_none 2 _ (fun _ => rfl) d ((dats m 0 c).after 2 t), Window.fill_cut, after2]

/-- From point 32 on the prompt's output buffer holds the prompt's last block. -/
theorem before2 (c : Dev nD) (n : ℕ) : ∀ (h : 32 + n < cfg0.N) (d), (dats m 0 c).before 2 ⟨32 + n, h⟩ d = normAt m c (lastPrompt ⟨32 + n, h⟩) := by
  induction n with
  | zero =>
    intro h d
    rw [Dat.before_of_pos _ _ _ (by simp) (fetch2 _), flush2, if_neg (by simp)]
    unfold Dat.left
    rw [idle2]
    exact kept2 m c _ d
  | succ n ih =>
    intro h d
    have hN := numPoints
    rw [Dat.before_of_pos _ _ _ (by simp) (fetch2 _), flush2, if_neg (by simp; omega)]
    unfold Dat.left
    rw [idle2]
    rw [show (!decide (32 + (n + 1) - 1 < 32)) = true by simp]
    refine (ih (by omega) d).trans ?_
    exact congrArg (normAt m c) (Fin.ext (by simp only [lastPrompt]; omega))

theorem before2_of (c : Dev nD) (t : Fin cfg0.N) (h : 32 ≤ t.val) (d) : (dats m 0 c).before 2 t d = normAt m c (lastPrompt t) := by
  obtain ⟨n, hn⟩ := t
  obtain ⟨k, rfl⟩ := Nat.exists_eq_add_of_le h
  exact before2 m c k hn d

end Cert.Proof.Split

end
-- ==== Proof.SplitDone.lean ====
/- The last norm's program runs to its end: the body at every point, and the launch. -/
module

public import proofs.«01_k».proof.Proof.SplitPoints
public import Idealize.ShloMosaic.Lib.Claim

@[expose] public section

set_option maxRecDepth 16384

noncomputable section

namespace Cert.Proof.Split

open Cert.SplitIdeal Cert.SplitIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-- What the body starts from at a point, -/
def bodyPre (c : Dev nD) (t : Fin cfg0.N) : sProp (World F) :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d)))

/-- and what it leaves. -/
def bodyPost (c : Dev nD) (t : Fin cfg0.N) : sProp (World F) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves0 (c : Dev nD) (t : Fin cfg0.N) :
    (dats m 0 c).leavesExact 0 t = owns (c : Thread nD τ) (win0_0.stage (cfg0.slots t 0)) fullShare (iblk m c 0 t) := by
  unfold Dat.leavesExact; rw [live0 t, after0]
theorem leaves1 (c : Dev nD) (t : Fin cfg0.N) :
    (dats m 0 c).leavesExact 1 t = owns (c : Thread nD τ) (win0_1.stage (cfg0.slots t 1)) fullShare (iblk m c 1 t) := by
  unfold Dat.leavesExact; rw [live1 t, after1]
/-- At a point of the prompt, -/
theorem leaves2_prompt (c : Dev nD) (t : Fin cfg0.N) (h : t.val < 32) :
    (dats m 0 c).leavesExact 2 t = owns (c : Thread nD τ) (win0_2.stage (cfg0.slots t 2)) fullShare (normAt m c t) := by
  unfold Dat.leavesExact
  rw [idle2 t, decide_eq_true h, after2]
  rw [show lastPrompt t = t from Fin.ext (by simp only [lastPrompt]; omega)]
  rfl
theorem leaves3_prompt (c : Dev nD) (t : Fin cfg0.N) (h : t.val < 32) :
    (dats m 0 c).leavesExact 3 t = iprop(∃ d, owns (c : Thread nD τ) (win0_3.stage (cfg0.slots t 3)) fullShare ((dats m 0 c).before 3 t d)) :=
  Dat.leavesExact_idle _ 3 t (by rw [idle3]; simp; omega) (by rw [flush3]; simp; omega)
/-- at one of the sample, -/
theorem leaves3_sample (c : Dev nD) (t : Fin cfg0.N) (h : 32 ≤ t.val) :
    (dats m 0 c).leavesExact 3 t = owns (c : Thread nD τ) (win0_3.stage (cfg0.slots t 3)) fullShare (normAt m c t) := by
  unfold Dat.leavesExact
  rw [idle3 t, decide_eq_true h, after3]
  rfl
/-- where the prompt's last block stays in its buffer, up to the last point, which writes it back. -/
theorem leaves2_sample (c : Dev nD) (t : Fin cfg0.N) (h : 32 ≤ t.val) (d) :
    owns (c : Thread nD τ) (win0_2.stage (cfg0.slots t 2)) fullShare ((dats m 0 c).before 2 t d) ⊢ ((dats m 0 c).leavesExact 2 t : sProp (World F)) := by
  by_cases hl : t.val = 95
  · unfold Dat.leavesExact
    rw [idle2 t, flush2 t, after2, before2_of m c t h]
    simp only [hl, decide_true, Bool.or_true, show decide (95 < 32) = false from rfl, Bool.not_false]
    exact .rfl
  · rw [Dat.leavesExact_idle _ 2 t (by rw [idle2]; simp; omega) (by rw [flush2]; simp; omega)]
    iintro H
    iexists d
    iexact H

set_option maxHeartbeats 800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl]
  rw [leaves0, leaves1]
  by_cases h0 : t.val < 32
  · rw [leaves2_prompt m c t h0, leaves3_prompt m c t h0]
    iintro ⟨HΦ, Ho, ⟨%d0, H0⟩, ⟨%d1, H1⟩, ⟨%d2, H2⟩, H3⟩
    iapply ((run_prompt c (grid0.coords t) _ _ _ _ _ _ _ _ ((prompt_iff t).mpr h0) (fun h => absurd ((sample_iff t).mp h) (by omega)) (iblk m c 0 t) (iblk m c 1 t)) Set.univ _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    isplitl [H2]; · iexact H2
    iexact H3
  · have h1 : 32 ≤ t.val := by omega
    rw [leaves3_sample m c t h1]
    iintro ⟨HΦ, Ho, ⟨%d0, H0⟩, ⟨%d1, H1⟩, ⟨%d2, H2⟩, ⟨%d3, H3⟩⟩
    iapply ((run_sample c (grid0.coords t) _ _ _ _ _ _ _ _ (fun h => h0 ((prompt_iff t).mp h)) ((sample_iff t).mpr h1) (iblk m c 0 t) (iblk m c 1 t)) Set.univ _)
    isplitl [H0]; · iexact H0
    isplitl [H1]; · iexact H1
    isplitl [H3]; · iexists _; iexact H3
    iintro ⟨H0, H1, H3⟩
    isplitl [HΦ]; · iexact HΦ
    isplitl [Ho]; · iexact Ho
    isplitl [H0]; · iexact H0
    isplitl [H1]; · iexact H1
    isplitl [H2]
    · iapply (leaves2_sample m c t h1 d2)
      iexact H2
    iexact H3

theorem body_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

set_option backward.isDefEq.respectTransparency.types false in
/-- The launch: the arrays end as the points' write-backs leave them, and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiescent m ρ)

/-- The frame: the arguments end as they were. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_quiescent m ρ))

/-- The two results: what the write-backs leave in the two output arrays. -/
theorem run_blocks : θ_run defs (onTc (τ := τ) (main (F := F))) ⟨m, fun _ => 0, ρ⟩ (fun r => ∀ c : Dev nD,
      r.2.mem ((c.tc : Thread nD τ).loc main_v1_0) = (dats m 0 c).arrAt 2 cfg0.N
      ∧ r.2.mem ((c.tc : Thread nD τ).loc main_v1_1) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h.1 c).1 2, (h.1 c).1 3, h.2 c⟩)
    (θ_run_and (run_main m ρ) (frame_of m ρ (dats m) (A_eq m) (run_main m ρ)))

end Cert.Proof.Split

end
-- ==== Proof.Split.lean ====
/- The results of the last norm: `h` normed by rows and scaled, the prompt's rows in one array and the sample's in another. -/
module

public import proofs.«01_k».proof.Proof.SplitDone
public import proofs.«01_k».proof.Proof.Gated
public import proofs.«01_k».proof.Proof.Gen.SplitReferenceIdeal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.Split

open Cert.SplitIdeal Cert.SplitIdeal.Gen
open Idealize.ShloMosaic Idealize.ShloMosaic.TcCoe
open Idealize.ShloMosaic.Pipeline (Dat Cfg Window)

/-- An entry of a normed block. -/
theorem pay_apply (x0 : Vec Ideal S256x4096 .f32) (x1 : Vec Ideal S1x4096 .f32) (r : Fin 256) (e : Fin 4096) :
    @Eq EReal (k0_pay1 x0 x1 (ix2 r e)) ((x0 (ix2 r e) : EReal) * rootOf (fun k => x0 (ix2 r k)) * x1 (ix2 0 e)) := by
  unfold k0_pay1
  pointwise
  rfl

/-- The reference's normed array, -/
def normed (h : Vec Ideal S24576x4096 .f32) (g : Vec Ideal S4096 .f32) : Vec Ideal S24576x4096 .f32 :=
  mulf (F := Ideal) (φ := .f32) (mulf (F := Ideal) (φ := .f32) h (broadcastInDim S24576x4096 ![0, 1] Cert.SplitReferenceIdeal.Gen.bcast_S24576x1_S24576x4096_0_1 (Host.rsqrt (F := Ideal) (φ := .f32) (addf (F := Ideal) (φ := .f32) (Host.divf (F := Ideal) (φ := .f32) (broadcastInDim Cert.SplitReferenceIdeal.S24576x1 ![0] Cert.SplitReferenceIdeal.Gen.bcast_S24576_S24576x1_0 (Host.reduceAdd (F := Ideal) (φ := .f32) (mulf (F := Ideal) (φ := .f32) h h) (constant (F := Ideal) Cert.SplitReferenceIdeal.S_ .f32 0x00000000#32) Cert.SplitReferenceIdeal.Gen.reducesTo_S24576x4096_S24576_d1 Cert.SplitReferenceIdeal.Gen.h_S_)) (broadcastInDim Cert.SplitReferenceIdeal.S24576x1 ![] Cert.SplitReferenceIdeal.Gen.bcast_S_S24576x1 (constant (F := Ideal) Cert.SplitReferenceIdeal.S_ .f32 0x45800000#32))) (broadcastInDim Cert.SplitReferenceIdeal.S24576x1 ![] Cert.SplitReferenceIdeal.Gen.bcast_S_S24576x1 (constant (F := Ideal) Cert.SplitReferenceIdeal.S_ .f32 0x358637BD#32))))))
    (broadcastInDim S24576x4096 ![0, 1] Cert.SplitReferenceIdeal.Gen.bcast_S1x4096_S24576x4096_0_1 (broadcastInDim S1x4096 ![1] Cert.SplitReferenceIdeal.Gen.bcast_S4096_S1x4096_1 g))

/-- its first 8192 rows, -/
def prompt (h : Vec Ideal S24576x4096 .f32) (g : Vec Ideal S4096 .f32) : Vec Ideal S8192x4096 .f32 :=
  extractStridedSlice S8192x4096 ![0, 0] (normed h g) Cert.SplitReferenceIdeal.Gen.slices_S24576x4096_S8192x4096_0_0

/-- and the others. -/
def sample (h : Vec Ideal S24576x4096 .f32) (g : Vec Ideal S4096 .f32) : Vec Ideal S16384x4096 .f32 :=
  extractStridedSlice S16384x4096 ![8192, 0] (normed h g) Cert.SplitReferenceIdeal.Gen.slices_S24576x4096_S16384x4096_8192_0

theorem normed_apply (h : Vec Ideal S24576x4096 .f32) (g : Vec Ideal S4096 .f32) (r : Fin 24576) (e : Fin 4096) :
    @Eq EReal (normed h g (ix2 r e)) ((h (ix2 r e) : EReal) * rootOf (fun k => h (ix2 r k)) * g (ix1 e)) := by
  unfold normed
  pointwise
  rfl

theorem prompt_apply (h : Vec Ideal S24576x4096 .f32) (g : Vec Ideal S4096 .f32) (r : Fin 8192) (e : Fin 4096) :
    prompt h g (ix2 r e) = normed h g (ix2 (⟨r.val, by omega⟩ : Fin 24576) e) := by
  unfold prompt
  pointwise

theorem sample_apply (h : Vec Ideal S24576x4096 .f32) (g : Vec Ideal S4096 .f32) (r : Fin 16384) (e : Fin 4096) :
    sample h g (ix2 r e) = normed h g (ix2 (⟨8192 + r.val, by omega⟩ : Fin 24576) e) := by
  unfold sample
  pointwise

/-- The gain as a row, the launch's second array. -/
def gain (g : Vec Ideal S4096 .f32) : Vec Ideal S1x4096 .f32 := shapeCast S1x4096 g shapeCasts_S4096_S1x4096

theorem gain_apply (g : Vec Ideal S4096 .f32) (e : Fin 4096) : @Eq EReal (gain g (ix2 0 e)) (g (ix1 e)) := by
  unfold gain
  pointwise

variable (m : (ℓ : Loc nD τ sig) → Buf (Elt Ideal) ℓ)

theorem V_gain (c : Dev nD) : V m c main_v0 = gain (m ((c.tc : Thread nD τ).loc main_arg1)) := by
  simp only [V, hostOps0]
  after_results
  rfl

theorem at0 : ∀ t : Fin cfg0.N, win0_0.index t (0 : Fin 2) = t.val ∧ win0_0.index t (1 : Fin 2) = 0 :=
  (by decide +kernel : ∀ t : Fin grid0.N, _)
theorem at1 : ∀ t : Fin cfg0.N, win0_1.index t (0 : Fin 2) = 0 ∧ win0_1.index t (1 : Fin 2) = 0 :=
  (by decide +kernel : ∀ t : Fin grid0.N, _)
theorem at2 : ∀ t : Fin cfg0.N, win0_2.index t (0 : Fin 2) = min t.val 31 ∧ win0_2.index t (1 : Fin 2) = 0 :=
  (by decide +kernel : ∀ t : Fin grid0.N, _)
theorem at3 : ∀ t : Fin cfg0.N, win0_3.index t (0 : Fin 2) = t.val - 32 ∧ win0_3.index t (1 : Fin 2) = 0 :=
  (by decide +kernel : ∀ t : Fin grid0.N, _)

/-- The row of `h` an entry of a point's block is, and the rows of the two outputs. -/
abbrev rowAt (t : Fin cfg0.N) (r : Fin 256) : Fin 24576 := ⟨t.val * 256 + r.val, by have := t.isLt; have h : cfg0.N = 96 := numPoints; omega⟩
abbrev promptRow (t : Fin cfg0.N) (r : Fin 256) : Fin 8192 := ⟨min t.val 31 * 256 + r.val, by omega⟩
abbrev sampleRow (t : Fin cfg0.N) (r : Fin 256) : Fin 16384 := ⟨(t.val - 32) * 256 + r.val, by have := t.isLt; have h : cfg0.N = 96 := numPoints; omega⟩

theorem blk0 (c : Dev nD) (t : Fin cfg0.N) (r : Fin 256) (k : Fin 4096) :
    iblk m c 0 t (ix2 r k) = m ((c.tc : Thread nD τ).loc main_arg0) (ix2 (rowAt t r) k) := by
  rw [← V_main_arg0 m c]
  obtain ⟨e0, e1⟩ := at0 t
  show V m c main_arg0 (((cfg0.win 0).blk t).view.emb (ix2 r k)) = V m c main_arg0 _
  refine congrArg _ (funext fun a => Fin.ext ?_)
  match a with
  | ⟨0, _⟩ => show win0_0.index t (0 : Fin 2) * 256 + 1 * r.val = t.val * 256 + r.val; omega
  | ⟨1, _⟩ => show win0_0.index t (1 : Fin 2) * 4096 + 1 * k.val = k.val; omega

theorem blk1 (c : Dev nD) (t : Fin cfg0.N) (k : Fin 4096) :
    iblk m c 1 t (ix2 0 k) = gain (m ((c.tc : Thread nD τ).loc main_arg1)) (ix2 0 k) := by
  rw [← V_gain m c]
  obtain ⟨e0, e1⟩ := at1 t
  show V m c main_v0 (((cfg0.win 1).blk t).view.emb (ix2 0 k)) = V m c main_v0 _
  refine congrArg _ (funext fun a => Fin.ext ?_)
  match a with
  | ⟨0, _⟩ => show win0_1.index t (0 : Fin 2) * 1 + 1 * 0 = 0; omega
  | ⟨1, _⟩ => show win0_1.index t (1 : Fin 2) * 4096 + 1 * k.val = k.val; omega

theorem place2 (t : Fin cfg0.N) (r : Fin 256) (e : Fin 4096) : ((cfg0.win 2).blk t).view.emb (ix2 r e) = ix2 (promptRow t r) e := by
  obtain ⟨e0, e1⟩ := at2 t
  refine funext fun a => Fin.ext ?_
  match a with
  | ⟨0, _⟩ => show win0_2.index t (0 : Fin 2) * 256 + 1 * r.val = min t.val 31 * 256 + r.val; omega
  | ⟨1, _⟩ => show win0_2.index t (1 : Fin 2) * 4096 + 1 * e.val = e.val; omega

theorem place3 (t : Fin cfg0.N) (r : Fin 256) (e : Fin 4096) : ((cfg0.win 3).blk t).view.emb (ix2 r e) = ix2 (sampleRow t r) e := by
  obtain ⟨e0, e1⟩ := at3 t
  refine funext fun a => Fin.ext ?_
  match a with
  | ⟨0, _⟩ => show win0_3.index t (0 : Fin 2) * 256 + 1 * r.val = (t.val - 32) * 256 + r.val; omega
  | ⟨1, _⟩ => show win0_3.index t (1 : Fin 2) * 4096 + 1 * e.val = e.val; omega

/-- Every entry of the prompt's array is in a block some point writes back: the last block at the end. -/
theorem covered2 (i : S8192x4096.Idx) : ∃ t : Fin cfg0.N, (cfg0.win 2).flush t = true ∧ i ∈ ((cfg0.win 2).blk t).view.set := by
  have h : cfg0.N = 96 := numPoints
  have h0 : (i 0).val < 8192 := (i 0).isLt
  have h1 : (i 1).val < 4096 := (i 1).isLt
  have key : ∀ t : Fin cfg0.N, min t.val 31 = (i 0).val / 256 → i ∈ ((cfg0.win 2).blk t).view.set := fun t ht => by
    have hm := ((cfg0.win 2).blk t).view.emb_mem_set (ix2 (⟨(i 0).val % 256, by omega⟩ : Fin 256) (⟨(i 1).val, h1⟩ : Fin 4096))
    rw [place2] at hm
    have hi : i = ix2 (promptRow t ⟨(i 0).val % 256, by omega⟩) (⟨(i 1).val, h1⟩ : Fin 4096) := by
      refine funext fun a => Fin.ext ?_
      match a with
      | ⟨0, _⟩ => show (i 0).val = min t.val 31 * 256 + (i 0).val % 256; omega
      | ⟨1, _⟩ => rfl
    rw [hi]
    exact hm
  by_cases hb : (i 0).val / 256 < 31
  · exact ⟨⟨(i 0).val / 256, by omega⟩, by rw [flush2]; simp [hb], key _ (by show min ((i 0).val / 256) 31 = _; omega)⟩
  · exact ⟨⟨95, by omega⟩, by rw [flush2]; simp, key _ (by show min 95 31 = _; omega)⟩

/-- Every entry of the sample's array is in its own point's block. -/
theorem covered3 (i : S16384x4096.Idx) : ∃ t : Fin cfg0.N, (cfg0.win 3).flush t = true ∧ i ∈ ((cfg0.win 3).blk t).view.set := by
  have h : cfg0.N = 96 := numPoints
  have h0 : (i 0).val < 16384 := (i 0).isLt
  have h1 : (i 1).val < 4096 := (i 1).isLt
  let t : Fin cfg0.N := ⟨32 + (i 0).val / 256, by omega⟩
  refine ⟨t, by rw [flush3]; simp [t], ?_⟩
  have hm := ((cfg0.win 3).blk t).view.emb_mem_set (ix2 (⟨(i 0).val % 256, by omega⟩ : Fin 256) (⟨(i 1).val, h1⟩ : Fin 4096))
  rw [place3] at hm
  have hi : i = ix2 (sampleRow t ⟨(i 0).val % 256, by omega⟩) (⟨(i 1).val, h1⟩ : Fin 4096) := by
    refine funext fun a => Fin.ext ?_
    match a with
    | ⟨0, _⟩ => show (i 0).val = (32 + (i 0).val / 256 - 32) * 256 + (i 0).val % 256; omega
    | ⟨1, _⟩ => rfl
  rw [hi]
  exact hm

/-- The reference's results of a memory. -/
abbrev whole0 (c : Dev nD) : Vec Ideal S8192x4096 .f32 :=
  prompt (m ((c.tc : Thread nD τ).loc main_arg0)) (m ((c.tc : Thread nD τ).loc main_arg1))
abbrev whole1 (c : Dev nD) : Vec Ideal S16384x4096 .f32 :=
  sample (m ((c.tc : Thread nD τ).loc main_arg0)) (m ((c.tc : Thread nD τ).loc main_arg1))

theorem point (h : Vec Ideal S24576x4096 .f32) (g : Vec Ideal S4096 .f32) (x0 : Vec Ideal S256x4096 .f32) (x1 : Vec Ideal S1x4096 .f32)
    (r : Fin 256) (e : Fin 4096) (R : Fin 24576) (e0 : ∀ k : Fin 4096, x0 (ix2 r k) = h (ix2 R k)) (e1 : x1 (ix2 0 e) = gain g (ix2 0 e)) :
    @Eq EReal (k0_pay1 x0 x1 (ix2 r e)) (normed h g (ix2 R e)) := by
  rw [pay_apply, normed_apply, e1, gain_apply]
  simp only [e0]

/-- An entry of a point's normed block. -/
theorem norm_at (c : Dev nD) (t : Fin cfg0.N) (r : Fin 256) (e : Fin 4096) :
    normAt m c t (ix2 r e) = normed (m ((c.tc : Thread nD τ).loc main_arg0)) (m ((c.tc : Thread nD τ).loc main_arg1)) (ix2 (rowAt t r) e) :=
  point _ _ _ _ r e (rowAt t r) (blk0 m c t r) (blk1 m c t e)

/-- Reading a point's block of the prompt's array, -/
theorem cut2 (t : Fin cfg0.N) (X : Vec Ideal S256x4096 .f32) (Y : Vec Ideal S8192x4096 .f32)
    (h : ∀ (r : Fin 256) (e : Fin 4096), X (ix2 r e) = Y (ix2 (promptRow t r) e)) :
    (cfg0.win 2).cut (grid0.coords t) X = ((cfg0.win 2).blk t).view.read (Elt Ideal) Y := by
  funext y
  idx_vars y
  show X (ix2 y0 y1) = Y (((cfg0.win 2).blk t).view.emb (ix2 y0 y1))
  rw [place2]
  exact h y0 y1

/-- and of the sample's. -/
theorem cut3 (t : Fin cfg0.N) (X : Vec Ideal S256x4096 .f32) (Y : Vec Ideal S16384x4096 .f32)
    (h : ∀ (r : Fin 256) (e : Fin 4096), X (ix2 r e) = Y (ix2 (sampleRow t r) e)) :
    (cfg0.win 3).cut (grid0.coords t) X = ((cfg0.win 3).blk t).view.read (Elt Ideal) Y := by
  funext y
  idx_vars y
  show X (ix2 y0 y1) = Y (((cfg0.win 3).blk t).view.emb (ix2 y0 y1))
  rw [place3]
  exact h y0 y1

/-- The prompt's array is the reference's first result, -/
theorem array0_eq (c : Dev nD) : (dats m 0 c).arrAt 2 cfg0.N = whole0 m c := by
  refine (dats m 0 c).arrAt_eq_of_cover 2 (whole0 m c) (fun t _ => ?_) covered2
  show (cfg0.win 2).cut (grid0.coords t) ((dats m 0 c).after 2 t) = _
  rw [after2]
  refine cut2 t _ _ fun r e => ?_
  exact (norm_at m c (lastPrompt t) r e).trans (prompt_apply _ _ (promptRow t r) e).symm

/-- the sample's its second. -/
theorem array1_eq (c : Dev nD) : (dats m 0 c).arrAt 3 cfg0.N = whole1 m c := by
  refine (dats m 0 c).arrAt_eq_of_cover 3 (whole1 m c) (fun t ht => ?_) covered3
  have h : 32 ≤ t.val := by rw [flush3] at ht; simpa using ht
  show (cfg0.win 3).cut (grid0.coords t) ((dats m 0 c).after 3 t) = _
  rw [after3]
  refine cut3 t _ _ fun r e => ?_
  refine (norm_at m c t r e).trans (Eq.trans ?_ (sample_apply _ _ (sampleRow t r) e).symm)
  refine congrArg (fun R : Fin 24576 => normed _ _ (ix2 R e)) (Fin.ext ?_)
  show t.val * 256 + r.val = 8192 + ((t.val - 32) * 256 + r.val)
  omega

end Cert.Proof.Split

end
-- ==== Proof.MixBlock.lean ====
/- What a grid point of the output product leaves of its blocks. -/
module

public import proofs.«01_k».proof.Proof.Gen.MixIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.Mix

open Cert.MixIdeal Cert.MixIdeal.Gen
open Idealize.ShloMosaic Idealize.ShloMosaic.TcCoe

/-- An entry of a point's block: the residual plus the two products. -/
abbrev mixed (x d : Vec Ideal S1024x2048 .bf16) (w : Vec Ideal S4096x512 .bf16) (h : Vec Ideal S1024x512 .f32) (r : Fin 1024) (e : Fin 512) : EReal :=
  (h (ix2 r e) : EReal) + ((∑ k : Fin 2048, (x (ix2 r k) : EReal) * w (ix2 (⟨k.val, by omega⟩ : Fin 4096) e))
    + ∑ k : Fin 2048, (d (ix2 r k) : EReal) * w (ix2 (⟨2048 + k.val, by omega⟩ : Fin 4096) e))

/-- The upper and the lower half of the rows of a block of weights. -/
abbrev upper : Rect S4096x512 := Rect.unit (s := S4096x512) ![0, 0] S2048x512.size inb_S4096x512_S2048x512_0_0
abbrev lower : Rect S4096x512 := Rect.unit (s := S4096x512) ![2048, 0] S2048x512.size inb_S4096x512_S2048x512_2048_0

theorem upper_apply (w : Vec Ideal S4096x512 .bf16) (k : Fin 2048) (e : Fin 512) :
    View.ld w upper (ix2 k e) = w (ix2 (⟨k.val, by omega⟩ : Fin 4096) e) :=
  congrArg w (funext fun a => Fin.ext (by
    match a with
    | ⟨0, _⟩ => show 0 + 1 * k.val = k.val; omega
    | ⟨1, _⟩ => show 0 + 1 * e.val = e.val; omega))

theorem lower_apply (w : Vec Ideal S4096x512 .bf16) (k : Fin 2048) (e : Fin 512) :
    View.ld w lower (ix2 k e) = w (ix2 (⟨2048 + k.val, by omega⟩ : Fin 4096) e) :=
  congrArg w (funext fun a => Fin.ext (by
    match a with
    | ⟨0, _⟩ => show 2048 + 1 * k.val = 2048 + k.val; omega
    | ⟨1, _⟩ => show 0 + 1 * e.val = e.val; omega))

theorem zX : (![0, 0] : Fin S1024x2048.rank → Nat) = fun _ => 0 := funext fun a => by fin_cases a <;> rfl
theorem zH : (![0, 0] : Fin S1024x512.rank → Nat) = fun _ => 0 := funext fun a => by fin_cases a <;> rfl

theorem sum1 (x d : Vec Ideal S1024x2048 .bf16) (w : Vec Ideal S4096x512 .bf16) (h : Vec Ideal S1024x512 .f32) (a b : Vec Ideal S2048x512 .bf16)
    (ha : ∀ (k : Fin 2048) (e : Fin 512), a (ix2 k e) = w (ix2 (⟨k.val, by omega⟩ : Fin 4096) e))
    (hb : ∀ (k : Fin 2048) (e : Fin 512), b (ix2 k e) = w (ix2 (⟨2048 + k.val, by omega⟩ : Fin 4096) e)) (r : Fin 1024) (e : Fin 512) :
    @Eq EReal (k0_pay1 x a d b h (ix2 r e)) (mixed x d w h r e) := by
  unfold k0_pay1
  pointwise
  simp only [ha, hb]

theorem sum3 (x d : Vec Ideal S1024x2048 .bf16) (w : Vec Ideal S4096x512 .bf16) (h : Vec Ideal S1024x512 .f32) (a b : Vec Ideal S2048x512 .bf16)
    (ha : ∀ (k : Fin 2048) (e : Fin 512), a (ix2 k e) = w (ix2 (⟨k.val, by omega⟩ : Fin 4096) e))
    (hb : ∀ (k : Fin 2048) (e : Fin 512), b (ix2 k e) = w (ix2 (⟨2048 + k.val, by omega⟩ : Fin 4096) e)) (r : Fin 1024) (e : Fin 512) :
    @Eq EReal (k0_pay3 x a d b h (ix2 r e)) (mixed x d w h r e) := by
  unfold k0_pay3
  pointwise
  simp only [ha, hb]

theorem short2 (x d : Vec Ideal S1024x2048 .bf16) (h : Vec Ideal S1024x512 .f32) (a b : Vec Ideal S2048x512 .bf16) (i : S1024x512.Idx) :
    @Eq EReal (k0_pay2 x a d b h i) (k0_pay1 x a d b h i) := by
  unfold k0_pay2
  pointwise

theorem short4 (x d : Vec Ideal S1024x2048 .bf16) (h : Vec Ideal S1024x512 .f32) (a b : Vec Ideal S2048x512 .bf16) (i : S1024x512.Idx) :
    @Eq EReal (k0_pay4 x a d b h i) (k0_pay3 x a d b h i) := by
  unfold k0_pay4
  pointwise

variable (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x2048 .bf16) (harg4 : arg4.IsWhole) (arg5 : Memref sig .tc .vmem S4096x512 .bf16) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x512 .bf16) (harg8 : arg8.IsWhole)
  (x0 x1 x2 : Vec Ideal S1024x2048 .bf16) (x3 : Vec Ideal S4096x512 .bf16) (x4 : Vec Ideal S1024x512 .f32)

/-- Loads of whole buffers, and of a part of one. -/
theorem read_x (arg : Memref sig .tc .vmem S1024x2048 .bf16) (harg : arg.IsWhole) (x : Vec Ideal S1024x2048 .bf16) :
    View.readAt (Elt Ideal) arg.view (Rect.unit (s := S1024x2048) ![0, 0] S1024x2048.size inb_S1024x2048_S1024x2048_0_0).toLoadRect (harg.unread x) = x := by
  rw [View.readAt_eq_ld, harg.read_unread, View.ld_unit_zero zX]

theorem read_h : View.readAt (Elt Ideal) arg6.view (Rect.unit (s := S1024x512) ![0, 0] S1024x512.size inb_S1024x512_S1024x512_0_0).toLoadRect (harg6.unread x4) = x4 := by
  rw [View.readAt_eq_ld, harg6.read_unread, View.ld_unit_zero zH]

theorem read_upper : View.readAt (Elt Ideal) arg5.view upper.toLoadRect (harg5.unread x3) = View.ld x3 upper := by
  rw [View.readAt_eq_ld, harg5.read_unread]

theorem read_lower : View.readAt (Elt Ideal) arg5.view lower.toLoadRect (harg5.unread x3) = View.ld x3 lower := by
  rw [View.readAt_eq_ld, harg5.read_unread]

theorem out5A (hc0 : cond0_0 i) (hc1 : ¬cond0_1 i) (r : Fin 1024) (e : Fin 512) :
    @Eq EReal (out0_A_5 c i arg2 harg2 arg3 harg3 arg4 harg4 arg5 harg5 arg6 harg6 arg7 harg7 arg8 harg8 hc0 hc1 x0 x1 x2 x3 x4 (ix2 r e)) (mixed x0 x1 x3 x4 r e) := by
  unfold out0_A_5 kernelRun0_A
  rw [VO0_5.read_writes_junk_eq_canon]
  dsimp only
  rw [View.canon_unit_zero zH]
  sl_unfold_words
  rw [read_x, read_upper, read_x, read_lower, read_h]
  exact sum1 x0 x1 x3 x4 _ _ (upper_apply x3) (lower_apply x3) r e

theorem out6A (hc0 : cond0_0 i) (hc1 : ¬cond0_1 i) (r : Fin 1024) (e : Fin 512) :
    @Eq EReal (out0_A_6 c i arg2 harg2 arg3 harg3 arg4 harg4 arg5 harg5 arg6 harg6 arg7 harg7 arg8 harg8 hc0 hc1 x0 x1 x2 x3 x4 (ix2 r e)) (mixed x0 x1 x3 x4 r e) := by
  unfold out0_A_6 kernelRun0_A
  rw [VO0_6.read_writes_junk_eq_canon]
  dsimp only
  rw [View.canon_unit_zero zH]
  sl_unfold_words
  rw [read_x, read_upper, read_x, read_lower, read_h]
  exact (short2 x0 x1 x4 _ _ (ix2 r e)).trans (sum1 x0 x1 x3 x4 _ _ (upper_apply x3) (lower_apply x3) r e)

theorem out5B (hc0 : ¬cond0_0 i) (hc1 : cond0_1 i) (r : Fin 1024) (e : Fin 512) :
    @Eq EReal (out0_B_5 c i arg2 harg2 arg3 harg3 arg4 harg4 arg5 harg5 arg6 harg6 arg7 harg7 arg8 harg8 hc0 hc1 x0 x1 x2 x3 x4 (ix2 r e)) (mixed x0 x2 x3 x4 r e) := by
  unfold out0_B_5 kernelRun0_B
  rw [VO0_5.read_writes_junk_eq_canon]
  dsimp only
  rw [View.canon_unit_zero zH]
  sl_unfold_words
  rw [read_x, read_upper, read_x, read_lower, read_h]
  exact sum3 x0 x2 x3 x4 _ _ (upper_apply x3) (lower_apply x3) r e

theorem out6B (hc0 : ¬cond0_0 i) (hc1 : cond0_1 i) (r : Fin 1024) (e : Fin 512) :
    @Eq EReal (out0_B_6 c i arg2 harg2 arg3 harg3 arg4 harg4 arg5 harg5 arg6 harg6 arg7 harg7 arg8 harg8 hc0 hc1 x0 x1 x2 x3 x4 (ix2 r e)) (mixed x0 x2 x3 x4 r e) := by
  unfold out0_B_6 kernelRun0_B
  rw [VO0_6.read_writes_junk_eq_canon]
  dsimp only
  rw [View.canon_unit_zero zH]
  sl_unfold_words
  rw [read_x, read_upper, read_x, read_lower, read_h]
  exact (short4 x0 x2 x4 _ _ (ix2 r e)).trans (sum3 x0 x2 x3 x4 _ _ (upper_apply x3) (lower_apply x3) r e)

end Cert.Proof.Mix

end
-- ==== Proof.MixRef.lean ====
/- The reference of the output product: the residual plus the two mixers' outputs, side by side, times the weights. -/
module

public import proofs.«01_k».proof.Proof.Gen.MixReferenceIdeal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.MixRef

open Cert.MixReferenceIdeal Cert.MixReferenceIdeal.Gen
open Idealize.ShloMosaic Idealize.ShloMosaic.TcCoe

/-- The prompt's and the samples' rows, one below the other. -/
def rows (p : Vec Ideal S8192x2048 .bf16) (s : Vec Ideal S16384x2048 .bf16) : Vec Ideal S24576x2048 .bf16 :=
  concatenate S24576x2048 0 [⟨S8192x2048, p⟩, ⟨S16384x2048, s⟩] concatenates_S8192x2048_S16384x2048_S24576x2048_d0

/-- The two mixers' outputs side by side. -/
def both (na d : Vec Ideal S24576x2048 .bf16) : Vec Ideal S24576x4096 .bf16 :=
  concatenate S24576x4096 1 [⟨S24576x2048, na⟩, ⟨S24576x2048, d⟩] concatenates_S24576x2048_S24576x2048_S24576x4096_d1

/-- The residual plus the product with the weights. -/
def added (x : Vec Ideal S24576x4096 .bf16) (w : Vec Ideal S1x4096x4096 .f32) (h : Vec Ideal S24576x4096 .f32) : Vec Ideal S24576x4096 .f32 :=
  addf (F := Ideal) (φ := .f32) h (Host.dotGeneral (F := Ideal) (φ₁ := .f32) (φ₂ := .f32) dot_S24576x4096_S4096x4096_S24576x4096_1_0_0_1_n_n none
    (extf (F := Ideal) (φ := .bf16) .f32 x bitsLt_bf16_f32) (shapeCast S4096x4096 w shapeCasts_S1x4096x4096_S4096x4096))

/-- The reference's first result. -/
def result (na : Vec Ideal S24576x2048 .bf16) (p : Vec Ideal S8192x2048 .bf16) (s : Vec Ideal S16384x2048 .bf16) (w : Vec Ideal S1x4096x4096 .f32)
    (h : Vec Ideal S24576x4096 .f32) : Vec Ideal S24576x4096 .f32 :=
  added (both na (rows p s)) w h

/-- The reference's second result: the first in bf16. -/
def short (na : Vec Ideal S24576x2048 .bf16) (p : Vec Ideal S8192x2048 .bf16) (s : Vec Ideal S16384x2048 .bf16) (w : Vec Ideal S1x4096x4096 .f32)
    (h : Vec Ideal S24576x4096 .f32) : Vec Ideal S24576x4096 .bf16 :=
  truncf (F := Ideal) (φ := .f32) .bf16 (result na p s w h) bitsLt_bf16_f32

theorem rows_prompt (p : Vec Ideal S8192x2048 .bf16) (s : Vec Ideal S16384x2048 .bf16) (r : Fin 24576) (q : Fin 8192) (e : Fin 2048) (h : r.val = q.val) :
    @Eq EReal (rows p s (ix2 r e)) (p (ix2 q e)) := by
  unfold rows
  refine concatenate_pair_apply_left _ p s _ (ix2 r e) rfl (ix2 q e) fun b => ?_
  match b with
  | ⟨0, _⟩ => exact h.symm
  | ⟨1, _⟩ => rfl

theorem rows_sample (p : Vec Ideal S8192x2048 .bf16) (s : Vec Ideal S16384x2048 .bf16) (r : Fin 24576) (q : Fin 16384) (e : Fin 2048) (h : r.val = q.val + 8192) :
    @Eq EReal (rows p s (ix2 r e)) (s (ix2 q e)) := by
  unfold rows
  refine concatenate_pair_apply_right _ p s _ (ix2 r e) rfl rfl (ix2 q e) (fun b hb => ?_) h.symm
  match b with
  | ⟨0, _⟩ => exact absurd rfl hb
  | ⟨1, _⟩ => rfl

theorem both_left (na d : Vec Ideal S24576x2048 .bf16) (r : Fin 24576) (k : Fin 2048) :
    @Eq EReal (both na d (ix2 r (⟨k.val, by omega⟩ : Fin 4096))) (na (ix2 r k)) := by
  unfold both
  refine concatenate_pair_apply_left (t := S24576x4096) 1 na d concatenates_S24576x2048_S24576x2048_S24576x4096_d1 (ix2 r (⟨k.val, by omega⟩ : Fin 4096)) rfl (ix2 r k) fun b => ?_
  match b with
  | ⟨0, _⟩ => rfl
  | ⟨1, _⟩ => rfl

theorem both_right (na d : Vec Ideal S24576x2048 .bf16) (r : Fin 24576) (k : Fin 2048) :
    @Eq EReal (both na d (ix2 r (⟨2048 + k.val, by omega⟩ : Fin 4096))) (d (ix2 r k)) := by
  unfold both
  refine concatenate_pair_apply_right (t := S24576x4096) 1 na d concatenates_S24576x2048_S24576x2048_S24576x4096_d1 (ix2 r (⟨2048 + k.val, by omega⟩ : Fin 4096)) rfl rfl (ix2 r k) (fun b hb => ?_) (Nat.add_comm k.val 2048)
  match b with
  | ⟨0, _⟩ => rfl
  | ⟨1, _⟩ => exact absurd rfl hb

/-- A sum over the columns: the first 2048, then the others. -/
theorem sum_columns (f : Fin 4096 → EReal) :
    (∑ k : Fin 2048, f ⟨k.val, by omega⟩) + ∑ k : Fin 2048, f ⟨2048 + k.val, by omega⟩ = ∑ k, f k :=
  (Fin.sum_univ_add (a := 2048) (b := 2048) f).symm

theorem added_apply (x : Vec Ideal S24576x4096 .bf16) (w : Vec Ideal S1x4096x4096 .f32) (h : Vec Ideal S24576x4096 .f32) (r : Fin 24576) (e : Fin 4096) :
    @Eq EReal (added x w h (ix2 r e)) ((h (ix2 r e) : EReal) + ∑ k : Fin 4096, (x (ix2 r k) : EReal) * w (ix3 0 k e)) := by
  unfold added
  pointwise

/-- An entry of the reference's first result, the sum split between the two mixers. -/
theorem result_apply (na : Vec Ideal S24576x2048 .bf16) (p : Vec Ideal S8192x2048 .bf16) (s : Vec Ideal S16384x2048 .bf16) (w : Vec Ideal S1x4096x4096 .f32)
    (h : Vec Ideal S24576x4096 .f32) (r : Fin 24576) (e : Fin 4096) :
    @Eq EReal (result na p s w h (ix2 r e)) ((h (ix2 r e) : EReal)
      + ((∑ k : Fin 2048, (na (ix2 r k) : EReal) * w (ix3 0 (⟨k.val, by omega⟩ : Fin 4096) e))
        + ∑ k : Fin 2048, (rows p s (ix2 r k) : EReal) * w (ix3 0 (⟨2048 + k.val, by omega⟩ : Fin 4096) e))) := by
  refine (added_apply _ w h r e).trans (congrArg _ ((sum_columns fun k => (both na (rows p s) (ix2 r k) : EReal) * w (ix3 0 k e)).symm.trans ?_))
  exact congrArg₂ (· + ·) (Finset.sum_congr rfl fun k _ => congrArg (· * _) (both_left na (rows p s) r k))
    (Finset.sum_congr rfl fun k _ => congrArg (· * _) (both_right na (rows p s) r k))

theorem short_apply (na : Vec Ideal S24576x2048 .bf16) (p : Vec Ideal S8192x2048 .bf16) (s : Vec Ideal S16384x2048 .bf16) (w : Vec Ideal S1x4096x4096 .f32)
    (h : Vec Ideal S24576x4096 .f32) (i : S24576x4096.Idx) : @Eq EReal (short na p s w h i) (result na p s w h i) := by
  unfold short
  pointwise

end Cert.Proof.MixRef

end
-- ==== Proof.Mix.lean ====
/- The output product: the arrays the kernel leaves are the reference's. -/
module

public import proofs.«01_k».proof.Proof.MixBlock
public import proofs.«01_k».proof.Proof.MixRef

@[expose] public section

set_option maxRecDepth 16384

noncomputable section

namespace Cert.Proof.Mix

open Cert.MixIdeal Cert.MixIdeal.Gen
open Idealize.ShloMosaic Idealize.ShloMosaic.TcCoe

/-- The weights in bf16, the launch's fourth array. -/
def weights (w : Vec Ideal S1x4096x4096 .f32) : Vec Ideal S4096x4096 .bf16 :=
  truncf (F := Ideal) (φ := .f32) .bf16 (shapeCast S4096x4096 w shapeCasts_S1x4096x4096_S4096x4096) bitsLt_bf16_f32

theorem weights_apply (w : Vec Ideal S1x4096x4096 .f32) (k e : Fin 4096) : @Eq EReal (weights w (ix2 k e)) (w (ix3 0 k e)) := by
  unfold weights
  pointwise

variable (m : (ℓ : Loc nD τ sig) → Buf (Elt Ideal) ℓ)

abbrev nearby (c : Dev nD) : Vec Ideal S24576x2048 .bf16 := m ((c.tc : Thread nD τ).loc main_arg0)
abbrev prompt (c : Dev nD) : Vec Ideal S8192x2048 .bf16 := m ((c.tc : Thread nD τ).loc main_arg1)
abbrev sample (c : Dev nD) : Vec Ideal S16384x2048 .bf16 := m ((c.tc : Thread nD τ).loc main_arg2)
abbrev outW (c : Dev nD) : Vec Ideal S1x4096x4096 .f32 := m ((c.tc : Thread nD τ).loc main_arg3)
abbrev resid (c : Dev nD) : Vec Ideal S24576x4096 .f32 := m ((c.tc : Thread nD τ).loc main_arg4)

theorem V_weights (c : Dev nD) : V m c main_v1 = weights (outW m c) := by
  simp only [V, hostOps0]
  after_results
  rfl

theorem at0 : ∀ t : Fin cfg0.N, win0_0.index t (0 : Fin 2) = t.val / 8 ∧ win0_0.index t (1 : Fin 2) = 0 :=
  (by decide +kernel : ∀ t : Fin grid0.N, _)
theorem at3 : ∀ t : Fin cfg0.N, win0_3.index t (0 : Fin 2) = 0 ∧ win0_3.index t (1 : Fin 2) = t.val % 8 :=
  (by decide +kernel : ∀ t : Fin grid0.N, _)
theorem at4 : ∀ t : Fin cfg0.N, win0_4.index t (0 : Fin 2) = t.val / 8 ∧ win0_4.index t (1 : Fin 2) = t.val % 8 :=
  (by decide +kernel : ∀ t : Fin grid0.N, _)
theorem at5 : ∀ t : Fin cfg0.N, win0_5.index t (0 : Fin 2) = t.val / 8 ∧ win0_5.index t (1 : Fin 2) = t.val % 8 :=
  (by decide +kernel : ∀ t : Fin grid0.N, _)
theorem at6 : ∀ t : Fin cfg0.N, win0_6.index t (0 : Fin 2) = t.val / 8 ∧ win0_6.index t (1 : Fin 2) = t.val % 8 :=
  (by decide +kernel : ∀ t : Fin grid0.N, _)
theorem at1 : ∀ t : Fin cfg0.N, t.val < 64 → win0_1.index t (0 : Fin 2) = t.val / 8 ∧ win0_1.index t (1 : Fin 2) = 0 :=
  (by decide +kernel : ∀ t : Fin grid0.N, _)
theorem at2 : ∀ t : Fin cfg0.N, 64 ≤ t.val → win0_2.index t (0 : Fin 2) = t.val / 8 - 8 ∧ win0_2.index t (1 : Fin 2) = 0 :=
  (by decide +kernel : ∀ t : Fin grid0.N, _)

theorem lt24 (t : Fin cfg0.N) : t.val / 8 < 24 := by
  have := t.isLt
  have h : cfg0.N = 192 := N_0
  omega

/-- The row and the column of the whole arrays an entry of a point's block is. -/
abbrev rowAt (t : Fin cfg0.N) (r : Fin 1024) : Fin 24576 := ⟨t.val / 8 * 1024 + r.val, by have := lt24 t; omega⟩
abbrev colAt (t : Fin cfg0.N) (e : Fin 512) : Fin 4096 := ⟨t.val % 8 * 512 + e.val, by omega⟩
/-- The row of the prompt's, or of the samples', array. -/
abbrev rowP (t : Fin cfg0.N) (h : t.val < 64) (r : Fin 1024) : Fin 8192 := ⟨t.val / 8 * 1024 + r.val, by omega⟩
abbrev rowS (t : Fin cfg0.N) (_h : 64 ≤ t.val) (r : Fin 1024) : Fin 16384 := ⟨(t.val / 8 - 8) * 1024 + r.val, by have := lt24 t; omega⟩

theorem blk0 (c : Dev nD) (t : Fin cfg0.N) (r : Fin 1024) (k : Fin 2048) :
    iblk m c 0 t (ix2 r k) = nearby m c (ix2 (rowAt t r) k) := by
  unfold nearby
  rw [← V_main_arg0 m c]
  obtain ⟨e0, e1⟩ := at0 t
  show V m c main_arg0 (((cfg0.win 0).blk t).view.emb (ix2 r k)) = V m c main_arg0 _
  refine congrArg _ (funext fun a => Fin.ext ?_)
  match a with
  | ⟨0, _⟩ => show win0_0.index t (0 : Fin 2) * 1024 + 1 * r.val = t.val / 8 * 1024 + r.val; omega
  | ⟨1, _⟩ => show win0_0.index t (1 : Fin 2) * 2048 + 1 * k.val = k.val; omega

theorem blk1 (c : Dev nD) (t : Fin cfg0.N) (h : t.val < 64) (r : Fin 1024) (k : Fin 2048) :
    iblk m c 1 t (ix2 r k) = prompt m c (ix2 (rowP t h r) k) := by
  unfold prompt
  rw [← V_main_arg1 m c]
  obtain ⟨e0, e1⟩ := at1 t h
  show V m c main_arg1 (((cfg0.win 1).blk t).view.emb (ix2 r k)) = V m c main_arg1 _
  refine congrArg _ (funext fun a => Fin.ext ?_)
  match a with
  | ⟨0, _⟩ => show win0_1.index t (0 : Fin 2) * 1024 + 1 * r.val = t.val / 8 * 1024 + r.val; omega
  | ⟨1, _⟩ => show win0_1.index t (1 : Fin 2) * 2048 + 1 * k.val = k.val; omega

theorem blk2 (c : Dev nD) (t : Fin cfg0.N) (h : 64 ≤ t.val) (r : Fin 1024) (k : Fin 2048) :
    iblk m c 2 t (ix2 r k) = sample m c (ix2 (rowS t h r) k) := by
  unfold sample
  rw [← V_main_arg2 m c]
  obtain ⟨e0, e1⟩ := at2 t h
  show V m c main_arg2 (((cfg0.win 2).blk t).view.emb (ix2 r k)) = V m c main_arg2 _
  refine congrArg _ (funext fun a => Fin.ext ?_)
  match a with
  | ⟨0, _⟩ => show win0_2.index t (0 : Fin 2) * 1024 + 1 * r.val = (t.val / 8 - 8) * 1024 + r.val; omega
  | ⟨1, _⟩ => show win0_2.index t (1 : Fin 2) * 2048 + 1 * k.val = k.val; omega

theorem blk3 (c : Dev nD) (t : Fin cfg0.N) (k : Fin 4096) (e : Fin 512) :
    @Eq EReal (iblk m c 3 t (ix2 k e)) (outW m c (ix3 0 k (colAt t e))) := by
  refine Eq.trans ?_ (weights_apply (outW m c) k (colAt t e))
  rw [← V_weights m c]
  obtain ⟨e0, e1⟩ := at3 t
  show V m c main_v1 (((cfg0.win 3).blk t).view.emb (ix2 k e)) = V m c main_v1 _
  refine congrArg _ (funext fun a => Fin.ext ?_)
  match a with
  | ⟨0, _⟩ => show win0_3.index t (0 : Fin 2) * 4096 + 1 * k.val = k.val; omega
  | ⟨1, _⟩ => show win0_3.index t (1 : Fin 2) * 512 + 1 * e.val = t.val % 8 * 512 + e.val; omega

theorem blk4 (c : Dev nD) (t : Fin cfg0.N) (r : Fin 1024) (e : Fin 512) :
    iblk m c 4 t (ix2 r e) = resid m c (ix2 (rowAt t r) (colAt t e)) := by
  unfold resid
  rw [← V_main_arg4 m c]
  obtain ⟨e0, e1⟩ := at4 t
  show V m c main_arg4 (((cfg0.win 4).blk t).view.emb (ix2 r e)) = V m c main_arg4 _
  refine congrArg _ (funext fun a => Fin.ext ?_)
  match a with
  | ⟨0, _⟩ => show win0_4.index t (0 : Fin 2) * 1024 + 1 * r.val = t.val / 8 * 1024 + r.val; omega
  | ⟨1, _⟩ => show win0_4.index t (1 : Fin 2) * 512 + 1 * e.val = t.val % 8 * 512 + e.val; omega

theorem place5 (t : Fin cfg0.N) (r : Fin 1024) (e : Fin 512) : ((cfg0.win 5).blk t).view.emb (ix2 r e) = ix2 (rowAt t r) (colAt t e) := by
  obtain ⟨e0, e1⟩ := at5 t
  refine funext fun a => Fin.ext ?_
  match a with
  | ⟨0, _⟩ => show win0_5.index t (0 : Fin 2) * 1024 + 1 * r.val = t.val / 8 * 1024 + r.val; omega
  | ⟨1, _⟩ => show win0_5.index t (1 : Fin 2) * 512 + 1 * e.val = t.val % 8 * 512 + e.val; omega

/-- Every index of the result is in some point's block. -/
theorem covered5 (i : S24576x4096.Idx) : ∃ t : Fin cfg0.N, (cfg0.win 5).flush t = true ∧ i ∈ ((cfg0.win 5).blk t).view.set := by
  have h : cfg0.N = 192 := N_0
  have h0 : (i 0).val < 24576 := (i 0).isLt
  have h1 : (i 1).val < 4096 := (i 1).isLt
  let t : Fin cfg0.N := ⟨(i 0).val / 1024 * 8 + (i 1).val / 512, by omega⟩
  refine ⟨t, flush0_5 _, ?_⟩
  have hm := ((cfg0.win 5).blk t).view.emb_mem_set (ix2 (⟨(i 0).val % 1024, by omega⟩ : Fin 1024) (⟨(i 1).val % 512, by omega⟩ : Fin 512))
  rw [place5] at hm
  have hi : i = ix2 (rowAt t ⟨(i 0).val % 1024, by omega⟩) (colAt t ⟨(i 1).val % 512, by omega⟩) := by
    refine funext fun a => Fin.ext ?_
    match a with
    | ⟨0, _⟩ => show (i 0).val = ((i 0).val / 1024 * 8 + (i 1).val / 512) / 8 * 1024 + (i 0).val % 1024; omega
    | ⟨1, _⟩ => show (i 1).val = ((i 0).val / 1024 * 8 + (i 1).val / 512) % 8 * 512 + (i 1).val % 512; omega
  rw [hi]
  exact hm

/-- Reading a point's block of the result array. -/
theorem cut_read5 (t : Fin cfg0.N) (X : Vec Ideal S1024x512 .f32) (Y : Vec Ideal S24576x4096 .f32)
    (h : ∀ (r : Fin 1024) (e : Fin 512), @Eq EReal (X (ix2 r e)) (Y (ix2 (rowAt t r) (colAt t e)))) :
    (cfg0.win 5).cut (grid0.coords t) X = ((cfg0.win 5).blk t).view.read (Elt Ideal) Y := by
  funext y
  idx_vars y
  show X (ix2 y0 y1) = Y (((cfg0.win 5).blk t).view.emb (ix2 y0 y1))
  rw [place5]
  exact h y0 y1

theorem place6 (t : Fin cfg0.N) (r : Fin 1024) (e : Fin 512) : ((cfg0.win 6).blk t).view.emb (ix2 r e) = ix2 (rowAt t r) (colAt t e) := by
  obtain ⟨e0, e1⟩ := at6 t
  refine funext fun a => Fin.ext ?_
  match a with
  | ⟨0, _⟩ => show win0_6.index t (0 : Fin 2) * 1024 + 1 * r.val = t.val / 8 * 1024 + r.val; omega
  | ⟨1, _⟩ => show win0_6.index t (1 : Fin 2) * 512 + 1 * e.val = t.val % 8 * 512 + e.val; omega

/-- Every index of the result is in some point's block. -/
theorem covered6 (i : S24576x4096.Idx) : ∃ t : Fin cfg0.N, (cfg0.win 6).flush t = true ∧ i ∈ ((cfg0.win 6).blk t).view.set := by
  have h : cfg0.N = 192 := N_0
  have h0 : (i 0).val < 24576 := (i 0).isLt
  have h1 : (i 1).val < 4096 := (i 1).isLt
  let t : Fin cfg0.N := ⟨(i 0).val / 1024 * 8 + (i 1).val / 512, by omega⟩
  refine ⟨t, flush0_6 _, ?_⟩
  have hm := ((cfg0.win 6).blk t).view.emb_mem_set (ix2 (⟨(i 0).val % 1024, by omega⟩ : Fin 1024) (⟨(i 1).val % 512, by omega⟩ : Fin 512))
  rw [place6] at hm
  have hi : i = ix2 (rowAt t ⟨(i 0).val % 1024, by omega⟩) (colAt t ⟨(i 1).val % 512, by omega⟩) := by
    refine funext fun a => Fin.ext ?_
    match a with
    | ⟨0, _⟩ => show (i 0).val = ((i 0).val / 1024 * 8 + (i 1).val / 512) / 8 * 1024 + (i 0).val % 1024; omega
    | ⟨1, _⟩ => show (i 1).val = ((i 0).val / 1024 * 8 + (i 1).val / 512) % 8 * 512 + (i 1).val % 512; omega
  rw [hi]
  exact hm

/-- Reading a point's block of the result array. -/
theorem cut_read6 (t : Fin cfg0.N) (X : Vec Ideal S1024x512 .bf16) (Y : Vec Ideal S24576x4096 .bf16)
    (h : ∀ (r : Fin 1024) (e : Fin 512), @Eq EReal (X (ix2 r e)) (Y (ix2 (rowAt t r) (colAt t e)))) :
    (cfg0.win 6).cut (grid0.coords t) X = ((cfg0.win 6).blk t).view.read (Elt Ideal) Y := by
  funext y
  idx_vars y
  show X (ix2 y0 y1) = Y (((cfg0.win 6).blk t).view.emb (ix2 y0 y1))
  rw [place6]
  exact h y0 y1

/-- An entry of a point's block is the reference's. -/
theorem point (na : Vec Ideal S24576x2048 .bf16) (p : Vec Ideal S8192x2048 .bf16) (s : Vec Ideal S16384x2048 .bf16) (w : Vec Ideal S1x4096x4096 .f32)
    (h : Vec Ideal S24576x4096 .f32) (x d : Vec Ideal S1024x2048 .bf16) (x3 : Vec Ideal S4096x512 .bf16) (x4 : Vec Ideal S1024x512 .f32)
    (r : Fin 1024) (e : Fin 512) (R : Fin 24576) (E : Fin 4096)
    (ex : ∀ k : Fin 2048, x (ix2 r k) = na (ix2 R k)) (ed : ∀ k : Fin 2048, @Eq EReal (d (ix2 r k)) (MixRef.rows p s (ix2 R k)))
    (ew : ∀ k : Fin 4096, @Eq EReal (x3 (ix2 k e)) (w (ix3 0 k E))) (eh : x4 (ix2 r e) = h (ix2 R E)) :
    mixed x d x3 x4 r e = MixRef.result na p s w h (ix2 R E) := by
  refine Eq.trans ?_ (MixRef.result_apply na p s w h R E).symm
  exact congrArg₂ (· + ·) eh (congrArg₂ (· + ·) (Finset.sum_congr rfl fun k _ => congrArg₂ (· * ·) (ex k) (ew _))
    (Finset.sum_congr rfl fun k _ => congrArg₂ (· * ·) (ed k) (ew _)))

/-- The reference's results of a memory. -/
abbrev whole0 (c : Dev nD) : Vec Ideal S24576x4096 .f32 := MixRef.result (nearby m c) (prompt m c) (sample m c) (outW m c) (resid m c)
abbrev whole1 (c : Dev nD) : Vec Ideal S24576x4096 .bf16 := MixRef.short (nearby m c) (prompt m c) (sample m c) (outW m c) (resid m c)

/-- The entry of a prompt's point, and of a sample's. -/
theorem pointA (c : Dev nD) (t : Fin cfg0.N) (h : t.val < 64) (r : Fin 1024) (e : Fin 512) :
    @Eq EReal (mixed (iblk m c 0 t) (iblk m c 1 t) (iblk m c 3 t) (iblk m c 4 t) r e) (whole0 m c (ix2 (rowAt t r) (colAt t e))) :=
  point _ _ _ _ _ _ _ _ _ r e (rowAt t r) (colAt t e) (blk0 m c t r)
    (fun k => Eq.trans (congrArg (fun q : EReal => q) (blk1 m c t h r k)) (MixRef.rows_prompt _ _ (rowAt t r) (rowP t h r) k rfl).symm)
    (fun k => blk3 m c t k e) (blk4 m c t r e)

theorem pointB (c : Dev nD) (t : Fin cfg0.N) (h : 64 ≤ t.val) (r : Fin 1024) (e : Fin 512) :
    @Eq EReal (mixed (iblk m c 0 t) (iblk m c 2 t) (iblk m c 3 t) (iblk m c 4 t) r e) (whole0 m c (ix2 (rowAt t r) (colAt t e))) :=
  point _ _ _ _ _ _ _ _ _ r e (rowAt t r) (colAt t e) (blk0 m c t r)
    (fun k => Eq.trans (congrArg (fun q : EReal => q) (blk2 m c t h r k)) (MixRef.rows_sample _ _ (rowAt t r) (rowS t h r) k
      (show t.val / 8 * 1024 + r.val = (t.val / 8 - 8) * 1024 + r.val + 8192 by omega)).symm)
    (fun k => blk3 m c t k e) (blk4 m c t r e)

/-- The array the kernel leaves is the reference's first result. -/
theorem array0_eq (c : Dev nD) : (dats m 0 c).arrAt 5 cfg0.N = whole0 m c := by
  refine (dats m 0 c).arrAt_eq_of_cover 5 (whole0 m c) (fun t _ => ?_) covered5
  rcases Nat.lt_or_ge t.val 64 with h | h
  · rw [Cert.MixIdeal.Value.flushed5_A m c t h (Nat.not_le.2 h)]
    exact cut_read5 t _ _ fun r e => (out5A c (grid0.coords t) _ _ _ _ _ _ _ _ _ _ _ _ _ _ _ _ _ _ _ _ _ r e).trans (pointA m c t h r e)
  · rw [Cert.MixIdeal.Value.flushed5_B m c t (Nat.not_lt.2 h) h]
    exact cut_read5 t _ _ fun r e => (out5B c (grid0.coords t) _ _ _ _ _ _ _ _ _ _ _ _ _ _ _ _ _ _ _ _ _ r e).trans (pointB m c t h r e)

/-- The array the kernel leaves is the reference's second result. -/
theorem array1_eq (c : Dev nD) : (dats m 0 c).arrAt 6 cfg0.N = whole1 m c := by
  refine (dats m 0 c).arrAt_eq_of_cover 6 (whole1 m c) (fun t _ => ?_) covered6
  rcases Nat.lt_or_ge t.val 64 with h | h
  · rw [Cert.MixIdeal.Value.flushed6_A m c t h (Nat.not_le.2 h)]
    exact cut_read6 t _ _ fun r e => ((out6A c (grid0.coords t) _ _ _ _ _ _ _ _ _ _ _ _ _ _ _ _ _ _ _ _ _ r e).trans (pointA m c t h r e)).trans (MixRef.short_apply _ _ _ _ _ _).symm
  · rw [Cert.MixIdeal.Value.flushed6_B m c t (Nat.not_lt.2 h) h]
    exact cut_read6 t _ _ fun r e => ((out6B c (grid0.coords t) _ _ _ _ _ _ _ _ _ _ _ _ _ _ _ _ _ _ _ _ _ r e).trans (pointB m c t h r e)).trans (MixRef.short_apply _ _ _ _ _ _).symm

end Cert.Proof.Mix

end
-- ==== Proof.FirstBlock.lean ====
/- What a grid point of the first half's gated product, the first 10752 columns, leaves of its block. -/
module

public import proofs.«01_k».proof.Proof.Gen.FirstIdeal.Value
public import proofs.«01_k».proof.Proof.Gated
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.First

open Cert.FirstIdeal Cert.FirstIdeal.Gen
open Idealize.ShloMosaic Idealize.ShloMosaic.TcCoe

/-- An entry of a product of blocks. -/
abbrev prod (x : Vec Ideal S1024x4096 .bf16) (w : Vec Ideal S4096x512 .bf16) (r : Fin 1024) (e : Fin 512) : EReal :=
  ∑ k : Fin 4096, (x (ix2 r k) : EReal) * w (ix2 k e)

variable (x : Vec Ideal S1024x4096 .bf16) (w v : Vec Ideal S4096x512 .bf16)

theorem piece0 (r : Fin 1024) (e : Fin 128) : @Eq EReal (k0_pay4 x w v (ix2 r e))
    (gated (prod x w r ⟨e.val, by omega⟩) (prod x v r ⟨e.val, by omega⟩)) := by
  unfold k0_pay4 k0_pay2 k0_pay3
  pointwise
  rfl

theorem piece1 (r : Fin 1024) (e : Fin 128) : @Eq EReal (k0_pay5 x w v (ix2 r e))
    (gated (prod x w r ⟨128 + e.val, by omega⟩) (prod x v r ⟨128 + e.val, by omega⟩)) := by
  unfold k0_pay5 k0_pay2 k0_pay3
  pointwise
  rfl

theorem piece2 (r : Fin 1024) (e : Fin 128) : @Eq EReal (k0_pay6 x w v (ix2 r e))
    (gated (prod x w r ⟨256 + e.val, by omega⟩) (prod x v r ⟨256 + e.val, by omega⟩)) := by
  unfold k0_pay6 k0_pay2 k0_pay3
  pointwise
  rfl

theorem piece3 (r : Fin 1024) (e : Fin 128) : @Eq EReal (k0_pay1 (k0_pay7 x v) (k0_pay8 x w) (ix2 r e))
    (gated (prod x w r ⟨384 + e.val, by omega⟩) (prod x v r ⟨384 + e.val, by omega⟩)) := by
  unfold k0_pay1 k0_pay7 k0_pay8 k0_pay2 k0_pay3
  pointwise
  rfl

/-- The entry of a block that lies in a stretch of 128 columns. -/
theorem gated_at (o : Nat) (r : Fin 1024) (e : Fin 512) (y : S1024x128.Idx) (h0 : r.val = (y 0).val) (h1 : e.val = o + (y 1).val) (ho : o ≤ 384)
    (q : EReal)
    (hq : q = gated (prod x w (y 0) ⟨o + (y 1).val, by have : (y 1).val < 128 := (y 1).isLt; omega⟩)
      (prod x v (y 0) ⟨o + (y 1).val, by have : (y 1).val < 128 := (y 1).isLt; omega⟩)) :
    q = gated (prod x w r e) (prod x v r e) := by
  have hy : (y 1).val < 128 := (y 1).isLt
  have er : r = y 0 := Fin.ext h0
  have ee : e = ⟨o + (y 1).val, by omega⟩ := Fin.ext h1
  rw [er, ee]
  exact hq

theorem z4096 : (![0, 0] : Fin S1024x4096.rank → Nat) = fun _ => 0 := funext fun a => by fin_cases a <;> rfl
theorem zW : (![0, 0] : Fin S4096x512.rank → Nat) = fun _ => 0 := funext fun a => by fin_cases a <;> rfl

variable (c : Dev nD) (i : grid0.Coords) (arg2 : Memref sig .tc .vmem S1024x4096 .bf16) (harg2 : arg2.IsWhole) (arg3 : Memref sig .tc .vmem S4096x512 .bf16) (harg3 : arg3.IsWhole) (arg4 : Memref sig .tc .vmem S4096x512 .bf16) (harg4 : arg4.IsWhole) (arg5 : Memref sig .tc .vmem S1024x512 .bf16) (harg5 : arg5.IsWhole)

/-- A load of a whole buffer. -/
theorem read_x : View.readAt (Elt Ideal) arg2.view (Rect.unit (s := S1024x4096) ![0, 0] S1024x4096.size inb_S1024x4096_S1024x4096_0_0).toLoadRect (harg2.unread x) = x := by
  rw [View.readAt_eq_ld, harg2.read_unread, View.ld_unit_zero z4096]

theorem read_w : View.readAt (Elt Ideal) arg3.view (Rect.unit (s := S4096x512) ![0, 0] S4096x512.size inb_S4096x512_S4096x512_0_0).toLoadRect (harg3.unread w) = w := by
  rw [View.readAt_eq_ld, harg3.read_unread, View.ld_unit_zero zW]

theorem out (r : Fin 1024) (e : Fin 512) :
    @Eq EReal (out0_A_3 c i arg2 harg2 arg3 harg3 arg4 harg4 arg5 harg5 x w v (ix2 r e)) (gated (prod x w r e) (prod x v r e)) := by
  unfold out0_A_3 kernelRun0_A
  rw [VO0_3.read_writes_junk_eq_canon]
  canon_tiles y h
  · sl_unfold_words
    rw [read_x, read_w, read_w]
    refine gated_at x w v 384 r e y h0 h1 (by decide) _ ?_
    idx_vars y
    exact piece3 x w v y0 y1
  · sl_unfold_words
    rw [read_x, read_w, read_w]
    refine gated_at x w v 256 r e y h0 h1 (by decide) _ ?_
    idx_vars y
    exact piece2 x w v y0 y1
  · sl_unfold_words
    rw [read_x, read_w, read_w]
    refine gated_at x w v 128 r e y h0 h1 (by decide) _ ?_
    idx_vars y
    exact piece1 x w v y0 y1
  · rw [read_x, read_w, read_w]
    refine gated_at x w v 0 r e y h0 (h1.trans (Nat.zero_add _).symm) (by decide) _ ?_
    idx_vars y
    simp only [Nat.zero_add]
    exact piece0 x w v y0 y1

end Cert.Proof.First

end
-- ==== Proof.FirstRef.lean ====
/- The reference of the first half's gated product, the first 10752 columns, and an entry of it. -/
module

public import proofs.«01_k».proof.Proof.Gen.FirstReferenceIdeal.Run
public import proofs.«01_k».proof.Proof.Gated
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.FirstRef

open Cert.FirstReferenceIdeal Cert.FirstReferenceIdeal.Gen
open Idealize.ShloMosaic Idealize.ShloMosaic.TcCoe

/-- The normed stream times the first 10752 columns of weights. -/
def times (x : Vec Ideal S24576x4096 .bf16) (w : Vec Ideal S1x4096x11008 .f32) : Vec Ideal S24576x10752 .f32 :=
  Host.dotGeneral (F := Ideal) (φ₁ := .f32) (φ₂ := .f32) dot_S24576x4096_S4096x10752_S24576x10752_1_0_0_1_n_n none (extf (F := Ideal) (φ := .bf16) .f32 x bitsLt_bf16_f32)
    (shapeCast S4096x10752 (extractStridedSlice S1x4096x10752 ![0, 0, 0] w slices_S1x4096x11008_S1x4096x10752_0_0_0) shapeCasts_S1x4096x10752_S4096x10752)

/-- Half of `silu a · b`. -/
def joined (a b : Vec Ideal S24576x10752 .f32) : Vec Ideal S24576x10752 .bf16 :=
  truncf (F := Ideal) (φ := .f32) .bf16 (mulf (F := Ideal) (φ := .f32) (broadcastInDim S24576x10752 ![] bcast_S_S24576x10752 (constant (F := Ideal) S_ .f32 0x3F000000#32))
    (mulf (F := Ideal) (φ := .f32) (mulf (F := Ideal) (φ := .f32) a (Host.divf (F := Ideal) (φ := .f32) (broadcastInDim S24576x10752 ![] bcast_S_S24576x10752 (constant (F := Ideal) S_ .f32 0x3F800000#32))
      (addf (F := Ideal) (φ := .f32) (broadcastInDim S24576x10752 ![] bcast_S_S24576x10752 (constant (F := Ideal) S_ .f32 0x3F800000#32)) (Host.exp (F := Ideal) (φ := .f32) (Host.negf (F := Ideal) (φ := .f32) a))))) b)) bitsLt_bf16_f32

/-- The reference's result. -/
def result (x : Vec Ideal S24576x4096 .bf16) (wg wu : Vec Ideal S1x4096x11008 .f32) : Vec Ideal S24576x10752 .bf16 :=
  joined (times x wg) (times x wu)

theorem times_apply (x : Vec Ideal S24576x4096 .bf16) (w : Vec Ideal S1x4096x11008 .f32) (r : Fin 24576) (e : Fin 10752) :
    @Eq EReal (times x w (ix2 r e)) (∑ k : Fin 4096, (x (ix2 r k) : EReal) * w (ix3 0 k (⟨e.val, by omega⟩ : Fin 11008))) := by
  unfold times
  pointwise

theorem joined_apply (a b : Vec Ideal S24576x10752 .f32) (r : Fin 24576) (e : Fin 10752) :
    @Eq EReal (joined a b (ix2 r e)) (gated (a (ix2 r e)) (b (ix2 r e))) := by
  unfold joined gated
  pointwise
  rw [mul_assoc half]

theorem result_apply (x : Vec Ideal S24576x4096 .bf16) (wg wu : Vec Ideal S1x4096x11008 .f32) (r : Fin 24576) (e : Fin 10752) :
    @Eq EReal (result x wg wu (ix2 r e)) (gated (∑ k : Fin 4096, (x (ix2 r k) : EReal) * wg (ix3 0 k (⟨e.val, by omega⟩ : Fin 11008)))
      (∑ k : Fin 4096, (x (ix2 r k) : EReal) * wu (ix3 0 k (⟨e.val, by omega⟩ : Fin 11008)))) :=
  (joined_apply _ _ r e).trans (congrArg₂ gated (times_apply x wg r e) (times_apply x wu r e))

end Cert.Proof.FirstRef

end
-- ==== Proof.First.lean ====
/- The first half's gated product, the first 10752 columns: the array the kernel leaves is the reference's. -/
module

public import proofs.«01_k».proof.Proof.FirstBlock
public import proofs.«01_k».proof.Proof.FirstRef

@[expose] public section

set_option maxRecDepth 16384

noncomputable section

namespace Cert.Proof.First

open Cert.FirstIdeal Cert.FirstIdeal.Gen
open Idealize.ShloMosaic Idealize.ShloMosaic.TcCoe

/-- The weights in bf16, the launch's second and third arrays. -/
def weights (w : Vec Ideal S1x4096x11008 .f32) : Vec Ideal S4096x11008 .bf16 :=
  truncf (F := Ideal) (φ := .f32) .bf16 (shapeCast S4096x11008 w shapeCasts_S1x4096x11008_S4096x11008) bitsLt_bf16_f32

theorem weights_apply (w : Vec Ideal S1x4096x11008 .f32) (k : Fin 4096) (e : Fin 11008) : @Eq EReal (weights w (ix2 k e)) (w (ix3 0 k e)) := by
  unfold weights
  pointwise

variable (m : (ℓ : Loc nD τ sig) → Buf (Elt Ideal) ℓ)

abbrev stream (c : Dev nD) : Vec Ideal S24576x4096 .bf16 := m ((c.tc : Thread nD τ).loc main_arg0)
abbrev gateW (c : Dev nD) : Vec Ideal S1x4096x11008 .f32 := m ((c.tc : Thread nD τ).loc main_arg1)
abbrev upW (c : Dev nD) : Vec Ideal S1x4096x11008 .f32 := m ((c.tc : Thread nD τ).loc main_arg2)

theorem V_gate (c : Dev nD) : V m c main_v1 = weights (gateW m c) := by
  simp only [V, hostOps0]
  after_results
  rfl

theorem V_up (c : Dev nD) : V m c main_v3 = weights (upW m c) := by
  simp only [V, hostOps0]
  after_results
  rfl

theorem at0 : ∀ t : Fin cfg0.N, win0_0.index t (0 : Fin 2) = t.val / 21 ∧ win0_0.index t (1 : Fin 2) = 0 :=
  (by decide +kernel : ∀ t : Fin grid0.N, _)
theorem at1 : ∀ t : Fin cfg0.N, win0_1.index t (0 : Fin 2) = 0 ∧ win0_1.index t (1 : Fin 2) = t.val % 21 :=
  (by decide +kernel : ∀ t : Fin grid0.N, _)
theorem at2 : ∀ t : Fin cfg0.N, win0_2.index t (0 : Fin 2) = 0 ∧ win0_2.index t (1 : Fin 2) = t.val % 21 :=
  (by decide +kernel : ∀ t : Fin grid0.N, _)
theorem at3 : ∀ t : Fin cfg0.N, win0_3.index t (0 : Fin 2) = t.val / 21 ∧ win0_3.index t (1 : Fin 2) = t.val % 21 :=
  (by decide +kernel : ∀ t : Fin grid0.N, _)

theorem lt24 (t : Fin cfg0.N) : t.val / 21 < 24 := by
  have := t.isLt
  have h : cfg0.N = 504 := N_0
  omega

/-- The row and the column of the whole arrays an entry of a point's block is. -/
abbrev rowAt (t : Fin cfg0.N) (r : Fin 1024) : Fin 24576 := ⟨t.val / 21 * 1024 + r.val, by have := lt24 t; omega⟩
abbrev colAt (t : Fin cfg0.N) (e : Fin 512) : Fin 10752 := ⟨t.val % 21 * 512 + e.val, by omega⟩
abbrev colW (t : Fin cfg0.N) (e : Fin 512) : Fin 11008 := ⟨t.val % 21 * 512 + e.val, by omega⟩

theorem blk0 (c : Dev nD) (t : Fin cfg0.N) (r : Fin 1024) (k : Fin 4096) :
    iblk m c 0 t (ix2 r k) = stream m c (ix2 (rowAt t r) k) := by
  unfold stream
  rw [← V_main_arg0 m c]
  obtain ⟨e0, e1⟩ := at0 t
  show V m c main_arg0 (((cfg0.win 0).blk t).view.emb (ix2 r k)) = V m c main_arg0 _
  refine congrArg _ (funext fun a => Fin.ext ?_)
  match a with
  | ⟨0, _⟩ => show win0_0.index t (0 : Fin 2) * 1024 + 1 * r.val = t.val / 21 * 1024 + r.val; omega
  | ⟨1, _⟩ => show win0_0.index t (1 : Fin 2) * 4096 + 1 * k.val = k.val; omega

theorem blk1 (c : Dev nD) (t : Fin cfg0.N) (k : Fin 4096) (e : Fin 512) :
    @Eq EReal (X0_1 m c t (ix2 k e)) (gateW m c (ix3 0 k (colW t e))) := by
  refine Eq.trans ?_ (weights_apply (gateW m c) k (colW t e))
  rw [← V_gate m c]
  obtain ⟨e0, e1⟩ := at1 t
  unfold X0_1 Pipeline.Window.fill
  rw [dif_pos (moved0_1 t (ix2 k e))]
  show V m c main_v1 (((cfg0.win 1).blk t).view.emb _) = V m c main_v1 _
  refine congrArg _ (funext fun a => Fin.ext ?_)
  match a with
  | ⟨0, _⟩ => show win0_1.index t (0 : Fin 2) * 4096 + 1 * k.val = k.val; omega
  | ⟨1, _⟩ => show win0_1.index t (1 : Fin 2) * 512 + 1 * e.val = t.val % 21 * 512 + e.val; omega

theorem blk2 (c : Dev nD) (t : Fin cfg0.N) (k : Fin 4096) (e : Fin 512) :
    @Eq EReal (X0_2 m c t (ix2 k e)) (upW m c (ix3 0 k (colW t e))) := by
  refine Eq.trans ?_ (weights_apply (upW m c) k (colW t e))
  rw [← V_up m c]
  obtain ⟨e0, e1⟩ := at2 t
  unfold X0_2 Pipeline.Window.fill
  rw [dif_pos (moved0_2 t (ix2 k e))]
  show V m c main_v3 (((cfg0.win 2).blk t).view.emb _) = V m c main_v3 _
  refine congrArg _ (funext fun a => Fin.ext ?_)
  match a with
  | ⟨0, _⟩ => show win0_2.index t (0 : Fin 2) * 4096 + 1 * k.val = k.val; omega
  | ⟨1, _⟩ => show win0_2.index t (1 : Fin 2) * 512 + 1 * e.val = t.val % 21 * 512 + e.val; omega

theorem place (t : Fin cfg0.N) (r : Fin 1024) (e : Fin 512) : ((cfg0.win 3).blk t).view.emb (ix2 r e) = ix2 (rowAt t r) (colAt t e) := by
  obtain ⟨e0, e1⟩ := at3 t
  refine funext fun a => Fin.ext ?_
  match a with
  | ⟨0, _⟩ => show win0_3.index t (0 : Fin 2) * 1024 + 1 * r.val = t.val / 21 * 1024 + r.val; omega
  | ⟨1, _⟩ => show win0_3.index t (1 : Fin 2) * 512 + 1 * e.val = t.val % 21 * 512 + e.val; omega

/-- Every index of the result is in some point's block. -/
theorem covered (i : S24576x10752.Idx) : ∃ t : Fin cfg0.N, (cfg0.win 3).flush t = true ∧ i ∈ ((cfg0.win 3).blk t).view.set := by
  have h : cfg0.N = 504 := N_0
  have h0 : (i 0).val < 24576 := (i 0).isLt
  have h1 : (i 1).val < 10752 := (i 1).isLt
  let t : Fin cfg0.N := ⟨(i 0).val / 1024 * 21 + (i 1).val / 512, by omega⟩
  refine ⟨t, flush0_3 _, ?_⟩
  have hm := ((cfg0.win 3).blk t).view.emb_mem_set (ix2 (⟨(i 0).val % 1024, by omega⟩ : Fin 1024) (⟨(i 1).val % 512, by omega⟩ : Fin 512))
  rw [place] at hm
  have hi : i = ix2 (rowAt t ⟨(i 0).val % 1024, by omega⟩) (colAt t ⟨(i 1).val % 512, by omega⟩) := by
    refine funext fun a => Fin.ext ?_
    match a with
    | ⟨0, _⟩ => show (i 0).val = ((i 0).val / 1024 * 21 + (i 1).val / 512) / 21 * 1024 + (i 0).val % 1024; omega
    | ⟨1, _⟩ => show (i 1).val = ((i 0).val / 1024 * 21 + (i 1).val / 512) % 21 * 512 + (i 1).val % 512; omega
  rw [hi]
  exact hm

/-- The reference's result of a memory. -/
abbrev whole (c : Dev nD) : Vec Ideal S24576x10752 .bf16 := FirstRef.result (stream m c) (gateW m c) (upW m c)

/-- An entry of a point's block. -/
theorem point (x : Vec Ideal S24576x4096 .bf16) (wg wu : Vec Ideal S1x4096x11008 .f32)
    (x0 : Vec Ideal S1024x4096 .bf16) (w v : Vec Ideal S4096x512 .bf16) (r : Fin 1024) (e : Fin 512) (R : Fin 24576) (E : Fin 10752)
    (e0 : ∀ k : Fin 4096, x0 (ix2 r k) = x (ix2 R k))
    (e1 : ∀ k : Fin 4096, @Eq EReal (w (ix2 k e)) (wg (ix3 0 k (⟨E.val, by omega⟩ : Fin 11008))))
    (e2 : ∀ k : Fin 4096, @Eq EReal (v (ix2 k e)) (wu (ix3 0 k (⟨E.val, by omega⟩ : Fin 11008)))) :
    gated (prod x0 w r e) (prod x0 v r e) = FirstRef.result x wg wu (ix2 R E) := by
  refine Eq.trans ?_ (FirstRef.result_apply x wg wu R E).symm
  exact congrArg₂ gated (Finset.sum_congr rfl fun k _ => congrArg₂ (· * ·) (e0 k) (e1 k)) (Finset.sum_congr rfl fun k _ => congrArg₂ (· * ·) (e0 k) (e2 k))

/-- Reading a point's block of the result array. -/
theorem cut_read (t : Fin cfg0.N) (X : Vec Ideal S1024x512 .bf16) (Y : Vec Ideal S24576x10752 .bf16)
    (h : ∀ (r : Fin 1024) (e : Fin 512), @Eq EReal (X (ix2 r e)) (Y (ix2 (rowAt t r) (colAt t e)))) :
    (cfg0.win 3).cut (grid0.coords t) X = ((cfg0.win 3).blk t).view.read (Elt Ideal) Y := by
  funext y
  idx_vars y
  show X (ix2 y0 y1) = Y (((cfg0.win 3).blk t).view.emb (ix2 y0 y1))
  rw [place]
  exact h y0 y1

/-- The array the kernel leaves is the reference's result. -/
theorem array_eq (c : Dev nD) : (dats m 0 c).arrAt 3 cfg0.N = whole m c := by
  refine (dats m 0 c).arrAt_eq_of_cover 3 (whole m c) (fun t _ => ?_) covered
  rw [Cert.FirstIdeal.Value.flushed3_A m c t]
  refine cut_read t _ _ fun r e => ?_
  refine (out _ _ _ _ _ _ _ _ _ _ _ _ _ r e).trans ?_
  exact point _ _ _ _ _ _ r e (rowAt t r) (colAt t e) (blk0 m c t r) (fun k => blk1 m c t k e) (fun k => blk2 m c t k e)

end Cert.Proof.First

end
-- ==== Proof.LastBlock.lean ====
/- What a grid point of the first half's gated product, the last 256 columns, leaves of its block. -/
module

public import proofs.«01_k».proof.Proof.Gen.LastIdeal.Value
public import proofs.«01_k».proof.Proof.Gated
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.Last

open Cert.LastIdeal Cert.LastIdeal.Gen
open Idealize.ShloMosaic Idealize.ShloMosaic.TcCoe

/-- An entry of a product of blocks. -/
abbrev prod (x : Vec Ideal S1024x4096 .bf16) (w : Vec Ideal S4096x256 .bf16) (r : Fin 1024) (e : Fin 256) : EReal :=
  ∑ k : Fin 4096, (x (ix2 r k) : EReal) * w (ix2 k e)

variable (x : Vec Ideal S1024x4096 .bf16) (w v : Vec Ideal S4096x256 .bf16)

theorem piece0 (r : Fin 1024) (e : Fin 128) : @Eq EReal (k0_pay3 x w v (ix2 r e))
    (gated (prod x w r ⟨e.val, by omega⟩) (prod x v r ⟨e.val, by omega⟩)) := by
  unfold k0_pay3 k0_pay1 k0_pay2
  pointwise
  rfl

theorem piece1 (r : Fin 1024) (e : Fin 128) : @Eq EReal (k0_pay4 x w v (ix2 r e))
    (gated (prod x w r ⟨128 + e.val, by omega⟩) (prod x v r ⟨128 + e.val, by omega⟩)) := by
  unfold k0_pay4 k0_pay1 k0_pay2
  pointwise
  rfl

/-- The entry of a block that lies in a stretch of 128 columns. -/
theorem gated_at (o : Nat) (r : Fin 1024) (e : Fin 256) (y : S1024x128.Idx) (h0 : r.val = (y 0).val) (h1 : e.val = o + (y 1).val) (ho : o ≤ 128)
    (q : EReal)
    (hq : q = gated (prod x w (y 0) ⟨o + (y 1).val, by have : (y 1).val < 128 := (y 1).isLt; omega⟩)
      (prod x v (y 0) ⟨o + (y 1).val, by have : (y 1).val < 128 := (y 1).isLt; omega⟩)) :
    q = gated (prod x w r e) (prod x v r e) := by
  have hy : (y 1).val < 128 := (y 1).isLt
  have er : r = y 0 := Fin.ext h0
  have ee : e = ⟨o + (y 1).val, by omega⟩ := Fin.ext h1
  rw [er, ee]
  exact hq

theorem z4096 : (![0, 0] : Fin S1024x4096.rank → Nat) = fun _ => 0 := funext fun a => by fin_cases a <;> rfl
theorem zW : (![0, 0] : Fin S4096x256.rank → Nat) = fun _ => 0 := funext fun a => by fin_cases a <;> rfl

theorem out (r : Fin 1024) (e : Fin 256) :
    @Eq EReal (out0_3 x w v (ix2 r e)) (gated (prod x w r e) (prod x v r e)) := by
  unfold out0_3
  rw [View.ld_unit_zero z4096, View.ld_unit_zero zW, View.ld_unit_zero zW]
  unfold r0_2 r0_3
  canon_tiles y h
  · refine gated_at x w v 128 r e y h0 h1 (by decide) _ ?_
    idx_vars y
    exact piece1 x w v y0 y1
  · refine gated_at x w v 0 r e y h0 (h1.trans (Nat.zero_add _).symm) (by decide) _ ?_
    idx_vars y
    simp only [Nat.zero_add]
    exact piece0 x w v y0 y1

end Cert.Proof.Last

end
-- ==== Proof.LastRef.lean ====
/- The reference of the first half's gated product, the last 256 columns, and an entry of it. -/
module

public import proofs.«01_k».proof.Proof.Gen.LastReferenceIdeal.Run
public import proofs.«01_k».proof.Proof.Gated
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.LastRef

open Cert.LastReferenceIdeal Cert.LastReferenceIdeal.Gen
open Idealize.ShloMosaic Idealize.ShloMosaic.TcCoe

/-- The normed stream times the last 256 columns of weights. -/
def times (x : Vec Ideal S24576x4096 .bf16) (w : Vec Ideal S1x4096x11008 .f32) : Vec Ideal S24576x256 .f32 :=
  Host.dotGeneral (F := Ideal) (φ₁ := .f32) (φ₂ := .f32) dot_S24576x4096_S4096x256_S24576x256_1_0_0_1_n_n none (extf (F := Ideal) (φ := .bf16) .f32 x bitsLt_bf16_f32)
    (shapeCast S4096x256 (extractStridedSlice S1x4096x256 ![0, 0, 10752] w slices_S1x4096x11008_S1x4096x256_0_0_10752) shapeCasts_S1x4096x256_S4096x256)

/-- Half of `silu a · b`. -/
def joined (a b : Vec Ideal S24576x256 .f32) : Vec Ideal S24576x256 .bf16 :=
  truncf (F := Ideal) (φ := .f32) .bf16 (mulf (F := Ideal) (φ := .f32) (broadcastInDim S24576x256 ![] bcast_S_S24576x256 (constant (F := Ideal) S_ .f32 0x3F000000#32))
    (mulf (F := Ideal) (φ := .f32) (mulf (F := Ideal) (φ := .f32) a (Host.divf (F := Ideal) (φ := .f32) (broadcastInDim S24576x256 ![] bcast_S_S24576x256 (constant (F := Ideal) S_ .f32 0x3F800000#32))
      (addf (F := Ideal) (φ := .f32) (broadcastInDim S24576x256 ![] bcast_S_S24576x256 (constant (F := Ideal) S_ .f32 0x3F800000#32)) (Host.exp (F := Ideal) (φ := .f32) (Host.negf (F := Ideal) (φ := .f32) a))))) b)) bitsLt_bf16_f32

/-- The reference's result. -/
def result (x : Vec Ideal S24576x4096 .bf16) (wg wu : Vec Ideal S1x4096x11008 .f32) : Vec Ideal S24576x256 .bf16 :=
  joined (times x wg) (times x wu)

theorem times_apply (x : Vec Ideal S24576x4096 .bf16) (w : Vec Ideal S1x4096x11008 .f32) (r : Fin 24576) (e : Fin 256) :
    @Eq EReal (times x w (ix2 r e)) (∑ k : Fin 4096, (x (ix2 r k) : EReal) * w (ix3 0 k (⟨10752 + e.val, by omega⟩ : Fin 11008))) := by
  unfold times
  pointwise

theorem joined_apply (a b : Vec Ideal S24576x256 .f32) (r : Fin 24576) (e : Fin 256) :
    @Eq EReal (joined a b (ix2 r e)) (gated (a (ix2 r e)) (b (ix2 r e))) := by
  unfold joined gated
  pointwise
  rw [mul_assoc half]

theorem result_apply (x : Vec Ideal S24576x4096 .bf16) (wg wu : Vec Ideal S1x4096x11008 .f32) (r : Fin 24576) (e : Fin 256) :
    @Eq EReal (result x wg wu (ix2 r e)) (gated (∑ k : Fin 4096, (x (ix2 r k) : EReal) * wg (ix3 0 k (⟨10752 + e.val, by omega⟩ : Fin 11008)))
      (∑ k : Fin 4096, (x (ix2 r k) : EReal) * wu (ix3 0 k (⟨10752 + e.val, by omega⟩ : Fin 11008)))) :=
  (joined_apply _ _ r e).trans (congrArg₂ gated (times_apply x wg r e) (times_apply x wu r e))

end Cert.Proof.LastRef

end
-- ==== Proof.Last.lean ====
/- The first half's gated product, the last 256 columns: the array the kernel leaves is the reference's. -/
module

public import proofs.«01_k».proof.Proof.LastBlock
public import proofs.«01_k».proof.Proof.LastRef

@[expose] public section

set_option maxRecDepth 16384

noncomputable section

namespace Cert.Proof.Last

open Cert.LastIdeal Cert.LastIdeal.Gen
open Idealize.ShloMosaic Idealize.ShloMosaic.TcCoe

/-- The weights in bf16, the launch's second and third arrays. -/
def weights (w : Vec Ideal S1x4096x11008 .f32) : Vec Ideal S4096x11008 .bf16 :=
  truncf (F := Ideal) (φ := .f32) .bf16 (shapeCast S4096x11008 w shapeCasts_S1x4096x11008_S4096x11008) bitsLt_bf16_f32

theorem weights_apply (w : Vec Ideal S1x4096x11008 .f32) (k : Fin 4096) (e : Fin 11008) : @Eq EReal (weights w (ix2 k e)) (w (ix3 0 k e)) := by
  unfold weights
  pointwise

variable (m : (ℓ : Loc nD τ sig) → Buf (Elt Ideal) ℓ)

abbrev stream (c : Dev nD) : Vec Ideal S24576x4096 .bf16 := m ((c.tc : Thread nD τ).loc main_arg0)
abbrev gateW (c : Dev nD) : Vec Ideal S1x4096x11008 .f32 := m ((c.tc : Thread nD τ).loc main_arg1)
abbrev upW (c : Dev nD) : Vec Ideal S1x4096x11008 .f32 := m ((c.tc : Thread nD τ).loc main_arg2)

theorem V_gate (c : Dev nD) : V m c main_v1 = weights (gateW m c) := by
  simp only [V, hostOps0]
  after_results
  rfl

theorem V_up (c : Dev nD) : V m c main_v3 = weights (upW m c) := by
  simp only [V, hostOps0]
  after_results
  rfl

theorem at0 : ∀ t : Fin cfg0.N, win0_0.index t (0 : Fin 2) = t.val ∧ win0_0.index t (1 : Fin 2) = 0 :=
  (by decide +kernel : ∀ t : Fin grid0.N, _)
theorem at1 : ∀ t : Fin cfg0.N, win0_1.index t (0 : Fin 2) = 0 ∧ win0_1.index t (1 : Fin 2) = 42 :=
  (by decide +kernel : ∀ t : Fin grid0.N, _)
theorem at2 : ∀ t : Fin cfg0.N, win0_2.index t (0 : Fin 2) = 0 ∧ win0_2.index t (1 : Fin 2) = 42 :=
  (by decide +kernel : ∀ t : Fin grid0.N, _)
theorem at3 : ∀ t : Fin cfg0.N, win0_3.index t (0 : Fin 2) = t.val ∧ win0_3.index t (1 : Fin 2) = 0 :=
  (by decide +kernel : ∀ t : Fin grid0.N, _)

theorem lt24 (t : Fin cfg0.N) : t.val < 24 := by
  have := t.isLt
  have h : cfg0.N = 24 := N_0
  omega

/-- The row and the column of the whole arrays an entry of a point's block is. -/
abbrev rowAt (t : Fin cfg0.N) (r : Fin 1024) : Fin 24576 := ⟨t.val * 1024 + r.val, by have := lt24 t; omega⟩
abbrev colAt (_t : Fin cfg0.N) (e : Fin 256) : Fin 256 := ⟨e.val, e.isLt⟩
abbrev colW (_t : Fin cfg0.N) (e : Fin 256) : Fin 11008 := ⟨10752 + e.val, by omega⟩

theorem blk0 (c : Dev nD) (t : Fin cfg0.N) (r : Fin 1024) (k : Fin 4096) :
    iblk m c 0 t (ix2 r k) = stream m c (ix2 (rowAt t r) k) := by
  unfold stream
  rw [← V_main_arg0 m c]
  obtain ⟨e0, e1⟩ := at0 t
  show V m c main_arg0 (((cfg0.win 0).blk t).view.emb (ix2 r k)) = V m c main_arg0 _
  refine congrArg _ (funext fun a => Fin.ext ?_)
  match a with
  | ⟨0, _⟩ => show win0_0.index t (0 : Fin 2) * 1024 + 1 * r.val = t.val * 1024 + r.val; omega
  | ⟨1, _⟩ => show win0_0.index t (1 : Fin 2) * 4096 + 1 * k.val = k.val; omega

theorem blk1 (c : Dev nD) (t : Fin cfg0.N) (k : Fin 4096) (e : Fin 256) :
    @Eq EReal (iblk m c 1 t (ix2 k e)) (gateW m c (ix3 0 k (colW t e))) := by
  refine Eq.trans ?_ (weights_apply (gateW m c) k (colW t e))
  rw [← V_gate m c]
  obtain ⟨e0, e1⟩ := at1 t
  show V m c main_v1 (((cfg0.win 1).blk t).view.emb (ix2 k e)) = V m c main_v1 _
  refine congrArg _ (funext fun a => Fin.ext ?_)
  match a with
  | ⟨0, _⟩ => show win0_1.index t (0 : Fin 2) * 4096 + 1 * k.val = k.val; omega
  | ⟨1, _⟩ => show win0_1.index t (1 : Fin 2) * 256 + 1 * e.val = 10752 + e.val; omega

theorem blk2 (c : Dev nD) (t : Fin cfg0.N) (k : Fin 4096) (e : Fin 256) :
    @Eq EReal (iblk m c 2 t (ix2 k e)) (upW m c (ix3 0 k (colW t e))) := by
  refine Eq.trans ?_ (weights_apply (upW m c) k (colW t e))
  rw [← V_up m c]
  obtain ⟨e0, e1⟩ := at2 t
  show V m c main_v3 (((cfg0.win 2).blk t).view.emb (ix2 k e)) = V m c main_v3 _
  refine congrArg _ (funext fun a => Fin.ext ?_)
  match a with
  | ⟨0, _⟩ => show win0_2.index t (0 : Fin 2) * 4096 + 1 * k.val = k.val; omega
  | ⟨1, _⟩ => show win0_2.index t (1 : Fin 2) * 256 + 1 * e.val = 10752 + e.val; omega

theorem place (t : Fin cfg0.N) (r : Fin 1024) (e : Fin 256) : ((cfg0.win 3).blk t).view.emb (ix2 r e) = ix2 (rowAt t r) (colAt t e) := by
  obtain ⟨e0, e1⟩ := at3 t
  refine funext fun a => Fin.ext ?_
  match a with
  | ⟨0, _⟩ => show win0_3.index t (0 : Fin 2) * 1024 + 1 * r.val = t.val * 1024 + r.val; omega
  | ⟨1, _⟩ => show win0_3.index t (1 : Fin 2) * 256 + 1 * e.val = e.val; omega

/-- Every index of the result is in some point's block. -/
theorem covered (i : S24576x256.Idx) : ∃ t : Fin cfg0.N, (cfg0.win 3).flush t = true ∧ i ∈ ((cfg0.win 3).blk t).view.set := by
  have h : cfg0.N = 24 := N_0
  have h0 : (i 0).val < 24576 := (i 0).isLt
  have h1 : (i 1).val < 256 := (i 1).isLt
  let t : Fin cfg0.N := ⟨(i 0).val / 1024, by omega⟩
  refine ⟨t, flush0_3 _, ?_⟩
  have hm := ((cfg0.win 3).blk t).view.emb_mem_set (ix2 (⟨(i 0).val % 1024, by omega⟩ : Fin 1024) (⟨(i 1).val % 256, by omega⟩ : Fin 256))
  rw [place] at hm
  have hi : i = ix2 (rowAt t ⟨(i 0).val % 1024, by omega⟩) (colAt t ⟨(i 1).val % 256, by omega⟩) := by
    refine funext fun a => Fin.ext ?_
    match a with
    | ⟨0, _⟩ => show (i 0).val = (i 0).val / 1024 * 1024 + (i 0).val % 1024; omega
    | ⟨1, _⟩ => show (i 1).val = (i 1).val % 256; omega
  rw [hi]
  exact hm

/-- The reference's result of a memory. -/
abbrev whole (c : Dev nD) : Vec Ideal S24576x256 .bf16 := LastRef.result (stream m c) (gateW m c) (upW m c)

/-- An entry of a point's block. -/
theorem point (x : Vec Ideal S24576x4096 .bf16) (wg wu : Vec Ideal S1x4096x11008 .f32)
    (x0 : Vec Ideal S1024x4096 .bf16) (w v : Vec Ideal S4096x256 .bf16) (r : Fin 1024) (e : Fin 256) (R : Fin 24576) (E : Fin 256)
    (e0 : ∀ k : Fin 4096, x0 (ix2 r k) = x (ix2 R k))
    (e1 : ∀ k : Fin 4096, @Eq EReal (w (ix2 k e)) (wg (ix3 0 k (⟨10752 + E.val, by omega⟩ : Fin 11008))))
    (e2 : ∀ k : Fin 4096, @Eq EReal (v (ix2 k e)) (wu (ix3 0 k (⟨10752 + E.val, by omega⟩ : Fin 11008)))) :
    gated (prod x0 w r e) (prod x0 v r e) = LastRef.result x wg wu (ix2 R E) := by
  refine Eq.trans ?_ (LastRef.result_apply x wg wu R E).symm
  exact congrArg₂ gated (Finset.sum_congr rfl fun k _ => congrArg₂ (· * ·) (e0 k) (e1 k)) (Finset.sum_congr rfl fun k _ => congrArg₂ (· * ·) (e0 k) (e2 k))

/-- Reading a point's block of the result array. -/
theorem cut_read (t : Fin cfg0.N) (X : Vec Ideal S1024x256 .bf16) (Y : Vec Ideal S24576x256 .bf16)
    (h : ∀ (r : Fin 1024) (e : Fin 256), @Eq EReal (X (ix2 r e)) (Y (ix2 (rowAt t r) (colAt t e)))) :
    (cfg0.win 3).cut (grid0.coords t) X = ((cfg0.win 3).blk t).view.read (Elt Ideal) Y := by
  funext y
  idx_vars y
  show X (ix2 y0 y1) = Y (((cfg0.win 3).blk t).view.emb (ix2 y0 y1))
  rw [place]
  exact h y0 y1

/-- The array the kernel leaves is the reference's result. -/
theorem array_eq (c : Dev nD) : (dats m 0 c).arrAt 3 cfg0.N = whole m c := by
  refine (dats m 0 c).arrAt_eq_of_cover 3 (whole m c) (fun t _ => ?_) covered
  rw [Cert.LastIdeal.Value.flushed3 m c t]
  refine cut_read t _ _ fun r e => ?_
  refine (out _ _ _ r e).trans ?_
  exact point _ _ _ _ _ _ r e (rowAt t r) (colAt t e) (blk0 m c t r) (fun k => blk1 m c t k e) (fun k => blk2 m c t k e)

end Cert.Proof.Last

end
-- ==== Proof.Turned.lean ====
/- The rotary turn of a head: the first sixteen lanes with the next sixteen, the others as they are. -/
module

public import Idealize.ShloMosaic.PureOps.Ideal
public import Idealize.ShloMosaic.Lib.Pipeline.ValueKit
public import Idealize.ShloMosaic.Lib.Pointwise

@[expose] public section

noncomputable section

namespace Cert.Proof

open Idealize.ShloMosaic

/-- A lane of a head after the turn by the cosines `c` and the sines `s`. -/
def turnedAt (x : Fin 128 → EReal) (c s : Fin 16 → EReal) (e : Fin 128) : EReal :=
  if h : e.val < 16 then x e * c ⟨e.val, h⟩ - x ⟨e.val + 16, by omega⟩ * s ⟨e.val, h⟩
  else if h' : e.val < 32 then x ⟨e.val - 16, by omega⟩ * s ⟨e.val - 16, by omega⟩ + x e * c ⟨e.val - 16, by omega⟩
  else x e

/-- The cosines over the lanes of a head: twice the sixteen, then ones. -/
def cosLane (c : Fin 16 → EReal) (e : Fin 128) : EReal :=
  if h : e.val < 16 then c ⟨e.val, h⟩ else if h' : e.val < 32 then c ⟨e.val - 16, by omega⟩ else 1

/-- The sines of the lower lanes, negated. -/
def lowLane (s : Fin 16 → EReal) (e : Fin 128) : EReal :=
  if h : e.val < 16 then -s ⟨e.val, h⟩ else 0

/-- The sines of the upper lanes. -/
def highLane (s : Fin 16 → EReal) (e : Fin 128) : EReal :=
  if e.val < 16 then 0 else if h' : e.val < 32 then s ⟨e.val - 16, by omega⟩ else 0

/-- The turn as three products with the lanes rotated. -/
theorem three_products (x : Fin 128 → EReal) (c s : Fin 16 → EReal) (e : Fin 128) :
    x e * cosLane c e + x ⟨(e.val + 16) % 128, Nat.mod_lt _ (by decide)⟩ * lowLane s e + x ⟨(e.val + 112) % 128, Nat.mod_lt _ (by decide)⟩ * highLane s e
      = turnedAt x c s e := by
  unfold cosLane lowLane highLane turnedAt
  by_cases h : e.val < 16
  · have e1 : (⟨(e.val + 16) % 128, Nat.mod_lt _ (by decide)⟩ : Fin 128) = ⟨e.val + 16, by omega⟩ := Fin.ext (by show (e.val + 16) % 128 = e.val + 16; omega)
    rw [dif_pos h, dif_pos h, if_pos h, dif_pos h, e1, mul_zero, add_zero, mul_neg, sub_eq_add_neg]
  · by_cases h' : e.val < 32
    · have e2 : (⟨(e.val + 112) % 128, Nat.mod_lt _ (by decide)⟩ : Fin 128) = ⟨e.val - 16, by omega⟩ := Fin.ext (by show (e.val + 112) % 128 = e.val - 16; omega)
      rw [dif_neg h, dif_neg h, if_neg h, dif_neg h, dif_pos h', dif_pos h', dif_pos h', e2, mul_zero, add_zero, add_comm]
    · rw [dif_neg h, dif_neg h, if_neg h, dif_neg h, dif_neg h', dif_neg h', dif_neg h', mul_zero, mul_zero, add_zero, add_zero, mul_one]

/-- A factor that is neither negative nor +∞ comes out of the turn. -/
theorem turned_scaled (x : Fin 128 → EReal) (c s : Fin 16 → EReal) (k : EReal) (h0 : 0 ≤ k) (h1 : k ≠ ⊤) (e : Fin 128) :
    turnedAt (fun e => x e * k) c s e = turnedAt x c s e * k := by
  unfold turnedAt
  by_cases h : e.val < 16
  · rw [dif_pos h, dif_pos h, sub_eq_add_neg, sub_eq_add_neg, EReal.right_distrib_of_nonneg_of_ne_top h0 h1, mul_right_comm, neg_mul,
      mul_right_comm (x ⟨e.val + 16, by omega⟩)]
  · by_cases h' : e.val < 32
    · rw [dif_neg h, dif_neg h, dif_pos h', dif_pos h', EReal.right_distrib_of_nonneg_of_ne_top h0 h1, mul_right_comm, mul_right_comm (x e)]
    · rw [dif_neg h, dif_neg h, dif_neg h', dif_neg h']

/-- The scale of the queries of the differential attention is neither negative nor +∞. -/
theorem scale_range : (0 : EReal) ≤ Ideal.ofBits .f32 0x3E0293EE#32 ∧ (Ideal.ofBits .f32 0x3E0293EE#32 : EReal) ≠ ⊤ := by
  have h : ∃ u : ℝ, 0 < u ∧ (Ideal.ofBits .f32 0x3E0293EE#32 : EReal) = (u : EReal) := by
    show ∃ u : ℝ, 0 < u ∧ Ideal.ieee 8 23 0x3E0293EE#32 = (u : EReal)
    unfold Ideal.ieee
    simp
    exact ⟨_, by positivity, (EReal.coe_mul _ _).symm⟩
  obtain ⟨u, hu, e⟩ := h
  rw [e]
  exact ⟨by exact_mod_cast hu.le, EReal.coe_ne_top _⟩

theorem word_one : (Ideal.ofBits .f32 0x3F800000#32 : EReal) = 1 := by
  show Ideal.ieee 8 23 0x3F800000#32 = _
  unfold Ideal.ieee
  simp
  rw [← EReal.coe_mul]
  norm_num

end Cert.Proof

end
-- ==== Proof.ProjBlock.lean ====
/- What a grid point of the input projection leaves of its block. -/
module

public import proofs.«01_k».proof.Proof.Gen.ProjIdeal.Value
public import proofs.«01_k».proof.Proof.Gated
public import proofs.«01_k».proof.Proof.Turned
public import Idealize.ShloMosaic.Lib.KernelVsHost
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.Proj

open Cert.ProjIdeal Cert.ProjIdeal.Gen
open Idealize.ShloMosaic Idealize.ShloMosaic.TcCoe

variable (x : Vec Ideal S1024x4096 .bf16) (w : Vec Ideal S4096x1024 .bf16) (k : Vec Ideal S1x1024 .f32) (s co lo hi : Vec Ideal S1024x128 .f32)

/-- A head of a pair: its lanes of the product of blocks, times the columns' scales and the rows' roots. -/
abbrev even (u : Vec Ideal S4096x256 .bf16) (l : Vec Ideal S1x256 .f32) : Vec Ideal S1024x128 .f32 :=
  mulf (F := Ideal) (φ := .f32) (extractStridedSlice S1024x128 ![0, 0] (k0_pay31 x u l) slices_S1024x256_o0_0_S1024x128) s
abbrev odd (u : Vec Ideal S4096x256 .bf16) (l : Vec Ideal S1x256 .f32) : Vec Ideal S1024x128 .f32 :=
  mulf (F := Ideal) (φ := .f32) (extractStridedSlice S1024x128 ![0, 128] (k0_pay31 x u l) slices_S1024x256_o0_128_S1024x128) s

/-- A head stored as it is. -/
def kept (y : Vec Ideal S1024x128 .f32) : Vec Ideal S1x1024x128 .bf16 :=
  shapeCast S1x1024x128 (truncf (F := Ideal) (φ := .f32) .bf16 y bitsLt_bf16_f32) shapeCasts_S1024x128_S1x1024x128

/-- A head stored after its turn. -/
def turned (y : Vec Ideal S1024x128 .f32) : Vec Ideal S1x1024x128 .bf16 :=
  kept (addf (F := Ideal) (φ := .f32) (addf (F := Ideal) (φ := .f32) (mulf (F := Ideal) (φ := .f32) y (shapeCast S1024x128 co shapeCasts_S1024x128_S1024x128))
    (mulf (F := Ideal) (φ := .f32) (dynamicRotate 1 112#32 none y rotates_S1024x128_d1) (shapeCast S1024x128 lo shapeCasts_S1024x128_S1024x128)))
    (mulf (F := Ideal) (φ := .f32) (dynamicRotate 1 16#32 none y rotates_S1024x128_d1) (shapeCast S1024x128 hi shapeCasts_S1024x128_S1024x128)))

theorem even_apply (u : Vec Ideal S4096x256 .bf16) (l : Vec Ideal S1x256 .f32) (r : Fin 1024) (e : Fin 128) :
    @Eq EReal (even x s u l (ix2 r e)) ((∑ j : Fin 4096, (x (ix2 r j) : EReal) * u (ix2 j (⟨e.val, by omega⟩ : Fin 256))) * l (ix2 0 (⟨e.val, by omega⟩ : Fin 256)) * s (ix2 r e)) := by
  unfold even k0_pay31 k0_pay30
  pointwise

theorem odd_apply (u : Vec Ideal S4096x256 .bf16) (l : Vec Ideal S1x256 .f32) (r : Fin 1024) (e : Fin 128) :
    @Eq EReal (odd x s u l (ix2 r e)) ((∑ j : Fin 4096, (x (ix2 r j) : EReal) * u (ix2 j (⟨128 + e.val, by omega⟩ : Fin 256))) * l (ix2 0 (⟨128 + e.val, by omega⟩ : Fin 256)) * s (ix2 r e)) := by
  unfold odd k0_pay31 k0_pay30
  pointwise

theorem kept_apply (y : Vec Ideal S1024x128 .f32) (a : Fin 1) (r : Fin 1024) (e : Fin 128) : @Eq EReal (kept y (ix3 a r e)) (y (ix2 r e)) := by
  unfold kept
  pointwise

theorem up_apply (y : Vec Ideal S1024x128 .f32) (r : Fin 1024) (e : Fin 128) :
    dynamicRotate 1 112#32 none y rotates_S1024x128_d1 (ix2 r e) = y (ix2 r (⟨(e.val + 16) % 128, Nat.mod_lt _ (by decide)⟩ : Fin 128)) :=
  dynamicRotate_apply 1 112#32 y rotates_S1024x128_d1 (ix2 r e) (ix2 r (⟨(e.val + 16) % 128, Nat.mod_lt _ (by decide)⟩ : Fin 128)) fun b => by
    match b with
    | ⟨0, _⟩ => rfl
    | ⟨1, _⟩ => show (e.val + 16) % 128 = (e.val + 128 - 112 % 128) % 128; omega

theorem down_apply (y : Vec Ideal S1024x128 .f32) (r : Fin 1024) (e : Fin 128) :
    dynamicRotate 1 16#32 none y rotates_S1024x128_d1 (ix2 r e) = y (ix2 r (⟨(e.val + 112) % 128, Nat.mod_lt _ (by decide)⟩ : Fin 128)) :=
  dynamicRotate_apply 1 16#32 y rotates_S1024x128_d1 (ix2 r e) (ix2 r (⟨(e.val + 112) % 128, Nat.mod_lt _ (by decide)⟩ : Fin 128)) fun b => by
    match b with
    | ⟨0, _⟩ => rfl
    | ⟨1, _⟩ => show (e.val + 112) % 128 = (e.val + 128 - 16 % 128) % 128; omega

theorem turned_apply (y : Vec Ideal S1024x128 .f32) (a : Fin 1) (r : Fin 1024) (e : Fin 128) :
    @Eq EReal (turned co lo hi y (ix3 a r e)) ((y (ix2 r e) : EReal) * co (ix2 r e) + (y (ix2 r (⟨(e.val + 16) % 128, Nat.mod_lt _ (by decide)⟩ : Fin 128)) : EReal) * lo (ix2 r e)
      + (y (ix2 r (⟨(e.val + 112) % 128, Nat.mod_lt _ (by decide)⟩ : Fin 128)) : EReal) * hi (ix2 r e)) := by
  rw [← up_apply y, ← down_apply y]
  unfold turned
  refine (kept_apply _ a r e).trans ?_
  generalize dynamicRotate 1 112#32 none y rotates_S1024x128_d1 = p
  generalize dynamicRotate 1 16#32 none y rotates_S1024x128_d1 = q
  pointwise

theorem root_piece (r : Fin 1024) (e : Fin 128) : @Eq EReal (k0_pay1 x (ix2 r e)) (rootOf fun k => x (ix2 r k)) := by
  unfold k0_pay1
  pointwise
  rfl

variable (c : Dev nD) (i : grid0.Coords) (arg2 : Memref sig .tc .vmem S1024x4096 .bf16) (harg2 : arg2.IsWhole) (arg3 : Memref sig .tc .vmem S4096x1024 .bf16) (harg3 : arg3.IsWhole) (arg4 : Memref sig .tc .vmem S1x1024 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S8x1024x128 .bf16) (harg8 : arg8.IsWhole) (arg9 : Memref sig .tc .vmem S1024x128 .f32) (harg9 : arg9.IsWhole)

theorem z4096 : (![0, 0] : Fin S1024x4096.rank → Nat) = fun _ => 0 := funext fun a => by fin_cases a <;> rfl
theorem z128 : (![0, 0] : Fin S1024x128.rank → Nat) = fun _ => 0 := funext fun a => by fin_cases a <;> rfl

/-- A load of a whole buffer. -/
theorem read_x : View.readAt (Elt Ideal) arg2.view (Rect.unit (s := S1024x4096) ![0, 0] S1024x4096.size inb_S1024x4096_S1024x4096_0_0).toLoadRect (harg2.unread x) = x := by
  rw [View.readAt_eq_ld, harg2.read_unread, View.ld_unit_zero z4096]

theorem read_t (a : Memref sig .tc .vmem S1024x128 .f32) (ha : a.IsWhole) (t : Vec Ideal S1024x128 .f32) : View.readAt (Elt Ideal) a.view (Rect.unit (s := S1024x128) ![0, 0] S1024x128.size inb_S1024x128_S1024x128_0_0).toLoadRect (ha.unread t) = t := by
  rw [View.readAt_eq_ld, ha.read_unread, View.ld_unit_zero z128]

/-- A load of the whole scratch after a store to the whole of it. -/
theorem read_root (P : Vec Ideal S1024x128 .f32) : arg9.view.readCov [(⟨Rect.unit (s := S1024x128) ![0, 0] S1024x128.size inb_S1024x128_S1024x128_0_0, P⟩ : View.Piece (Elt Ideal) S1024x128 .f32)]
    (Rect.unit (s := S1024x128) ![0, 0] S1024x128.size inb_S1024x128_S1024x128_0_0).toLoadRect = P :=
  View.readCov_unit_zero arg9.view z128 inb_S1024x128_S1024x128_0_0 P

/-- The reciprocal roots of a block's rows, on every lane. -/
abbrev roots : Vec Ideal S1024x128 .f32 := k0_pay1 x

theorem scratch_A (hc0 : cond0_0 i) (hc1 : ¬cond0_1 i) (hc2 : cond0_2 i) :
    sout0_A_0 c i arg2 harg2 arg3 harg3 arg4 harg4 arg5 harg5 arg6 harg6 arg7 harg7 arg8 harg8 arg9 harg9 hc0 hc1 hc2 x w k co lo hi = roots x := by
  unfold sout0_A_0 kernelRun0_A
  rw [VS0_0.read_writes_junk_eq_canon]
  show View.canon [_] = _
  sl_unfold_words
  rw [View.canon_unit_zero z128, read_x]

/-- A lane of a head of the block: the product, the column's scale, the row's root. -/
def lane (r : Fin 1024) (q : Fin 8) (e : Fin 128) : EReal :=
  (∑ j : Fin 4096, (x (ix2 r j) : EReal) * w (ix2 j (⟨q.val * 128 + e.val, by omega⟩ : Fin 1024))) * k (ix2 0 (⟨q.val * 128 + e.val, by omega⟩ : Fin 1024)) * s (ix2 r e)

/-- A load of 256 columns of the weights and of the scales. -/
abbrev loadW (o : Nat) (h : ∀ a, (![0, o] : Fin 2 → Nat) a + S4096x256.size a ≤ S4096x1024.size a) : Vec Ideal S4096x256 .bf16 :=
  View.readAt (Elt Ideal) arg3.view (Rect.unit (s := S4096x1024) ![0, o] S4096x256.size h).toLoadRect (harg3.unread w)
abbrev loadK (o : Nat) (h : ∀ a, (![0, o] : Fin 2 → Nat) a + S1x256.size a ≤ S1x1024.size a) : Vec Ideal S1x256 .f32 :=
  View.readAt (Elt Ideal) arg4.view (Rect.unit (s := S1x1024) ![0, o] S1x256.size h).toLoadRect (harg4.unread k)

theorem loadW_apply (o : Nat) (ho : o ≤ 768) (h) (j : Fin 4096) (e : Fin 256) :
    loadW w arg3 harg3 o h (ix2 j e) = w (ix2 j (⟨o + e.val, by omega⟩ : Fin 1024)) := by
  unfold loadW
  rw [View.readAt_eq_ld, harg3.read_unread]
  exact View.ld_unit_apply_of w _ _ _ _ _ fun a => by
    match a with
    | ⟨0, _⟩ => exact (Nat.zero_add _).symm
    | ⟨1, _⟩ => rfl

theorem loadK_apply (o : Nat) (ho : o ≤ 768) (h) (j : Fin 1) (e : Fin 256) :
    loadK k arg4 harg4 o h (ix2 j e) = k (ix2 j (⟨o + e.val, by omega⟩ : Fin 1024)) := by
  unfold loadK
  rw [View.readAt_eq_ld, harg4.read_unread]
  exact View.ld_unit_apply_of k _ _ _ _ _ fun a => by
    match a with
    | ⟨0, _⟩ => exact (Nat.zero_add _).symm
    | ⟨1, _⟩ => rfl

/-- The heads of a pair are the block's heads. -/
theorem even_lane (o : Nat) (ho : o ≤ 768) (h) (h') (q : Fin 8) (hq : q.val * 128 = o) (r : Fin 1024) (e : Fin 128) :
    @Eq EReal (even x s (loadW w arg3 harg3 o h) (loadK k arg4 harg4 o h') (ix2 r e)) (lane x w k s r q e) := by
  refine (even_apply x s _ _ r e).trans ?_
  unfold lane
  have e1 : (⟨o + e.val, by omega⟩ : Fin 1024) = ⟨q.val * 128 + e.val, by omega⟩ := Fin.ext (by show o + e.val = q.val * 128 + e.val; omega)
  refine congrArg (fun z : EReal => z * s (ix2 r e)) (congrArg₂ (· * ·) (Finset.sum_congr rfl fun j _ => congrArg (fun z : EReal => (x (ix2 r j) : EReal) * z) ?_) ?_)
  · refine (loadW_apply w arg3 harg3 o ho h j ⟨e.val, by omega⟩).trans ?_
    exact congrArg (fun z => w (ix2 j z)) e1
  · refine (loadK_apply k arg4 harg4 o ho h' 0 ⟨e.val, by omega⟩).trans ?_
    exact congrArg (fun z => k (ix2 0 z)) e1

theorem odd_lane (o : Nat) (ho : o ≤ 768) (h) (h') (q : Fin 8) (hq : q.val * 128 = o + 128) (r : Fin 1024) (e : Fin 128) :
    @Eq EReal (odd x s (loadW w arg3 harg3 o h) (loadK k arg4 harg4 o h') (ix2 r e)) (lane x w k s r q e) := by
  refine (odd_apply x s _ _ r e).trans ?_
  unfold lane
  have e1 : (⟨o + (128 + e.val), by omega⟩ : Fin 1024) = ⟨q.val * 128 + e.val, by omega⟩ := Fin.ext (by show o + (128 + e.val) = q.val * 128 + e.val; omega)
  refine congrArg (fun z : EReal => z * s (ix2 r e)) (congrArg₂ (· * ·) (Finset.sum_congr rfl fun j _ => congrArg (fun z : EReal => (x (ix2 r j) : EReal) * z) ?_) ?_)
  · refine (loadW_apply w arg3 harg3 o ho h j ⟨128 + e.val, by omega⟩).trans ?_
    exact congrArg (fun z => w (ix2 j z)) e1
  · refine (loadK_apply k arg4 harg4 o ho h' 0 ⟨128 + e.val, by omega⟩).trans ?_
    exact congrArg (fun z => k (ix2 0 z)) e1

/-- A lane of a stored head is the lane of the block's head. -/
theorem kept_lane (y : Vec Ideal S1024x128 .f32) (q : Fin 8) (hy : ∀ (r : Fin 1024) (e : Fin 128), @Eq EReal (y (ix2 r e)) (lane x w k s r q e))
    (z : S1x1024x128.Idx) (r : Fin 1024) (e : Fin 128) (h1 : r.val = (z 1).val) (h2 : e.val = (z 2).val) :
    @Eq EReal (kept y z) (lane x w k s r q e) := by
  have e1 : z = ix3 (z 0) r e := funext fun a => by
    match a with
    | ⟨0, _⟩ => rfl
    | ⟨1, _⟩ => exact Fin.ext h1.symm
    | ⟨2, _⟩ => exact Fin.ext h2.symm
  rw [e1]
  exact (kept_apply y _ r e).trans (hy r e)

/-- A lane of the block's head, turned by the tables. -/
def spun (r : Fin 1024) (q : Fin 8) (e : Fin 128) : EReal :=
  lane x w k s r q e * co (ix2 r e) + lane x w k s r q ⟨(e.val + 16) % 128, Nat.mod_lt _ (by decide)⟩ * lo (ix2 r e)
    + lane x w k s r q ⟨(e.val + 112) % 128, Nat.mod_lt _ (by decide)⟩ * hi (ix2 r e)

theorem turned_lane (y : Vec Ideal S1024x128 .f32) (q : Fin 8) (hy : ∀ (r : Fin 1024) (e : Fin 128), @Eq EReal (y (ix2 r e)) (lane x w k s r q e))
    (z : S1x1024x128.Idx) (r : Fin 1024) (e : Fin 128) (h1 : r.val = (z 1).val) (h2 : e.val = (z 2).val) :
    @Eq EReal (turned co lo hi y z) (spun x w k s co lo hi r q e) := by
  have e1 : z = ix3 (z 0) r e := funext fun a => by
    match a with
    | ⟨0, _⟩ => rfl
    | ⟨1, _⟩ => exact Fin.ext h1.symm
    | ⟨2, _⟩ => exact Fin.ext h2.symm
  rw [e1]
  refine (turned_apply co lo hi y _ r e).trans ?_
  unfold spun
  rw [hy, hy, hy]

theorem out_B (hc0 : ¬cond0_0 i) (hc1 : ¬cond0_1 i) (hc2 : cond0_2 i) (q : Fin 8) (r : Fin 1024) (e : Fin 128) :
    @Eq EReal (out0_B_6 c i arg2 harg2 arg3 harg3 arg4 harg4 arg5 harg5 arg6 harg6 arg7 harg7 arg8 harg8 arg9 harg9 hc0 hc1 hc2 x w k co lo hi s (ix3 q r e))
      (lane x w k s r q e) := by
  unfold out0_B_6 kernelRun0_B
  rw [VO0_6.read_writes_junk_eq_canon]
  canon_tiles y h
  · try sl_unfold_words
    rw [read_x, read_t]
    have hq : q = (⟨7, by decide⟩ : Fin 8) := Fin.ext (by have : q.val = 7 + (y 0).val := h0; show q.val = 7; omega)
    rw [hq]
    exact kept_lane x w k s (odd x s (loadW w arg3 harg3 768 inb_S4096x1024_S4096x256_0_768) (loadK k arg4 harg4 768 inb_S1x1024_S1x256_0_768)) _
      (fun r e => odd_lane x w k s arg3 harg3 arg4 harg4 768 (by decide) _ _ _ rfl r e) y r e h1 h2
  · try sl_unfold_words
    rw [read_x, read_t]
    have hq : q = (⟨6, by decide⟩ : Fin 8) := Fin.ext (by have : q.val = 6 + (y 0).val := h0; show q.val = 6; omega)
    rw [hq]
    exact kept_lane x w k s (even x s (loadW w arg3 harg3 768 inb_S4096x1024_S4096x256_0_768) (loadK k arg4 harg4 768 inb_S1x1024_S1x256_0_768)) _
      (fun r e => even_lane x w k s arg3 harg3 arg4 harg4 768 (by decide) _ _ _ rfl r e) y r e h1 h2
  · try sl_unfold_words
    rw [read_x, read_t]
    have hq : q = (⟨5, by decide⟩ : Fin 8) := Fin.ext (by have : q.val = 5 + (y 0).val := h0; show q.val = 5; omega)
    rw [hq]
    exact kept_lane x w k s (odd x s (loadW w arg3 harg3 512 inb_S4096x1024_S4096x256_0_512) (loadK k arg4 harg4 512 inb_S1x1024_S1x256_0_512)) _
      (fun r e => odd_lane x w k s arg3 harg3 arg4 harg4 512 (by decide) _ _ _ rfl r e) y r e h1 h2
  · try sl_unfold_words
    rw [read_x, read_t]
    have hq : q = (⟨4, by decide⟩ : Fin 8) := Fin.ext (by have : q.val = 4 + (y 0).val := h0; show q.val = 4; omega)
    rw [hq]
    exact kept_lane x w k s (even x s (loadW w arg3 harg3 512 inb_S4096x1024_S4096x256_0_512) (loadK k arg4 harg4 512 inb_S1x1024_S1x256_0_512)) _
      (fun r e => even_lane x w k s arg3 harg3 arg4 harg4 512 (by decide) _ _ _ rfl r e) y r e h1 h2
  · try sl_unfold_words
    rw [read_x, read_t]
    have hq : q = (⟨3, by decide⟩ : Fin 8) := Fin.ext (by have : q.val = 3 + (y 0).val := h0; show q.val = 3; omega)
    rw [hq]
    exact kept_lane x w k s (odd x s (loadW w arg3 harg3 256 inb_S4096x1024_S4096x256_0_256) (loadK k arg4 harg4 256 inb_S1x1024_S1x256_0_256)) _
      (fun r e => odd_lane x w k s arg3 harg3 arg4 harg4 256 (by decide) _ _ _ rfl r e) y r e h1 h2
  · try sl_unfold_words
    rw [read_x, read_t]
    have hq : q = (⟨2, by decide⟩ : Fin 8) := Fin.ext (by have : q.val = 2 + (y 0).val := h0; show q.val = 2; omega)
    rw [hq]
    exact kept_lane x w k s (even x s (loadW w arg3 harg3 256 inb_S4096x1024_S4096x256_0_256) (loadK k arg4 harg4 256 inb_S1x1024_S1x256_0_256)) _
      (fun r e => even_lane x w k s arg3 harg3 arg4 harg4 256 (by decide) _ _ _ rfl r e) y r e h1 h2
  · try sl_unfold_words
    rw [read_x, read_t]
    have hq : q = (⟨1, by decide⟩ : Fin 8) := Fin.ext (by have : q.val = 1 + (y 0).val := h0; show q.val = 1; omega)
    rw [hq]
    exact kept_lane x w k s (odd x s (loadW w arg3 harg3 0 inb_S4096x1024_S4096x256_0_0) (loadK k arg4 harg4 0 inb_S1x1024_S1x256_0_0)) _
      (fun r e => odd_lane x w k s arg3 harg3 arg4 harg4 0 (by decide) _ _ _ rfl r e) y r e h1 h2
  · try sl_unfold_words
    rw [read_x, read_t]
    have hq : q = (⟨0, by decide⟩ : Fin 8) := Fin.ext (by have : q.val = (y 0).val := h0; show q.val = 0; omega)
    rw [hq]
    exact kept_lane x w k s (even x s (loadW w arg3 harg3 0 inb_S4096x1024_S4096x256_0_0) (loadK k arg4 harg4 0 inb_S1x1024_S1x256_0_0)) _
      (fun r e => even_lane x w k s arg3 harg3 arg4 harg4 0 (by decide) _ _ _ rfl r e) y r e h1 h2

theorem out_A (hc0 : cond0_0 i) (hc1 : ¬cond0_1 i) (hc2 : cond0_2 i) (q : Fin 8) (r : Fin 1024) (e : Fin 128) :
    @Eq EReal (out0_A_6 c i arg2 harg2 arg3 harg3 arg4 harg4 arg5 harg5 arg6 harg6 arg7 harg7 arg8 harg8 arg9 harg9 hc0 hc1 hc2 x w k co lo hi (ix3 q r e))
      (lane x w k (roots x) r q e) := by
  unfold out0_A_6 kernelRun0_A
  rw [VO0_6.read_writes_junk_eq_canon]
  canon_tiles y h
  · try sl_unfold_words
    rw [read_x, read_root]
    have hq : q = (⟨7, by decide⟩ : Fin 8) := Fin.ext (by have : q.val = 7 + (y 0).val := h0; show q.val = 7; omega)
    rw [hq]
    exact kept_lane x w k (roots x) (odd x (roots x) (loadW w arg3 harg3 768 inb_S4096x1024_S4096x256_0_768) (loadK k arg4 harg4 768 inb_S1x1024_S1x256_0_768)) _
      (fun r e => odd_lane x w k (roots x) arg3 harg3 arg4 harg4 768 (by decide) _ _ _ rfl r e) y r e h1 h2
  · try sl_unfold_words
    rw [read_x, read_root]
    have hq : q = (⟨6, by decide⟩ : Fin 8) := Fin.ext (by have : q.val = 6 + (y 0).val := h0; show q.val = 6; omega)
    rw [hq]
    exact kept_lane x w k (roots x) (even x (roots x) (loadW w arg3 harg3 768 inb_S4096x1024_S4096x256_0_768) (loadK k arg4 harg4 768 inb_S1x1024_S1x256_0_768)) _
      (fun r e => even_lane x w k (roots x) arg3 harg3 arg4 harg4 768 (by decide) _ _ _ rfl r e) y r e h1 h2
  · try sl_unfold_words
    rw [read_x, read_root]
    have hq : q = (⟨5, by decide⟩ : Fin 8) := Fin.ext (by have : q.val = 5 + (y 0).val := h0; show q.val = 5; omega)
    rw [hq]
    exact kept_lane x w k (roots x) (odd x (roots x) (loadW w arg3 harg3 512 inb_S4096x1024_S4096x256_0_512) (loadK k arg4 harg4 512 inb_S1x1024_S1x256_0_512)) _
      (fun r e => odd_lane x w k (roots x) arg3 harg3 arg4 harg4 512 (by decide) _ _ _ rfl r e) y r e h1 h2
  · try sl_unfold_words
    rw [read_x, read_root]
    have hq : q = (⟨4, by decide⟩ : Fin 8) := Fin.ext (by have : q.val = 4 + (y 0).val := h0; show q.val = 4; omega)
    rw [hq]
    exact kept_lane x w k (roots x) (even x (roots x) (loadW w arg3 harg3 512 inb_S4096x1024_S4096x256_0_512) (loadK k arg4 harg4 512 inb_S1x1024_S1x256_0_512)) _
      (fun r e => even_lane x w k (roots x) arg3 harg3 arg4 harg4 512 (by decide) _ _ _ rfl r e) y r e h1 h2
  · try sl_unfold_words
    rw [read_x, read_root]
    have hq : q = (⟨3, by decide⟩ : Fin 8) := Fin.ext (by have : q.val = 3 + (y 0).val := h0; show q.val = 3; omega)
    rw [hq]
    exact kept_lane x w k (roots x) (odd x (roots x) (loadW w arg3 harg3 256 inb_S4096x1024_S4096x256_0_256) (loadK k arg4 harg4 256 inb_S1x1024_S1x256_0_256)) _
      (fun r e => odd_lane x w k (roots x) arg3 harg3 arg4 harg4 256 (by decide) _ _ _ rfl r e) y r e h1 h2
  · try sl_unfold_words
    rw [read_x, read_root]
    have hq : q = (⟨2, by decide⟩ : Fin 8) := Fin.ext (by have : q.val = 2 + (y 0).val := h0; show q.val = 2; omega)
    rw [hq]
    exact kept_lane x w k (roots x) (even x (roots x) (loadW w arg3 harg3 256 inb_S4096x1024_S4096x256_0_256) (loadK k arg4 harg4 256 inb_S1x1024_S1x256_0_256)) _
      (fun r e => even_lane x w k (roots x) arg3 harg3 arg4 harg4 256 (by decide) _ _ _ rfl r e) y r e h1 h2
  · try sl_unfold_words
    rw [read_x, read_root]
    have hq : q = (⟨1, by decide⟩ : Fin 8) := Fin.ext (by have : q.val = 1 + (y 0).val := h0; show q.val = 1; omega)
    rw [hq]
    exact kept_lane x w k (roots x) (odd x (roots x) (loadW w arg3 harg3 0 inb_S4096x1024_S4096x256_0_0) (loadK k arg4 harg4 0 inb_S1x1024_S1x256_0_0)) _
      (fun r e => odd_lane x w k (roots x) arg3 harg3 arg4 harg4 0 (by decide) _ _ _ rfl r e) y r e h1 h2
  · try sl_unfold_words
    rw [read_x, read_root]
    have hq : q = (⟨0, by decide⟩ : Fin 8) := Fin.ext (by have : q.val = (y 0).val := h0; show q.val = 0; omega)
    rw [hq]
    exact kept_lane x w k (roots x) (even x (roots x) (loadW w arg3 harg3 0 inb_S4096x1024_S4096x256_0_0) (loadK k arg4 harg4 0 inb_S1x1024_S1x256_0_0)) _
      (fun r e => even_lane x w k (roots x) arg3 harg3 arg4 harg4 0 (by decide) _ _ _ rfl r e) y r e h1 h2

theorem out_C (hc0 : ¬cond0_0 i) (hc1 : cond0_1 i) (hc2 : ¬cond0_2 i) (q : Fin 8) (r : Fin 1024) (e : Fin 128) :
    @Eq EReal (out0_C_6 c i arg2 harg2 arg3 harg3 arg4 harg4 arg5 harg5 arg6 harg6 arg7 harg7 arg8 harg8 arg9 harg9 hc0 hc1 hc2 x w k co lo hi s (ix3 q r e))
      (spun x w k s co lo hi r q e) := by
  unfold out0_C_6 kernelRun0_C
  rw [VO0_6.read_writes_junk_eq_canon]
  canon_tiles y h
  · try sl_unfold_words
    rw [read_x, read_t, read_t, read_t, read_t]
    have hq : q = (⟨7, by decide⟩ : Fin 8) := Fin.ext (by have : q.val = 7 + (y 0).val := h0; show q.val = 7; omega)
    rw [hq]
    exact turned_lane x w k s co lo hi (odd x s (loadW w arg3 harg3 768 inb_S4096x1024_S4096x256_0_768) (loadK k arg4 harg4 768 inb_S1x1024_S1x256_0_768)) _
      (fun r e => odd_lane x w k s arg3 harg3 arg4 harg4 768 (by decide) _ _ _ rfl r e) y r e h1 h2
  · try sl_unfold_words
    rw [read_x, read_t, read_t, read_t, read_t]
    have hq : q = (⟨6, by decide⟩ : Fin 8) := Fin.ext (by have : q.val = 6 + (y 0).val := h0; show q.val = 6; omega)
    rw [hq]
    exact turned_lane x w k s co lo hi (even x s (loadW w arg3 harg3 768 inb_S4096x1024_S4096x256_0_768) (loadK k arg4 harg4 768 inb_S1x1024_S1x256_0_768)) _
      (fun r e => even_lane x w k s arg3 harg3 arg4 harg4 768 (by decide) _ _ _ rfl r e) y r e h1 h2
  · try sl_unfold_words
    rw [read_x, read_t, read_t, read_t, read_t]
    have hq : q = (⟨5, by decide⟩ : Fin 8) := Fin.ext (by have : q.val = 5 + (y 0).val := h0; show q.val = 5; omega)
    rw [hq]
    exact turned_lane x w k s co lo hi (odd x s (loadW w arg3 harg3 512 inb_S4096x1024_S4096x256_0_512) (loadK k arg4 harg4 512 inb_S1x1024_S1x256_0_512)) _
      (fun r e => odd_lane x w k s arg3 harg3 arg4 harg4 512 (by decide) _ _ _ rfl r e) y r e h1 h2
  · try sl_unfold_words
    rw [read_x, read_t, read_t, read_t, read_t]
    have hq : q = (⟨4, by decide⟩ : Fin 8) := Fin.ext (by have : q.val = 4 + (y 0).val := h0; show q.val = 4; omega)
    rw [hq]
    exact turned_lane x w k s co lo hi (even x s (loadW w arg3 harg3 512 inb_S4096x1024_S4096x256_0_512) (loadK k arg4 harg4 512 inb_S1x1024_S1x256_0_512)) _
      (fun r e => even_lane x w k s arg3 harg3 arg4 harg4 512 (by decide) _ _ _ rfl r e) y r e h1 h2
  · try sl_unfold_words
    rw [read_x, read_t, read_t, read_t, read_t]
    have hq : q = (⟨3, by decide⟩ : Fin 8) := Fin.ext (by have : q.val = 3 + (y 0).val := h0; show q.val = 3; omega)
    rw [hq]
    exact turned_lane x w k s co lo hi (odd x s (loadW w arg3 harg3 256 inb_S4096x1024_S4096x256_0_256) (loadK k arg4 harg4 256 inb_S1x1024_S1x256_0_256)) _
      (fun r e => odd_lane x w k s arg3 harg3 arg4 harg4 256 (by decide) _ _ _ rfl r e) y r e h1 h2
  · try sl_unfold_words
    rw [read_x, read_t, read_t, read_t, read_t]
    have hq : q = (⟨2, by decide⟩ : Fin 8) := Fin.ext (by have : q.val = 2 + (y 0).val := h0; show q.val = 2; omega)
    rw [hq]
    exact turned_lane x w k s co lo hi (even x s (loadW w arg3 harg3 256 inb_S4096x1024_S4096x256_0_256) (loadK k arg4 harg4 256 inb_S1x1024_S1x256_0_256)) _
      (fun r e => even_lane x w k s arg3 harg3 arg4 harg4 256 (by decide) _ _ _ rfl r e) y r e h1 h2
  · try sl_unfold_words
    rw [read_x, read_t, read_t, read_t, read_t]
    have hq : q = (⟨1, by decide⟩ : Fin 8) := Fin.ext (by have : q.val = 1 + (y 0).val := h0; show q.val = 1; omega)
    rw [hq]
    exact turned_lane x w k s co lo hi (odd x s (loadW w arg3 harg3 0 inb_S4096x1024_S4096x256_0_0) (loadK k arg4 harg4 0 inb_S1x1024_S1x256_0_0)) _
      (fun r e => odd_lane x w k s arg3 harg3 arg4 harg4 0 (by decide) _ _ _ rfl r e) y r e h1 h2
  · try sl_unfold_words
    rw [read_x, read_t, read_t, read_t, read_t]
    have hq : q = (⟨0, by decide⟩ : Fin 8) := Fin.ext (by have : q.val = (y 0).val := h0; show q.val = 0; omega)
    rw [hq]
    exact turned_lane x w k s co lo hi (even x s (loadW w arg3 harg3 0 inb_S4096x1024_S4096x256_0_0) (loadK k arg4 harg4 0 inb_S1x1024_S1x256_0_0)) _
      (fun r e => even_lane x w k s arg3 harg3 arg4 harg4 0 (by decide) _ _ _ rfl r e) y r e h1 h2

end Cert.Proof.Proj

end
-- ==== Proof.ProjRef.lean ====
/- The reference of the input projection: the 96 heads, the scales, the rotary turn; and an entry of it. -/
module

public import proofs.«01_k».proof.Proof.Gen.ProjReferenceIdeal.Run
public import proofs.«01_k».proof.Proof.Gated
public import proofs.«01_k».proof.Proof.Turned
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.ProjRef

open Cert.ProjReferenceIdeal Cert.ProjReferenceIdeal.Gen
open Idealize.ShloMosaic Idealize.ShloMosaic.TcCoe

/-- The normed residual stream. -/
def normed (h : Vec Ideal S24576x4096 .f32) (g : Vec Ideal S1x4096 .f32) : Vec Ideal S24576x4096 .f32 :=
  mulf (F := Ideal) (φ := .f32) (mulf (F := Ideal) (φ := .f32) h (broadcastInDim S24576x4096 ![0, 1] bcast_S24576x1_S24576x4096_0_1 (Host.rsqrt (F := Ideal) (φ := .f32) (addf (F := Ideal) (φ := .f32) (Host.divf (F := Ideal) (φ := .f32) (broadcastInDim S24576x1 ![0] bcast_S24576_S24576x1_0 (Host.reduceAdd (F := Ideal) (φ := .f32) (mulf (F := Ideal) (φ := .f32) h h) (constant (F := Ideal) S_ .f32 0x00000000#32) reducesTo_S24576x4096_S24576_d1 h_S_)) (broadcastInDim S24576x1 ![] bcast_S_S24576x1 (constant (F := Ideal) S_ .f32 0x45800000#32))) (broadcastInDim S24576x1 ![] bcast_S_S24576x1 (constant (F := Ideal) S_ .f32 0x358637BD#32))))))
    (broadcastInDim S24576x4096 ![0, 1] bcast_S1x4096_S24576x4096_0_1 (broadcastInDim S1x4096 ![1] bcast_S4096_S1x4096_1 (shapeCast S4096 g shapeCasts_S1x4096_S4096)))

/-- The 96 heads of the projections. -/
def heads (n : Vec Ideal S24576x4096 .f32) (w : Vec Ideal S1x4096x12288 .f32) : Vec Ideal S24576x96x128 .f32 :=
  shapeCast S24576x96x128 (Host.dotGeneral (F := Ideal) (φ₁ := .f32) (φ₂ := .f32) dot_S24576x4096_S4096x12288_S24576x12288_1_0_0_1_n_n none n
    (shapeCast S4096x12288 w shapeCasts_S1x4096x12288_S4096x12288)) shapeCasts_S24576x12288_S24576x96x128

/-- The positions of the tokens: the prompt's, then four times the samples', after the meta tokens. -/
def places : IVec S24576 32 :=
  addi (concatenate S24576 0 [⟨S8192, (iotaInDim S8192 32 0)⟩, ⟨S16384, (shapeCast S16384 (broadcastInDim S4x4096 ![0, 1] bcast_S1x4096_S4x4096_0_1 (shapeCast S1x4096 (iotaInDim S4096 32 0) shapeCasts_S4096_S1x4096)) shapeCasts_S4x4096_S16384)⟩] concatenates_S8192_S16384_S24576_d0)
    (broadcastInDim S24576 ![] bcast_S_S24576 (constantI S_ 32 16#32))

/-- The angles of positions. -/
def angles (p : IVec S24576 32) : Vec Ideal S24576x16 .f32 :=
  mulf (F := Ideal) (φ := .f32) (broadcastInDim S24576x16 ![0, 1] bcast_S24576x1_S24576x16_0_1 (broadcastInDim S24576x1 ![0] bcast_S24576_S24576x1_0 (sitofp (F := Ideal) .f32 p)))
    (broadcastInDim S24576x16 ![0, 1] bcast_S1x16_S24576x16_0_1 (broadcastInDim S1x16 ![1] bcast_S16_S1x16_1 (Host.powf (F := Ideal) (φ := .f32) (broadcastInDim S16 ![] bcast_S_S16 (constant (F := Ideal) S_ .f32 0x48F42400#32)) (Host.divf (F := Ideal) (φ := .f32) (mulf (F := Ideal) (φ := .f32) (broadcastInDim S16 ![] bcast_S_S16 (constant (F := Ideal) S_ .f32 0xC0000000#32)) (sitofp (F := Ideal) .f32 (iotaInDim S16 32 0))) (broadcastInDim S16 ![] bcast_S_S16 (constant (F := Ideal) S_ .f32 0x42000000#32))))))

abbrev cosines (p : IVec S24576 32) : Vec Ideal S24576x16 .f32 := Host.cos (F := Ideal) (φ := .f32) (angles p)
abbrev sines (p : IVec S24576 32) : Vec Ideal S24576x16 .f32 := Host.sin (F := Ideal) (φ := .f32) (angles p)

/-- Sixteen lanes' factors, for every head. -/
abbrev spread (c : Vec Ideal S24576x16 .f32) : Vec Ideal S24576x16x16 .f32 :=
  broadcastInDim S24576x16x16 ![0, 1, 2] bcast_S24576x1x16_S24576x16x16_0_1_2 (broadcastInDim S24576x1x16 ![0, 2] bcast_S24576x16_S24576x1x16_0_2 c)

abbrev lower (x : Vec Ideal S24576x16x128 .f32) : Vec Ideal S24576x16x16 .f32 := extractStridedSlice S24576x16x16 ![0, 0, 0] x slices_S24576x16x128_S24576x16x16_0_0_0
abbrev upper (x : Vec Ideal S24576x16x128 .f32) : Vec Ideal S24576x16x16 .f32 := extractStridedSlice S24576x16x16 ![0, 0, 16] x slices_S24576x16x128_S24576x16x16_0_0_16

/-- The turned lower lanes, the turned upper lanes, the rest. -/
def turnLow (x : Vec Ideal S24576x16x128 .f32) (c s : Vec Ideal S24576x16 .f32) : Vec Ideal S24576x16x16 .f32 :=
  subf (F := Ideal) (φ := .f32) (mulf (F := Ideal) (φ := .f32) (lower x) (spread c)) (mulf (F := Ideal) (φ := .f32) (upper x) (spread s))
def turnHigh (x : Vec Ideal S24576x16x128 .f32) (c s : Vec Ideal S24576x16 .f32) : Vec Ideal S24576x16x16 .f32 :=
  addf (F := Ideal) (φ := .f32) (mulf (F := Ideal) (φ := .f32) (lower x) (spread s)) (mulf (F := Ideal) (φ := .f32) (upper x) (spread c))
def turnRest (x : Vec Ideal S24576x16x128 .f32) : Vec Ideal S24576x16x96 .f32 :=
  extractStridedSlice S24576x16x96 ![0, 0, 32] x slices_S24576x16x128_S24576x16x96_0_0_32

/-- The rotary turn of sixteen heads. -/
def turn (x : Vec Ideal S24576x16x128 .f32) (c s : Vec Ideal S24576x16 .f32) : Vec Ideal S24576x16x128 .f32 :=
  concatenate S24576x16x128 2 [⟨S24576x16x16, turnLow x c s⟩, ⟨S24576x16x16, turnHigh x c s⟩, ⟨S24576x16x96, turnRest x⟩] concatenates_S24576x16x16_S24576x16x16_S24576x16x96_S24576x16x128_d2

/-- The five groups of heads. -/
def group0 (x : Vec Ideal S24576x96x128 .f32) : Vec Ideal S24576x16x128 .f32 :=
  mulf (F := Ideal) (φ := .f32) (extractStridedSlice S24576x16x128 ![0, 0, 0] x slices_S24576x96x128_S24576x16x128_0_0_0) (broadcastInDim S24576x16x128 ![] bcast_S_S24576x16x128 (constant (F := Ideal) S_ .f32 0x3DB504F3#32))
def group1 (x : Vec Ideal S24576x96x128 .f32) : Vec Ideal S24576x32x128 .f32 :=
  extractStridedSlice S24576x32x128 ![0, 16, 0] x slices_S24576x96x128_S24576x32x128_0_16_0
def group2 (x : Vec Ideal S24576x96x128 .f32) (c s : Vec Ideal S24576x16 .f32) : Vec Ideal S24576x16x128 .f32 :=
  mulf (F := Ideal) (φ := .f32) (turn (extractStridedSlice S24576x16x128 ![0, 48, 0] x slices_S24576x96x128_S24576x16x128_0_48_0) c s) (broadcastInDim S24576x16x128 ![] bcast_S_S24576x16x128 (constant (F := Ideal) S_ .f32 0x3E0293EE#32))
def group3 (x : Vec Ideal S24576x96x128 .f32) (c s : Vec Ideal S24576x16 .f32) : Vec Ideal S24576x16x128 .f32 :=
  turn (extractStridedSlice S24576x16x128 ![0, 64, 0] x slices_S24576x96x128_S24576x16x128_0_64_0) c s
def group4 (x : Vec Ideal S24576x96x128 .f32) : Vec Ideal S24576x16x128 .f32 :=
  extractStridedSlice S24576x16x128 ![0, 80, 0] x slices_S24576x96x128_S24576x16x128_0_80_0

/-- The groups put together. -/
def grouped (x : Vec Ideal S24576x96x128 .f32) (c s : Vec Ideal S24576x16 .f32) : Vec Ideal S24576x96x128 .f32 :=
  concatenate S24576x96x128 1 [⟨S24576x16x128, group0 x⟩, ⟨S24576x32x128, group1 x⟩, ⟨S24576x16x128, group2 x c s⟩, ⟨S24576x16x128, group3 x c s⟩, ⟨S24576x16x128, group4 x⟩]
    concatenates_S24576x16x128_S24576x32x128_S24576x16x128_S24576x16x128_S24576x16x128_S24576x96x128_d1

/-- The reference's result. -/
def result (h : Vec Ideal S24576x4096 .f32) (g : Vec Ideal S1x4096 .f32) (w : Vec Ideal S1x4096x12288 .f32) : Vec Ideal S96x24576x128 .bf16 :=
  truncf (F := Ideal) (φ := .f32) .bf16 (transpose S96x24576x128 [1, 0, 2] (grouped (heads (normed h g) w) (cosines places) (sines places)) transposes_S24576x96x128_S96x24576x128_1_0_2) bitsLt_bf16_f32

variable (h : Vec Ideal S24576x4096 .f32) (g : Vec Ideal S1x4096 .f32) (w : Vec Ideal S1x4096x12288 .f32)

theorem normed_apply (r : Fin 24576) (k : Fin 4096) :
    @Eq EReal (normed h g (ix2 r k)) ((h (ix2 r k) : EReal) * rootOf (fun k => h (ix2 r k)) * g (ix2 0 k)) := by
  unfold normed
  pointwise
  rfl

theorem heads_apply (n : Vec Ideal S24576x4096 .f32) (r : Fin 24576) (q : Fin 96) (e : Fin 128) :
    @Eq EReal (heads n w (ix3 r q e)) (∑ k : Fin 4096, (n (ix2 r k) : EReal) * w (ix3 0 k (⟨q.val * 128 + e.val, by omega⟩ : Fin 12288))) := by
  unfold heads
  pointwise

/-- A lane of a head before the scales, the norm's factor taken out. -/
abbrev lane (r : Fin 24576) (q : Fin 96) (e : Fin 128) : EReal :=
  (∑ k : Fin 4096, (h (ix2 r k) : EReal) * ((g (ix2 0 k) : EReal) * w (ix3 0 k (⟨q.val * 128 + e.val, by omega⟩ : Fin 12288)))) * rootOf fun k => h (ix2 r k)

theorem lane_apply (r : Fin 24576) (q : Fin 96) (e : Fin 128) : @Eq EReal (heads (normed h g) w (ix3 r q e)) (lane h g w r q e) := by
  rw [heads_apply]
  refine Eq.trans ?_ (norm_out (fun k => h (ix2 r k)) (fun k => g (ix2 0 k)) (fun k => w (ix3 0 k (⟨q.val * 128 + e.val, by omega⟩ : Fin 12288)))).symm
  exact Finset.sum_congr rfl fun k _ => congrArg (fun z : EReal => z * w (ix3 0 k (⟨q.val * 128 + e.val, by omega⟩ : Fin 12288))) (normed_apply h g r k)

theorem low_apply (x : Vec Ideal S24576x16x128 .f32) (c s : Vec Ideal S24576x16 .f32) (r : Fin 24576) (q : Fin 16) (e : Fin 16) :
    @Eq EReal (turnLow x c s (ix3 r q e)) ((x (ix3 r q (⟨e.val, by omega⟩ : Fin 128)) : EReal) * c (ix2 r e) - (x (ix3 r q (⟨16 + e.val, by omega⟩ : Fin 128)) : EReal) * s (ix2 r e)) := by
  unfold turnLow
  pointwise

theorem high_apply (x : Vec Ideal S24576x16x128 .f32) (c s : Vec Ideal S24576x16 .f32) (r : Fin 24576) (q : Fin 16) (e : Fin 16) :
    @Eq EReal (turnHigh x c s (ix3 r q e)) ((x (ix3 r q (⟨e.val, by omega⟩ : Fin 128)) : EReal) * s (ix2 r e) + (x (ix3 r q (⟨16 + e.val, by omega⟩ : Fin 128)) : EReal) * c (ix2 r e)) := by
  unfold turnHigh
  pointwise

theorem rest_apply (x : Vec Ideal S24576x16x128 .f32) (r : Fin 24576) (q : Fin 16) (e : Fin 96) :
    @Eq EReal (turnRest x (ix3 r q e)) (x (ix3 r q (⟨32 + e.val, by omega⟩ : Fin 128))) := by
  unfold turnRest
  pointwise

theorem turn_apply (x : Vec Ideal S24576x16x128 .f32) (c s : Vec Ideal S24576x16 .f32) (r : Fin 24576) (q : Fin 16) (e : Fin 128) :
    @Eq EReal (turn x c s (ix3 r q e)) (turnedAt (fun e => x (ix3 r q e)) (fun k => c (ix2 r k)) (fun k => s (ix2 r k)) e) := by
  unfold turn turnedAt
  by_cases h : e.val < 16
  · rw [dif_pos h]
    refine Eq.trans (concatenate_apply_piece (t := S24576x16x128) 2 _ _ (ix3 r q e) 0 (by simp) S24576x16x16 (turnLow x c s) rfl rfl 0 rfl (ix3 r q ⟨e.val, h⟩)
      (fun b hb => by match b with | ⟨0, _⟩ => rfl | ⟨1, _⟩ => rfl | ⟨2, _⟩ => exact absurd rfl hb) (by show 0 + e.val = e.val; omega)) ?_
    refine (low_apply x c s r q ⟨e.val, h⟩).trans ?_
    have e1 : (⟨16 + e.val, by omega⟩ : Fin 128) = ⟨e.val + 16, by omega⟩ := Fin.ext (Nat.add_comm _ _)
    rw [e1]
  · rw [dif_neg h]
    by_cases h' : e.val < 32
    · rw [dif_pos h']
      refine Eq.trans (concatenate_apply_piece (t := S24576x16x128) 2 _ _ (ix3 r q e) 1 (by simp) S24576x16x16 (turnHigh x c s) rfl rfl 16 rfl (ix3 r q ⟨e.val - 16, by omega⟩)
        (fun b hb => by match b with | ⟨0, _⟩ => rfl | ⟨1, _⟩ => rfl | ⟨2, _⟩ => exact absurd rfl hb) (by show 16 + (e.val - 16) = e.val; omega)) ?_
      refine (high_apply x c s r q ⟨e.val - 16, by omega⟩).trans ?_
      have e1 : (⟨16 + (e.val - 16), by omega⟩ : Fin 128) = e := Fin.ext (by show 16 + (e.val - 16) = e.val; omega)
      rw [e1]
    · rw [dif_neg h']
      refine Eq.trans (concatenate_apply_piece (t := S24576x16x128) 2 _ _ (ix3 r q e) 2 (by simp) S24576x16x96 (turnRest x) rfl rfl 32 rfl (ix3 r q ⟨e.val - 32, by omega⟩)
        (fun b hb => by match b with | ⟨0, _⟩ => rfl | ⟨1, _⟩ => rfl | ⟨2, _⟩ => exact absurd rfl hb) (by show 32 + (e.val - 32) = e.val; omega)) ?_
      refine (rest_apply x r q ⟨e.val - 32, by omega⟩).trans ?_
      have e1 : (⟨32 + (e.val - 32), by omega⟩ : Fin 128) = e := Fin.ext (by show 32 + (e.val - 32) = e.val; omega)
      rw [e1]

theorem scaled16_apply (x : Vec Ideal S24576x96x128 .f32) (r : Fin 24576) (q : Fin 16) (e : Fin 128) :
    @Eq EReal (group0 x (ix3 r q e)) ((x (ix3 r (⟨q.val, by omega⟩ : Fin 96) e) : EReal) * Ideal.ofBits .f32 0x3DB504F3#32) := by
  unfold group0
  pointwise

theorem plain32_apply (x : Vec Ideal S24576x96x128 .f32) (r : Fin 24576) (q : Fin 32) (e : Fin 128) :
    @Eq EReal (group1 x (ix3 r q e)) (x (ix3 r (⟨16 + q.val, by omega⟩ : Fin 96) e)) := by
  unfold group1
  pointwise

theorem slice48_apply (x : Vec Ideal S24576x96x128 .f32) (r : Fin 24576) (q : Fin 16) (e : Fin 128) :
    @Eq EReal (extractStridedSlice S24576x16x128 ![0, 48, 0] x slices_S24576x96x128_S24576x16x128_0_48_0 (ix3 r q e)) (x (ix3 r (⟨48 + q.val, by omega⟩ : Fin 96) e)) := by
  pointwise

theorem slice64_apply (x : Vec Ideal S24576x96x128 .f32) (r : Fin 24576) (q : Fin 16) (e : Fin 128) :
    @Eq EReal (extractStridedSlice S24576x16x128 ![0, 64, 0] x slices_S24576x96x128_S24576x16x128_0_64_0 (ix3 r q e)) (x (ix3 r (⟨64 + q.val, by omega⟩ : Fin 96) e)) := by
  pointwise

theorem plain80_apply (x : Vec Ideal S24576x96x128 .f32) (r : Fin 24576) (q : Fin 16) (e : Fin 128) :
    @Eq EReal (group4 x (ix3 r q e)) (x (ix3 r (⟨80 + q.val, by omega⟩ : Fin 96) e)) := by
  unfold group4
  pointwise

theorem turned64_apply (x : Vec Ideal S24576x96x128 .f32) (c s : Vec Ideal S24576x16 .f32) (r : Fin 24576) (q : Fin 16) (e : Fin 128) :
    @Eq EReal (group3 x c s (ix3 r q e)) (turnedAt (fun e => x (ix3 r (⟨64 + q.val, by omega⟩ : Fin 96) e)) (fun k => c (ix2 r k)) (fun k => s (ix2 r k)) e) := by
  refine (turn_apply _ c s r q e).trans ?_
  exact congrArg (fun f => turnedAt f (fun k => c (ix2 r k)) (fun k => s (ix2 r k)) e) (funext fun e => slice64_apply x r q e)

theorem scale_apply (y : Vec Ideal S24576x16x128 .f32) (i : S24576x16x128.Idx) :
    @Eq EReal (mulf (F := Ideal) (φ := .f32) y (broadcastInDim S24576x16x128 ![] bcast_S_S24576x16x128 (constant (F := Ideal) S_ .f32 0x3E0293EE#32)) i) ((y i : EReal) * Ideal.ofBits .f32 0x3E0293EE#32) := rfl

theorem turned48_apply (x : Vec Ideal S24576x96x128 .f32) (c s : Vec Ideal S24576x16 .f32) (r : Fin 24576) (q : Fin 16) (e : Fin 128) :
    @Eq EReal (group2 x c s (ix3 r q e)) (turnedAt (fun e => x (ix3 r (⟨48 + q.val, by omega⟩ : Fin 96) e)) (fun k => c (ix2 r k)) (fun k => s (ix2 r k)) e * Ideal.ofBits .f32 0x3E0293EE#32) := by
  refine (scale_apply _ _).trans (congrArg (fun z : EReal => z * Ideal.ofBits .f32 0x3E0293EE#32) ?_)
  refine (turn_apply _ c s r q e).trans ?_
  exact congrArg (fun f => turnedAt f (fun k => c (ix2 r k)) (fun k => s (ix2 r k)) e) (funext fun e => slice48_apply x r q e)

/-- A lane of the result by its head's group. -/
def grouping (x : Fin 96 → Fin 128 → EReal) (c s : Fin 16 → EReal) (q : Fin 96) (e : Fin 128) : EReal :=
  if q.val < 16 then x q e * Ideal.ofBits .f32 0x3DB504F3#32
  else if q.val < 48 then x q e
  else if q.val < 64 then turnedAt (x q) c s e * Ideal.ofBits .f32 0x3E0293EE#32
  else if q.val < 80 then turnedAt (x q) c s e
  else x q e

theorem grouped_apply (x : Vec Ideal S24576x96x128 .f32) (c s : Vec Ideal S24576x16 .f32) (r : Fin 24576) (q : Fin 96) (e : Fin 128) :
    @Eq EReal (grouped x c s (ix3 r q e)) (grouping (fun q e => x (ix3 r q e)) (fun k => c (ix2 r k)) (fun k => s (ix2 r k)) q e) := by
  unfold grouped grouping
  by_cases h0 : q.val < 16
  · rw [if_pos h0]
    refine Eq.trans (concatenate_apply_piece (t := S24576x96x128) 1 _ _ (ix3 r q e) 0 (by simp) S24576x16x128 (group0 x) rfl rfl 0 rfl (ix3 r ⟨q.val, h0⟩ e)
      (fun b hb => by match b with | ⟨0, _⟩ => rfl | ⟨1, _⟩ => exact absurd rfl hb | ⟨2, _⟩ => rfl) (by show 0 + q.val = q.val; omega)) ?_
    exact scaled16_apply x r ⟨q.val, h0⟩ e
  rw [if_neg h0]
  by_cases h1 : q.val < 48
  · rw [if_pos h1]
    refine Eq.trans (concatenate_apply_piece (t := S24576x96x128) 1 _ _ (ix3 r q e) 1 (by simp) S24576x32x128 (group1 x) rfl rfl 16 rfl (ix3 r ⟨q.val - 16, by omega⟩ e)
      (fun b hb => by match b with | ⟨0, _⟩ => rfl | ⟨1, _⟩ => exact absurd rfl hb | ⟨2, _⟩ => rfl) (by show 16 + (q.val - 16) = q.val; omega)) ?_
    refine (plain32_apply x r ⟨q.val - 16, by omega⟩ e).trans ?_
    have eq : (⟨16 + (q.val - 16), by omega⟩ : Fin 96) = q := Fin.ext (by show 16 + (q.val - 16) = q.val; omega)
    rw [eq]
  rw [if_neg h1]
  by_cases h2 : q.val < 64
  · rw [if_pos h2]
    refine Eq.trans (concatenate_apply_piece (t := S24576x96x128) 1 _ _ (ix3 r q e) 2 (by simp) S24576x16x128 (group2 x c s) rfl rfl 48 rfl (ix3 r ⟨q.val - 48, by omega⟩ e)
      (fun b hb => by match b with | ⟨0, _⟩ => rfl | ⟨1, _⟩ => exact absurd rfl hb | ⟨2, _⟩ => rfl) (by show 48 + (q.val - 48) = q.val; omega)) ?_
    refine (turned48_apply x c s r ⟨q.val - 48, by omega⟩ e).trans ?_
    have eq : (⟨48 + (q.val - 48), by omega⟩ : Fin 96) = q := Fin.ext (by show 48 + (q.val - 48) = q.val; omega)
    rw [eq]
  rw [if_neg h2]
  by_cases h3 : q.val < 80
  · rw [if_pos h3]
    refine Eq.trans (concatenate_apply_piece (t := S24576x96x128) 1 _ _ (ix3 r q e) 3 (by simp) S24576x16x128 (group3 x c s) rfl rfl 64 rfl (ix3 r ⟨q.val - 64, by omega⟩ e)
      (fun b hb => by match b with | ⟨0, _⟩ => rfl | ⟨1, _⟩ => exact absurd rfl hb | ⟨2, _⟩ => rfl) (by show 64 + (q.val - 64) = q.val; omega)) ?_
    refine (turned64_apply x c s r ⟨q.val - 64, by omega⟩ e).trans ?_
    have eq : (⟨64 + (q.val - 64), by omega⟩ : Fin 96) = q := Fin.ext (by show 64 + (q.val - 64) = q.val; omega)
    rw [eq]
  rw [if_neg h3]
  refine Eq.trans (concatenate_apply_piece (t := S24576x96x128) 1 _ _ (ix3 r q e) 4 (by simp) S24576x16x128 (group4 x) rfl rfl 80 rfl (ix3 r ⟨q.val - 80, by omega⟩ e)
    (fun b hb => by match b with | ⟨0, _⟩ => rfl | ⟨1, _⟩ => exact absurd rfl hb | ⟨2, _⟩ => rfl) (by show 80 + (q.val - 80) = q.val; omega)) ?_
  refine (plain80_apply x r ⟨q.val - 80, by omega⟩ e).trans ?_
  have eq : (⟨80 + (q.val - 80), by omega⟩ : Fin 96) = q := Fin.ext (by show 80 + (q.val - 80) = q.val; omega)
  rw [eq]

theorem swapped_apply (x : Vec Ideal S24576x96x128 .f32) (q : Fin 96) (r : Fin 24576) (e : Fin 128) :
    @Eq EReal (truncf (F := Ideal) (φ := .f32) .bf16 (transpose S96x24576x128 [1, 0, 2] x transposes_S24576x96x128_S96x24576x128_1_0_2) bitsLt_bf16_f32 (ix3 q r e)) (x (ix3 r q e)) := by
  pointwise

/-- An entry of the reference's result. -/
theorem result_apply (q : Fin 96) (r : Fin 24576) (e : Fin 128) :
    @Eq EReal (result h g w (ix3 q r e)) (grouping (lane h g w r) (fun k => cosines places (ix2 r k)) (fun k => sines places (ix2 r k)) q e) := by
  refine (swapped_apply _ q r e).trans ((grouped_apply _ _ _ r q e).trans ?_)
  exact congrArg (fun f => grouping f (fun k => cosines places (ix2 r k)) (fun k => sines places (ix2 r k)) q e)
    (funext fun q => funext fun e => lane_apply h g w r q e)

/-- An array repeated four times. -/
theorem tiled_apply (x : IVec S4096 32) (v : Fin 16384) :
    shapeCast S16384 (broadcastInDim S4x4096 ![0, 1] bcast_S1x4096_S4x4096_0_1 (shapeCast S1x4096 x shapeCasts_S4096_S1x4096)) shapeCasts_S4x4096_S16384 (ix1 v)
      = x (ix1 (⟨v.val % 4096, Nat.mod_lt _ (by decide)⟩ : Fin 4096)) := by
  refine (shapeCast_apply _ _ (ix1 v) (ix2 (⟨v.val / 4096, by omega⟩ : Fin 4) (⟨v.val % 4096, Nat.mod_lt _ (by decide)⟩ : Fin 4096)) ?_).trans ?_
  · rw [Shape.rowMajor_val_two, Shape.rowMajor_val_one]
    show v.val / 4096 * 4096 + v.val % 4096 = v.val
    omega
  · generalize (⟨v.val / 4096, by omega⟩ : Fin 4) = a
    generalize (⟨v.val % 4096, Nat.mod_lt _ (by decide)⟩ : Fin 4096) = b
    pointwise

/-- A token's position: the prompt's run on, the samples' start anew every 4096. -/
theorem places_apply (r : Fin 24576) : places (ix1 r) = BitVec.ofNat 32 (if r.val < 8192 then r.val else (r.val - 8192) % 4096) + 16#32 := by
  unfold places
  refine congrArg (fun z : BitVec 32 => z + 16#32) ?_
  by_cases h : r.val < 8192
  · rw [if_pos h]
    exact concatenate_apply_piece (t := S24576) 0 _ _ (ix1 r) 0 (by simp) S8192 (iotaInDim S8192 32 0) rfl rfl 0 rfl (ix1 ⟨r.val, h⟩)
      (fun b hb => by match b with | ⟨0, _⟩ => exact absurd rfl hb) (by show 0 + r.val = r.val; omega)
  · rw [if_neg h]
    refine Eq.trans (concatenate_apply_piece (t := S24576) 0 _ _ (ix1 r) 1 (by simp) S16384 (shapeCast S16384 (broadcastInDim S4x4096 ![0, 1] bcast_S1x4096_S4x4096_0_1 (shapeCast S1x4096 (iotaInDim S4096 32 0) shapeCasts_S4096_S1x4096)) shapeCasts_S4x4096_S16384) rfl rfl 8192 rfl (ix1 ⟨r.val - 8192, by omega⟩)
      (fun b hb => by match b with | ⟨0, _⟩ => exact absurd rfl hb) (by show 8192 + (r.val - 8192) = r.val; omega)) ?_
    exact tiled_apply _ ⟨r.val - 8192, by omega⟩

end Cert.Proof.ProjRef

end
-- ==== Proof.ProjHost.lean ====
/- The arrays the input projection's launch starts from: the scaled weights, the columns' scales and the rotary tables. -/
module

public import proofs.«01_k».proof.Proof.ProjBlock
public import proofs.«01_k».proof.Proof.ProjRef
public import Idealize.ShloMosaic.Lib.WordCmp

@[expose] public section

set_option maxRecDepth 16384

noncomputable section

namespace Cert.Proof.Proj

open Cert.ProjIdeal Cert.ProjIdeal.Gen
open Idealize.ShloMosaic Idealize.ShloMosaic.TcCoe Idealize.ShloMosaic.WordCmp

/-- The residual stream in bf16. -/
def stream (h : Vec Ideal S24576x4096 .f32) : Vec Ideal S24576x4096 .bf16 :=
  truncf (F := Ideal) (φ := .f32) .bf16 h bitsLt_bf16_f32

/-- The gain times the weights. -/
def scaled (g : Vec Ideal S1x4096 .f32) (w : Vec Ideal S1x4096x12288 .f32) : Vec Ideal S4096x12288 .bf16 :=
  truncf (F := Ideal) (φ := .f32) .bf16 (mulf (F := Ideal) (φ := .f32)
    (broadcastInDim S4096x12288 ![0, 1] bcast_S4096x1_S4096x12288_0_1 (broadcastInDim S4096x1 ![0] bcast_S4096_S4096x1_0 (shapeCast S4096 g shapeCasts_S1x4096_S4096)))
    (shapeCast S4096x12288 w shapeCasts_S1x4096x12288_S4096x12288)) bitsLt_bf16_f32

/-- A word on every column, and a factor on every column. -/
abbrev words (n : BitVec 32) : IVec S12288 32 := broadcastInDim S12288 ![] bcast_S_S12288 (constantI S_ 32 n)
abbrev factors (b : BitVec 32) : Vec Ideal S12288 .f32 := broadcastInDim S12288 ![] bcast_S_S12288 (constant (F := Ideal) S_ .f32 b)

/-- The columns' scales. -/
def columns : Vec Ideal S12288 .f32 :=
  select (cmpi .slt (iotaInDim S12288 32 0) (words 2048#32)) (factors 0x3DB504F3#32)
    (select (andi (cmpi .sge (iotaInDim S12288 32 0) (words 6144#32)) (cmpi .slt (iotaInDim S12288 32 0) (words 8192#32))) (factors 0x3E0293EE#32) (factors 0x3F800000#32))

/-- The positions of the tokens, the samples' one after another. -/
def places : IVec S24576 32 :=
  addi (concatenate S24576 0 [⟨S8192, (iotaInDim S8192 32 0)⟩, ⟨S4096, (iotaInDim S4096 32 0)⟩, ⟨S4096, (iotaInDim S4096 32 0)⟩, ⟨S4096, (iotaInDim S4096 32 0)⟩, ⟨S4096, (iotaInDim S4096 32 0)⟩] concatenates_S8192_S4096_S4096_S4096_S4096_S24576_d0)
    (broadcastInDim S24576 ![] bcast_S_S24576 (constantI S_ 32 16#32))

abbrev zeros16 : Vec Ideal S24576x16 .f32 := broadcastInDim S24576x16 ![] bcast_S_S24576x16 (constant (F := Ideal) S_ .f32 0x00000000#32)
abbrev zeros96 : Vec Ideal S24576x96 .f32 := broadcastInDim S24576x96 ![] bcast_S_S24576x96 (constant (F := Ideal) S_ .f32 0x00000000#32)
abbrev ones96 : Vec Ideal S24576x96 .f32 := broadcastInDim S24576x96 ![] bcast_S_S24576x96 (constant (F := Ideal) S_ .f32 0x3F800000#32)

/-- Three arrays side by side. -/
abbrev beside (a b : Vec Ideal S24576x16 .f32) (d : Vec Ideal S24576x96 .f32) : Vec Ideal S24576x128 .f32 :=
  concatenate S24576x128 1 [⟨S24576x16, a⟩, ⟨S24576x16, b⟩, ⟨S24576x96, d⟩] concatenates_S24576x16_S24576x16_S24576x96_S24576x128_d1

theorem stream_apply (h : Vec Ideal S24576x4096 .f32) (r : Fin 24576) (k : Fin 4096) : @Eq EReal (stream h (ix2 r k)) (h (ix2 r k)) := by
  unfold stream
  pointwise

theorem scaled_apply (g : Vec Ideal S1x4096 .f32) (w : Vec Ideal S1x4096x12288 .f32) (k : Fin 4096) (e : Fin 12288) :
    @Eq EReal (scaled g w (ix2 k e)) ((g (ix2 0 k) : EReal) * w (ix3 0 k e)) := by
  unfold scaled
  pointwise

theorem below (n a : Nat) (hn : n < 12288) (ha : a ≤ 8192) : IntOp.cmpi .slt (BitVec.ofNat 32 n) (BitVec.ofNat 32 a) = BitVec.ofBool (decide (n < a)) := by
  rw [cmpi_slt_ofNat (by omega) (by omega)]

theorem above (n a : Nat) (hn : n < 12288) (ha : a ≤ 8192) : IntOp.cmpi .sge (BitVec.ofNat 32 n) (BitVec.ofNat 32 a) = BitVec.ofBool (decide (a ≤ n)) := by
  rw [cmpi_sge_ofNat (by omega) (by omega)]

/-- A column's scale. -/
def scaleOf (n : Nat) : EReal :=
  if n < 2048 then Ideal.ofBits .f32 0x3DB504F3#32 else if 6144 ≤ n ∧ n < 8192 then Ideal.ofBits .f32 0x3E0293EE#32 else 1

theorem columns_apply (e : Fin 12288) : @Eq EReal (columns (ix1 e)) (scaleOf e.val) := by
  have h : columns (ix1 e) = Scalar.select (IntOp.cmpi .slt (BitVec.ofNat 32 e.val) (BitVec.ofNat 32 2048)) (Ideal.ofBits .f32 0x3DB504F3#32 : EReal)
      (Scalar.select (IntOp.andi (IntOp.cmpi .sge (BitVec.ofNat 32 e.val) (BitVec.ofNat 32 6144)) (IntOp.cmpi .slt (BitVec.ofNat 32 e.val) (BitVec.ofNat 32 8192)))
        (Ideal.ofBits .f32 0x3E0293EE#32 : EReal) (Ideal.ofBits .f32 0x3F800000#32 : EReal)) := rfl
  rw [h, below _ _ e.isLt (by decide), below _ _ e.isLt (by decide), above _ _ e.isLt (by decide), andi_ofBool, word_one]
  unfold Scalar.select scaleOf
  simp only [ofBool_eq_one_iff', Bool.and_eq_true, decide_eq_true_eq]

theorem places_apply (r : Fin 24576) : places (ix1 r) = BitVec.ofNat 32 (if r.val < 8192 then r.val else (r.val - 8192) % 4096) + 16#32 := by
  unfold places
  refine congrArg (fun z : BitVec 32 => z + 16#32) ?_
  by_cases h : r.val < 8192
  · rw [if_pos h]
    exact concatenate_apply_piece (t := S24576) 0 _ _ (ix1 r) 0 (by simp) S8192 (iotaInDim S8192 32 0) rfl rfl 0 rfl (ix1 ⟨r.val, h⟩)
      (fun b hb => by match b with | ⟨0, _⟩ => exact absurd rfl hb) (by show 0 + r.val = r.val; omega)
  rw [if_neg h]
  by_cases h1 : r.val < 12288
  · refine (concatenate_apply_piece (t := S24576) 0 _ _ (ix1 r) 1 (by simp) S4096 (iotaInDim S4096 32 0) rfl rfl 8192 rfl (ix1 ⟨r.val - 8192, by omega⟩)
      (fun b hb => by match b with | ⟨0, _⟩ => exact absurd rfl hb) (by show 8192 + (r.val - 8192) = r.val; omega)).trans ?_
    exact congrArg (BitVec.ofNat 32) (by show r.val - 8192 = (r.val - 8192) % 4096; omega)
  by_cases h2 : r.val < 16384
  · refine (concatenate_apply_piece (t := S24576) 0 _ _ (ix1 r) 2 (by simp) S4096 (iotaInDim S4096 32 0) rfl rfl 12288 rfl (ix1 ⟨r.val - 12288, by omega⟩)
      (fun b hb => by match b with | ⟨0, _⟩ => exact absurd rfl hb) (by show 12288 + (r.val - 12288) = r.val; omega)).trans ?_
    exact congrArg (BitVec.ofNat 32) (by show r.val - 12288 = (r.val - 8192) % 4096; omega)
  by_cases h3 : r.val < 20480
  · refine (concatenate_apply_piece (t := S24576) 0 _ _ (ix1 r) 3 (by simp) S4096 (iotaInDim S4096 32 0) rfl rfl 16384 rfl (ix1 ⟨r.val - 16384, by omega⟩)
      (fun b hb => by match b with | ⟨0, _⟩ => exact absurd rfl hb) (by show 16384 + (r.val - 16384) = r.val; omega)).trans ?_
    exact congrArg (BitVec.ofNat 32) (by show r.val - 16384 = (r.val - 8192) % 4096; omega)
  refine (concatenate_apply_piece (t := S24576) 0 _ _ (ix1 r) 4 (by simp) S4096 (iotaInDim S4096 32 0) rfl rfl 20480 rfl (ix1 ⟨r.val - 20480, by omega⟩)
    (fun b hb => by match b with | ⟨0, _⟩ => exact absurd rfl hb) (by show 20480 + (r.val - 20480) = r.val; omega)).trans ?_
  exact congrArg (BitVec.ofNat 32) (by show r.val - 20480 = (r.val - 8192) % 4096; omega)

/-- The two arrays of positions are the same. -/
theorem places_eq : places = ProjRef.places := funext fun i => by
  idx_vars i
  exact (places_apply i0).trans (ProjRef.places_apply i0).symm

theorem beside0 (a b : Vec Ideal S24576x16 .f32) (d : Vec Ideal S24576x96 .f32) (r : Fin 24576) (e : Fin 128) (h : e.val < 16) :
    beside a b d (ix2 r e) = a (ix2 r ⟨e.val, h⟩) :=
  concatenate_apply_piece (t := S24576x128) 1 _ _ (ix2 r e) 0 (by simp) S24576x16 a rfl rfl 0 rfl (ix2 r ⟨e.val, h⟩)
    (fun b hb => by match b with | ⟨0, _⟩ => rfl | ⟨1, _⟩ => exact absurd rfl hb) (by show 0 + e.val = e.val; omega)

theorem beside1 (a b : Vec Ideal S24576x16 .f32) (d : Vec Ideal S24576x96 .f32) (r : Fin 24576) (e : Fin 128) (h : ¬e.val < 16) (h' : e.val < 32) :
    beside a b d (ix2 r e) = b (ix2 r ⟨e.val - 16, by omega⟩) :=
  concatenate_apply_piece (t := S24576x128) 1 _ _ (ix2 r e) 1 (by simp) S24576x16 b rfl rfl 16 rfl (ix2 r ⟨e.val - 16, by omega⟩)
    (fun b hb => by match b with | ⟨0, _⟩ => rfl | ⟨1, _⟩ => exact absurd rfl hb) (by show 16 + (e.val - 16) = e.val; omega)

theorem beside2 (a b : Vec Ideal S24576x16 .f32) (d : Vec Ideal S24576x96 .f32) (r : Fin 24576) (e : Fin 128) (h' : ¬e.val < 32) :
    beside a b d (ix2 r e) = d (ix2 r ⟨e.val - 32, by omega⟩) :=
  concatenate_apply_piece (t := S24576x128) 1 _ _ (ix2 r e) 2 (by simp) S24576x96 d rfl rfl 32 rfl (ix2 r ⟨e.val - 32, by omega⟩)
    (fun b hb => by match b with | ⟨0, _⟩ => rfl | ⟨1, _⟩ => exact absurd rfl hb) (by show 32 + (e.val - 32) = e.val; omega)

theorem cos_table (c : Vec Ideal S24576x16 .f32) (r : Fin 24576) (e : Fin 128) :
    @Eq EReal (beside c c ones96 (ix2 r e)) (cosLane (fun k => c (ix2 r k)) e) := by
  unfold cosLane
  by_cases h : e.val < 16
  · rw [dif_pos h]; exact beside0 _ _ _ r e h
  rw [dif_neg h]
  by_cases h' : e.val < 32
  · rw [dif_pos h']; exact beside1 _ _ _ r e h h'
  rw [dif_neg h']
  exact (beside2 c c ones96 r e h').trans word_one

theorem low_table (s : Vec Ideal S24576x16 .f32) (r : Fin 24576) (e : Fin 128) :
    @Eq EReal (beside (Host.negf (F := Ideal) (φ := .f32) s) zeros16 zeros96 (ix2 r e)) (lowLane (fun k => s (ix2 r k)) e) := by
  unfold lowLane
  by_cases h : e.val < 16
  · rw [dif_pos h]; exact (beside0 _ _ _ r e h).trans rfl
  rw [dif_neg h]
  by_cases h' : e.val < 32
  · exact (beside1 _ zeros16 zeros96 r e h h').trans Ideal.ofBits_zero_f32
  exact (beside2 _ zeros16 zeros96 r e h').trans Ideal.ofBits_zero_f32

theorem high_table (s : Vec Ideal S24576x16 .f32) (r : Fin 24576) (e : Fin 128) :
    @Eq EReal (beside zeros16 s zeros96 (ix2 r e)) (highLane (fun k => s (ix2 r k)) e) := by
  unfold highLane
  by_cases h : e.val < 16
  · rw [if_pos h]; exact (beside0 zeros16 s zeros96 r e h).trans Ideal.ofBits_zero_f32
  rw [if_neg h]
  by_cases h' : e.val < 32
  · rw [dif_pos h']; exact beside1 _ _ _ r e h h'
  rw [dif_neg h']
  exact (beside2 zeros16 s zeros96 r e h').trans Ideal.ofBits_zero_f32

variable (m : (ℓ : Loc nD τ sig) → Buf (Elt Ideal) ℓ)

abbrev resid (c : Dev nD) : Vec Ideal S24576x4096 .f32 := m ((c.tc : Thread nD τ).loc main_arg0)
abbrev gain (c : Dev nD) : Vec Ideal S1x4096 .f32 := m ((c.tc : Thread nD τ).loc main_arg1)
abbrev weights (c : Dev nD) : Vec Ideal S1x4096x12288 .f32 := m ((c.tc : Thread nD τ).loc main_arg2)

/-- The columns' scales in a row. -/
abbrev scaleRow : Vec Ideal S1x12288 .f32 := shapeCast S1x12288 columns shapeCasts_S12288_S1x12288

theorem scaleRow_apply (a : Fin 1) (e : Fin 12288) : @Eq EReal (scaleRow (ix2 a e)) (scaleOf e.val) := by
  refine Eq.trans ?_ (columns_apply e)
  show shapeCast S1x12288 columns shapeCasts_S12288_S1x12288 (ix2 a e) = columns (ix1 e)
  generalize columns = x
  pointwise

theorem V_stream (c : Dev nD) : V m c main_v23 = stream (resid m c) := by
  simp only [V, hostOps0, hostOps0_1, hostOps0_2, hostOps0_3, hostOps0_4, List.flatten_cons, List.flatten_nil, List.append_nil, List.cons_append, List.nil_append]
  after_results_simp
  all_goals try dsimp only [Matrix.cons_val]
  all_goals try after_results_simp
  all_goals try dsimp only [Matrix.cons_val]
  all_goals try after_results_simp
  all_goals rfl

theorem V_weights (c : Dev nD) : V m c main_v5 = scaled (gain m c) (weights m c) := by
  simp only [V, hostOps0, hostOps0_1, hostOps0_2, hostOps0_3, hostOps0_4, List.flatten_cons, List.flatten_nil, List.append_nil, List.cons_append, List.nil_append]
  after_results_simp
  all_goals try dsimp only [Matrix.cons_val]
  all_goals try after_results_simp
  all_goals try dsimp only [Matrix.cons_val]
  all_goals try after_results_simp
  all_goals rfl

theorem V_scale (c : Dev nD) : V m c main_v17 = scaleRow := by
  simp only [V, hostOps0, hostOps0_1, hostOps0_2, hostOps0_3, hostOps0_4, List.flatten_cons, List.flatten_nil, List.append_nil, List.cons_append, List.nil_append]
  after_results_simp
  all_goals try dsimp only [Matrix.cons_val]
  all_goals try after_results_simp
  all_goals try dsimp only [Matrix.cons_val]
  all_goals try after_results_simp
  all_goals rfl

theorem V_cos (c : Dev nD) : V m c main_v42 = beside (ProjRef.cosines places) (ProjRef.cosines places) ones96 := by
  simp only [V, hostOps0, hostOps0_1, hostOps0_2, hostOps0_3, hostOps0_4, List.flatten_cons, List.flatten_nil, List.append_nil, List.cons_append, List.nil_append]
  after_results_simp
  all_goals try dsimp only [Matrix.cons_val]
  all_goals try after_results_simp
  all_goals try dsimp only [Matrix.cons_val]
  all_goals try after_results_simp
  all_goals rfl

theorem V_low (c : Dev nD) : V m c main_v44 = beside (Host.negf (F := Ideal) (φ := .f32) (ProjRef.sines places)) zeros16 zeros96 := by
  simp only [V, hostOps0, hostOps0_1, hostOps0_2, hostOps0_3, hostOps0_4, List.flatten_cons, List.flatten_nil, List.append_nil, List.cons_append, List.nil_append]
  after_results_simp
  all_goals try dsimp only [Matrix.cons_val]
  all_goals try after_results_simp
  all_goals try dsimp only [Matrix.cons_val]
  all_goals try after_results_simp
  all_goals rfl

theorem V_high (c : Dev nD) : V m c main_v45 = beside zeros16 (ProjRef.sines places) zeros96 := by
  simp only [V, hostOps0, hostOps0_1, hostOps0_2, hostOps0_3, hostOps0_4, List.flatten_cons, List.flatten_nil, List.append_nil, List.cons_append, List.nil_append]
  after_results_simp
  all_goals try dsimp only [Matrix.cons_val]
  all_goals try after_results_simp
  all_goals try dsimp only [Matrix.cons_val]
  all_goals try after_results_simp
  all_goals rfl

end Cert.Proof.Proj

end
-- ==== Proof.Proj.lean ====
/- The input projection's 96 heads: the array the kernel leaves is the reference's. -/
module

public import proofs.«01_k».proof.Proof.ProjHost

@[expose] public section

set_option maxRecDepth 16384

noncomputable section

namespace Cert.Proof.Proj

open Cert.ProjIdeal Cert.ProjIdeal.Gen
open Idealize.ShloMosaic Idealize.ShloMosaic.TcCoe

variable (m : (ℓ : Loc nD τ sig) → Buf (Elt Ideal) ℓ)

theorem at0 : ∀ t : Fin cfg0.N, win0_0.index t (0 : Fin 2) = t.val / 12 ∧ win0_0.index t (1 : Fin 2) = 0 :=
  (by decide +kernel : ∀ t : Fin grid0.N, _)
theorem at1 : ∀ t : Fin cfg0.N, win0_1.index t (0 : Fin 2) = 0 ∧ win0_1.index t (1 : Fin 2) = t.val % 12 :=
  (by decide +kernel : ∀ t : Fin grid0.N, _)
theorem at2 : ∀ t : Fin cfg0.N, win0_2.index t (0 : Fin 2) = 0 ∧ win0_2.index t (1 : Fin 2) = t.val % 12 :=
  (by decide +kernel : ∀ t : Fin grid0.N, _)
theorem at3 : ∀ t : Fin cfg0.N, win0_3.index t (0 : Fin 2) = t.val / 12 ∧ win0_3.index t (1 : Fin 2) = 0 :=
  (by decide +kernel : ∀ t : Fin grid0.N, _)
theorem at4 : ∀ t : Fin cfg0.N, win0_4.index t (0 : Fin 2) = t.val / 12 ∧ win0_4.index t (1 : Fin 2) = 0 :=
  (by decide +kernel : ∀ t : Fin grid0.N, _)
theorem at5 : ∀ t : Fin cfg0.N, win0_5.index t (0 : Fin 2) = t.val / 12 ∧ win0_5.index t (1 : Fin 2) = 0 :=
  (by decide +kernel : ∀ t : Fin grid0.N, _)
theorem at6 : ∀ t : Fin cfg0.N, win0_6.index t (0 : Fin 3) = t.val % 12 ∧ win0_6.index t (1 : Fin 3) = t.val / 12 ∧ win0_6.index t (2 : Fin 3) = 0 :=
  (by decide +kernel : ∀ t : Fin grid0.N, _)

theorem lt24 (t : Fin cfg0.N) : t.val / 12 < 24 := by
  have := t.isLt
  have h : cfg0.N = 288 := N_0
  omega

/-- The row, the head and the column of the whole arrays an entry of a point's block is. -/
abbrev rowAt (t : Fin cfg0.N) (r : Fin 1024) : Fin 24576 := ⟨t.val / 12 * 1024 + r.val, by have := lt24 t; omega⟩
abbrev headAt (t : Fin cfg0.N) (q : Fin 8) : Fin 96 := ⟨t.val % 12 * 8 + q.val, by omega⟩
abbrev colAt (t : Fin cfg0.N) (e : Fin 1024) : Fin 12288 := ⟨t.val % 12 * 1024 + e.val, by omega⟩

theorem blk0 (c : Dev nD) (t : Fin cfg0.N) (r : Fin 1024) (k : Fin 4096) :
    @Eq EReal (iblk m c 0 t (ix2 r k)) (resid m c (ix2 (rowAt t r) k)) := by
  refine Eq.trans ?_ (stream_apply (resid m c) (rowAt t r) k)
  rw [← V_stream m c]
  obtain ⟨e0, e1⟩ := at0 t
  show V m c main_v23 (((cfg0.win 0).blk t).view.emb (ix2 r k)) = V m c main_v23 _
  refine congrArg _ (funext fun a => Fin.ext ?_)
  match a with
  | ⟨0, _⟩ => show win0_0.index t (0 : Fin 2) * 1024 + 1 * r.val = t.val / 12 * 1024 + r.val; omega
  | ⟨1, _⟩ => show win0_0.index t (1 : Fin 2) * 4096 + 1 * k.val = k.val; omega

theorem blk1 (c : Dev nD) (t : Fin cfg0.N) (k : Fin 4096) (e : Fin 1024) :
    @Eq EReal (iblk m c 1 t (ix2 k e)) ((gain m c (ix2 0 k) : EReal) * weights m c (ix3 0 k (colAt t e))) := by
  refine Eq.trans ?_ (scaled_apply (gain m c) (weights m c) k (colAt t e))
  rw [← V_weights m c]
  obtain ⟨e0, e1⟩ := at1 t
  show V m c main_v5 (((cfg0.win 1).blk t).view.emb (ix2 k e)) = V m c main_v5 _
  refine congrArg _ (funext fun a => Fin.ext ?_)
  match a with
  | ⟨0, _⟩ => show win0_1.index t (0 : Fin 2) * 4096 + 1 * k.val = k.val; omega
  | ⟨1, _⟩ => show win0_1.index t (1 : Fin 2) * 1024 + 1 * e.val = t.val % 12 * 1024 + e.val; omega

theorem blk2 (c : Dev nD) (t : Fin cfg0.N) (e : Fin 1024) :
    @Eq EReal (iblk m c 2 t (ix2 0 e)) (scaleOf (colAt t e).val) := by
  refine Eq.trans ?_ (scaleRow_apply 0 (colAt t e))
  rw [← V_scale m c]
  obtain ⟨e0, e1⟩ := at2 t
  show V m c main_v17 (((cfg0.win 2).blk t).view.emb (ix2 0 e)) = V m c main_v17 _
  refine congrArg _ (funext fun a => Fin.ext ?_)
  match a with
  | ⟨0, _⟩ => show win0_2.index t (0 : Fin 2) * 1 + 1 * 0 = 0; omega
  | ⟨1, _⟩ => show win0_2.index t (1 : Fin 2) * 1024 + 1 * e.val = t.val % 12 * 1024 + e.val; omega

/-- The cosines and the sines of a token's turn. -/
abbrev cosAt (R : Fin 24576) (k : Fin 16) : EReal := ProjRef.cosines ProjRef.places (ix2 R k)
abbrev sinAt (R : Fin 24576) (k : Fin 16) : EReal := ProjRef.sines ProjRef.places (ix2 R k)

theorem blk3 (c : Dev nD) (t : Fin cfg0.N) (r : Fin 1024) (e : Fin 128) :
    @Eq EReal (iblk m c 3 t (ix2 r e)) (cosLane (cosAt (rowAt t r)) e) := by
  refine Eq.trans ?_ (cos_table (ProjRef.cosines ProjRef.places) (rowAt t r) e)
  rw [← places_eq, ← V_cos m c]
  obtain ⟨e0, e1⟩ := at3 t
  show V m c main_v42 (((cfg0.win 3).blk t).view.emb (ix2 r e)) = V m c main_v42 _
  refine congrArg _ (funext fun a => Fin.ext ?_)
  match a with
  | ⟨0, _⟩ => show win0_3.index t (0 : Fin 2) * 1024 + 1 * r.val = t.val / 12 * 1024 + r.val; omega
  | ⟨1, _⟩ => show win0_3.index t (1 : Fin 2) * 128 + 1 * e.val = e.val; omega

theorem blk4 (c : Dev nD) (t : Fin cfg0.N) (r : Fin 1024) (e : Fin 128) :
    @Eq EReal (iblk m c 4 t (ix2 r e)) (lowLane (sinAt (rowAt t r)) e) := by
  refine Eq.trans ?_ (low_table (ProjRef.sines ProjRef.places) (rowAt t r) e)
  rw [← places_eq, ← V_low m c]
  obtain ⟨e0, e1⟩ := at4 t
  show V m c main_v44 (((cfg0.win 4).blk t).view.emb (ix2 r e)) = V m c main_v44 _
  refine congrArg _ (funext fun a => Fin.ext ?_)
  match a with
  | ⟨0, _⟩ => show win0_4.index t (0 : Fin 2) * 1024 + 1 * r.val = t.val / 12 * 1024 + r.val; omega
  | ⟨1, _⟩ => show win0_4.index t (1 : Fin 2) * 128 + 1 * e.val = e.val; omega

theorem blk5 (c : Dev nD) (t : Fin cfg0.N) (r : Fin 1024) (e : Fin 128) :
    @Eq EReal (iblk m c 5 t (ix2 r e)) (highLane (sinAt (rowAt t r)) e) := by
  refine Eq.trans ?_ (high_table (ProjRef.sines ProjRef.places) (rowAt t r) e)
  rw [← places_eq, ← V_high m c]
  obtain ⟨e0, e1⟩ := at5 t
  show V m c main_v45 (((cfg0.win 5).blk t).view.emb (ix2 r e)) = V m c main_v45 _
  refine congrArg _ (funext fun a => Fin.ext ?_)
  match a with
  | ⟨0, _⟩ => show win0_5.index t (0 : Fin 2) * 1024 + 1 * r.val = t.val / 12 * 1024 + r.val; omega
  | ⟨1, _⟩ => show win0_5.index t (1 : Fin 2) * 128 + 1 * e.val = e.val; omega

/-- The root of a row of the whole stream. -/
abbrev rowRoot (c : Dev nD) (R : Fin 24576) : EReal := rootOf fun k => resid m c (ix2 R k)

theorem roots_row (c : Dev nD) (t : Fin cfg0.N) (r : Fin 1024) (e : Fin 128) :
    @Eq EReal (roots (iblk m c 0 t) (ix2 r e)) (rowRoot m c (rowAt t r)) :=
  (root_piece _ r e).trans (congrArg rootOf (funext fun k => blk0 m c t r k))

/-- The points that turn their heads. -/
abbrev Turns (n : Nat) : Prop := 6 ≤ n % 12 ∧ n % 12 ≤ 9

/-- The scratch after a grid point holds the roots of the point's rows: the first point of a row block stores them, the
later ones leave them. -/
theorem scratch (c : Dev nD) : ∀ (n : Nat) (hn : n < cfg0.N) (r : Fin 1024) (e : Fin 128),
    @Eq EReal ((outsAt0 m c n hn).2 (ix2 r e)) (rowRoot m c (rowAt ⟨n, hn⟩ r))
  | 0, hn, r, e => by
    have hT : ¬Turns 0 := by decide
    rw [outsAt0_A m c ⟨0, hn⟩ (Nat.zero_mod _) hT hT]
    dsimp only
    rw [scratch_A]
    exact roots_row m c ⟨0, hn⟩ r e
  | n + 1, hn, r, e => by
    by_cases h0 : (n + 1) % 12 = 0
    · have hT : ¬Turns (n + 1) := by rintro ⟨a, b⟩; omega
      rw [outsAt0_A m c ⟨n + 1, hn⟩ h0 hT hT]
      dsimp only
      rw [scratch_A]
      exact roots_row m c ⟨n + 1, hn⟩ r e
    · have ih := scratch c n (Nat.lt_of_succ_lt hn) r e
      have er : rowAt ⟨n, Nat.lt_of_succ_lt hn⟩ r = rowAt ⟨n + 1, hn⟩ r := Fin.ext (by
        show n / 12 * 1024 + r.val = (n + 1) / 12 * 1024 + r.val
        have : n / 12 = (n + 1) / 12 := by omega
        rw [this])
      rw [er] at ih
      by_cases hT : Turns (n + 1)
      · rw [outsAt0_C m c ⟨n + 1, hn⟩ h0 hT (not_not_intro hT)]
        exact ih
      · rw [outsAt0_B m c ⟨n + 1, hn⟩ h0 hT hT]
        exact ih

theorem place (t : Fin cfg0.N) (q : Fin 8) (r : Fin 1024) (e : Fin 128) : ((cfg0.win 6).blk t).view.emb (ix3 q r e) = ix3 (headAt t q) (rowAt t r) e := by
  obtain ⟨e0, e1, e2⟩ := at6 t
  refine funext fun a => Fin.ext ?_
  match a with
  | ⟨0, _⟩ => show win0_6.index t (0 : Fin 3) * 8 + 1 * q.val = t.val % 12 * 8 + q.val; omega
  | ⟨1, _⟩ => show win0_6.index t (1 : Fin 3) * 1024 + 1 * r.val = t.val / 12 * 1024 + r.val; omega
  | ⟨2, _⟩ => show win0_6.index t (2 : Fin 3) * 128 + 1 * e.val = e.val; omega

/-- Every index of the result is in the block of the point of its row block and heads. -/
theorem covered (i : S96x24576x128.Idx) : ∃ t : Fin cfg0.N, (cfg0.win 6).flush t = true ∧ i ∈ ((cfg0.win 6).blk t).view.set :=
  (Cert.ProjIdeal.Value.covered_iff6 i).2 (by
    have h0 : (i 0).val < 96 := (i 0).isLt
    have h1 : (i 1).val < 24576 := (i 1).isLt
    have h2 : (i 2).val < 128 := (i 2).isLt
    omega)

/-- The reference's result of a memory. -/
abbrev whole (c : Dev nD) : Vec Ideal S96x24576x128 .bf16 := ProjRef.result (resid m c) (gain m c) (weights m c)

/-- A head's scale. -/
def headScale (Q : Nat) : EReal :=
  if Q < 16 then Ideal.ofBits .f32 0x3DB504F3#32 else if 48 ≤ Q ∧ Q < 64 then Ideal.ofBits .f32 0x3E0293EE#32 else 1

theorem scaleOf_head (Q : Nat) (e : Fin 128) : scaleOf (Q * 128 + e.val) = headScale Q := by
  unfold scaleOf headScale
  have a : (Q * 128 + e.val < 2048) = (Q < 16) := propext (by omega)
  have b : (6144 ≤ Q * 128 + e.val ∧ Q * 128 + e.val < 8192) = (48 ≤ Q ∧ Q < 64) := propext (by omega)
  simp only [a, b]

/-- A lane of the block's head is the projected lane times the head's scale. -/
theorem lane_eq (h : Vec Ideal S24576x4096 .f32) (g : Vec Ideal S1x4096 .f32) (W : Vec Ideal S1x4096x12288 .f32)
    (x : Vec Ideal S1024x4096 .bf16) (w : Vec Ideal S4096x1024 .bf16) (k : Vec Ideal S1x1024 .f32) (s : Vec Ideal S1024x128 .f32)
    (r : Fin 1024) (q : Fin 8) (R : Fin 24576) (Q : Fin 96)
    (e0 : ∀ j : Fin 4096, @Eq EReal (x (ix2 r j)) (h (ix2 R j)))
    (e1 : ∀ (j : Fin 4096) (e : Fin 128), @Eq EReal (w (ix2 j (⟨q.val * 128 + e.val, by omega⟩ : Fin 1024))) ((g (ix2 0 j) : EReal) * W (ix3 0 j (⟨Q.val * 128 + e.val, by omega⟩ : Fin 12288))))
    (e2 : ∀ e : Fin 128, @Eq EReal (k (ix2 0 (⟨q.val * 128 + e.val, by omega⟩ : Fin 1024))) (headScale Q.val))
    (es : ∀ e : Fin 128, @Eq EReal (s (ix2 r e)) (rootOf fun k => h (ix2 R k))) (e : Fin 128) :
    lane x w k s r q e = ProjRef.lane h g W R Q e * headScale Q.val := by
  have hs : (∑ j : Fin 4096, (x (ix2 r j) : EReal) * w (ix2 j (⟨q.val * 128 + e.val, by omega⟩ : Fin 1024)))
      = ∑ j : Fin 4096, (h (ix2 R j) : EReal) * ((g (ix2 0 j) : EReal) * W (ix3 0 j (⟨Q.val * 128 + e.val, by omega⟩ : Fin 12288))) :=
    Finset.sum_congr rfl fun j _ => congrArg₂ (· * ·) (e0 j) (e1 j e)
  unfold lane ProjRef.lane
  rw [hs, e2 e, es e]
  exact mul_right_comm _ _ _

/-- The grouping of the heads that are not turned. -/
theorem grouping_kept (f : Fin 96 → Fin 128 → EReal) (co si : Fin 16 → EReal) (Q : Fin 96) (hQ : ¬(48 ≤ Q.val ∧ Q.val < 80)) (e : Fin 128) :
    f Q e * headScale Q.val = ProjRef.grouping f co si Q e := by
  unfold headScale ProjRef.grouping
  by_cases h0 : Q.val < 16
  · rw [if_pos h0, if_pos h0]
  rw [if_neg h0, if_neg h0]
  rw [if_neg (by omega : ¬(48 ≤ Q.val ∧ Q.val < 64)), mul_one]
  by_cases h1 : Q.val < 48
  · rw [if_pos h1]
  rw [if_neg h1, if_neg (by omega : ¬Q.val < 64), if_neg (by omega : ¬Q.val < 80)]

/-- The grouping of the heads that are turned. -/
theorem grouping_turned (f : Fin 96 → Fin 128 → EReal) (co si : Fin 16 → EReal) (Q : Fin 96) (hQ : 48 ≤ Q.val ∧ Q.val < 80) (e : Fin 128) :
    turnedAt (fun e => f Q e * headScale Q.val) co si e = ProjRef.grouping f co si Q e := by
  unfold headScale ProjRef.grouping
  rw [if_neg (by omega : ¬Q.val < 16), if_neg (by omega : ¬Q.val < 16), if_neg (by omega : ¬Q.val < 48)]
  by_cases h1 : Q.val < 64
  · rw [if_pos h1, if_pos ⟨hQ.1, h1⟩]
    exact turned_scaled (f Q) co si _ scale_range.1 scale_range.2 e
  · rw [if_neg h1, if_neg (by omega : ¬(48 ≤ Q.val ∧ Q.val < 64)), if_pos hQ.2]
    simp only [mul_one]

/-- Reading a point's block of the result array. -/
theorem cut_read (t : Fin cfg0.N) (X : Vec Ideal S8x1024x128 .bf16) (Y : Vec Ideal S96x24576x128 .bf16)
    (h : ∀ (q : Fin 8) (r : Fin 1024) (e : Fin 128), @Eq EReal (X (ix3 q r e)) (Y (ix3 (headAt t q) (rowAt t r) e))) :
    (cfg0.win 6).cut (grid0.coords t) X = ((cfg0.win 6).blk t).view.read (Elt Ideal) Y := by
  funext y
  idx_vars y
  show X (ix3 y0 y1 y2) = Y (((cfg0.win 6).blk t).view.emb (ix3 y0 y1 y2))
  rw [place]
  exact h y0 y1 y2

theorem previous (t : Fin cfg0.N) (h0 : ¬t.val % 12 = 0) (hp : t.val - 1 < cfg0.N) (r : Fin 1024) : rowAt ⟨t.val - 1, hp⟩ r = rowAt t r :=
  Fin.ext (by
    show (t.val - 1) / 12 * 1024 + r.val = t.val / 12 * 1024 + r.val
    have : (t.val - 1) / 12 = t.val / 12 := by omega
    rw [this])

/-- A point's lanes, whatever array holds the roots. -/
theorem lane_at (c : Dev nD) (t : Fin cfg0.N) (s : Vec Ideal S1024x128 .f32) (q : Fin 8) (r : Fin 1024)
    (es : ∀ e : Fin 128, @Eq EReal (s (ix2 r e)) (rowRoot m c (rowAt t r))) (e : Fin 128) :
    lane (iblk m c 0 t) (iblk m c 1 t) (iblk m c 2 t) s r q e
      = ProjRef.lane (resid m c) (gain m c) (weights m c) (rowAt t r) (headAt t q) e * headScale (headAt t q).val := by
  have ec : ∀ e : Fin 128, colAt t ⟨q.val * 128 + e.val, by omega⟩ = ⟨(headAt t q).val * 128 + e.val, by have := (headAt t q).isLt; omega⟩ := fun e => Fin.ext (by
    show t.val % 12 * 1024 + (q.val * 128 + e.val) = (t.val % 12 * 8 + q.val) * 128 + e.val
    omega)
  refine lane_eq _ _ _ _ _ _ _ r q (rowAt t r) (headAt t q) (blk0 m c t r) (fun j e => ?_) (fun e => ?_) es e
  · rw [← ec e]
    exact blk1 m c t j _
  · refine (blk2 m c t _).trans ?_
    rw [ec e]
    exact scaleOf_head _ e

/-- The point's block where the heads are kept. -/
theorem kept_at (c : Dev nD) (t : Fin cfg0.N) (hT : ¬Turns t.val) (s : Vec Ideal S1024x128 .f32) (q : Fin 8) (r : Fin 1024)
    (es : ∀ e : Fin 128, @Eq EReal (s (ix2 r e)) (rowRoot m c (rowAt t r))) (e : Fin 128) :
    @Eq EReal (lane (iblk m c 0 t) (iblk m c 1 t) (iblk m c 2 t) s r q e) (whole m c (ix3 (headAt t q) (rowAt t r) e)) := by
  rw [lane_at m c t s q r es e]
  refine Eq.trans ?_ (ProjRef.result_apply (resid m c) (gain m c) (weights m c) (headAt t q) (rowAt t r) e).symm
  refine grouping_kept (ProjRef.lane (resid m c) (gain m c) (weights m c) (rowAt t r)) _ _ (headAt t q) (fun hQ => hT ?_) e
  have a : 48 ≤ t.val % 12 * 8 + q.val := hQ.1
  have b : t.val % 12 * 8 + q.val < 80 := hQ.2
  constructor <;> omega

/-- The point's block where the heads are turned. -/
theorem turned_at (c : Dev nD) (t : Fin cfg0.N) (hT : Turns t.val) (s : Vec Ideal S1024x128 .f32) (q : Fin 8) (r : Fin 1024)
    (es : ∀ e : Fin 128, @Eq EReal (s (ix2 r e)) (rowRoot m c (rowAt t r))) (e : Fin 128) :
    @Eq EReal (spun (iblk m c 0 t) (iblk m c 1 t) (iblk m c 2 t) s (iblk m c 3 t) (iblk m c 4 t) (iblk m c 5 t) r q e) (whole m c (ix3 (headAt t q) (rowAt t r) e)) := by
  unfold spun
  rw [blk3 m c t r e, blk4 m c t r e, blk5 m c t r e]
  simp only [lane_at m c t s q r es]
  refine (three_products (fun e => ProjRef.lane (resid m c) (gain m c) (weights m c) (rowAt t r) (headAt t q) e * headScale (headAt t q).val) (cosAt (rowAt t r)) (sinAt (rowAt t r)) e).trans ?_
  refine Eq.trans ?_ (ProjRef.result_apply (resid m c) (gain m c) (weights m c) (headAt t q) (rowAt t r) e).symm
  refine grouping_turned (ProjRef.lane (resid m c) (gain m c) (weights m c) (rowAt t r)) _ _ (headAt t q) ?_ e
  obtain ⟨a, b⟩ := hT
  show 48 ≤ t.val % 12 * 8 + q.val ∧ t.val % 12 * 8 + q.val < 80
  constructor <;> omega

/-- The array the kernel leaves is the reference's result. -/
theorem array_eq (c : Dev nD) : (dats m 0 c).arrAt 6 cfg0.N = whole m c := by
  refine (dats m 0 c).arrAt_eq_of_cover 6 (whole m c) (fun t _ => ?_) covered
  by_cases h0 : t.val % 12 = 0
  · have hT : ¬Turns t.val := by rintro ⟨a, b⟩; omega
    rw [Cert.ProjIdeal.Value.flushed6_A m c t h0 hT hT]
    refine cut_read t _ _ fun q r e => ?_
    refine (out_A _ _ _ _ _ _ _ _ _ _ _ _ _ _ _ _ _ _ _ _ _ _ _ _ _ _ _ q r e).trans ?_
    exact kept_at m c t hT _ q r (roots_row m c t r) e
  · by_cases hT : Turns t.val
    · rw [Cert.ProjIdeal.Value.flushed6_C m c t h0 hT (not_not_intro hT)]
      refine cut_read t _ _ fun q r e => ?_
      refine (out_C _ _ _ _ _ _ _ _ _ _ _ _ _ _ _ _ _ _ _ _ _ _ _ _ _ _ _ _ q r e).trans ?_
      exact turned_at m c t hT _ q r (fun e => (scratch m c (t.val - 1) _ r e).trans (congrArg (rowRoot m c) (previous t h0 _ r))) e
    · rw [Cert.ProjIdeal.Value.flushed6_B m c t h0 hT hT]
      refine cut_read t _ _ fun q r e => ?_
      refine (out_B _ _ _ _ _ _ _ _ _ _ _ _ _ _ _ _ _ _ _ _ _ _ _ _ _ _ _ _ q r e).trans ?_
      exact kept_at m c t hT _ q r (fun e => (scratch m c (t.val - 1) _ r e).trans (congrArg (rowRoot m c) (previous t h0 _ r))) e

end Cert.Proof.Proj

end
-- ==== Proof.Beside.lean ====
/- More of the layer's calls: the references' frames, and the kernels' results equal to the references'. -/
module

public import proofs.«01_k».proof.Defs
public import proofs.«01_k».proof.Proof.Gen.SplitReferenceIdeal.Run
public import proofs.«01_k».proof.Proof.Gen.MixIdeal.Value
public import proofs.«01_k».proof.Proof.Gen.MixReferenceIdeal.Run
public import proofs.«01_k».proof.Proof.Gen.FirstIdeal.Value
public import proofs.«01_k».proof.Proof.Gen.FirstReferenceIdeal.Run
public import proofs.«01_k».proof.Proof.Gen.LastIdeal.Value
public import proofs.«01_k».proof.Proof.Gen.LastReferenceIdeal.Run
public import proofs.«01_k».proof.Proof.Gen.ProjIdeal.Value
public import proofs.«01_k».proof.Proof.Gen.ProjReferenceIdeal.Run
public import proofs.«01_k».proof.Proof.Split
public import proofs.«01_k».proof.Proof.Mix
public import proofs.«01_k».proof.Proof.First
public import proofs.«01_k».proof.Proof.Last
public import proofs.«01_k».proof.Proof.Proj
public import Idealize.ShloMosaic.Adequacy
public import Idealize.ShloMosaic.Init

@[expose] public section

set_option maxRecDepth 16384

noncomputable section

namespace Cert.Proof

open Idealize.ShloMosaic Idealize.SL.Sem

attribute [local instance] Cert.SplitIdeal.Gen.facts Cert.SplitReferenceIdeal.Gen.facts Cert.MixIdeal.Gen.facts Cert.MixReferenceIdeal.Gen.facts Cert.FirstIdeal.Gen.facts Cert.FirstReferenceIdeal.Gen.facts Cert.LastIdeal.Gen.facts Cert.LastReferenceIdeal.Gen.facts Cert.ProjIdeal.Gen.facts Cert.ProjReferenceIdeal.Gen.facts

/-- The frame of the reference of the last norm: its run read at the arguments; it declares no semaphore. -/
theorem frame_split_reference : Cert.quiescent_SplitReferenceIdeal := fun m ρ _ =>
  (θ_run Cert.SplitReferenceIdeal.defs _ _).mono (fun r h => ⟨fun c => (h c).2.2,
    Idealize.ShloMosaic.sem_eq_zero_of_no_sems (by decide) r.2⟩)
    (Cert.SplitReferenceIdeal.Value.run (F := Ideal) m ρ)

/-- The two results of the last norm: the kernel's and the reference's are equal. -/
theorem values_split : Cert.algebraic_SplitIdeal_SplitReferenceIdeal := by
  intro m g m' g' _ hargs
  refine ⟨fun c => Split.whole0 m c, fun c => Split.whole1 m c, ?_, ?_⟩
  · exact (θ_run Cert.SplitIdeal.defs _ _).mono (fun r h c => ⟨(h c).1.trans (Split.array0_eq m c), (h c).2.1.trans (Split.array1_eq m c), (h c).2.2⟩)
      (Split.run_blocks (F := Ideal) m g)
  · refine (θ_run Cert.SplitReferenceIdeal.defs _ _).mono (fun r h c => ?_) (Cert.SplitReferenceIdeal.Value.run (F := Ideal) m' g')
    obtain ⟨a0, a1⟩ := hargs c
    refine ⟨(h c).1.trans ?_, (h c).2.1.trans ?_, (h c).2.2⟩
    · rw [a0, a1]
      rfl
    · rw [a0, a1]
      rfl

/-- The frame of the reference of the output product: its run read at the arguments; it declares no semaphore. -/
theorem frame_mix_reference : Cert.quiescent_MixReferenceIdeal := fun m ρ _ =>
  (θ_run Cert.MixReferenceIdeal.defs _ _).mono (fun r h => ⟨fun c => (h c).2.2,
    Idealize.ShloMosaic.sem_eq_zero_of_no_sems (by decide) r.2⟩)
    (Cert.MixReferenceIdeal.Value.run (F := Ideal) m ρ)

/-- The two results of the output product: the kernel's and the reference's are equal. -/
theorem values_mix : Cert.algebraic_MixIdeal_MixReferenceIdeal := by
  intro m g m' g' _ hargs
  refine ⟨fun c => Mix.whole0 m c, fun c => Mix.whole1 m c, ?_, ?_⟩
  · exact (θ_run Cert.MixIdeal.defs _ _).mono (fun r h c => ⟨(h c).1.trans (Mix.array0_eq m c), (h c).2.1.trans (Mix.array1_eq m c), (h c).2.2⟩)
      (Cert.MixIdeal.Value.run_blocks (F := Ideal) m g)
  · refine (θ_run Cert.MixReferenceIdeal.defs _ _).mono (fun r h c => ?_) (Cert.MixReferenceIdeal.Value.run (F := Ideal) m' g')
    obtain ⟨a0, a1, a2, a3, a4⟩ := hargs c
    refine ⟨(h c).1.trans ?_, (h c).2.1.trans ?_, (h c).2.2⟩
    · rw [a0, a1, a2, a3, a4]
      rfl
    · rw [a0, a1, a2, a3, a4]
      rfl

/-- The frame of the reference of the first half's gated product at its first 10752 columns: its run read at the arguments; it declares no semaphore. -/
theorem frame_first_reference : Cert.quiescent_FirstReferenceIdeal := fun m ρ _ =>
  (θ_run Cert.FirstReferenceIdeal.defs _ _).mono (fun r h => ⟨fun c => (h c).2,
    Idealize.ShloMosaic.sem_eq_zero_of_no_sems (by decide) r.2⟩)
    (Cert.FirstReferenceIdeal.Value.run (F := Ideal) m ρ)

/-- The results of the first half's gated product at its first 10752 columns: the kernel's and the reference's are equal. -/
theorem values_first : Cert.algebraic_FirstIdeal_FirstReferenceIdeal := by
  intro m g m' g' _ hargs
  refine ⟨fun c => First.whole m c, ?_, ?_⟩
  · exact (θ_run Cert.FirstIdeal.defs _ _).mono (fun r h c => ⟨(h c).1.trans (First.array_eq m c), (h c).2⟩) (Cert.FirstIdeal.Value.run_blocks (F := Ideal) m g)
  · refine (θ_run Cert.FirstReferenceIdeal.defs _ _).mono (fun r h c => ?_) (Cert.FirstReferenceIdeal.Value.run (F := Ideal) m' g')
    obtain ⟨a0, a1, a2⟩ := hargs c
    refine ⟨(h c).1.trans ?_, (h c).2⟩
    rw [a0, a1, a2]
    rfl

/-- The frame of the reference of the first half's gated product at its last 256 columns: its run read at the arguments; it declares no semaphore. -/
theorem frame_last_reference : Cert.quiescent_LastReferenceIdeal := fun m ρ _ =>
  (θ_run Cert.LastReferenceIdeal.defs _ _).mono (fun r h => ⟨fun c => (h c).2,
    Idealize.ShloMosaic.sem_eq_zero_of_no_sems (by decide) r.2⟩)
    (Cert.LastReferenceIdeal.Value.run (F := Ideal) m ρ)

/-- The results of the first half's gated product at its last 256 columns: the kernel's and the reference's are equal. -/
theorem values_last : Cert.algebraic_LastIdeal_LastReferenceIdeal := by
  intro m g m' g' _ hargs
  refine ⟨fun c => Last.whole m c, ?_, ?_⟩
  · exact (θ_run Cert.LastIdeal.defs _ _).mono (fun r h c => ⟨(h c).1.trans (Last.array_eq m c), (h c).2⟩) (Cert.LastIdeal.Value.run_blocks (F := Ideal) m g)
  · refine (θ_run Cert.LastReferenceIdeal.defs _ _).mono (fun r h c => ?_) (Cert.LastReferenceIdeal.Value.run (F := Ideal) m' g')
    obtain ⟨a0, a1, a2⟩ := hargs c
    refine ⟨(h c).1.trans ?_, (h c).2⟩
    rw [a0, a1, a2]
    rfl

/-- The frame of the reference of the input projection: its run read at the arguments; it declares no semaphore. -/
theorem frame_proj_reference : Cert.quiescent_ProjReferenceIdeal := fun m ρ _ =>
  (θ_run Cert.ProjReferenceIdeal.defs _ _).mono (fun r h => ⟨fun c => (h c).2,
    Idealize.ShloMosaic.sem_eq_zero_of_no_sems (by decide) r.2⟩)
    (Cert.ProjReferenceIdeal.Value.run (F := Ideal) m ρ)

/-- The results of the input projection: the kernel's and the reference's are equal. -/
theorem values_proj : Cert.algebraic_ProjIdeal_ProjReferenceIdeal := by
  intro m g m' g' _ hargs
  refine ⟨fun c => Proj.whole m c, ?_, ?_⟩
  · exact (θ_run Cert.ProjIdeal.defs _ _).mono (fun r h c => ⟨(h c).1.trans (Proj.array_eq m c), (h c).2⟩) (Cert.ProjIdeal.Value.run_blocks (F := Ideal) m g)
  · refine (θ_run Cert.ProjReferenceIdeal.defs _ _).mono (fun r h c => ?_) (Cert.ProjReferenceIdeal.Value.run (F := Ideal) m' g')
    obtain ⟨a0, a1, a2⟩ := hargs c
    refine ⟨(h c).1.trans ?_, (h c).2⟩
    unfold Cert.ProjReferenceIdeal.Value.res_main_v98
    rw [a0, a1, a2]
    rfl

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Gate
public import proofs.«01_k».proof.Proof.Gen.Gate.Skeleton
public import proofs.«01_k».proof.Proof.Gen.Gate.Launch
public import proofs.«01_k».proof.Proof.Gen.Gate.Points
public import proofs.«01_k».proof.Proof.Gen.Gate.Frame
public import proofs.«01_k».proof.Proof.Gen.GateIdeal
public import proofs.«01_k».proof.Proof.Gen.GateIdeal.Skeleton
public import proofs.«01_k».proof.Proof.Gen.GateIdeal.Launch
public import proofs.«01_k».proof.Proof.Gen.GateIdeal.Points
public import proofs.«01_k».proof.Proof.Gen.GateIdeal.Frame
public import proofs.«01_k».proof.Proof.Gen.GateReferenceIdeal
public import proofs.«01_k».proof.Proof.Gen.GateIdeal.Value
public import proofs.«01_k».proof.Proof.Gen.GateReferenceIdeal.Run
public import proofs.«01_k».proof.Proof.Gen.Tail
public import proofs.«01_k».proof.Proof.Gen.Tail.Skeleton
public import proofs.«01_k».proof.Proof.Gen.Tail.Launch
public import proofs.«01_k».proof.Proof.Gen.Tail.Points
public import proofs.«01_k».proof.Proof.Gen.Tail.Frame
public import proofs.«01_k».proof.Proof.Gen.TailIdeal
public import proofs.«01_k».proof.Proof.Gen.TailIdeal.Skeleton
public import proofs.«01_k».proof.Proof.Gen.TailIdeal.Launch
public import proofs.«01_k».proof.Proof.Gen.TailIdeal.Points
public import proofs.«01_k».proof.Proof.Gen.TailIdeal.Frame
public import proofs.«01_k».proof.Proof.Gen.TailReferenceIdeal
public import proofs.«01_k».proof.Proof.Gen.TailIdeal.Value
public import proofs.«01_k».proof.Proof.Gen.TailReferenceIdeal.Run
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownReferenceIdeal
public import proofs.«01_k».proof.Proof.Gen.DownIdeal.Value
public import proofs.«01_k».proof.Proof.Gen.DownReferenceIdeal.Run
public import proofs.«01_k».proof.Proof.Gen.Split
public import proofs.«01_k».proof.Proof.Gen.Split.Skeleton
public import proofs.«01_k».proof.Proof.Gen.Split.Launch
public import proofs.«01_k».proof.Proof.Gen.Split.Points
public import proofs.«01_k».proof.Proof.Gen.Split.Frame
public import proofs.«01_k».proof.Proof.Gen.SplitIdeal
public import proofs.«01_k».proof.Proof.Gen.SplitIdeal.Skeleton
public import proofs.«01_k».proof.Proof.Gen.SplitIdeal.Launch
public import proofs.«01_k».proof.Proof.Gen.SplitIdeal.Points
public import proofs.«01_k».proof.Proof.Gen.SplitReferenceIdeal
public import proofs.«01_k».proof.Proof.Gen.SplitReferenceIdeal.Run
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixReferenceIdeal
public import proofs.«01_k».proof.Proof.Gen.MixIdeal.Value
public import proofs.«01_k».proof.Proof.Gen.MixReferenceIdeal.Run
public import proofs.«01_k».proof.Proof.Gen.First
public import proofs.«01_k».proof.Proof.Gen.First.Skeleton
public import proofs.«01_k».proof.Proof.Gen.First.Launch
public import proofs.«01_k».proof.Proof.Gen.First.Points
public import proofs.«01_k».proof.Proof.Gen.First.Frame
public import proofs.«01_k».proof.Proof.Gen.FirstIdeal
public import proofs.«01_k».proof.Proof.Gen.FirstIdeal.Skeleton
public import proofs.«01_k».proof.Proof.Gen.FirstIdeal.Launch
public import proofs.«01_k».proof.Proof.Gen.FirstIdeal.Points
public import proofs.«01_k».proof.Proof.Gen.FirstIdeal.Frame
public import proofs.«01_k».proof.Proof.Gen.FirstReferenceIdeal
public import proofs.«01_k».proof.Proof.Gen.FirstIdeal.Value
public import proofs.«01_k».proof.Proof.Gen.FirstReferenceIdeal.Run
public import proofs.«01_k».proof.Proof.Gen.Last
public import proofs.«01_k».proof.Proof.Gen.Last.Skeleton
public import proofs.«01_k».proof.Proof.Gen.Last.Launch
public import proofs.«01_k».proof.Proof.Gen.Last.Points
public import proofs.«01_k».proof.Proof.Gen.Last.Frame
public import proofs.«01_k».proof.Proof.Gen.LastIdeal
public import proofs.«01_k».proof.Proof.Gen.LastIdeal.Skeleton
public import proofs.«01_k».proof.Proof.Gen.LastIdeal.Launch
public import proofs.«01_k».proof.Proof.Gen.LastIdeal.Points
public import proofs.«01_k».proof.Proof.Gen.LastIdeal.Frame
public import proofs.«01_k».proof.Proof.Gen.LastReferenceIdeal
public import proofs.«01_k».proof.Proof.Gen.LastIdeal.Value
public import proofs.«01_k».proof.Proof.Gen.LastReferenceIdeal.Run
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjReferenceIdeal
public import proofs.«01_k».proof.Proof.Gen.ProjIdeal.Value
public import proofs.«01_k».proof.Proof.Gen.ProjReferenceIdeal.Run
public import proofs.«01_k».proof.Proof.Whole
public import proofs.«01_k».proof.Proof.Finite
public import proofs.«01_k».proof.Proof.Forward
public import proofs.«01_k».proof.Proof.Beside
public import proofs.«01_k».proof.Proof.SplitKernelDone
public import Idealize.ShloMosaic.Adequacy
public import Idealize.ShloMosaic.Init

@[expose] public section

noncomputable section

namespace Cert.Proof

open Idealize.ShloMosaic Idealize.SL.Sem

attribute [local instance] Cert.Kernel.Gen.facts Cert.KernelIdeal.Gen.facts Cert.ReferenceIdeal.Gen.facts preFacts Cert.Gate.Gen.facts Cert.GateIdeal.Gen.facts Cert.GateReferenceIdeal.Gen.facts Cert.Tail.Gen.facts Cert.TailIdeal.Gen.facts Cert.TailReferenceIdeal.Gen.facts Cert.Down.Gen.facts Cert.DownIdeal.Gen.facts Cert.DownReferenceIdeal.Gen.facts Cert.Split.Gen.facts Cert.SplitIdeal.Gen.facts Cert.SplitReferenceIdeal.Gen.facts Cert.Mix.Gen.facts Cert.MixIdeal.Gen.facts Cert.MixReferenceIdeal.Gen.facts Cert.First.Gen.facts Cert.FirstIdeal.Gen.facts Cert.FirstReferenceIdeal.Gen.facts Cert.Last.Gen.facts Cert.LastIdeal.Gen.facts Cert.LastReferenceIdeal.Gen.facts Cert.Proj.Gen.facts Cert.ProjIdeal.Gen.facts Cert.ProjReferenceIdeal.Gen.facts

/-- The reference's frame: its run read at the arguments; it declares no semaphore. -/
theorem frame_reference : Cert.quiescent_ReferenceIdeal := fun m ρ _ =>
  (θ_run Cert.ReferenceIdeal.defs _ _).mono (fun r h => ⟨fun c => (h c).2,
    Idealize.ShloMosaic.sem_eq_zero_of_no_sems (by decide) r.2⟩)
    (Cert.ReferenceIdeal.Value.run (F := Ideal) m ρ)

/-- Arguments that agree give the reference the result `whole` of the kernel's arguments. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Value.res_main_v64 m' c = whole m c := by
  rw [Ref.res_eq, a0, a1, a2, a3, a4, a5, a6]
  unfold whole avgsAt
  rfl

/-- The kernel's and the reference's results are equal. -/
theorem values : Cert.algebraic_KernelIdeal_ReferenceIdeal_pre_finite := by
  intro m g m' g' hpre hargs
  refine ⟨fun c => whole m c, ?_, ?_⟩
  · refine (θ_run Cert.KernelIdeal.defs _ _).mono (fun r h c => ?_) (Cert.KernelIdeal.Value.run_blocks (F := Ideal) m g)
    obtain ⟨h0, h1, h2, h3, h4, h5⟩ := reals_args m hpre c
    exact ⟨(h c).1.trans (array_eq m c h0 h1 h2 h3 h4 h5), (h c).2⟩
  · refine (θ_run Cert.ReferenceIdeal.defs _ _).mono (fun r h c => ?_) (Cert.ReferenceIdeal.Value.run (F := Ideal) m' g')
    obtain ⟨a0, a1, a2, a3, a4, a5, a6⟩ := hargs c
    exact ⟨(h c).1.trans (result_eq m m' c a0 a1 a2 a3 a4 a5 a6), (h c).2⟩

theorem claim : Cert.Claim :=
  ⟨Cert.Kernel.Gen.facts, Cert.KernelIdeal.Gen.facts, Cert.ReferenceIdeal.Gen.facts, Cert.Gate.Gen.facts, Cert.GateIdeal.Gen.facts, Cert.GateReferenceIdeal.Gen.facts, Cert.Tail.Gen.facts, Cert.TailIdeal.Gen.facts, Cert.TailReferenceIdeal.Gen.facts, Cert.Down.Gen.facts, Cert.DownIdeal.Gen.facts, Cert.DownReferenceIdeal.Gen.facts, Cert.Split.Gen.facts, Cert.SplitIdeal.Gen.facts, Cert.SplitReferenceIdeal.Gen.facts, Cert.Mix.Gen.facts, Cert.MixIdeal.Gen.facts, Cert.MixReferenceIdeal.Gen.facts, Cert.First.Gen.facts, Cert.FirstIdeal.Gen.facts, Cert.FirstReferenceIdeal.Gen.facts, Cert.Last.Gen.facts, Cert.LastIdeal.Gen.facts, Cert.LastReferenceIdeal.Gen.facts, Cert.Proj.Gen.facts, Cert.ProjIdeal.Gen.facts, Cert.ProjReferenceIdeal.Gen.facts, preFacts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial,
    fun m ρ _ => Cert.Gate.Gen.frame m ρ, fun m ρ _ => Cert.GateIdeal.Gen.frame m ρ, frame_gate_reference,
    fun m ρ _ => Cert.Tail.Gen.frame m ρ, fun m ρ _ => Cert.TailIdeal.Gen.frame m ρ, frame_tail_reference,
    fun m ρ _ => Cert.Down.Gen.frame m ρ, fun m ρ _ => Cert.DownIdeal.Gen.frame m ρ, frame_down_reference,
    fun m ρ _ => SplitKernel.frame m ρ, fun m ρ _ => Split.frame m ρ, frame_split_reference,
    fun m ρ _ => Cert.Mix.Gen.frame m ρ, fun m ρ _ => Cert.MixIdeal.Gen.frame m ρ, frame_mix_reference,
    fun m ρ _ => Cert.First.Gen.frame m ρ, fun m ρ _ => Cert.FirstIdeal.Gen.frame m ρ, frame_first_reference,
    fun m ρ _ => Cert.Last.Gen.frame m ρ, fun m ρ _ => Cert.LastIdeal.Gen.frame m ρ, frame_last_reference,
    fun m ρ _ => Cert.Proj.Gen.frame m ρ, fun m ρ _ => Cert.ProjIdeal.Gen.frame m ρ, frame_proj_reference,
    IdealRules.named_const.statement Cert.KernelIdeal.κ "mask" .f32 0xF149F2CA#32 ⊥ rfl, values,
    trivial, values_gate,
    trivial, values_tail,
    trivial, values_down,
    trivial, values_split,
    trivial, values_mix,
    trivial, values_first,
    trivial, values_last,
    trivial, values_proj⟩

end Cert.Proof

end
